-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_RwkvOut (m : (ℓ : Loc Cert.RwkvOut.nD Cert.RwkvOut.τ Cert.RwkvOut.sig) → Buf (Elt Bits) ℓ) : Prop :=
  True

def Pre_RwkvOutIdeal (m : (ℓ : Loc Cert.RwkvOutIdeal.nD Cert.RwkvOutIdeal.τ Cert.RwkvOutIdeal.sig) → Buf (Elt Ideal) ℓ) : Prop :=
  True

def Pre_RwkvOutReferenceIdeal (m : (ℓ : Loc Cert.RwkvOutReferenceIdeal.nD Cert.RwkvOutReferenceIdeal.τ Cert.RwkvOutReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7)
      ∧ r.2.mem ((c.tc : Thread Cert.QkvReferenceIdeal.nD Cert.QkvReferenceIdeal.τ).loc Cert.QkvReferenceIdeal.main_arg8) = m ((c.tc : Thread Cert.QkvReferenceIdeal.nD Cert.QkvReferenceIdeal.τ).loc Cert.QkvReferenceIdeal.main_arg8))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14)
      ∧ r.2.mem ((c.tc : Thread Cert.MixReferenceIdeal.nD Cert.MixReferenceIdeal.τ).loc Cert.MixReferenceIdeal.main_arg15) = m ((c.tc : Thread Cert.MixReferenceIdeal.nD Cert.MixReferenceIdeal.τ).loc Cert.MixReferenceIdeal.main_arg15))
      ∧ r.2.sem = fun _ => 0)

def quiescent_RwkvOut [hRwkvOut : Cert.RwkvOut.Facts] : Prop :=
  ∀ (m : (ℓ : Loc Cert.RwkvOut.nD Cert.RwkvOut.τ Cert.RwkvOut.sig) → Buf (Elt Bits) ℓ) (g : Dev Cert.RwkvOut.nD → PrngReg), Pre_RwkvOut m →
    θ_run (Cert.RwkvOut.defs (F := Bits)) (onTc (τ := Cert.RwkvOut.τ) (Cert.RwkvOut.main (F := Bits))) ⟨m, fun _ => 0, g⟩ (fun r => (∀ c : Dev Cert.RwkvOut.nD,
      r.2.mem ((c.tc : Thread Cert.RwkvOut.nD Cert.RwkvOut.τ).loc Cert.RwkvOut.main_arg0) = m ((c.tc : Thread Cert.RwkvOut.nD Cert.RwkvOut.τ).loc Cert.RwkvOut.main_arg0)
      ∧ r.2.mem ((c.tc : Thread Cert.RwkvOut.nD Cert.RwkvOut.τ).loc Cert.RwkvOut.main_arg1) = m ((c.tc : Thread Cert.RwkvOut.nD Cert.RwkvOut.τ).loc Cert.RwkvOut.main_arg1)
      ∧ r.2.mem ((c.tc : Thread Cert.RwkvOut.nD Cert.RwkvOut.τ).loc Cert.RwkvOut.main_arg2) = m ((c.tc : Thread Cert.RwkvOut.nD Cert.RwkvOut.τ).loc Cert.RwkvOut.main_arg2)
      ∧ r.2.mem ((c.tc : Thread Cert.RwkvOut.nD Cert.RwkvOut.τ).loc Cert.RwkvOut.main_arg3) = m ((c.tc : Thread Cert.RwkvOut.nD Cert.RwkvOut.τ).loc Cert.RwkvOut.main_arg3)
      ∧ r.2.mem ((c.tc : Thread Cert.RwkvOut.nD Cert.RwkvOut.τ).loc Cert.RwkvOut.main_arg4) = m ((c.tc : Thread Cert.RwkvOut.nD Cert.RwkvOut.τ).loc Cert.RwkvOut.main_arg4)
      ∧ r.2.mem ((c.tc : Thread Cert.RwkvOut.nD Cert.RwkvOut.τ).loc Cert.RwkvOut.main_arg5) = m ((c.tc : Thread Cert.RwkvOut.nD Cert.RwkvOut.τ).loc Cert.RwkvOut.main_arg5)
      ∧ r.2.mem ((c.tc : Thread Cert.RwkvOut.nD Cert.RwkvOut.τ).loc Cert.RwkvOut.main_arg6) = m ((c.tc : Thread Cert.RwkvOut.nD Cert.RwkvOut.τ).loc Cert.RwkvOut.main_arg6)
      ∧ r.2.mem ((c.tc : Thread Cert.RwkvOut.nD Cert.RwkvOut.τ).loc Cert.RwkvOut.main_arg7) = m ((c.tc : Thread Cert.RwkvOut.nD Cert.RwkvOut.τ).loc Cert.RwkvOut.main_arg7)
      ∧ r.2.mem ((c.tc : Thread Cert.RwkvOut.nD Cert.RwkvOut.τ).loc Cert.RwkvOut.main_arg8) = m ((c.tc : Thread Cert.RwkvOut.nD Cert.RwkvOut.τ).loc Cert.RwkvOut.main_arg8)
      ∧ r.2.mem ((c.tc : Thread Cert.RwkvOut.nD Cert.RwkvOut.τ).loc Cert.RwkvOut.main_arg9) = m ((c.tc : Thread Cert.RwkvOut.nD Cert.RwkvOut.τ).loc Cert.RwkvOut.main_arg9))
      ∧ r.2.sem = fun _ => 0)

def quiescent_RwkvOutIdeal [hRwkvOutIdeal : Cert.RwkvOutIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg), Pre_RwkvOutIdeal m →
    θ_run (Cert.RwkvOutIdeal.defs (F := Ideal)) (onTc (τ := Cert.RwkvOutIdeal.τ) (Cert.RwkvOutIdeal.main (F := Ideal))) ⟨m, fun _ => 0, g⟩ (fun r => (∀ c : Dev Cert.RwkvOutIdeal.nD,
      r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
      ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
      ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
      ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
      ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4)
      ∧ r.2.mem ((c.tc : Thread Cert.RwkvOutIdeal.nD Cert.RwkvOutIdeal.τ).loc Cert.RwkvOutIdeal.main_arg5) = m ((c.tc : Thread Cert.RwkvOutIdeal.nD Cert.RwkvOutIdeal.τ).loc Cert.RwkvOutIdeal.main_arg5)
      ∧ r.2.mem ((c.tc : Thread Cert.RwkvOutIdeal.nD Cert.RwkvOutIdeal.τ).loc Cert.RwkvOutIdeal.main_arg6) = m ((c.tc : Thread Cert.RwkvOutIdeal.nD Cert.RwkvOutIdeal.τ).loc Cert.RwkvOutIdeal.main_arg6)
      ∧ r.2.mem ((c.tc : Thread Cert.RwkvOutIdeal.nD Cert.RwkvOutIdeal.τ).loc Cert.RwkvOutIdeal.main_arg7) = m ((c.tc : Thread Cert.RwkvOutIdeal.nD Cert.RwkvOutIdeal.τ).loc Cert.RwkvOutIdeal.main_arg7)
      ∧ r.2.mem ((c.tc : Thread Cert.RwkvOutIdeal.nD Cert.RwkvOutIdeal.τ).loc Cert.RwkvOutIdeal.main_arg8) = m ((c.tc : Thread Cert.RwkvOutIdeal.nD Cert.RwkvOutIdeal.τ).loc Cert.RwkvOutIdeal.main_arg8)
      ∧ r.2.mem ((c.tc : Thread Cert.RwkvOutIdeal.nD Cert.RwkvOutIdeal.τ).loc Cert.RwkvOutIdeal.main_arg9) = m ((c.tc : Thread Cert.RwkvOutIdeal.nD Cert.RwkvOutIdeal.τ).loc Cert.RwkvOutIdeal.main_arg9))
      ∧ r.2.sem = fun _ => 0)

def quiescent_RwkvOutReferenceIdeal [hRwkvOutReferenceIdeal : Cert.RwkvOutReferenceIdeal.Facts] : Prop :=
  ∀ (m : (ℓ : Loc Cert.RwkvOutReferenceIdeal.nD Cert.RwkvOutReferenceIdeal.τ Cert.RwkvOutReferenceIdeal.sig) → Buf (Elt Ideal) ℓ) (g : Dev Cert.RwkvOutReferenceIdeal.nD → PrngReg), Pre_RwkvOutReferenceIdeal m →
    θ_run (Cert.RwkvOutReferenceIdeal.defs (F := Ideal)) (onTc (τ := Cert.RwkvOutReferenceIdeal.τ) (Cert.RwkvOutReferenceIdeal.main (F := Ideal))) ⟨m, fun _ => 0, g⟩ (fun r => (∀ c : Dev Cert.RwkvOutReferenceIdeal.nD,
      r.2.mem ((c.tc : Thread Cert.RwkvOutReferenceIdeal.nD Cert.RwkvOutReferenceIdeal.τ).loc Cert.RwkvOutReferenceIdeal.main_arg0) = m ((c.tc : Thread Cert.RwkvOutReferenceIdeal.nD Cert.RwkvOutReferenceIdeal.τ).loc Cert.RwkvOutReferenceIdeal.main_arg0)
      ∧ r.2.mem ((c.tc : Thread Cert.RwkvOutReferenceIdeal.nD Cert.RwkvOutReferenceIdeal.τ).loc Cert.RwkvOutReferenceIdeal.main_arg1) = m ((c.tc : Thread Cert.RwkvOutReferenceIdeal.nD Cert.RwkvOutReferenceIdeal.τ).loc Cert.RwkvOutReferenceIdeal.main_arg1)
      ∧ r.2.mem ((c.tc : Thread Cert.RwkvOutReferenceIdeal.nD Cert.RwkvOutReferenceIdeal.τ).loc Cert.RwkvOutReferenceIdeal.main_arg2) = m ((c.tc : Thread Cert.RwkvOutReferenceIdeal.nD Cert.RwkvOutReferenceIdeal.τ).loc Cert.RwkvOutReferenceIdeal.main_arg2)
      ∧ r.2.mem ((c.tc : Thread Cert.RwkvOutReferenceIdeal.nD Cert.RwkvOutReferenceIdeal.τ).loc Cert.RwkvOutReferenceIdeal.main_arg3) = m ((c.tc : Thread Cert.RwkvOutReferenceIdeal.nD Cert.RwkvOutReferenceIdeal.τ).loc Cert.RwkvOutReferenceIdeal.main_arg3)
      ∧ r.2.mem ((c.tc : Thread Cert.RwkvOutReferenceIdeal.nD Cert.RwkvOutReferenceIdeal.τ).loc Cert.RwkvOutReferenceIdeal.main_arg4) = m ((c.tc : Thread Cert.RwkvOutReferenceIdeal.nD Cert.RwkvOutReferenceIdeal.τ).loc Cert.RwkvOutReferenceIdeal.main_arg4)
      ∧ r.2.mem ((c.tc : Thread Cert.RwkvOutReferenceIdeal.nD Cert.RwkvOutReferenceIdeal.τ).loc Cert.RwkvOutReferenceIdeal.main_arg5) = m ((c.tc : Thread Cert.RwkvOutReferenceIdeal.nD Cert.RwkvOutReferenceIdeal.τ).loc Cert.RwkvOutReferenceIdeal.main_arg5)
      ∧ r.2.mem ((c.tc : Thread Cert.RwkvOutReferenceIdeal.nD Cert.RwkvOutReferenceIdeal.τ).loc Cert.RwkvOutReferenceIdeal.main_arg6) = m ((c.tc : Thread Cert.RwkvOutReferenceIdeal.nD Cert.RwkvOutReferenceIdeal.τ).loc Cert.RwkvOutReferenceIdeal.main_arg6)
      ∧ r.2.mem ((c.tc : Thread Cert.RwkvOutReferenceIdeal.nD Cert.RwkvOutReferenceIdeal.τ).loc Cert.RwkvOutReferenceIdeal.main_arg7) = m ((c.tc : Thread Cert.RwkvOutReferenceIdeal.nD Cert.RwkvOutReferenceIdeal.τ).loc Cert.RwkvOutReferenceIdeal.main_arg7)
      ∧ r.2.mem ((c.tc : Thread Cert.RwkvOutReferenceIdeal.nD Cert.RwkvOutReferenceIdeal.τ).loc Cert.RwkvOutReferenceIdeal.main_arg8) = m ((c.tc : Thread Cert.RwkvOutReferenceIdeal.nD Cert.RwkvOutReferenceIdeal.τ).loc Cert.RwkvOutReferenceIdeal.main_arg8)
      ∧ r.2.mem ((c.tc : Thread Cert.RwkvOutReferenceIdeal.nD Cert.RwkvOutReferenceIdeal.τ).loc Cert.RwkvOutReferenceIdeal.main_arg9) = m ((c.tc : Thread Cert.RwkvOutReferenceIdeal.nD Cert.RwkvOutReferenceIdeal.τ).loc Cert.RwkvOutReferenceIdeal.main_arg9))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5)
      ∧ r.2.mem ((c.tc : Thread Cert.AttnOut.nD Cert.AttnOut.τ).loc Cert.AttnOut.main_arg6) = m ((c.tc : Thread Cert.AttnOut.nD Cert.AttnOut.τ).loc Cert.AttnOut.main_arg6)
      ∧ r.2.mem ((c.tc : Thread Cert.AttnOut.nD Cert.AttnOut.τ).loc Cert.AttnOut.main_arg7) = m ((c.tc : Thread Cert.AttnOut.nD Cert.AttnOut.τ).loc Cert.AttnOut.main_arg7)
      ∧ r.2.mem ((c.tc : Thread Cert.AttnOut.nD Cert.AttnOut.τ).loc Cert.AttnOut.main_arg8) = m ((c.tc : Thread Cert.AttnOut.nD Cert.AttnOut.τ).loc Cert.AttnOut.main_arg8))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
      ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7)
      ∧ r.2.mem ((c.tc : Thread Cert.AttnOutIdeal.nD Cert.AttnOutIdeal.τ).loc Cert.AttnOutIdeal.main_arg8) = m ((c.tc : Thread Cert.AttnOutIdeal.nD Cert.AttnOutIdeal.τ).loc Cert.AttnOutIdeal.main_arg8))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4)
      ∧ r.2.mem ((c.tc : Thread Cert.AttnOutReferenceIdeal.nD Cert.AttnOutReferenceIdeal.τ).loc Cert.AttnOutReferenceIdeal.main_arg5) = m ((c.tc : Thread Cert.AttnOutReferenceIdeal.nD Cert.AttnOutReferenceIdeal.τ).loc Cert.AttnOutReferenceIdeal.main_arg5)
      ∧ r.2.mem ((c.tc : Thread Cert.AttnOutReferenceIdeal.nD Cert.AttnOutReferenceIdeal.τ).loc Cert.AttnOutReferenceIdeal.main_arg6) = m ((c.tc : Thread Cert.AttnOutReferenceIdeal.nD Cert.AttnOutReferenceIdeal.τ).loc Cert.AttnOutReferenceIdeal.main_arg6)
      ∧ r.2.mem ((c.tc : Thread Cert.AttnOutReferenceIdeal.nD Cert.AttnOutReferenceIdeal.τ).loc Cert.AttnOutReferenceIdeal.main_arg7) = m ((c.tc : Thread Cert.AttnOutReferenceIdeal.nD Cert.AttnOutReferenceIdeal.τ).loc Cert.AttnOutReferenceIdeal.main_arg7)
      ∧ r.2.mem ((c.tc : Thread Cert.AttnOutReferenceIdeal.nD Cert.AttnOutReferenceIdeal.τ).loc Cert.AttnOutReferenceIdeal.main_arg8) = m ((c.tc : Thread Cert.AttnOutReferenceIdeal.nD Cert.AttnOutReferenceIdeal.τ).loc Cert.AttnOutReferenceIdeal.main_arg8))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def preserves_Kernel_KernelIdeal : Prop :=
  IdealRules.named_const.Statement Cert.KernelIdeal.κ "qk_scale" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)
      ∧ m' ((c.tc : Thread Cert.QkvReferenceIdeal.nD Cert.QkvReferenceIdeal.τ).loc Cert.QkvReferenceIdeal.main_arg8) = m ((c.tc : Thread Cert.QkvIdeal.nD Cert.QkvIdeal.τ).loc Cert.QkvIdeal.main_arg8)) →
    ∃ (v0 : (c : Dev Cert.QkvIdeal.nD) → Buf (Elt Ideal) ((c.tc : Thread Cert.QkvIdeal.nD Cert.QkvIdeal.τ).loc Cert.QkvIdeal.main_v13_0)) (v1 : (c : Dev Cert.QkvIdeal.nD) → Buf (Elt Ideal) ((c.tc : Thread Cert.QkvIdeal.nD Cert.QkvIdeal.τ).loc Cert.QkvIdeal.main_v13_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v13_0) = v0 c
          ∧ r.2.mem ((c.tc : Thread Cert.QkvIdeal.nD Cert.QkvIdeal.τ).loc Cert.QkvIdeal.main_v13_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v46) = v0 c
          ∧ r.2.mem ((c.tc : Thread Cert.QkvReferenceIdeal.nD Cert.QkvReferenceIdeal.τ).loc Cert.QkvReferenceIdeal.main_v48) = v1 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7)
          ∧ r.2.mem ((c.tc : Thread Cert.QkvReferenceIdeal.nD Cert.QkvReferenceIdeal.τ).loc Cert.QkvReferenceIdeal.main_arg8) = m' ((c.tc : Thread Cert.QkvReferenceIdeal.nD Cert.QkvReferenceIdeal.τ).loc Cert.QkvReferenceIdeal.main_arg8))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)
      ∧ m' ((c.tc : Thread Cert.MixReferenceIdeal.nD Cert.MixReferenceIdeal.τ).loc Cert.MixReferenceIdeal.main_arg15) = m ((c.tc : Thread Cert.MixIdeal.nD Cert.MixIdeal.τ).loc Cert.MixIdeal.main_arg15)) →
    ∃ (v0 : (c : Dev Cert.MixIdeal.nD) → Buf (Elt Ideal) ((c.tc : Thread Cert.MixIdeal.nD Cert.MixIdeal.τ).loc Cert.MixIdeal.main_v30_0)) (v1 : (c : Dev Cert.MixIdeal.nD) → Buf (Elt Ideal) ((c.tc : Thread Cert.MixIdeal.nD Cert.MixIdeal.τ).loc Cert.MixIdeal.main_v30_1)) (v2 : (c : Dev Cert.MixIdeal.nD) → Buf (Elt Ideal) ((c.tc : Thread Cert.MixIdeal.nD Cert.MixIdeal.τ).loc Cert.MixIdeal.main_v30_2)) (v3 : (c : Dev Cert.MixIdeal.nD) → Buf (Elt Ideal) ((c.tc : Thread Cert.MixIdeal.nD Cert.MixIdeal.τ).loc Cert.MixIdeal.main_v30_3)) (v4 : (c : Dev Cert.MixIdeal.nD) → Buf (Elt Ideal) ((c.tc : Thread Cert.MixIdeal.nD Cert.MixIdeal.τ).loc Cert.MixIdeal.main_v30_4)) (v5 : (c : Dev Cert.MixIdeal.nD) → Buf (Elt Ideal) ((c.tc : Thread Cert.MixIdeal.nD Cert.MixIdeal.τ).loc Cert.MixIdeal.main_v30_5)) (v6 : (c : Dev Cert.MixIdeal.nD) → Buf (Elt Ideal) ((c.tc : Thread Cert.MixIdeal.nD Cert.MixIdeal.τ).loc Cert.MixIdeal.main_v30_6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v30_0) = v0 c
          ∧ r.2.mem ((c.tc : Thread Cert.MixIdeal.nD Cert.MixIdeal.τ).loc Cert.MixIdeal.main_v30_1) = v1 c
          ∧ r.2.mem ((c.tc : Thread Cert.MixIdeal.nD Cert.MixIdeal.τ).loc Cert.MixIdeal.main_v30_2) = v2 c
          ∧ r.2.mem ((c.tc : Thread Cert.MixIdeal.nD Cert.MixIdeal.τ).loc Cert.MixIdeal.main_v30_3) = v3 c
          ∧ r.2.mem ((c.tc : Thread Cert.MixIdeal.nD Cert.MixIdeal.τ).loc Cert.MixIdeal.main_v30_4) = v4 c
          ∧ r.2.mem ((c.tc : Thread Cert.MixIdeal.nD Cert.MixIdeal.τ).loc Cert.MixIdeal.main_v30_5) = v5 c
          ∧ r.2.mem ((c.tc : Thread Cert.MixIdeal.nD Cert.MixIdeal.τ).loc Cert.MixIdeal.main_v30_6) = v6 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v103) = v0 c
          ∧ r.2.mem ((c.tc : Thread Cert.MixReferenceIdeal.nD Cert.MixReferenceIdeal.τ).loc Cert.MixReferenceIdeal.main_v104) = v1 c
          ∧ r.2.mem ((c.tc : Thread Cert.MixReferenceIdeal.nD Cert.MixReferenceIdeal.τ).loc Cert.MixReferenceIdeal.main_v105) = v2 c
          ∧ r.2.mem ((c.tc : Thread Cert.MixReferenceIdeal.nD Cert.MixReferenceIdeal.τ).loc Cert.MixReferenceIdeal.main_v72) = v3 c
          ∧ r.2.mem ((c.tc : Thread Cert.MixReferenceIdeal.nD Cert.MixReferenceIdeal.τ).loc Cert.MixReferenceIdeal.main_v106) = v4 c
          ∧ r.2.mem ((c.tc : Thread Cert.MixReferenceIdeal.nD Cert.MixReferenceIdeal.τ).loc Cert.MixReferenceIdeal.main_v107) = v5 c
          ∧ r.2.mem ((c.tc : Thread Cert.MixReferenceIdeal.nD Cert.MixReferenceIdeal.τ).loc Cert.MixReferenceIdeal.main_v108) = v6 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14)
          ∧ r.2.mem ((c.tc : Thread Cert.MixReferenceIdeal.nD Cert.MixReferenceIdeal.τ).loc Cert.MixReferenceIdeal.main_arg15) = m' ((c.tc : Thread Cert.MixReferenceIdeal.nD Cert.MixReferenceIdeal.τ).loc Cert.MixReferenceIdeal.main_arg15))

def preserves_RwkvOut_RwkvOutIdeal : Prop :=
  True

def algebraic_RwkvOutIdeal_RwkvOutReferenceIdeal [hRwkvOutIdeal : Cert.RwkvOutIdeal.Facts] [hRwkvOutReferenceIdeal : Cert.RwkvOutReferenceIdeal.Facts] : Prop :=
  ∀ (m : (ℓ : Loc Cert.RwkvOutIdeal.nD Cert.RwkvOutIdeal.τ Cert.RwkvOutIdeal.sig) → Buf (Elt Ideal) ℓ) (g : Dev Cert.RwkvOutIdeal.nD → PrngReg)
    (m' : (ℓ : Loc Cert.RwkvOutReferenceIdeal.nD Cert.RwkvOutReferenceIdeal.τ Cert.RwkvOutReferenceIdeal.sig) → Buf (Elt Ideal) ℓ) (g' : Dev Cert.RwkvOutReferenceIdeal.nD → PrngReg), Pre_RwkvOutIdeal m →
    (∀ c : Dev Cert.RwkvOutIdeal.nD,
      m' ((c.tc : Thread Cert.RwkvOutReferenceIdeal.nD Cert.RwkvOutReferenceIdeal.τ).loc Cert.RwkvOutReferenceIdeal.main_arg0) = m ((c.tc : Thread Cert.RwkvOutIdeal.nD Cert.RwkvOutIdeal.τ).loc Cert.RwkvOutIdeal.main_arg0)
      ∧ m' ((c.tc : Thread Cert.RwkvOutReferenceIdeal.nD Cert.RwkvOutReferenceIdeal.τ).loc Cert.RwkvOutReferenceIdeal.main_arg1) = m ((c.tc : Thread Cert.RwkvOutIdeal.nD Cert.RwkvOutIdeal.τ).loc Cert.RwkvOutIdeal.main_arg1)
      ∧ m' ((c.tc : Thread Cert.RwkvOutReferenceIdeal.nD Cert.RwkvOutReferenceIdeal.τ).loc Cert.RwkvOutReferenceIdeal.main_arg2) = m ((c.tc : Thread Cert.RwkvOutIdeal.nD Cert.RwkvOutIdeal.τ).loc Cert.RwkvOutIdeal.main_arg2)
      ∧ m' ((c.tc : Thread Cert.RwkvOutReferenceIdeal.nD Cert.RwkvOutReferenceIdeal.τ).loc Cert.RwkvOutReferenceIdeal.main_arg3) = m ((c.tc : Thread Cert.RwkvOutIdeal.nD Cert.RwkvOutIdeal.τ).loc Cert.RwkvOutIdeal.main_arg3)
      ∧ m' ((c.tc : Thread Cert.RwkvOutReferenceIdeal.nD Cert.RwkvOutReferenceIdeal.τ).loc Cert.RwkvOutReferenceIdeal.main_arg4) = m ((c.tc : Thread Cert.RwkvOutIdeal.nD Cert.RwkvOutIdeal.τ).loc Cert.RwkvOutIdeal.main_arg4)
      ∧ m' ((c.tc : Thread Cert.RwkvOutReferenceIdeal.nD Cert.RwkvOutReferenceIdeal.τ).loc Cert.RwkvOutReferenceIdeal.main_arg5) = m ((c.tc : Thread Cert.RwkvOutIdeal.nD Cert.RwkvOutIdeal.τ).loc Cert.RwkvOutIdeal.main_arg5)
      ∧ m' ((c.tc : Thread Cert.RwkvOutReferenceIdeal.nD Cert.RwkvOutReferenceIdeal.τ).loc Cert.RwkvOutReferenceIdeal.main_arg6) = m ((c.tc : Thread Cert.RwkvOutIdeal.nD Cert.RwkvOutIdeal.τ).loc Cert.RwkvOutIdeal.main_arg6)
      ∧ m' ((c.tc : Thread Cert.RwkvOutReferenceIdeal.nD Cert.RwkvOutReferenceIdeal.τ).loc Cert.RwkvOutReferenceIdeal.main_arg7) = m ((c.tc : Thread Cert.RwkvOutIdeal.nD Cert.RwkvOutIdeal.τ).loc Cert.RwkvOutIdeal.main_arg7)
      ∧ m' ((c.tc : Thread Cert.RwkvOutReferenceIdeal.nD Cert.RwkvOutReferenceIdeal.τ).loc Cert.RwkvOutReferenceIdeal.main_arg8) = m ((c.tc : Thread Cert.RwkvOutIdeal.nD Cert.RwkvOutIdeal.τ).loc Cert.RwkvOutIdeal.main_arg8)
      ∧ m' ((c.tc : Thread Cert.RwkvOutReferenceIdeal.nD Cert.RwkvOutReferenceIdeal.τ).loc Cert.RwkvOutReferenceIdeal.main_arg9) = m ((c.tc : Thread Cert.RwkvOutIdeal.nD Cert.RwkvOutIdeal.τ).loc Cert.RwkvOutIdeal.main_arg9)) →
    ∃ (v0 : (c : Dev Cert.RwkvOutIdeal.nD) → Buf (Elt Ideal) ((c.tc : Thread Cert.RwkvOutIdeal.nD Cert.RwkvOutIdeal.τ).loc Cert.RwkvOutIdeal.main_v20_0)),
      θ_run (Cert.RwkvOutIdeal.defs (F := Ideal)) (onTc (τ := Cert.RwkvOutIdeal.τ) (Cert.RwkvOutIdeal.main (F := Ideal))) ⟨m, fun _ => 0, g⟩ (fun r => ∀ c : Dev Cert.RwkvOutIdeal.nD,
          r.2.mem ((c.tc : Thread Cert.RwkvOutIdeal.nD Cert.RwkvOutIdeal.τ).loc Cert.RwkvOutIdeal.main_v20_0) = v0 c
          ∧ r.2.mem ((c.tc : Thread Cert.RwkvOutIdeal.nD Cert.RwkvOutIdeal.τ).loc Cert.RwkvOutIdeal.main_arg0) = m ((c.tc : Thread Cert.RwkvOutIdeal.nD Cert.RwkvOutIdeal.τ).loc Cert.RwkvOutIdeal.main_arg0)
          ∧ r.2.mem ((c.tc : Thread Cert.RwkvOutIdeal.nD Cert.RwkvOutIdeal.τ).loc Cert.RwkvOutIdeal.main_arg1) = m ((c.tc : Thread Cert.RwkvOutIdeal.nD Cert.RwkvOutIdeal.τ).loc Cert.RwkvOutIdeal.main_arg1)
          ∧ r.2.mem ((c.tc : Thread Cert.RwkvOutIdeal.nD Cert.RwkvOutIdeal.τ).loc Cert.RwkvOutIdeal.main_arg2) = m ((c.tc : Thread Cert.RwkvOutIdeal.nD Cert.RwkvOutIdeal.τ).loc Cert.RwkvOutIdeal.main_arg2)
          ∧ r.2.mem ((c.tc : Thread Cert.RwkvOutIdeal.nD Cert.RwkvOutIdeal.τ).loc Cert.RwkvOutIdeal.main_arg3) = m ((c.tc : Thread Cert.RwkvOutIdeal.nD Cert.RwkvOutIdeal.τ).loc Cert.RwkvOutIdeal.main_arg3)
          ∧ r.2.mem ((c.tc : Thread Cert.RwkvOutIdeal.nD Cert.RwkvOutIdeal.τ).loc Cert.RwkvOutIdeal.main_arg4) = m ((c.tc : Thread Cert.RwkvOutIdeal.nD Cert.RwkvOutIdeal.τ).loc Cert.RwkvOutIdeal.main_arg4)
          ∧ r.2.mem ((c.tc : Thread Cert.RwkvOutIdeal.nD Cert.RwkvOutIdeal.τ).loc Cert.RwkvOutIdeal.main_arg5) = m ((c.tc : Thread Cert.RwkvOutIdeal.nD Cert.RwkvOutIdeal.τ).loc Cert.RwkvOutIdeal.main_arg5)
          ∧ r.2.mem ((c.tc : Thread Cert.RwkvOutIdeal.nD Cert.RwkvOutIdeal.τ).loc Cert.RwkvOutIdeal.main_arg6) = m ((c.tc : Thread Cert.RwkvOutIdeal.nD Cert.RwkvOutIdeal.τ).loc Cert.RwkvOutIdeal.main_arg6)
          ∧ r.2.mem ((c.tc : Thread Cert.RwkvOutIdeal.nD Cert.RwkvOutIdeal.τ).loc Cert.RwkvOutIdeal.main_arg7) = m ((c.tc : Thread Cert.RwkvOutIdeal.nD Cert.RwkvOutIdeal.τ).loc Cert.RwkvOutIdeal.main_arg7)
          ∧ r.2.mem ((c.tc : Thread Cert.RwkvOutIdeal.nD Cert.RwkvOutIdeal.τ).loc Cert.RwkvOutIdeal.main_arg8) = m ((c.tc : Thread Cert.RwkvOutIdeal.nD Cert.RwkvOutIdeal.τ).loc Cert.RwkvOutIdeal.main_arg8)
          ∧ r.2.mem ((c.tc : Thread Cert.RwkvOutIdeal.nD Cert.RwkvOutIdeal.τ).loc Cert.RwkvOutIdeal.main_arg9) = m ((c.tc : Thread Cert.RwkvOutIdeal.nD Cert.RwkvOutIdeal.τ).loc Cert.RwkvOutIdeal.main_arg9))
      ∧ θ_run (Cert.RwkvOutReferenceIdeal.defs (F := Ideal)) (onTc (τ := Cert.RwkvOutReferenceIdeal.τ) (Cert.RwkvOutReferenceIdeal.main (F := Ideal))) ⟨m', fun _ => 0, g'⟩ (fun r => ∀ c : Dev Cert.RwkvOutReferenceIdeal.nD,
          r.2.mem ((c.tc : Thread Cert.RwkvOutReferenceIdeal.nD Cert.RwkvOutReferenceIdeal.τ).loc Cert.RwkvOutReferenceIdeal.main_v8) = v0 c
          ∧ r.2.mem ((c.tc : Thread Cert.RwkvOutReferenceIdeal.nD Cert.RwkvOutReferenceIdeal.τ).loc Cert.RwkvOutReferenceIdeal.main_arg0) = m' ((c.tc : Thread Cert.RwkvOutReferenceIdeal.nD Cert.RwkvOutReferenceIdeal.τ).loc Cert.RwkvOutReferenceIdeal.main_arg0)
          ∧ r.2.mem ((c.tc : Thread Cert.RwkvOutReferenceIdeal.nD Cert.RwkvOutReferenceIdeal.τ).loc Cert.RwkvOutReferenceIdeal.main_arg1) = m' ((c.tc : Thread Cert.RwkvOutReferenceIdeal.nD Cert.RwkvOutReferenceIdeal.τ).loc Cert.RwkvOutReferenceIdeal.main_arg1)
          ∧ r.2.mem ((c.tc : Thread Cert.RwkvOutReferenceIdeal.nD Cert.RwkvOutReferenceIdeal.τ).loc Cert.RwkvOutReferenceIdeal.main_arg2) = m' ((c.tc : Thread Cert.RwkvOutReferenceIdeal.nD Cert.RwkvOutReferenceIdeal.τ).loc Cert.RwkvOutReferenceIdeal.main_arg2)
          ∧ r.2.mem ((c.tc : Thread Cert.RwkvOutReferenceIdeal.nD Cert.RwkvOutReferenceIdeal.τ).loc Cert.RwkvOutReferenceIdeal.main_arg3) = m' ((c.tc : Thread Cert.RwkvOutReferenceIdeal.nD Cert.RwkvOutReferenceIdeal.τ).loc Cert.RwkvOutReferenceIdeal.main_arg3)
          ∧ r.2.mem ((c.tc : Thread Cert.RwkvOutReferenceIdeal.nD Cert.RwkvOutReferenceIdeal.τ).loc Cert.RwkvOutReferenceIdeal.main_arg4) = m' ((c.tc : Thread Cert.RwkvOutReferenceIdeal.nD Cert.RwkvOutReferenceIdeal.τ).loc Cert.RwkvOutReferenceIdeal.main_arg4)
          ∧ r.2.mem ((c.tc : Thread Cert.RwkvOutReferenceIdeal.nD Cert.RwkvOutReferenceIdeal.τ).loc Cert.RwkvOutReferenceIdeal.main_arg5) = m' ((c.tc : Thread Cert.RwkvOutReferenceIdeal.nD Cert.RwkvOutReferenceIdeal.τ).loc Cert.RwkvOutReferenceIdeal.main_arg5)
          ∧ r.2.mem ((c.tc : Thread Cert.RwkvOutReferenceIdeal.nD Cert.RwkvOutReferenceIdeal.τ).loc Cert.RwkvOutReferenceIdeal.main_arg6) = m' ((c.tc : Thread Cert.RwkvOutReferenceIdeal.nD Cert.RwkvOutReferenceIdeal.τ).loc Cert.RwkvOutReferenceIdeal.main_arg6)
          ∧ r.2.mem ((c.tc : Thread Cert.RwkvOutReferenceIdeal.nD Cert.RwkvOutReferenceIdeal.τ).loc Cert.RwkvOutReferenceIdeal.main_arg7) = m' ((c.tc : Thread Cert.RwkvOutReferenceIdeal.nD Cert.RwkvOutReferenceIdeal.τ).loc Cert.RwkvOutReferenceIdeal.main_arg7)
          ∧ r.2.mem ((c.tc : Thread Cert.RwkvOutReferenceIdeal.nD Cert.RwkvOutReferenceIdeal.τ).loc Cert.RwkvOutReferenceIdeal.main_arg8) = m' ((c.tc : Thread Cert.RwkvOutReferenceIdeal.nD Cert.RwkvOutReferenceIdeal.τ).loc Cert.RwkvOutReferenceIdeal.main_arg8)
          ∧ r.2.mem ((c.tc : Thread Cert.RwkvOutReferenceIdeal.nD Cert.RwkvOutReferenceIdeal.τ).loc Cert.RwkvOutReferenceIdeal.main_arg9) = m' ((c.tc : Thread Cert.RwkvOutReferenceIdeal.nD Cert.RwkvOutReferenceIdeal.τ).loc Cert.RwkvOutReferenceIdeal.main_arg9))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)
      ∧ m' ((c.tc : Thread Cert.AttnOutReferenceIdeal.nD Cert.AttnOutReferenceIdeal.τ).loc Cert.AttnOutReferenceIdeal.main_arg4) = m ((c.tc : Thread Cert.AttnOutIdeal.nD Cert.AttnOutIdeal.τ).loc Cert.AttnOutIdeal.main_arg4)
      ∧ m' ((c.tc : Thread Cert.AttnOutReferenceIdeal.nD Cert.AttnOutReferenceIdeal.τ).loc Cert.AttnOutReferenceIdeal.main_arg5) = m ((c.tc : Thread Cert.AttnOutIdeal.nD Cert.AttnOutIdeal.τ).loc Cert.AttnOutIdeal.main_arg5)
      ∧ m' ((c.tc : Thread Cert.AttnOutReferenceIdeal.nD Cert.AttnOutReferenceIdeal.τ).loc Cert.AttnOutReferenceIdeal.main_arg6) = m ((c.tc : Thread Cert.AttnOutIdeal.nD Cert.AttnOutIdeal.τ).loc Cert.AttnOutIdeal.main_arg6)
      ∧ m' ((c.tc : Thread Cert.AttnOutReferenceIdeal.nD Cert.AttnOutReferenceIdeal.τ).loc Cert.AttnOutReferenceIdeal.main_arg7) = m ((c.tc : Thread Cert.AttnOutIdeal.nD Cert.AttnOutIdeal.τ).loc Cert.AttnOutIdeal.main_arg7)
      ∧ m' ((c.tc : Thread Cert.AttnOutReferenceIdeal.nD Cert.AttnOutReferenceIdeal.τ).loc Cert.AttnOutReferenceIdeal.main_arg8) = m ((c.tc : Thread Cert.AttnOutIdeal.nD Cert.AttnOutIdeal.τ).loc Cert.AttnOutIdeal.main_arg8)) →
    ∃ (v0 : (c : Dev Cert.AttnOutIdeal.nD) → Buf (Elt Ideal) ((c.tc : Thread Cert.AttnOutIdeal.nD Cert.AttnOutIdeal.τ).loc Cert.AttnOutIdeal.main_v20_0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v20_0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
          ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
          ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7)
          ∧ r.2.mem ((c.tc : Thread Cert.AttnOutIdeal.nD Cert.AttnOutIdeal.τ).loc Cert.AttnOutIdeal.main_arg8) = m ((c.tc : Thread Cert.AttnOutIdeal.nD Cert.AttnOutIdeal.τ).loc Cert.AttnOutIdeal.main_arg8))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v6) = v0 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3)
          ∧ r.2.mem ((c.tc : Thread Cert.AttnOutReferenceIdeal.nD Cert.AttnOutReferenceIdeal.τ).loc Cert.AttnOutReferenceIdeal.main_arg4) = m' ((c.tc : Thread Cert.AttnOutReferenceIdeal.nD Cert.AttnOutReferenceIdeal.τ).loc Cert.AttnOutReferenceIdeal.main_arg4)
          ∧ r.2.mem ((c.tc : Thread Cert.AttnOutReferenceIdeal.nD Cert.AttnOutReferenceIdeal.τ).loc Cert.AttnOutReferenceIdeal.main_arg5) = m' ((c.tc : Thread Cert.AttnOutReferenceIdeal.nD Cert.AttnOutReferenceIdeal.τ).loc Cert.AttnOutReferenceIdeal.main_arg5)
          ∧ r.2.mem ((c.tc : Thread Cert.AttnOutReferenceIdeal.nD Cert.AttnOutReferenceIdeal.τ).loc Cert.AttnOutReferenceIdeal.main_arg6) = m' ((c.tc : Thread Cert.AttnOutReferenceIdeal.nD Cert.AttnOutReferenceIdeal.τ).loc Cert.AttnOutReferenceIdeal.main_arg6)
          ∧ r.2.mem ((c.tc : Thread Cert.AttnOutReferenceIdeal.nD Cert.AttnOutReferenceIdeal.τ).loc Cert.AttnOutReferenceIdeal.main_arg7) = m' ((c.tc : Thread Cert.AttnOutReferenceIdeal.nD Cert.AttnOutReferenceIdeal.τ).loc Cert.AttnOutReferenceIdeal.main_arg7)
          ∧ r.2.mem ((c.tc : Thread Cert.AttnOutReferenceIdeal.nD Cert.AttnOutReferenceIdeal.τ).loc Cert.AttnOutReferenceIdeal.main_arg8) = m' ((c.tc : Thread Cert.AttnOutReferenceIdeal.nD Cert.AttnOutReferenceIdeal.τ).loc Cert.AttnOutReferenceIdeal.main_arg8))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v33)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v33) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v53) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def Claim : Prop :=
  ∃ (hKernel : Cert.Kernel.Facts) (hKernelIdeal : Cert.KernelIdeal.Facts) (hReferenceIdeal : Cert.ReferenceIdeal.Facts) (hQkv : Cert.Qkv.Facts) (hQkvIdeal : Cert.QkvIdeal.Facts) (hQkvReferenceIdeal : Cert.QkvReferenceIdeal.Facts) (hMix : Cert.Mix.Facts) (hMixIdeal : Cert.MixIdeal.Facts) (hMixReferenceIdeal : Cert.MixReferenceIdeal.Facts) (hRwkvOut : Cert.RwkvOut.Facts) (hRwkvOutIdeal : Cert.RwkvOutIdeal.Facts) (hRwkvOutReferenceIdeal : Cert.RwkvOutReferenceIdeal.Facts) (hAttnOut : Cert.AttnOut.Facts) (hAttnOutIdeal : Cert.AttnOutIdeal.Facts) (hAttnOutReferenceIdeal : Cert.AttnOutReferenceIdeal.Facts) (hExperts : Cert.Experts.Facts) (hExpertsIdeal : Cert.ExpertsIdeal.Facts) (hExpertsReferenceIdeal : Cert.ExpertsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Mix (hMix := hMix)
    ∧ quiescent_MixIdeal (hMixIdeal := hMixIdeal)
    ∧ quiescent_MixReferenceIdeal (hMixReferenceIdeal := hMixReferenceIdeal)
    ∧ quiescent_RwkvOut (hRwkvOut := hRwkvOut)
    ∧ quiescent_RwkvOutIdeal (hRwkvOutIdeal := hRwkvOutIdeal)
    ∧ quiescent_RwkvOutReferenceIdeal (hRwkvOutReferenceIdeal := hRwkvOutReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Qkv_QkvIdeal
    ∧ algebraic_QkvIdeal_QkvReferenceIdeal (hQkvIdeal := hQkvIdeal) (hQkvReferenceIdeal := hQkvReferenceIdeal)
    ∧ preserves_Mix_MixIdeal
    ∧ algebraic_MixIdeal_MixReferenceIdeal (hMixIdeal := hMixIdeal) (hMixReferenceIdeal := hMixReferenceIdeal)
    ∧ preserves_RwkvOut_RwkvOutIdeal
    ∧ algebraic_RwkvOutIdeal_RwkvOutReferenceIdeal (hRwkvOutIdeal := hRwkvOutIdeal) (hRwkvOutReferenceIdeal := hRwkvOutReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_Experts_ExpertsIdeal
    ∧ algebraic_ExpertsIdeal_ExpertsReferenceIdeal (hExpertsIdeal := hExpertsIdeal) (hExpertsReferenceIdeal := hExpertsReferenceIdeal)
-- ==== Pre_finite.lean ====
abbrev S4x4096x1024 : Shape := ⟨3, ![4, 4096, 1024]⟩
abbrev S4x4096x2048 : Shape := ⟨3, ![4, 4096, 2048]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S4x4096x1024 : S_.BroadcastsInDim S4x4096x1024 (![] : Fin 0 → Fin S4x4096x1024.rank)
  bcast_S_S4x4096x2048 : S_.BroadcastsInDim S4x4096x2048 (![] : Fin 0 → Fin S4x4096x2048.rank)
  bcast_S_S1x64 : S_.BroadcastsInDim S1x64 (![] : Fin 0 → Fin S1x64.rank)

variable [Facts]

def fn_part1 {F : FTy → Type} [FloatOps F] (main_v3 : IVec S4x4096x1024 1) (main_v7 : IVec S4x4096x2048 1) (main_v10 : IVec S1x64 1) (main_v13 : IVec S1x64 1) (main_v16 : IVec S1x64 1) (main_v17 : FVec F S1x64 .f32) (main_cst_4 : FVec F S_ .f32) : IVec S4x4096x1024 1 × IVec S4x4096x2048 1 × IVec S1x64 1 × IVec S1x64 1 × IVec S1x64 1 × IVec S1x64 1 :=
  let main_v18 : FVec F S1x64 .f32 := broadcastInDim S1x64 ![] bcast_S_S1x64 main_cst_4
  let main_v19 : IVec S1x64 1 := cmpf .olt main_v17 main_v18
  (main_v3, main_v7, main_v10, main_v13, main_v16, main_v19)

def fn {F : FTy → Type} [FloatOps F] (main_arg0 : FVec F S4x4096x1024 .bf16) (main_arg1 : FVec F S4x4096x2048 .bf16) (main_arg2 : FVec F S1x64 .f32) (main_arg3 : FVec F S1x64 .f32) (main_arg4 : FVec F S1x64 .f32) (main_arg5 : FVec F S1x64 .f32) (main_arg6 : FVec F S1x128 .f32) : IVec S4x4096x1024 1 × IVec S4x4096x2048 1 × IVec S1x64 1 × IVec S1x64 1 × IVec S1x64 1 × IVec S1x64 1 :=
  let main_v0 : FVec F S4x4096x1024 .f32 := (extf .f32 · bitsLt_bf16_f32) main_arg0
  let main_v1 : FVec F S4x4096x1024 .f32 := Host.absf main_v0
  let main_cst : FVec F S_ .f32 := constant S_ .f32 0x7F800000#32
  let main_v2 : FVec F S4x4096x1024 .f32 := broadcastInDim S4x4096x1024 ![] bcast_S_S4x4096x1024 main_cst
  let main_v3 : IVec S4x4096x1024 1 := cmpf .olt main_v1 main_v2
  let main_v4 : FVec F S4x4096x2048 .f32 := (extf .f32 · bitsLt_bf16_f32) main_arg1
  let main_v5 : FVec F S4x4096x2048 .f32 := Host.absf main_v4
  let main_cst_0 : FVec F S_ .f32 := constant S_ .f32 0x7F800000#32
  let main_v6 : FVec F S4x4096x2048 .f32 := broadcastInDim S4x4096x2048 ![] bcast_S_S4x4096x2048 main_cst_0
  let main_v7 : IVec S4x4096x2048 1 := cmpf .olt main_v5 main_v6
  let main_v8 : FVec F S1x64 .f32 := Host.absf main_arg2
  let main_cst_1 : FVec F S_ .f32 := constant S_ .f32 0x7F800000#32
  let main_v9 : FVec F S1x64 .f32 := broadcastInDim S1x64 ![] bcast_S_S1x64 main_cst_1
  let main_v10 : IVec S1x64 1 := cmpf .olt main_v8 main_v9
  let main_v11 : FVec F S1x64 .f32 := Host.absf main_arg3
  let main_cst_2 : FVec F S_ .f32 := constant S_ .f32 0x7F800000#32
  let main_v12 : FVec F S1x64 .f32 := broadcastInDim S1x64 ![] bcast_S_S1x64 main_cst_2
  let main_v13 : IVec S1x64 1 := cmpf .olt main_v11 main_v12
  let main_v14 : FVec F S1x64 .f32 := Host.absf main_arg4
  let main_cst_3 : FVec F S_ .f32 := constant S_ .f32 0x7F800000#32
  let main_v15 : FVec F S1x64 .f32 := broadcastInDim S1x64 ![] bcast_S_S1x64 main_cst_3
  let main_v16 : IVec S1x64 1 := cmpf .olt main_v14 main_v15
  let main_v17 : FVec F S1x64 .f32 := Host.absf main_arg5
  let main_cst_4 : FVec F S_ .f32 := constant S_ .f32 0x7F800000#32
  fn_part1 (F := F) main_v3 main_v7 main_v10 main_v13 main_v16 main_v17 main_cst_4
-- ==== Kernel.lean ====
abbrev S4x4096x1024 : Shape := ⟨3, ![4, 4096, 1024]⟩
abbrev S4x4096x2048 : Shape := ⟨3, ![4, 4096, 2048]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S128 : Shape := ⟨1, ![128]⟩
abbrev S1x512x512 : Shape := ⟨3, ![1, 512, 512]⟩
abbrev S1x4096x512 : Shape := ⟨3, ![1, 4096, 512]⟩
abbrev S4x1024x128 : Shape := ⟨3, ![4, 1024, 128]⟩
abbrev S4x1024x256 : Shape := ⟨3, ![4, 1024, 256]⟩
abbrev S2x4x1024x512 : Shape := ⟨4, ![2, 4, 1024, 512]⟩
abbrev S1x512x128 : Shape := ⟨3, ![1, 512, 128]⟩
abbrev S512x128 : Shape := ⟨2, ![512, 128]⟩
abbrev S1024x128 : Shape := ⟨2, ![1024, 128]⟩
abbrev S1024x512 : Shape := ⟨2, ![1024, 512]⟩
abbrev S1x1x1024x512 : Shape := ⟨4, ![1, 1, 1024, 512]⟩
abbrev S1024 : Shape := ⟨1, ![1024]⟩
abbrev S1024x1 : Shape := ⟨2, ![1024, 1]⟩
abbrev S1x1024x128 : Shape := ⟨3, ![1, 1024, 128]⟩
abbrev S512x256 : Shape := ⟨2, ![512, 256]⟩
abbrev S1024x256 : Shape := ⟨2, ![1024, 256]⟩
abbrev S1x1024x256 : Shape := ⟨3, ![1, 1024, 256]⟩
abbrev S1 : Shape := ⟨1, ![1]⟩
abbrev S1x1 : Shape := ⟨2, ![1, 1]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x2048, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S4x64, .f32⟩
  | .hbm, ⟨16, _⟩ => ⟨S128, .f32⟩
  | .hbm, ⟨17, _⟩ => ⟨S1x128, .f32⟩
  | .hbm, ⟨18, _⟩ => ⟨S4x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S4x64, .f32⟩
  | .local _ .vmem, ⟨7, _⟩ => ⟨S1x128, .f32⟩
  | .local _ .vmem, ⟨8, _⟩ => ⟨S1x512x512, .bf16⟩
  | .local _ .vmem, ⟨9, _⟩ => ⟨S1x512x512, .bf16⟩
  | .local _ .vmem, ⟨10, _⟩ => ⟨S4x1024x128, .f32⟩
  | .local _ .vmem, ⟨11, _⟩ => ⟨S4x1024x256, .f32⟩
  | .local _ .vmem, ⟨12, _⟩ => ⟨S2x4x1024x512, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c512_i32_19 : BitVec 32 := 512#32
  let v77 : BitVec 32 := Scalar.muli arg2 c512_i32_19
  v77
def k0_off1 (i : grid0.Coords) : Fin 3 → Nat :=
  let c0_20 : Index := 0#32
  let arg2 : BitVec 32 := BitVec.ofNat 32 (i 2).val
  let c512_i32_19 : BitVec 32 := 512#32
  let v77 : BitVec 32 := Scalar.muli arg2 c512_i32_19
  let v78 : BitVec 32 := v77
  let v79 : Index := Scalar.indexCast v78
  let c0_21 : Index := 0#32
  ![0, v79.toNat, 0]
def k0_mult2 (i : grid0.Coords) : BitVec 32 :=
  let arg2 : BitVec 32 := BitVec.ofNat 32 (i 2).val
  let c512_i32_27 : BitVec 32 := 512#32
  let v86 : BitVec 32 := Scalar.muli arg2 c512_i32_27
  v86
def k0_off2 (i : grid0.Coords) : Fin 3 → Nat :=
  let c0_28 : Index := 0#32
  let arg2 : BitVec 32 := BitVec.ofNat 32 (i 2).val
  let c512_i32_27 : BitVec 32 := 512#32
  let v86 : BitVec 32 := Scalar.muli arg2 c512_i32_27
  let v87 : BitVec 32 := v86
  let v88 : Index := Scalar.indexCast v87
  let c128_29 : Index := 128#32
  ![0, v88.toNat, 128]
def k0_mult3 (i : grid0.Coords) : BitVec 32 :=
  let arg2 : BitVec 32 := BitVec.ofNat 32 (i 2).val
  let c512_i32_34 : BitVec 32 := 512#32
  let v95 : BitVec 32 := Scalar.muli arg2 c512_i32_34
  v95
def k0_off3 (i : grid0.Coords) : Fin 3 → Nat :=
  let c0_35 : Index := 0#32
  let arg2 : BitVec 32 := BitVec.ofNat 32 (i 2).val
  let c512_i32_34 : BitVec 32 := 512#32
  let v95 : BitVec 32 := Scalar.muli arg2 c512_i32_34
  let v96 : BitVec 32 := v95
  let v97 : Index := Scalar.indexCast v96
  let c256_36 : Index := 256#32
  ![0, v97.toNat, 256]
def k0_mult4 (i : grid0.Coords) : BitVec 32 :=
  let arg2 : BitVec 32 := BitVec.ofNat 32 (i 2).val
  let c512_i32_41 : BitVec 32 := 512#32
  let v104 : BitVec 32 := Scalar.muli arg2 c512_i32_41
  v104
def k0_off4 (i : grid0.Coords) : Fin 3 → Nat :=
  let c0_42 : Index := 0#32
  let arg2 : BitVec 32 := BitVec.ofNat 32 (i 2).val
  let c512_i32_41 : BitVec 32 := 512#32
  let v104 : BitVec 32 := Scalar.muli arg2 c512_i32_41
  let v105 : BitVec 32 := v104
  let v106 : Index := Scalar.indexCast v105
  let c384_43 : Index := 384#32
  ![0, v106.toNat, 384]
def k0_mult5 : BitVec 32 :=
  let c0_i32_48 : BitVec 32 := 0#32
  c0_i32_48
def k0_mult6 : BitVec 32 :=
  let c0_i32_56 : BitVec 32 := 0#32
  c0_i32_56
def k0_mult7 : BitVec 32 :=
  let c0_i32_64 : BitVec 32 := 0#32
  c0_i32_64
def k0_mult8 : BitVec 32 :=
  let c0_i32_72 : BitVec 32 := 0#32
  c0_i32_72
def k0_mult9 (i : grid0.Coords) : BitVec 32 :=
  let arg2 : BitVec 32 := BitVec.ofNat 32 (i 2).val
  let c512_i32_89 : BitVec 32 := 512#32
  let v160 : BitVec 32 := Scalar.muli arg2 c512_i32_89
  v160
def k0_mult10 (i : grid0.Coords) : BitVec 32 :=
  let arg2 : BitVec 32 := BitVec.ofNat 32 (i 2).val
  let c512_i32_105 : BitVec 32 := 512#32
  let v185 : BitVec 32 := Scalar.muli arg2 c512_i32_105
  v185
def k0_mult11 (i : grid0.Coords) : BitVec 32 :=
  let arg2 : BitVec 32 := BitVec.ofNat 32 (i 2).val
  let c512_i32_121 : BitVec 32 := 512#32
  let v210 : BitVec 32 := Scalar.muli arg2 c512_i32_121
  v210
def k0_mult12 (i : grid0.Coords) : BitVec 32 :=
  let arg2 : BitVec 32 := BitVec.ofNat 32 (i 2).val
  let c512_i32_137 : BitVec 32 := 512#32
  let v235 : BitVec 32 := Scalar.muli arg2 c512_i32_137
  v235
@[reducible] def k0_t1_loop (i : grid0.Coords) : Scf.Loop 32 :=
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_153 : BitVec 32 := 1#32
  ⟨c0_i32_151, v266, c1_i32_153⟩
def k0_mult13 (i : grid0.Coords) (k0_t1 : Fin (k0_t1_loop i).trips) : BitVec 32 :=
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let c1_i32_220 : BitVec 32 := 1#32
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_221 : BitVec 32 := 512#32
  let v423 : BitVec 32 := Scalar.muli v422 c512_i32_221
  v423
def k0_off5 (i : grid0.Coords) (k0_t1 : Fin (k0_t1_loop i).trips) (c1_i32_220 : BitVec 32) : Fin 3 → Nat :=
  let c0_222 : Index := 0#32
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_221 : BitVec 32 := 512#32
  let v423 : BitVec 32 := Scalar.muli v422 c512_i32_221
  let v424 : BitVec 32 := v423
  let v425 : Index := Scalar.indexCast v424
  let c0_223 : Index := 0#32
  ![0, v425.toNat, 0]
def k0_mult14 (i : grid0.Coords) (k0_t1 : Fin (k0_t1_loop i).trips) : BitVec 32 :=
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let c1_i32_220 : BitVec 32 := 1#32
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_229 : BitVec 32 := 512#32
  let v432 : BitVec 32 := Scalar.muli v422 c512_i32_229
  v432
def k0_off6 (i : grid0.Coords) (k0_t1 : Fin (k0_t1_loop i).trips) (c1_i32_220 : BitVec 32) : Fin 3 → Nat :=
  let c0_230 : Index := 0#32
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_229 : BitVec 32 := 512#32
  let v432 : BitVec 32 := Scalar.muli v422 c512_i32_229
  let v433 : BitVec 32 := v432
  let v434 : Index := Scalar.indexCast v433
  let c128_231 : Index := 128#32
  ![0, v434.toNat, 128]
def k0_mult15 (i : grid0.Coords) (k0_t1 : Fin (k0_t1_loop i).trips) : BitVec 32 :=
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let c1_i32_220 : BitVec 32 := 1#32
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_237 : BitVec 32 := 512#32
  let v441 : BitVec 32 := Scalar.muli v422 c512_i32_237
  v441
def k0_off7 (i : grid0.Coords) (k0_t1 : Fin (k0_t1_loop i).trips) (c1_i32_220 : BitVec 32) : Fin 3 → Nat :=
  let c0_238 : Index := 0#32
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_237 : BitVec 32 := 512#32
  let v441 : BitVec 32 := Scalar.muli v422 c512_i32_237
  let v442 : BitVec 32 := v441
  let v443 : Index := Scalar.indexCast v442
  let c256_239 : Index := 256#32
  ![0, v443.toNat, 256]
def k0_mult16 (i : grid0.Coords) (k0_t1 : Fin (k0_t1_loop i).trips) : BitVec 32 :=
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let c1_i32_220 : BitVec 32 := 1#32
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_245 : BitVec 32 := 512#32
  let v450 : BitVec 32 := Scalar.muli v422 c512_i32_245
  v450
def k0_off8 (i : grid0.Coords) (k0_t1 : Fin (k0_t1_loop i).trips) (c1_i32_220 : BitVec 32) : Fin 3 → Nat :=
  let c0_246 : Index := 0#32
  let c2_i32_219 : BitVec 32 := 2#32
  let c0_i32_151 : BitVec 32 := 0#32
  let c1_i32_153 : BitVec 32 := 1#32
  let arg12 : BitVec 32 := Scf.iv c0_i32_151 c1_i32_153 k0_t1
  let v420 : BitVec 32 := Scalar.muli c2_i32_219 arg12
  let v421 : BitVec 32 := Scalar.addi v420 c1_i32_220
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_245 : BitVec 32 := 512#32
  let v450 : BitVec 32 := Scalar.muli v422 c512_i32_245
  let v451 : BitVec 32 := v450
  let v452 : Index := Scalar.indexCast v451
  let c384_247 : Index := 384#32
  ![0, v452.toNat, 384]
def k0_mult17 (i : grid0.Coords) (k0_t1 : Fin (k0_t1_loop i).trips) : BitVec 32 :=
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_264 : BitVec 32 := 512#32
  let v474 : BitVec 32 := Scalar.muli v419 c512_i32_264
  v474
def k0_off9 (i : grid0.Coords) (k0_t1 : Fin (k0_t1_loop i).trips) : Fin 3 → Nat :=
  let c0_265 : Index := 0#32
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_264 : BitVec 32 := 512#32
  let v474 : BitVec 32 := Scalar.muli v419 c512_i32_264
  let v475 : BitVec 32 := v474
  let v476 : Index := Scalar.indexCast v475
  let c0_266 : Index := 0#32
  ![0, v476.toNat, 0]
def k0_mult18 (i : grid0.Coords) (k0_t1 : Fin (k0_t1_loop i).trips) : BitVec 32 :=
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_285 : BitVec 32 := 512#32
  let v506 : BitVec 32 := Scalar.muli v419 c512_i32_285
  v506
def k0_off10 (i : grid0.Coords) (k0_t1 : Fin (k0_t1_loop i).trips) : Fin 3 → Nat :=
  let c0_286 : Index := 0#32
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_285 : BitVec 32 := 512#32
  let v506 : BitVec 32 := Scalar.muli v419 c512_i32_285
  let v507 : BitVec 32 := v506
  let v508 : Index := Scalar.indexCast v507
  let c128_287 : Index := 128#32
  ![0, v508.toNat, 128]
def k0_mult19 (i : grid0.Coords) (k0_t1 : Fin (k0_t1_loop i).trips) : BitVec 32 :=
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_306 : BitVec 32 := 512#32
  let v538 : BitVec 32 := Scalar.muli v419 c512_i32_306
  v538
def k0_off11 (i : grid0.Coords) (k0_t1 : Fin (k0_t1_loop i).trips) : Fin 3 → Nat :=
  let c0_307 : Index := 0#32
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_306 : BitVec 32 := 512#32
  let v538 : BitVec 32 := Scalar.muli v419 c512_i32_306
  let v539 : BitVec 32 := v538
  let v540 : Index := Scalar.indexCast v539
  let c256_308 : Index := 256#32
  ![0, v540.toNat, 256]
def k0_mult20 (i : grid0.Coords) (k0_t1 : Fin (k0_t1_loop i).trips) : BitVec 32 :=
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_327 : BitVec 32 := 512#32
  let v570 : BitVec 32 := Scalar.muli v419 c512_i32_327
  v570
def k0_off12 (i : grid0.Coords) (k0_t1 : Fin (k0_t1_loop i).trips) : Fin 3 → Nat :=
  let c0_328 : Index := 0#32
  let c2_i32_218 : BitVec 32 := 2#32
  let c0_i32_151 : BitVec 32 := 0#32
  let c1_i32_153 : BitVec 32 := 1#32
  let arg12 : BitVec 32 := Scf.iv c0_i32_151 c1_i32_153 k0_t1
  let v419 : BitVec 32 := Scalar.muli c2_i32_218 arg12
  let c512_i32_327 : BitVec 32 := 512#32
  let v570 : BitVec 32 := Scalar.muli v419 c512_i32_327
  let v571 : BitVec 32 := v570
  let v572 : Index := Scalar.indexCast v571
  let c384_329 : Index := 384#32
  ![0, v572.toNat, 384]
def k0_mult21 (i : grid0.Coords) (k0_t1 : Fin (k0_t1_loop i).trips) : BitVec 32 :=
  let c2_i32_339 : BitVec 32 := 2#32
  let c0_i32_151 : BitVec 32 := 0#32
  let c1_i32_153 : BitVec 32 := 1#32
  let arg12 : BitVec 32 := Scf.iv c0_i32_151 c1_i32_153 k0_t1
  let v589 : BitVec 32 := Scalar.muli c2_i32_339 arg12
  let c2_i32_340 : BitVec 32 := 2#32
  let v590 : BitVec 32 := Scalar.addi v589 c2_i32_340
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_341 : BitVec 32 := 512#32
  let v592 : BitVec 32 := Scalar.muli v591 c512_i32_341
  v592
def k0_mult22 (i : grid0.Coords) (k0_t1 : Fin (k0_t1_loop i).trips) : BitVec 32 :=
  let c2_i32_339 : BitVec 32 := 2#32
  let c0_i32_151 : BitVec 32 := 0#32
  let c1_i32_153 : BitVec 32 := 1#32
  let arg12 : BitVec 32 := Scf.iv c0_i32_151 c1_i32_153 k0_t1
  let v589 : BitVec 32 := Scalar.muli c2_i32_339 arg12
  let c2_i32_340 : BitVec 32 := 2#32
  let v590 : BitVec 32 := Scalar.addi v589 c2_i32_340
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_349 : BitVec 32 := 512#32
  let v601 : BitVec 32 := Scalar.muli v591 c512_i32_349
  v601
def k0_mult23 (i : grid0.Coords) (k0_t1 : Fin (k0_t1_loop i).trips) : BitVec 32 :=
  let c2_i32_339 : BitVec 32 := 2#32
  let c0_i32_151 : BitVec 32 := 0#32
  let c1_i32_153 : BitVec 32 := 1#32
  let arg12 : BitVec 32 := Scf.iv c0_i32_151 c1_i32_153 k0_t1
  let v589 : BitVec 32 := Scalar.muli c2_i32_339 arg12
  let c2_i32_340 : BitVec 32 := 2#32
  let v590 : BitVec 32 := Scalar.addi v589 c2_i32_340
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_357 : BitVec 32 := 512#32
  let v610 : BitVec 32 := Scalar.muli v591 c512_i32_357
  v610
def k0_mult24 (i : grid0.Coords) (k0_t1 : Fin (k0_t1_loop i).trips) : BitVec 32 :=
  let c2_i32_339 : BitVec 32 := 2#32
  let c0_i32_151 : BitVec 32 := 0#32
  let c1_i32_153 : BitVec 32 := 1#32
  let arg12 : BitVec 32 := Scf.iv c0_i32_151 c1_i32_153 k0_t1
  let v589 : BitVec 32 := Scalar.muli c2_i32_339 arg12
  let c2_i32_340 : BitVec 32 := 2#32
  let v590 : BitVec 32 := Scalar.addi v589 c2_i32_340
  let arg2 : BitVec 32 := BitVec.ofNat 32 (i 2).val
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_365 : BitVec 32 := 512#32
  let v619 : BitVec 32 := Scalar.muli v591 c512_i32_365
  v619
def k0_mult25 (i : grid0.Coords) (k0_t1 : Fin (k0_t1_loop i).trips) : BitVec 32 :=
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_384 : BitVec 32 := 512#32
  let v643 : BitVec 32 := Scalar.muli v588 c512_i32_384
  v643
def k0_off13 (i : grid0.Coords) (k0_t1 : Fin (k0_t1_loop i).trips) : Fin 3 → Nat :=
  let c0_385 : Index := 0#32
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_384 : BitVec 32 := 512#32
  let v643 : BitVec 32 := Scalar.muli v588 c512_i32_384
  let v644 : BitVec 32 := v643
  let v645 : Index := Scalar.indexCast v644
  let c0_386 : Index := 0#32
  ![0, v645.toNat, 0]
def k0_mult26 (i : grid0.Coords) (k0_t1 : Fin (k0_t1_loop i).trips) : BitVec 32 :=
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_405 : BitVec 32 := 512#32
  let v675 : BitVec 32 := Scalar.muli v588 c512_i32_405
  v675
def k0_off14 (i : grid0.Coords) (k0_t1 : Fin (k0_t1_loop i).trips) : Fin 3 → Nat :=
  let c0_406 : Index := 0#32
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_405 : BitVec 32 := 512#32
  let v675 : BitVec 32 := Scalar.muli v588 c512_i32_405
  let v676 : BitVec 32 := v675
  let v677 : Index := Scalar.indexCast v676
  let c128_407 : Index := 128#32
  ![0, v677.toNat, 128]
def k0_mult27 (i : grid0.Coords) (k0_t1 : Fin (k0_t1_loop i).trips) : BitVec 32 :=
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_426 : BitVec 32 := 512#32
  let v707 : BitVec 32 := Scalar.muli v588 c512_i32_426
  v707
def k0_off15 (i : grid0.Coords) (k0_t1 : Fin (k0_t1_loop i).trips) : Fin 3 → Nat :=
  let c0_427 : Index := 0#32
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_426 : BitVec 32 := 512#32
  let v707 : BitVec 32 := Scalar.muli v588 c512_i32_426
  let v708 : BitVec 32 := v707
  let v709 : Index := Scalar.indexCast v708
  let c256_428 : Index := 256#32
  ![0, v709.toNat, 256]
def k0_mult28 (i : grid0.Coords) (k0_t1 : Fin (k0_t1_loop i).trips) : BitVec 32 :=
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_447 : BitVec 32 := 512#32
  let v739 : BitVec 32 := Scalar.muli v588 c512_i32_447
  v739
def k0_off16 (i : grid0.Coords) (k0_t1 : Fin (k0_t1_loop i).trips) : Fin 3 → Nat :=
  let c0_448 : Index := 0#32
  let c2_i32_337 : BitVec 32 := 2#32
  let c0_i32_151 : BitVec 32 := 0#32
  let c1_i32_153 : BitVec 32 := 1#32
  let arg12 : BitVec 32 := Scf.iv c0_i32_151 c1_i32_153 k0_t1
  let v587 : BitVec 32 := Scalar.muli c2_i32_337 arg12
  let c1_i32_338 : BitVec 32 := 1#32
  let v588 : BitVec 32 := Scalar.addi v587 c1_i32_338
  let c512_i32_447 : BitVec 32 := 512#32
  let v739 : BitVec 32 := Scalar.muli v588 c512_i32_447
  let v740 : BitVec 32 := v739
  let v741 : Index := Scalar.indexCast v740
  let c384_449 : Index := 384#32
  ![0, v741.toNat, 384]
@[reducible] def k0_t2_loop (i : grid0.Coords) : Scf.Loop 32 :=
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let v263 : BitVec 32 := Scalar.addi c0_i32_151 v262
  let c1_i32_154 : BitVec 32 := 1#32
  ⟨v266, v263, c1_i32_154⟩
def k0_mult29 (i : grid0.Coords) (k0_t2 : Fin (k0_t2_loop i).trips) : BitVec 32 :=
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let c1_i32_220 : BitVec 32 := 1#32
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_221 : BitVec 32 := 512#32
  let v423 : BitVec 32 := Scalar.muli v422 c512_i32_221
  v423
def k0_off17 (i : grid0.Coords) (k0_t2 : Fin (k0_t2_loop i).trips) (c1_i32_220 : BitVec 32) : Fin 3 → Nat :=
  let c0_222 : Index := 0#32
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_221 : BitVec 32 := 512#32
  let v423 : BitVec 32 := Scalar.muli v422 c512_i32_221
  let v424 : BitVec 32 := v423
  let v425 : Index := Scalar.indexCast v424
  let c0_223 : Index := 0#32
  ![0, v425.toNat, 0]
def k0_mult30 (i : grid0.Coords) (k0_t2 : Fin (k0_t2_loop i).trips) : BitVec 32 :=
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let c1_i32_220 : BitVec 32 := 1#32
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_229 : BitVec 32 := 512#32
  let v432 : BitVec 32 := Scalar.muli v422 c512_i32_229
  v432
def k0_off18 (i : grid0.Coords) (k0_t2 : Fin (k0_t2_loop i).trips) (c1_i32_220 : BitVec 32) : Fin 3 → Nat :=
  let c0_230 : Index := 0#32
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_229 : BitVec 32 := 512#32
  let v432 : BitVec 32 := Scalar.muli v422 c512_i32_229
  let v433 : BitVec 32 := v432
  let v434 : Index := Scalar.indexCast v433
  let c128_231 : Index := 128#32
  ![0, v434.toNat, 128]
def k0_mult31 (i : grid0.Coords) (k0_t2 : Fin (k0_t2_loop i).trips) : BitVec 32 :=
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let c1_i32_220 : BitVec 32 := 1#32
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_237 : BitVec 32 := 512#32
  let v441 : BitVec 32 := Scalar.muli v422 c512_i32_237
  v441
def k0_off19 (i : grid0.Coords) (k0_t2 : Fin (k0_t2_loop i).trips) (c1_i32_220 : BitVec 32) : Fin 3 → Nat :=
  let c0_238 : Index := 0#32
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_237 : BitVec 32 := 512#32
  let v441 : BitVec 32 := Scalar.muli v422 c512_i32_237
  let v442 : BitVec 32 := v441
  let v443 : Index := Scalar.indexCast v442
  let c256_239 : Index := 256#32
  ![0, v443.toNat, 256]
def k0_mult32 (i : grid0.Coords) (k0_t2 : Fin (k0_t2_loop i).trips) : BitVec 32 :=
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let c1_i32_220 : BitVec 32 := 1#32
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_245 : BitVec 32 := 512#32
  let v450 : BitVec 32 := Scalar.muli v422 c512_i32_245
  v450
def k0_off20 (i : grid0.Coords) (k0_t2 : Fin (k0_t2_loop i).trips) (c1_i32_220 : BitVec 32) : Fin 3 → Nat :=
  let c0_246 : Index := 0#32
  let c2_i32_219 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v420 : BitVec 32 := Scalar.muli c2_i32_219 arg12
  let v421 : BitVec 32 := Scalar.addi v420 c1_i32_220
  let c1_i32_216 : BitVec 32 := 1#32
  let v417 : BitVec 32 := Scalar.subi arg2 c1_i32_216
  let c0_i32_217 : BitVec 32 := 0#32
  let v418 : BitVec 32 := Scalar.maxsi v417 c0_i32_217
  let v422 : BitVec 32 := Scalar.minsi v421 v418
  let c512_i32_245 : BitVec 32 := 512#32
  let v450 : BitVec 32 := Scalar.muli v422 c512_i32_245
  let v451 : BitVec 32 := v450
  let v452 : Index := Scalar.indexCast v451
  let c384_247 : Index := 384#32
  ![0, v452.toNat, 384]
def k0_mult33 (i : grid0.Coords) (k0_t2 : Fin (k0_t2_loop i).trips) : BitVec 32 :=
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_264 : BitVec 32 := 512#32
  let v474 : BitVec 32 := Scalar.muli v419 c512_i32_264
  v474
def k0_off21 (i : grid0.Coords) (k0_t2 : Fin (k0_t2_loop i).trips) : Fin 3 → Nat :=
  let c0_265 : Index := 0#32
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_264 : BitVec 32 := 512#32
  let v474 : BitVec 32 := Scalar.muli v419 c512_i32_264
  let v475 : BitVec 32 := v474
  let v476 : Index := Scalar.indexCast v475
  let c0_266 : Index := 0#32
  ![0, v476.toNat, 0]
def k0_mult34 (i : grid0.Coords) (k0_t2 : Fin (k0_t2_loop i).trips) : BitVec 32 :=
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_285 : BitVec 32 := 512#32
  let v506 : BitVec 32 := Scalar.muli v419 c512_i32_285
  v506
def k0_off22 (i : grid0.Coords) (k0_t2 : Fin (k0_t2_loop i).trips) : Fin 3 → Nat :=
  let c0_286 : Index := 0#32
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_285 : BitVec 32 := 512#32
  let v506 : BitVec 32 := Scalar.muli v419 c512_i32_285
  let v507 : BitVec 32 := v506
  let v508 : Index := Scalar.indexCast v507
  let c128_287 : Index := 128#32
  ![0, v508.toNat, 128]
def k0_mult35 (i : grid0.Coords) (k0_t2 : Fin (k0_t2_loop i).trips) : BitVec 32 :=
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_306 : BitVec 32 := 512#32
  let v538 : BitVec 32 := Scalar.muli v419 c512_i32_306
  v538
def k0_off23 (i : grid0.Coords) (k0_t2 : Fin (k0_t2_loop i).trips) : Fin 3 → Nat :=
  let c0_307 : Index := 0#32
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_306 : BitVec 32 := 512#32
  let v538 : BitVec 32 := Scalar.muli v419 c512_i32_306
  let v539 : BitVec 32 := v538
  let v540 : Index := Scalar.indexCast v539
  let c256_308 : Index := 256#32
  ![0, v540.toNat, 256]
def k0_mult36 (i : grid0.Coords) (k0_t2 : Fin (k0_t2_loop i).trips) : BitVec 32 :=
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_327 : BitVec 32 := 512#32
  let v570 : BitVec 32 := Scalar.muli v419 c512_i32_327
  v570
def k0_off24 (i : grid0.Coords) (k0_t2 : Fin (k0_t2_loop i).trips) : Fin 3 → Nat :=
  let c0_328 : Index := 0#32
  let c2_i32_218 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v419 : BitVec 32 := Scalar.muli c2_i32_218 arg12
  let c512_i32_327 : BitVec 32 := 512#32
  let v570 : BitVec 32 := Scalar.muli v419 c512_i32_327
  let v571 : BitVec 32 := v570
  let v572 : Index := Scalar.indexCast v571
  let c384_329 : Index := 384#32
  ![0, v572.toNat, 384]
def k0_mult37 (i : grid0.Coords) (k0_t2 : Fin (k0_t2_loop i).trips) : BitVec 32 :=
  let c2_i32_339 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v589 : BitVec 32 := Scalar.muli c2_i32_339 arg12
  let c2_i32_340 : BitVec 32 := 2#32
  let v590 : BitVec 32 := Scalar.addi v589 c2_i32_340
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_341 : BitVec 32 := 512#32
  let v592 : BitVec 32 := Scalar.muli v591 c512_i32_341
  v592
def k0_mult38 (i : grid0.Coords) (k0_t2 : Fin (k0_t2_loop i).trips) : BitVec 32 :=
  let c2_i32_339 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v589 : BitVec 32 := Scalar.muli c2_i32_339 arg12
  let c2_i32_340 : BitVec 32 := 2#32
  let v590 : BitVec 32 := Scalar.addi v589 c2_i32_340
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_349 : BitVec 32 := 512#32
  let v601 : BitVec 32 := Scalar.muli v591 c512_i32_349
  v601
def k0_mult39 (i : grid0.Coords) (k0_t2 : Fin (k0_t2_loop i).trips) : BitVec 32 :=
  let c2_i32_339 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v589 : BitVec 32 := Scalar.muli c2_i32_339 arg12
  let c2_i32_340 : BitVec 32 := 2#32
  let v590 : BitVec 32 := Scalar.addi v589 c2_i32_340
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_357 : BitVec 32 := 512#32
  let v610 : BitVec 32 := Scalar.muli v591 c512_i32_357
  v610
def k0_mult40 (i : grid0.Coords) (k0_t2 : Fin (k0_t2_loop i).trips) : BitVec 32 :=
  let c2_i32_339 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v589 : BitVec 32 := Scalar.muli c2_i32_339 arg12
  let c2_i32_340 : BitVec 32 := 2#32
  let v590 : BitVec 32 := Scalar.addi v589 c2_i32_340
  let c1_i32_216 : BitVec 32 := 1#32
  let v417 : BitVec 32 := Scalar.subi arg2 c1_i32_216
  let c0_i32_217 : BitVec 32 := 0#32
  let v418 : BitVec 32 := Scalar.maxsi v417 c0_i32_217
  let v591 : BitVec 32 := Scalar.minsi v590 v418
  let c512_i32_365 : BitVec 32 := 512#32
  let v619 : BitVec 32 := Scalar.muli v591 c512_i32_365
  v619
def k0_mult41 (i : grid0.Coords) (k0_t2 : Fin (k0_t2_loop i).trips) : BitVec 32 :=
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_384 : BitVec 32 := 512#32
  let v643 : BitVec 32 := Scalar.muli v588 c512_i32_384
  v643
def k0_off25 (i : grid0.Coords) (k0_t2 : Fin (k0_t2_loop i).trips) : Fin 3 → Nat :=
  let c0_385 : Index := 0#32
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_384 : BitVec 32 := 512#32
  let v643 : BitVec 32 := Scalar.muli v588 c512_i32_384
  let v644 : BitVec 32 := v643
  let v645 : Index := Scalar.indexCast v644
  let c0_386 : Index := 0#32
  ![0, v645.toNat, 0]
def k0_mult42 (i : grid0.Coords) (k0_t2 : Fin (k0_t2_loop i).trips) : BitVec 32 :=
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_405 : BitVec 32 := 512#32
  let v675 : BitVec 32 := Scalar.muli v588 c512_i32_405
  v675
def k0_off26 (i : grid0.Coords) (k0_t2 : Fin (k0_t2_loop i).trips) : Fin 3 → Nat :=
  let c0_406 : Index := 0#32
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_405 : BitVec 32 := 512#32
  let v675 : BitVec 32 := Scalar.muli v588 c512_i32_405
  let v676 : BitVec 32 := v675
  let v677 : Index := Scalar.indexCast v676
  let c128_407 : Index := 128#32
  ![0, v677.toNat, 128]
def k0_mult43 (i : grid0.Coords) (k0_t2 : Fin (k0_t2_loop i).trips) : BitVec 32 :=
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_426 : BitVec 32 := 512#32
  let v707 : BitVec 32 := Scalar.muli v588 c512_i32_426
  v707
def k0_off27 (i : grid0.Coords) (k0_t2 : Fin (k0_t2_loop i).trips) : Fin 3 → Nat :=
  let c0_427 : Index := 0#32
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_426 : BitVec 32 := 512#32
  let v707 : BitVec 32 := Scalar.muli v588 c512_i32_426
  let v708 : BitVec 32 := v707
  let v709 : Index := Scalar.indexCast v708
  let c256_428 : Index := 256#32
  ![0, v709.toNat, 256]
def k0_mult44 (i : grid0.Coords) (k0_t2 : Fin (k0_t2_loop i).trips) : BitVec 32 :=
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_447 : BitVec 32 := 512#32
  let v739 : BitVec 32 := Scalar.muli v588 c512_i32_447
  v739
def k0_off28 (i : grid0.Coords) (k0_t2 : Fin (k0_t2_loop i).trips) : Fin 3 → Nat :=
  let c0_448 : Index := 0#32
  let c2_i32_337 : BitVec 32 := 2#32
  let c0_i32_151 : BitVec 32 := 0#32
  let arg2 : BitVec 32 := BitVec.ofNat 32 (i 2).val
  let c0_i32_144 : BitVec 32 := 0#32
  let v246 : BitVec 1 := Scalar.cmpi .sgt arg2 c0_i32_144
  let v247 : BitVec 32 := Scalar.extui v246
  let c0_i32_145 : BitVec 32 := 0#32
  let v248 : BitVec 1 := Scalar.cmpi .slt arg2 c0_i32_145
  let v249 : BitVec 32 := Scalar.extui v248
  let v250 : BitVec 32 := Scalar.subi v247 v249
  let c2_i32 : BitVec 32 := 2#32
  let c0_i32_146 : BitVec 32 := 0#32
  let v251 : BitVec 1 := Scalar.cmpi .sgt c2_i32 c0_i32_146
  let v252 : BitVec 32 := Scalar.extui v251
  let c0_i32_147 : BitVec 32 := 0#32
  let v253 : BitVec 1 := Scalar.cmpi .slt c2_i32 c0_i32_147
  let v254 : BitVec 32 := Scalar.extui v253
  let v255 : BitVec 32 := Scalar.subi v252 v254
  let v256 : BitVec 1 := Scalar.cmpi .ne v250 v255
  let v257 : BitVec 32 := Scalar.remsi arg2 c2_i32
  let c0_i32_148 : BitVec 32 := 0#32
  let v258 : BitVec 1 := Scalar.cmpi .ne v257 c0_i32_148
  let v259 : BitVec 1 := Scalar.andi v256 v258
  let v245 : BitVec 32 := Scalar.divsi arg2 c2_i32
  let c1_i32_149 : BitVec 32 := 1#32
  let v260 : BitVec 32 := Scalar.subi v245 c1_i32_149
  let v261 : BitVec 32 := Scalar.select v259 v260 v245
  let v262 : BitVec 32 := Scalar.subi v261 c0_i32_151
  let c1_i32_152 : BitVec 32 := 1#32
  let v264 : BitVec 32 := Scalar.divsi v262 c1_i32_152
  let v265 : BitVec 32 := Scalar.muli v264 c1_i32_152
  let v266 : BitVec 32 := Scalar.addi c0_i32_151 v265
  let c1_i32_154 : BitVec 32 := 1#32
  let arg12 : BitVec 32 := Scf.iv v266 c1_i32_154 k0_t2
  let v587 : BitVec 32 := Scalar.muli c2_i32_337 arg12
  let c1_i32_338 : BitVec 32 := 1#32
  let v588 : BitVec 32 := Scalar.addi v587 c1_i32_338
  let c512_i32_447 : BitVec 32 := 512#32
  let v739 : BitVec 32 := Scalar.muli v588 c512_i32_447
  let v740 : BitVec 32 := v739
  let v741 : Index := Scalar.indexCast v740
  let c384_449 : Index := 384#32
  ![0, v741.toNat, 384]
def k0_cond1 (i : grid0.Coords) : BitVec 1 :=
  let arg2 : BitVec 32 := BitVec.ofNat 32 (i 2).val
  let c2_i32_155 : BitVec 32 := 2#32
  let c0_i32_156 : BitVec 32 := 0#32
  let v267 : BitVec 1 := Scalar.cmpi .eq c2_i32_155 c0_i32_156
  let c1_i32_157 : BitVec 32 := 1#32
  let v268 : BitVec 32 := Scalar.select v267 c1_i32_157 c2_i32_155
  let v269 : BitVec 32 := Scalar.remsi arg2 v268
  let c0_i32_159 : BitVec 32 := 0#32
  let v271 : BitVec 1 := Scalar.cmpi .slt v269 c0_i32_159
  let c0_i32_160 : BitVec 32 := 0#32
  let v272 : BitVec 1 := Scalar.cmpi .slt v268 c0_i32_160
  let v273 : BitVec 1 := Scalar.xori v271 v272
  let c0_i32_158 : BitVec 32 := 0#32
  let v270 : BitVec 1 := Scalar.cmpi .ne v269 c0_i32_158
  let v274 : BitVec 1 := Scalar.andi v273 v270
  let v275 : BitVec 32 := Scalar.addi v269 v268
  let v276 : BitVec 32 := Scalar.select v274 v275 v269
  let c1_i32_161 : BitVec 32 := 1#32
  let v277 : BitVec 1 := Scalar.cmpi .eq v276 c1_i32_161
  let v278 : BitVec 32 := Scalar.extui v277
  let c0_i32_162 : BitVec 32 := 0#32
  let v279 : BitVec 1 := Scalar.cmpi .ne v278 c0_i32_162
  v279

def k0_mult45 (i : grid0.Coords) : BitVec 32 :=
  let arg2 : BitVec 32 := BitVec.ofNat 32 (i 2).val
  let c1_i32_216 : BitVec 32 := 1#32
  let v417 : BitVec 32 := Scalar.subi arg2 c1_i32_216
  let c512_i32_228 : BitVec 32 := 512#32
  let v433 : BitVec 32 := Scalar.muli v417 c512_i32_228
  v433
def k0_off29 (i : grid0.Coords) : Fin 3 → Nat :=
  let c0_229 : Index := 0#32
  let arg2 : BitVec 32 := BitVec.ofNat 32 (i 2).val
  let c1_i32_216 : BitVec 32 := 1#32
  let v417 : BitVec 32 := Scalar.subi arg2 c1_i32_216
  let c512_i32_228 : BitVec 32 := 512#32
  let v433 : BitVec 32 := Scalar.muli v417 c512_i32_228
  let v434 : BitVec 32 := v433
  let v435 : Index := Scalar.indexCast v434
  let c0_230 : Index := 0#32
  ![0, v435.toNat, 0]
def k0_mult46 (i : grid0.Coords) : BitVec 32 :=
  let arg2 : BitVec 32 := BitVec.ofNat 32 (i 2).val
  let c1_i32_216 : BitVec 32 := 1#32
  let v417 : BitVec 32 := Scalar.subi arg2 c1_i32_216
  let c512_i32_249 : BitVec 32 := 512#32
  let v465 : BitVec 32 := Scalar.muli v417 c512_i32_249
  v465
def k0_off30 (i : grid0.Coords) : Fin 3 → Nat :=
  let c0_250 : Index := 0#32
  let arg2 : BitVec 32 := BitVec.ofNat 32 (i 2).val
  let c1_i32_216 : BitVec 32 := 1#32
  let v417 : BitVec 32 := Scalar.subi arg2 c1_i32_216
  let c512_i32_249 : BitVec 32 := 512#32
  let v465 : BitVec 32 := Scalar.muli v417 c512_i32_249
  let v466 : BitVec 32 := v465
  let v467 : Index := Scalar.indexCast v466
  let c128_251 : Index := 128#32
  ![0, v467.toNat, 128]
def k0_mult47 (i : grid0.Coords) : BitVec 32 :=
  let arg2 : BitVec 32 := BitVec.ofNat 32 (i 2).val
  let c1_i32_216 : BitVec 32 := 1#32
  let v417 : BitVec 32 := Scalar.subi arg2 c1_i32_216
  let c512_i32_270 : BitVec 32 := 512#32
  let v497 : BitVec 32 := Scalar.muli v417 c512_i32_270
  v497
def k0_off31 (i : grid0.Coords) : Fin 3 → Nat :=
  let c0_271 : Index := 0#32
  let arg2 : BitVec 32 := BitVec.ofNat 32 (i 2).val
  let c1_i32_216 : BitVec 32 := 1#32
  let v417 : BitVec 32 := Scalar.subi arg2 c1_i32_216
  let c512_i32_270 : BitVec 32 := 512#32
  let v497 : BitVec 32 := Scalar.muli v417 c512_i32_270
  let v498 : BitVec 32 := v497
  let v499 : Index := Scalar.indexCast v498
  let c256_272 : Index := 256#32
  ![0, v499.toNat, 256]
def k0_mult48 (i : grid0.Coords) : BitVec 32 :=
  let arg2 : BitVec 32 := BitVec.ofNat 32 (i 2).val
  let c1_i32_216 : BitVec 32 := 1#32
  let v417 : BitVec 32 := Scalar.subi arg2 c1_i32_216
  let c512_i32_291 : BitVec 32 := 512#32
  let v529 : BitVec 32 := Scalar.muli v417 c512_i32_291
  v529
def k0_off32 (i : grid0.Coords) : Fin 3 → Nat :=
  let c0_292 : Index := 0#32
  let arg2 : BitVec 32 := BitVec.ofNat 32 (i 2).val
  let c1_i32_216 : BitVec 32 := 1#32
  let v417 : BitVec 32 := Scalar.subi arg2 c1_i32_216
  let c512_i32_291 : BitVec 32 := 512#32
  let v529 : BitVec 32 := Scalar.muli v417 c512_i32_291
  let v530 : BitVec 32 := v529
  let v531 : Index := Scalar.indexCast v530
  let c384_293 : Index := 384#32
  ![0, v531.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "qk_scale" => some (((1 / 8) * (Real.log 2)⁻¹ : ℝ) : EReal)
  | _ => none
-- ==== ReferenceIdeal.lean ====
abbrev S4x4096x1024 : Shape := ⟨3, ![4, 4096, 1024]⟩
abbrev S4x4096x2048 : Shape := ⟨3, ![4, 4096, 2048]⟩
abbrev S1x64 : Shape := ⟨2, ![1, 64]⟩
abbrev S1x128 : Shape := ⟨2, ![1, 128]⟩
abbrev S4x4096x8x2x64 : Shape := ⟨5, ![4, 4096, 8, 2, 64]⟩
abbrev S4x4096x8x128 : Shape := ⟨4, ![4, 4096, 8, 128]⟩
abbrev S64 : Shape := ⟨1, ![64]⟩
abbrev S128 : Shape := ⟨1, ![128]⟩
abbrev S_ : Shape := ⟨0, ![]⟩
abbrev S4x8x2x4096x4096 : Shape := ⟨5, ![4, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x2x4096 : Shape := ⟨4, ![4, 8, 2, 4096]⟩
abbrev S4x8x2x4096x1 : Shape := ⟨5, ![4, 8, 2, 4096, 1]⟩
abbrev S4x8x1x4096x4096 : Shape := ⟨5, ![4, 8, 1, 4096, 4096]⟩
abbrev S4x8x4096x4096 : Shape := ⟨4, ![4, 8, 4096, 4096]⟩
abbrev S4x8x128x4096 : Shape := ⟨4, ![4, 8, 128, 4096]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x2048, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S4x4096x1024, .f32⟩
  | .hbm, ⟨8, _⟩ => ⟨S4x4096x8x2x64, .f32⟩
  | .hbm, ⟨9, _⟩ => ⟨S4x4096x2048, .f32⟩
  | .hbm, ⟨10, _⟩ => ⟨S4x4096x1024, .f32⟩
  | .hbm, ⟨11, _⟩ => ⟨S4x4096x8x2x64, .f32⟩
  | .hbm, ⟨12, _⟩ => ⟨S4x4096x1024, .f32⟩
  | .hbm, ⟨13, _⟩ => ⟨S4x4096x8x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x8x2x4096x4096, .f32⟩
  | .hbm, ⟨31, _⟩ => ⟨S_, .f32⟩
  | .hbm, ⟨32, _⟩ => ⟨S4x8x2x4096x4096, .f32⟩
  | .hbm, ⟨33, _⟩ => ⟨S4x8x2x4096x4096, .f32⟩
  | .hbm, ⟨34, _⟩ => ⟨S4096, .i32⟩
  | .hbm, ⟨35, _⟩ => ⟨S1x4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S_, .f32⟩
  | .hbm, ⟨42, _⟩ => ⟨S4x8x2x4096x4096, .i1⟩
  | .hbm, ⟨43, _⟩ => ⟨S4x8x2x4096x4096, .f32⟩
  | .hbm, ⟨44, _⟩ => ⟨S4x8x2x4096x4096, .f32⟩
  | .hbm, ⟨45, _⟩ => ⟨S_, .f32⟩
  | .hbm, ⟨46, _⟩ => ⟨S4x8x2x4096, .f32⟩
  | .hbm, ⟨47, _⟩ => ⟨S_, .f32⟩
  | .hbm, ⟨48, _⟩ => ⟨S4x8x2x4096, .f32⟩
  | .hbm, ⟨49, _⟩ => ⟨S4x8x2x4096, .f32⟩
  | .hbm, ⟨50, _⟩ => ⟨S4x8x2x4096x1, .f32⟩
  | .hbm, ⟨51, _⟩ => ⟨S4x8x2x4096x4096, .f32⟩
  | .hbm, ⟨52, _⟩ => ⟨S4x8x2x4096x4096, .f32⟩
  | .hbm, ⟨53, _⟩ => ⟨S4x8x2x4096x4096, .f32⟩
  | .hbm, ⟨54, _⟩ => ⟨S_, .f32⟩
  | .hbm, ⟨55, _⟩ => ⟨S4x8x2x4096, .f32⟩
  | .hbm, ⟨56, _⟩ => ⟨S4x8x2x4096x1, .f32⟩
  | .hbm, ⟨57, _⟩ => ⟨S4x8x2x4096x4096, .f32⟩
  | .hbm, ⟨58, _⟩ => ⟨S4x8x2x4096x4096, .f32⟩
  | .hbm, ⟨59, _⟩ => ⟨S4x8x1x4096x4096, .f32⟩
  | .hbm, ⟨60, _⟩ => ⟨S4x8x4096x4096, .f32⟩
  | .hbm, ⟨61, _⟩ => ⟨S4x8x1x4096x4096, .f32⟩
  | .hbm, ⟨62, _⟩ => ⟨S4x8x4096x4096, .f32⟩
  | .hbm, ⟨63, _⟩ => ⟨S4x8x4096x4096, .f32⟩
  | .hbm, ⟨64, _⟩ => ⟨S4x8x4096x4096, .f32⟩
  | .hbm, ⟨65, _⟩ => ⟨S4x8x4096x4096, .f32⟩
  | .hbm, ⟨66, _⟩ => ⟨S4x8x128x4096, .f32⟩
  | .hbm, ⟨67, _⟩ => ⟨S4x4096x8x128, .f32⟩
  | .hbm, ⟨68, _⟩ => ⟨S4x4096x8x128, .f32⟩
  | .hbm, ⟨69, _⟩ => ⟨S_, .f32⟩
  | .hbm, ⟨70, _⟩ => ⟨S4x4096x8, .f32⟩
  | .hbm, ⟨71, _⟩ => ⟨S4x4096x8x1, .f32⟩
  | .hbm, ⟨72, _⟩ => ⟨S_, .f32⟩
  | .hbm, ⟨73, _⟩ => ⟨S4x4096x8x1, .f32⟩
  | .hbm, ⟨74, _⟩ => ⟨S4x4096x8x1, .f32⟩
  | .hbm, ⟨75, _⟩ => ⟨S_, .f32⟩
  | .hbm, ⟨76, _⟩ => ⟨S4x4096x8x1, .f32⟩
  | .hbm, ⟨77, _⟩ => ⟨S4x4096x8x1, .f32⟩
  | .hbm, ⟨78, _⟩ => ⟨S4x4096x8x1, .f32⟩
  | .hbm, ⟨79, _⟩ => ⟨S4x4096x8x128, .f32⟩
  | .hbm, ⟨80, _⟩ => ⟨S4x4096x8x128, .f32⟩
  | .hbm, ⟨81, _⟩ => ⟨S1x1x1x128, .f32⟩
  | .hbm, ⟨82, _⟩ => ⟨S4x4096x8x128, .f32⟩
  | .hbm, ⟨83, _⟩ => ⟨S4x4096x8x128, .f32⟩
  | .hbm, ⟨84, _⟩ => ⟨S_, .f32⟩
  | .hbm, ⟨85, _⟩ => ⟨S4x4096x8x128, .f32⟩
  | .hbm, ⟨86, _⟩ => ⟨S4x4096x8x128, .f32⟩
  | .hbm, ⟨87, _⟩ => ⟨S4x4096x1024, .f32⟩
  | .hbm, ⟨88, _⟩ => ⟨S4x4096x1024, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_10 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Qkv.lean ====
abbrev S4x4096x1024 : Shape := ⟨3, ![4, 4096, 1024]⟩
abbrev S4x1024 : Shape := ⟨2, ![4, 1024]⟩
abbrev S2x1024 : Shape := ⟨2, ![2, 1024]⟩
abbrev S1x1024x1024 : Shape := ⟨3, ![1, 1024, 1024]⟩
abbrev S1024 : Shape := ⟨1, ![1024]⟩
abbrev S1024x2048 : Shape := ⟨2, ![1024, 2048]⟩
abbrev S4x1x1024 : Shape := ⟨3, ![4, 1, 1024]⟩
abbrev S4x2x1024 : Shape := ⟨3, ![4, 2, 1024]⟩
abbrev S1x1024 : Shape := ⟨2, ![1, 1024]⟩
abbrev S1024x1024 : Shape := ⟨2, ![1024, 1024]⟩
abbrev S4x4096x2048 : Shape := ⟨3, ![4, 4096, 2048]⟩
abbrev S1x512x1024 : Shape := ⟨3, ![1, 512, 1024]⟩
abbrev S1x2x1024 : Shape := ⟨3, ![1, 2, 1024]⟩
abbrev S1x512x2048 : Shape := ⟨3, ![1, 512, 2048]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S512x2048 : Shape := ⟨2, ![512, 2048]⟩

abbrev nBuf : Space → Nat
  | .hbm => 24
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S2x1024, .f32⟩
  | .hbm, ⟨4, _⟩ => ⟨S1x1024x1024, .f32⟩
  | .hbm, ⟨5, _⟩ => ⟨S4x1024, .f32⟩
  | .hbm, ⟨6, _⟩ => ⟨S4x1024, .f32⟩
  | .hbm, ⟨7, _⟩ => ⟨S1024, .f32⟩
  | .hbm, ⟨8, _⟩ => ⟨S1024x2048, .f32⟩
  | .hbm, ⟨9, _⟩ => ⟨S4x1x1024, .f32⟩
  | .hbm, ⟨10, _⟩ => ⟨S4x1x1024, .f32⟩
  | .hbm, ⟨11, _⟩ => ⟨S4x2x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S1024x1024, .f32⟩
  | .hbm, ⟨16, _⟩ => ⟨S1024x1024, .bf16⟩
  | .hbm, ⟨17, _⟩ => ⟨S4x1x1024, .f32⟩
  | .hbm, ⟨18, _⟩ => ⟨S4x1x1024, .f32⟩
  | .hbm, ⟨19, _⟩ => ⟨S4x2x1024, .f32⟩
  | .hbm, ⟨20, _⟩ => ⟨S1x1024, .f32⟩
  | .hbm, ⟨21, _⟩ => ⟨S1024x2048, .bf16⟩
  | .hbm, ⟨22, _⟩ => ⟨S4x4096x1024, .bf16⟩
  | .hbm, ⟨23, _⟩ => ⟨S4x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1024, .f32⟩
  | .local _ .vmem, ⟨5, _⟩ => ⟨S1024x1024, .bf16⟩
  | .local _ .vmem, ⟨6, _⟩ => ⟨S1x2x1024, .f32⟩
  | .local _ .vmem, ⟨7, _⟩ => ⟨S1x2x1024, .f32⟩
  | .local _ .vmem, ⟨8, _⟩ => ⟨S1x1024, .f32⟩
  | .local _ .vmem, ⟨9, _⟩ => ⟨S1024x2048, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x2048, .bf16⟩
  | .local _ .vmem, ⟨13, _⟩ => ⟨S1x512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QkvReferenceIdeal.lean ====
abbrev S4x4096x1024 : Shape := ⟨3, ![4, 4096, 1024]⟩
abbrev S4x1024 : Shape := ⟨2, ![4, 1024]⟩
abbrev S2x1024 : Shape := ⟨2, ![2, 1024]⟩
abbrev S1x1024x1024 : Shape := ⟨3, ![1, 1024, 1024]⟩
abbrev S1024 : Shape := ⟨1, ![1024]⟩
abbrev S1024x2048 : Shape := ⟨2, ![1024, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S1x1024 : Shape := ⟨2, ![1, 1024]⟩
abbrev S1024x1024 : Shape := ⟨2, ![1024, 1024]⟩
abbrev S4x4096x2048 : Shape := ⟨3, ![4, 4096, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S2x1024, .f32⟩
  | .hbm, ⟨4, _⟩ => ⟨S1x1024x1024, .f32⟩
  | .hbm, ⟨5, _⟩ => ⟨S4x1024, .f32⟩
  | .hbm, ⟨6, _⟩ => ⟨S4x1024, .f32⟩
  | .hbm, ⟨7, _⟩ => ⟨S1024, .f32⟩
  | .hbm, ⟨8, _⟩ => ⟨S1024x2048, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x1x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S1x1024, .f32⟩
  | .hbm, ⟨35, _⟩ => ⟨S1024, .f32⟩
  | .hbm, ⟨36, _⟩ => ⟨S4x4096x1024, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x1024, .f32⟩
  | .hbm, ⟨48, _⟩ => ⟨S4x4096x1024, .f32⟩
  | .hbm, ⟨49, _⟩ => ⟨S1x1x1024, .f32⟩
  | .hbm, ⟨50, _⟩ => ⟨S4x4096x1024, .f32⟩
  | .hbm, ⟨51, _⟩ => ⟨S4x4096x1024, .f32⟩
  | .hbm, ⟨52, _⟩ => ⟨S4x1x1024, .f32⟩
  | .hbm, ⟨53, _⟩ => ⟨S_, .f32⟩
  | .hbm, ⟨54, _⟩ => ⟨S4x1x1024, .f32⟩
  | .hbm, ⟨55, _⟩ => ⟨S4x1x1024, .f32⟩
  | .hbm, ⟨56, _⟩ => ⟨S4x4096x1024, .f32⟩
  | .hbm, ⟨57, _⟩ => ⟨S4x4096x1024, .f32⟩
  | .hbm, ⟨58, _⟩ => ⟨S4x1x1024, .f32⟩
  | .hbm, ⟨59, _⟩ => ⟨S4x4096x1024, .f32⟩
  | .hbm, ⟨60, _⟩ => ⟨S4x4096x1024, .f32⟩
  | .hbm, ⟨61, _⟩ => ⟨S1024x1024, .f32⟩
  | .hbm, ⟨62, _⟩ => ⟨S4x4096x1024, .f32⟩
  | .hbm, ⟨63, _⟩ => ⟨S4x4096x1024, .bf16⟩
  | .hbm, ⟨64, _⟩ => ⟨S4x4096x2048, .f32⟩
  | .hbm, ⟨65, _⟩ => ⟨S4x4096x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Mix.lean ====
abbrev S4x4096x1024 : Shape := ⟨3, ![4, 4096, 1024]⟩
abbrev S4x1024 : Shape := ⟨2, ![4, 1024]⟩
abbrev S2x1024 : Shape := ⟨2, ![2, 1024]⟩
abbrev S1x6x1024 : Shape := ⟨3, ![1, 6, 1024]⟩
abbrev S1x3x1024x1024 : Shape := ⟨4, ![1, 3, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S4x1x1024 : Shape := ⟨3, ![4, 1, 1024]⟩
abbrev S4x2x1024 : Shape := ⟨3, ![4, 2, 1024]⟩
abbrev S1024 : Shape := ⟨1, ![1024]⟩
abbrev S6x1024 : Shape := ⟨2, ![6, 1024]⟩
abbrev S3x1024x1024 : Shape := ⟨3, ![3, 1024, 1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S1x512x1024 : Shape := ⟨3, ![1, 512, 1024]⟩
abbrev S1x8x1024 : Shape := ⟨3, ![1, 8, 1024]⟩
abbrev S1x2x1024 : Shape := ⟨3, ![1, 2, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1024x1024 : Shape := ⟨3, ![1, 1024, 1024]⟩
abbrev S1024x1024 : Shape := ⟨2, ![1024, 1024]⟩
abbrev S512x64 : Shape := ⟨2, ![512, 64]⟩
abbrev S512x128 : Shape := ⟨2, ![512, 128]⟩

abbrev nBuf : Space → Nat
  | .hbm => 53
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S2x1024, .f32⟩
  | .hbm, ⟨4, _⟩ => ⟨S1x6x1024, .f32⟩
  | .hbm, ⟨5, _⟩ => ⟨S1x3x1024x1024, .f32⟩
  | .hbm, ⟨6, _⟩ => ⟨S1x1024, .f32⟩
  | .hbm, ⟨7, _⟩ => ⟨S1x1024x64, .f32⟩
  | .hbm, ⟨8, _⟩ => ⟨S1x64x1024, .f32⟩
  | .hbm, ⟨9, _⟩ => ⟨S1x1024, .f32⟩
  | .hbm, ⟨10, _⟩ => ⟨S1x1024x64, .f32⟩
  | .hbm, ⟨11, _⟩ => ⟨S1x64x1024, .f32⟩
  | .hbm, ⟨12, _⟩ => ⟨S1x1024x128, .f32⟩
  | .hbm, ⟨13, _⟩ => ⟨S1x128x1024, .f32⟩
  | .hbm, ⟨14, _⟩ => ⟨S1x1024, .f32⟩
  | .hbm, ⟨15, _⟩ => ⟨S1x1024, .f32⟩
  | .hbm, ⟨16, _⟩ => ⟨S4x1x1024, .f32⟩
  | .hbm, ⟨17, _⟩ => ⟨S4x1x1024, .f32⟩
  | .hbm, ⟨18, _⟩ => ⟨S4x2x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S4x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S6x1024, .f32⟩
  | .hbm, ⟨32, _⟩ => ⟨S3x1024x1024, .f32⟩
  | .hbm, ⟨33, _⟩ => ⟨S3x1024x1024, .bf16⟩
  | .hbm, ⟨34, _⟩ => ⟨S1024x64, .f32⟩
  | .hbm, ⟨35, _⟩ => ⟨S1024x64, .bf16⟩
  | .hbm, ⟨36, _⟩ => ⟨S64x1024, .f32⟩
  | .hbm, ⟨37, _⟩ => ⟨S64x1024, .bf16⟩
  | .hbm, ⟨38, _⟩ => ⟨S1024x64, .f32⟩
  | .hbm, ⟨39, _⟩ => ⟨S1024x64, .bf16⟩
  | .hbm, ⟨40, _⟩ => ⟨S64x1024, .f32⟩
  | .hbm, ⟨41, _⟩ => ⟨S64x1024, .bf16⟩
  | .hbm, ⟨42, _⟩ => ⟨S1024x128, .f32⟩
  | .hbm, ⟨43, _⟩ => ⟨S1024x128, .bf16⟩
  | .hbm, ⟨44, _⟩ => ⟨S128x1024, .f32⟩
  | .hbm, ⟨45, _⟩ => ⟨S128x1024, .bf16⟩
  | .hbm, ⟨46, _⟩ => ⟨S4x4096x1024, .bf16⟩
  | .hbm, ⟨47, _⟩ => ⟨S4x4096x1024, .bf16⟩
  | .hbm, ⟨48, _⟩ => ⟨S4x4096x1024, .bf16⟩
  | .hbm, ⟨49, _⟩ => ⟨S4x4096x1024, .f32⟩
  | .hbm, ⟨50, _⟩ => ⟨S4x4096x1024, .bf16⟩
  | .hbm, ⟨51, _⟩ => ⟨S4x4096x1024, .bf16⟩
  | .hbm, ⟨52, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x2x1024, .f32⟩
  | .local _ .vmem, ⟨5, _⟩ => ⟨S1x2x1024, .f32⟩
  | .local _ .vmem, ⟨6, _⟩ => ⟨S1x1024, .f32⟩
  | .local _ .vmem, ⟨7, _⟩ => ⟨S6x1024, .f32⟩
  | .local _ .vmem, ⟨8, _⟩ => ⟨S3x1024x1024, .bf16⟩
  | .local _ .vmem, ⟨9, _⟩ => ⟨S1024x64, .bf16⟩
  | .local _ .vmem, ⟨10, _⟩ => ⟨S64x1024, .bf16⟩
  | .local _ .vmem, ⟨11, _⟩ => ⟨S1024x64, .bf16⟩
  | .local _ .vmem, ⟨12, _⟩ => ⟨S64x1024, .bf16⟩
  | .local _ .vmem, ⟨13, _⟩ => ⟨S1024x128, .bf16⟩
  | .local _ .vmem, ⟨14, _⟩ => ⟨S128x1024, .bf16⟩
  | .local _ .vmem, ⟨15, _⟩ => ⟨S4x1024, .f32⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x1024, .bf16⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_v30_2 : Ref sig .tc := ⟨.hbm, 48, rfl⟩
abbrev main_v30_3 : Ref sig .tc := ⟨.hbm, 49, rfl⟩
abbrev main_v30_4 : Ref sig .tc := ⟨.hbm, 50, rfl⟩
abbrev main_v30_5 : Ref sig .tc := ⟨.hbm, 51, rfl⟩
abbrev main_v30_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S4x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixReferenceIdeal.lean ====
abbrev S4x4096x1024 : Shape := ⟨3, ![4, 4096, 1024]⟩
abbrev S4x1024 : Shape := ⟨2, ![4, 1024]⟩
abbrev S2x1024 : Shape := ⟨2, ![2, 1024]⟩
abbrev S1x6x1024 : Shape := ⟨3, ![1, 6, 1024]⟩
abbrev S1x3x1024x1024 : Shape := ⟨4, ![1, 3, 1024, 1024]⟩
abbrev S1x1024 : Shape := ⟨2, ![1, 1024]⟩
abbrev S1x1024x64 : Shape := ⟨3, ![1, 1024, 64]⟩
abbrev S1x64x1024 : Shape := ⟨3, ![1, 64, 1024]⟩
abbrev S1x1024x128 : Shape := ⟨3, ![1, 1024, 128]⟩
abbrev S1x128x1024 : Shape := ⟨3, ![1, 128, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x128 : Shape := ⟨2, ![1024, 128]⟩
abbrev S128x1024 : Shape := ⟨2, ![128, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4097x1024 : Shape := ⟨3, ![4, 4097, 1024]⟩
abbrev S1x4x4096x1024 : Shape := ⟨4, ![1, 4, 4096, 1024]⟩
abbrev S6x1x1x1024 : Shape := ⟨4, ![6, 1, 1, 1024]⟩
abbrev S6x4x4096x1024 : Shape := ⟨4, ![6, 4, 4096, 1024]⟩
abbrev S3x4x4096x1024 : Shape := ⟨4, ![3, 4, 4096, 1024]⟩
abbrev S4x4096x64 : Shape := ⟨3, ![4, 4096, 64]⟩
abbrev S4x4096x128 : Shape := ⟨3, ![4, 4096, 128]⟩

abbrev nBuf : Space → Nat
  | .hbm => 151
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024, .f32⟩
  | 3 => ⟨S2x1024, .f32⟩
  | 4 => ⟨S1x6x1024, .f32⟩
  | 5 => ⟨S1x3x1024x1024, .f32⟩
  | 6 => ⟨S1x1024, .f32⟩
  | 7 => ⟨S1x1024x64, .f32⟩
  | 8 => ⟨S1x64x1024, .f32⟩
  | 9 => ⟨S1x1024, .f32⟩
  | 10 => ⟨S1x1024x64, .f32⟩
  | 11 => ⟨S1x64x1024, .f32⟩
  | 12 => ⟨S1x1024x128, .f32⟩
  | 13 => ⟨S1x128x1024, .f32⟩
  | 14 => ⟨S1x1024, .f32⟩
  | 15 => ⟨S1x1024, .f32⟩
  | 16 => ⟨S6x1024, .f32⟩
  | 17 => ⟨S3x1024x1024, .f32⟩
  | 18 => ⟨S1024, .f32⟩
  | 19 => ⟨S1024x64, .f32⟩
  | 20 => ⟨S64x1024, .f32⟩
  | 21 => ⟨S1024, .f32⟩
  | 22 => ⟨S1024x64, .f32⟩
  | 23 => ⟨S64x1024, .f32⟩
  | 24 => ⟨S1024x128, .f32⟩
  | 25 => ⟨S128x1024, .f32⟩
  | 26 => ⟨S1024, .f32⟩
  | 27 => ⟨S1024, .f32⟩
  | 28 => ⟨S1x1024, .f32⟩
  | 29 => ⟨S1024, .f32⟩
  | 30 => ⟨S4x4096x1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S_, .f32⟩
  | 38 => ⟨S4x4096x1, .f32⟩
  | 39 => ⟨S4x4096x1, .f32⟩
  | 40 => ⟨S4x4096x1, .f32⟩
  | 41 => ⟨S4x4096x1024, .f32⟩
  | 42 => ⟨S4x4096x1024, .f32⟩
  | 43 => ⟨S1x1x1024, .f32⟩
  | 44 => ⟨S4x4096x1024, .f32⟩
  | 45 => ⟨S4x4096x1024, .f32⟩
  | 46 => ⟨S4x1x1024, .f32⟩
  | 47 => ⟨S_, .f32⟩
  | 48 => ⟨S4x1x1024, .f32⟩
  | 49 => ⟨S4x1x1024, .f32⟩
  | 50 => ⟨S4x4096x1024, .f32⟩
  | 51 => ⟨S4x4096x1024, .f32⟩
  | 52 => ⟨S4x1x1024, .f32⟩
  | 53 => ⟨S4x4096x1024, .f32⟩
  | 54 => ⟨S4x4096x1024, .f32⟩
  | 55 => ⟨S_, .i32⟩
  | 56 => ⟨S_, .f32⟩
  | 57 => ⟨S4x4097x1024, .f32⟩
  | 58 => ⟨S4x4096x1024, .f32⟩
  | 59 => ⟨S4x4096x1024, .f32⟩
  | 60 => ⟨S1x4x4096x1024, .f32⟩
  | 61 => ⟨S1x4x4096x1024, .f32⟩
  | 62 => ⟨S6x1x1x1024, .f32⟩
  | 63 => ⟨S6x4x4096x1024, .f32⟩
  | 64 => ⟨S6x4x4096x1024, .f32⟩
  | 65 => ⟨S6x4x4096x1024, .f32⟩
  | 66 => ⟨S6x4x4096x1024, .f32⟩
  | 67 => ⟨S6x4x4096x1024, .f32⟩
  | 68 => ⟨S3x4x4096x1024, .f32⟩
  | 69 => ⟨S3x4x4096x1024, .f32⟩
  | 70 => ⟨S1x4x4096x1024, .f32⟩
  | 71 => ⟨S4x4096x1024, .f32⟩
  | 72 => ⟨S1x4x4096x1024, .f32⟩
  | 73 => ⟨S4x4096x1024, .f32⟩
  | 74 => ⟨S1x4x4096x1024, .f32⟩
  | 75 => ⟨S4x4096x1024, .f32⟩
  | 76 => ⟨S1x4x4096x1024, .f32⟩
  | 77 => ⟨S4x4096x1024, .f32⟩
  | 78 => ⟨S1x4x4096x1024, .f32⟩
  | 79 => ⟨S4x4096x1024, .f32⟩
  | 80 => ⟨S1x4x4096x1024, .f32⟩
  | 81 => ⟨S4x4096x1024, .f32⟩
  | 82 => ⟨S4x4096x64, .f32⟩
  | 83 => ⟨S4x4096x64, .f32⟩
  | 84 => ⟨S4x4096x1024, .f32⟩
  | 85 => ⟨S1x1x1024, .f32⟩
  | 86 => ⟨S4x4096x1024, .f32⟩
  | 87 => ⟨S4x4096x1024, .f32⟩
  | 88 => ⟨S4x4096x1024, .f32⟩
  | 89 => ⟨S_, .f32⟩
  | 90 => ⟨S4x4096x1024, .f32⟩
  | 91 => ⟨S4x4096x1024, .f32⟩
  | 92 => ⟨S4x4096x1024, .f32⟩
  | 93 => ⟨S4x4096x1024, .f32⟩
  | 94 => ⟨S4x4096x1024, .i1⟩
  | 95 => ⟨S4x4096x1024, .f32⟩
  | 96 => ⟨S4x4096x1024, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x4096x1024, .f32⟩
  | 102 => ⟨S4x4096x1024, .f32⟩
  | 103 => ⟨S4x4096x1024, .f32⟩
  | 104 => ⟨S4x4096x1024, .f32⟩
  | 105 => ⟨S_, .f32⟩
  | 106 => ⟨S4x4096x1024, .f32⟩
  | 107 => ⟨S4x4096x1024, .f32⟩
  | 108 => ⟨S4x4096x1024, .f32⟩
  | 109 => ⟨S4x4096x64, .f32⟩
  | 110 => ⟨S4x4096x1024, .f32⟩
  | 111 => ⟨S1x1x1024, .f32⟩
  | 112 => ⟨S4x4096x1024, .f32⟩
  | 113 => ⟨S4x4096x1024, .f32⟩
  | 114 => ⟨S4x4096x1024, .f32⟩
  | 115 => ⟨S4x4096x1024, .f32⟩
  | 116 => ⟨S_, .f32⟩
  | 117 => ⟨S4x4096x1024, .f32⟩
  | 118 => ⟨S4x4096x1024, .f32⟩
  | 119 => ⟨S_, .f32⟩
  | 120 => ⟨S4x4096x1024, .f32⟩
  | 121 => ⟨S4x4096x1024, .f32⟩
  | 122 => ⟨S4x4096x128, .f32⟩
  | 123 => ⟨S4x4096x128, .f32⟩
  | 124 => ⟨S4x4096x128, .f32⟩
  | 125 => ⟨S_, .f32⟩
  | 126 => ⟨S4x4096x128, .f32⟩
  | 127 => ⟨S4x4096x128, .f32⟩
  | _ => ⟨S4x4096x1024, .f32⟩

abbrev hbmTy0_1 (i : Nat) : BufTy := match i % 128 with
  | 0 => ⟨S_, .f32⟩
  | 1 => ⟨S4x4096x128, .f32⟩
  | 2 => ⟨S4x4096x128, .f32⟩
  | 3 => ⟨S4x4096x1024, .f32⟩
  | 4 => ⟨S1x1x1024, .f32⟩
  | 5 => ⟨S4x4096x1024, .f32⟩
  | 6 => ⟨S4x4096x1024, .f32⟩
  | 7 => ⟨S_, .f32⟩
  | 8 => ⟨S4x4096x1024, .f32⟩
  | 9 => ⟨S4x4096x1024, .f32⟩
  | 10 => ⟨S1x1x1024, .f32⟩
  | 11 => ⟨S4x4096x1024, .f32⟩
  | 12 => ⟨S4x4096x1024, .f32⟩
  | 13 => ⟨S_, .f32⟩
  | 14 => ⟨S4x4096x1024, .f32⟩
  | 15 => ⟨S4x4096x1024, .f32⟩
  | 16 => ⟨S4x4096x1024, .f32⟩
  | 17 => ⟨S4x4096x1024, .bf16⟩
  | 18 => ⟨S4x4096x1024, .bf16⟩
  | 19 => ⟨S4x4096x1024, .bf16⟩
  | 20 => ⟨S4x4096x1024, .bf16⟩
  | 21 => ⟨S4x4096x1024, .bf16⟩
  | 22 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_cst_0 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_call1_cst : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_v8 : Ref sig .tc := ⟨.hbm, 98, rfl⟩
abbrev main_call1_v9 : Ref sig .tc := ⟨.hbm, 99, rfl⟩
abbrev main_call1_v10 : Ref sig .tc := ⟨.hbm, 100, rfl⟩
abbrev main_call1_v11 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_3 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_4 : Ref sig .tc := ⟨.hbm, 116, rfl⟩
abbrev main_v80 : Ref sig .tc := ⟨.hbm, 117, rfl⟩
abbrev main_v81 : Ref sig .tc := ⟨.hbm, 118, rfl⟩
abbrev main_cst_5 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_6 : Ref sig .tc := ⟨.hbm, 125, rfl⟩
abbrev main_v87 : Ref sig .tc := ⟨.hbm, 126, rfl⟩
abbrev main_v88 : Ref sig .tc := ⟨.hbm, 127, rfl⟩
abbrev main_cst_7 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_8 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_9 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩

abbrev nD : Nat := 1
abbrev τ : Topo := Topo.v7x

variable {F : FTy → Type} [FloatOps F]
-- ==== RwkvOut.lean ====
abbrev S4x4096x1024 : Shape := ⟨3, ![4, 4096, 1024]⟩
abbrev S4x1024 : Shape := ⟨2, ![4, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x1024x32 : Shape := ⟨3, ![2, 1024, 32]⟩
abbrev S4x1x1024 : Shape := ⟨3, ![4, 1, 1024]⟩
abbrev S4x2x1024 : Shape := ⟨3, ![4, 2, 1024]⟩
abbrev S1024x1024 : Shape := ⟨2, ![1024, 1024]⟩
abbrev S1x1024 : Shape := ⟨2, ![1, 1024]⟩
abbrev S1024 : Shape := ⟨1, ![1024]⟩
abbrev S1x1024x4 : Shape := ⟨3, ![1, 1024, 4]⟩
abbrev S1024x4 : Shape := ⟨2, ![1024, 4]⟩
abbrev S1x1024x32 : Shape := ⟨3, ![1, 1024, 32]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1024x256 : Shape := ⟨2, ![1024, 256]⟩
abbrev S16384x128 : Shape := ⟨2, ![16384, 128]⟩
abbrev S8x128 : Shape := ⟨2, ![8, 128]⟩
abbrev S1x512x1024 : Shape := ⟨3, ![1, 512, 1024]⟩
abbrev S1x1x1024 : Shape := ⟨3, ![1, 1, 1024]⟩
abbrev S1x2x1024 : Shape := ⟨3, ![1, 2, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S128 : Shape := ⟨1, ![128]⟩
abbrev S1x128 : Shape := ⟨2, ![1, 128]⟩

abbrev nBuf : Space → Nat
  | .hbm => 34
  | .vmem => 18
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S4x1024, .f32⟩
  | .hbm, ⟨4, _⟩ => ⟨S1x1024x1024, .f32⟩
  | .hbm, ⟨5, _⟩ => ⟨S4x1024, .f32⟩
  | .hbm, ⟨6, _⟩ => ⟨S4x1024, .f32⟩
  | .hbm, ⟨7, _⟩ => ⟨S2x1024, .f32⟩
  | .hbm, ⟨8, _⟩ => ⟨S2x1024x4, .f32⟩
  | .hbm, ⟨9, _⟩ => ⟨S2x1024x32, .f32⟩
  | .hbm, ⟨10, _⟩ => ⟨S4x1x1024, .f32⟩
  | .hbm, ⟨11, _⟩ => ⟨S4x1x1024, .f32⟩
  | .hbm, ⟨12, _⟩ => ⟨S4x2x1024, .f32⟩
  | .hbm, ⟨13, _⟩ => ⟨S4x1x1024, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024x4, .f32⟩
  | .hbm, ⟨20, _⟩ => ⟨S1024x4, .f32⟩
  | .hbm, ⟨21, _⟩ => ⟨S1x1024x32, .f32⟩
  | .hbm, ⟨22, _⟩ => ⟨S1024x32, .f32⟩
  | .hbm, ⟨23, _⟩ => ⟨S_, .f32⟩
  | .hbm, ⟨24, _⟩ => ⟨S1024x92, .f32⟩
  | .hbm, ⟨25, _⟩ => ⟨S1024x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S1024x256, .bf16⟩
  | .hbm, ⟨31, _⟩ => ⟨S4x4096x1024, .f32⟩
  | .hbm, ⟨32, _⟩ => ⟨S16384x128, .f32⟩
  | .hbm, ⟨33, _⟩ => ⟨S8x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x2x1024, .f32⟩
  | .local _ .vmem, ⟨10, _⟩ => ⟨S1x2x1024, .f32⟩
  | .local _ .vmem, ⟨11, _⟩ => ⟨S1x1024, .f32⟩
  | .local _ .vmem, ⟨12, _⟩ => ⟨S1024x256, .bf16⟩
  | .local _ .vmem, ⟨13, _⟩ => ⟨S1x512x1024, .f32⟩
  | .local _ .vmem, ⟨14, _⟩ => ⟨S1x512x1024, .f32⟩
  | .local _ .vmem, ⟨15, _⟩ => ⟨S512x128, .f32⟩
  | .local _ .vmem, ⟨16, _⟩ => ⟨S512x128, .f32⟩
  | .local _ .vmem, ⟨17, _⟩ => ⟨S8x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== RwkvOutReferenceIdeal.lean ====
abbrev S4x4096x1024 : Shape := ⟨3, ![4, 4096, 1024]⟩
abbrev S4x1024 : Shape := ⟨2, ![4, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x1024x32 : Shape := ⟨3, ![2, 1024, 32]⟩
abbrev S4x1x1024 : Shape := ⟨3, ![4, 1, 1024]⟩
abbrev S1024x1024 : Shape := ⟨2, ![1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x1024, .f32⟩
  | .hbm, ⟨3, _⟩ => ⟨S4x1024, .f32⟩
  | .hbm, ⟨4, _⟩ => ⟨S1x1024x1024, .f32⟩
  | .hbm, ⟨5, _⟩ => ⟨S4x1024, .f32⟩
  | .hbm, ⟨6, _⟩ => ⟨S4x1024, .f32⟩
  | .hbm, ⟨7, _⟩ => ⟨S2x1024, .f32⟩
  | .hbm, ⟨8, _⟩ => ⟨S2x1024x4, .f32⟩
  | .hbm, ⟨9, _⟩ => ⟨S2x1024x32, .f32⟩
  | .hbm, ⟨10, _⟩ => ⟨S4x1x1024, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S1024x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== AttnOut.lean ====
abbrev S4x4096x1024 : Shape := ⟨3, ![4, 4096, 1024]⟩
abbrev S4x1024 : Shape := ⟨2, ![4, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x1024x32 : Shape := ⟨3, ![2, 1024, 32]⟩
abbrev S4x1x1024 : Shape := ⟨3, ![4, 1, 1024]⟩
abbrev S4x2x1024 : Shape := ⟨3, ![4, 2, 1024]⟩
abbrev S1024x1024 : Shape := ⟨2, ![1024, 1024]⟩
abbrev S1x1024 : Shape := ⟨2, ![1, 1024]⟩
abbrev S1024 : Shape := ⟨1, ![1024]⟩
abbrev S1x1024x4 : Shape := ⟨3, ![1, 1024, 4]⟩
abbrev S1024x4 : Shape := ⟨2, ![1024, 4]⟩
abbrev S1x1024x32 : Shape := ⟨3, ![1, 1024, 32]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1024x256 : Shape := ⟨2, ![1024, 256]⟩
abbrev S16384x128 : Shape := ⟨2, ![16384, 128]⟩
abbrev S8x128 : Shape := ⟨2, ![8, 128]⟩
abbrev S1x512x1024 : Shape := ⟨3, ![1, 512, 1024]⟩
abbrev S1x1x1024 : Shape := ⟨3, ![1, 1, 1024]⟩
abbrev S1x2x1024 : Shape := ⟨3, ![1, 2, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S128 : Shape := ⟨1, ![128]⟩
abbrev S1x128 : Shape := ⟨2, ![1, 128]⟩

abbrev nBuf : Space → Nat
  | .hbm => 33
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S4x1024, .f32⟩
  | .hbm, ⟨3, _⟩ => ⟨S1x1024x1024, .f32⟩
  | .hbm, ⟨4, _⟩ => ⟨S4x1024, .f32⟩
  | .hbm, ⟨5, _⟩ => ⟨S4x1024, .f32⟩
  | .hbm, ⟨6, _⟩ => ⟨S2x1024, .f32⟩
  | .hbm, ⟨7, _⟩ => ⟨S2x1024x4, .f32⟩
  | .hbm, ⟨8, _⟩ => ⟨S2x1024x32, .f32⟩
  | .hbm, ⟨9, _⟩ => ⟨S4x1x1024, .f32⟩
  | .hbm, ⟨10, _⟩ => ⟨S4x1x1024, .f32⟩
  | .hbm, ⟨11, _⟩ => ⟨S4x2x1024, .f32⟩
  | .hbm, ⟨12, _⟩ => ⟨S4x1x1024, .f32⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024x4, .f32⟩
  | .hbm, ⟨19, _⟩ => ⟨S1024x4, .f32⟩
  | .hbm, ⟨20, _⟩ => ⟨S1x1024x32, .f32⟩
  | .hbm, ⟨21, _⟩ => ⟨S1024x32, .f32⟩
  | .hbm, ⟨22, _⟩ => ⟨S_, .f32⟩
  | .hbm, ⟨23, _⟩ => ⟨S1024x92, .f32⟩
  | .hbm, ⟨24, _⟩ => ⟨S1024x128, .f32⟩
  | .hbm, ⟨25, _⟩ => ⟨S1024x128, .bf16⟩
  | .hbm, ⟨26, _⟩ => ⟨S1024x128, .f32⟩
  | .hbm, ⟨27, _⟩ => ⟨S1024x128, .f32⟩
  | .hbm, ⟨28, _⟩ => ⟨S1024x128, .bf16⟩
  | .hbm, ⟨29, _⟩ => ⟨S1024x256, .bf16⟩
  | .hbm, ⟨30, _⟩ => ⟨S4x4096x1024, .f32⟩
  | .hbm, ⟨31, _⟩ => ⟨S16384x128, .f32⟩
  | .hbm, ⟨32, _⟩ => ⟨S8x128, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x2x1024, .f32⟩
  | .local _ .vmem, ⟨8, _⟩ => ⟨S1x2x1024, .f32⟩
  | .local _ .vmem, ⟨9, _⟩ => ⟨S1x1024, .f32⟩
  | .local _ .vmem, ⟨10, _⟩ => ⟨S1024x256, .bf16⟩
  | .local _ .vmem, ⟨11, _⟩ => ⟨S1x512x1024, .f32⟩
  | .local _ .vmem, ⟨12, _⟩ => ⟨S1x512x1024, .f32⟩
  | .local _ .vmem, ⟨13, _⟩ => ⟨S512x128, .f32⟩
  | .local _ .vmem, ⟨14, _⟩ => ⟨S512x128, .f32⟩
  | .local _ .vmem, ⟨15, _⟩ => ⟨S8x128, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== AttnOutReferenceIdeal.lean ====
abbrev S4x4096x1024 : Shape := ⟨3, ![4, 4096, 1024]⟩
abbrev S4x1024 : Shape := ⟨2, ![4, 1024]⟩
abbrev S1x1024x1024 : Shape := ⟨3, ![1, 1024, 1024]⟩
abbrev S2x1024 : Shape := ⟨2, ![2, 1024]⟩
abbrev S2x1024x4 : Shape := ⟨3, ![2, 1024, 4]⟩
abbrev S2x1024x32 : Shape := ⟨3, ![2, 1024, 32]⟩
abbrev S4x1x1024 : Shape := ⟨3, ![4, 1, 1024]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .f32⟩
  | .hbm, ⟨2, _⟩ => ⟨S4x1024, .f32⟩
  | .hbm, ⟨3, _⟩ => ⟨S1x1024x1024, .f32⟩
  | .hbm, ⟨4, _⟩ => ⟨S4x1024, .f32⟩
  | .hbm, ⟨5, _⟩ => ⟨S4x1024, .f32⟩
  | .hbm, ⟨6, _⟩ => ⟨S2x1024, .f32⟩
  | .hbm, ⟨7, _⟩ => ⟨S2x1024x4, .f32⟩
  | .hbm, ⟨8, _⟩ => ⟨S2x1024x32, .f32⟩
  | .hbm, ⟨9, _⟩ => ⟨S4x1x1024, .f32⟩
  | .hbm, ⟨10, _⟩ => ⟨S4x4096x1024, .f32⟩
  | .hbm, ⟨11, _⟩ => ⟨S1024x1024, .f32⟩
  | .hbm, ⟨12, _⟩ => ⟨S4x4096x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Experts.lean ====
abbrev S32 : Shape := ⟨1, ![32]⟩
abbrev S327680x128 : Shape := ⟨2, ![327680, 128]⟩
abbrev S2x32x1024x512 : Shape := ⟨4, ![2, 32, 1024, 512]⟩
abbrev S2x32x512x1024 : Shape := ⟨4, ![2, 32, 512, 1024]⟩
abbrev S160 : Shape := ⟨1, ![160]⟩
abbrev S_ : Shape := ⟨0, ![]⟩
abbrev S1x32 : Shape := ⟨2, ![1, 32]⟩
abbrev S160x1 : Shape := ⟨2, ![160, 1]⟩
abbrev S160x32 : Shape := ⟨2, ![160, 32]⟩
abbrev S1 : Shape := ⟨1, ![1]⟩
abbrev S1x160 : Shape := ⟨2, ![1, 160]⟩
abbrev S160x160 : Shape := ⟨2, ![160, 160]⟩
abbrev S2048x128 : Shape := ⟨2, ![2048, 128]⟩
abbrev S1024x512 : Shape := ⟨2, ![1024, 512]⟩
abbrev S512x1024 : Shape := ⟨2, ![512, 1024]⟩
abbrev S3 : Shape := ⟨1, ![3]⟩
abbrev S1x1x1024x512 : Shape := ⟨4, ![1, 1, 1024, 512]⟩
abbrev S1x1x512x1024 : Shape := ⟨4, ![1, 1, 512, 1024]⟩
abbrev S256x128 : Shape := ⟨2, ![256, 128]⟩
abbrev S256x1024 : Shape := ⟨2, ![256, 1024]⟩
abbrev S256x512 : Shape := ⟨2, ![256, 512]⟩

abbrev nBuf : Space → Nat
  | .hbm => 64
  | .vmem => 10
  | .smem => 3
  | _ => 0

abbrev bufTy : (tb : Table) → Fin (tcTables nBuf tb) → BufTy
  | .hbm, ⟨0, _⟩ => ⟨S32, .i32⟩
  | .hbm, ⟨1, _⟩ => ⟨S327680x128, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S160, .i32⟩
  | .hbm, ⟨6, _⟩ => ⟨S_, .i32⟩
  | .hbm, ⟨7, _⟩ => ⟨S160, .i32⟩
  | .hbm, ⟨8, _⟩ => ⟨S160, .i32⟩
  | .hbm, ⟨9, _⟩ => ⟨S1x32, .i32⟩
  | .hbm, ⟨10, _⟩ => ⟨S160x1, .i32⟩
  | .hbm, ⟨11, _⟩ => ⟨S160x32, .i32⟩
  | .hbm, ⟨12, _⟩ => ⟨S160x32, .i32⟩
  | .hbm, ⟨13, _⟩ => ⟨S160x32, .i1⟩
  | .hbm, ⟨14, _⟩ => ⟨S160x32, .i32⟩
  | .hbm, ⟨15, _⟩ => ⟨S_, .i32⟩
  | .hbm, ⟨16, _⟩ => ⟨S160, .i32⟩
  | .hbm, ⟨17, _⟩ => ⟨S_, .i32⟩
  | .hbm, ⟨18, _⟩ => ⟨S160, .i32⟩
  | .hbm, ⟨19, _⟩ => ⟨S1, .i32⟩
  | .hbm, ⟨20, _⟩ => ⟨S_, .i32⟩
  | .hbm, ⟨21, _⟩ => ⟨S_, .i32⟩
  | .hbm, ⟨22, _⟩ => ⟨S1, .i32⟩
  | .hbm, ⟨23, _⟩ => ⟨S1, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S1, .i1⟩
  | .hbm, ⟨28, _⟩ => ⟨S1, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S1, .i1⟩
  | .hbm, ⟨33, _⟩ => ⟨S1, .i1⟩
  | .hbm, ⟨34, _⟩ => ⟨S_, .i32⟩
  | .hbm, ⟨35, _⟩ => ⟨S1, .i32⟩
  | .hbm, ⟨36, _⟩ => ⟨S1, .i32⟩
  | .hbm, ⟨37, _⟩ => ⟨S1x160, .i32⟩
  | .hbm, ⟨38, _⟩ => ⟨S160x1, .i32⟩
  | .hbm, ⟨39, _⟩ => ⟨S160x160, .i32⟩
  | .hbm, ⟨40, _⟩ => ⟨S160x160, .i32⟩
  | .hbm, ⟨41, _⟩ => ⟨S160x160, .i1⟩
  | .hbm, ⟨42, _⟩ => ⟨S160x160, .i32⟩
  | .hbm, ⟨43, _⟩ => ⟨S_, .i32⟩
  | .hbm, ⟨44, _⟩ => ⟨S160, .i32⟩
  | .hbm, ⟨45, _⟩ => ⟨S_, .i32⟩
  | .hbm, ⟨46, _⟩ => ⟨S160, .i32⟩
  | .hbm, ⟨47, _⟩ => ⟨S160, .i1⟩
  | .hbm, ⟨48, _⟩ => ⟨S_, .i32⟩
  | .hbm, ⟨49, _⟩ => ⟨S160, .i32⟩
  | .hbm, ⟨50, _⟩ => ⟨S160, .i32⟩
  | .hbm, ⟨51, _⟩ => ⟨S_, .i32⟩
  | .hbm, ⟨52, _⟩ => ⟨S160, .i32⟩
  | .hbm, ⟨53, _⟩ => ⟨S160, .i1⟩
  | .hbm, ⟨54, _⟩ => ⟨S_, .i32⟩
  | .hbm, ⟨55, _⟩ => ⟨S160, .i32⟩
  | .hbm, ⟨56, _⟩ => ⟨S160, .i32⟩
  | .hbm, ⟨57, _⟩ => ⟨S160, .i32⟩
  | .hbm, ⟨58, _⟩ => ⟨S160x1, .i32⟩
  | .hbm, ⟨59, _⟩ => ⟨S160, .i32⟩
  | .hbm, ⟨60, _⟩ => ⟨S_, .i32⟩
  | .hbm, ⟨61, _⟩ => ⟨S_, .i32⟩
  | .hbm, ⟨62, _⟩ => ⟨S160, .i32⟩
  | .hbm, ⟨63, _⟩ => ⟨S327680x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1024x512, .f32⟩
  | .local _ .vmem, ⟨5, _⟩ => ⟨S1024x512, .f32⟩
  | .local _ .vmem, ⟨6, _⟩ => ⟨S512x1024, .f32⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .smem, ⟨0, _⟩ => ⟨S160, .i32⟩
  | .local _ .smem, ⟨1, _⟩ => ⟨S1, .i32⟩
  | .local _ .smem, ⟨2, _⟩ => ⟨S160, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_c_5 : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_call1_v0 : Ref sig .tc := ⟨.hbm, 61, rfl⟩
abbrev main_call1_v1 : Ref sig .tc := ⟨.hbm, 62, rfl⟩
abbrev main_v33 : Ref sig .tc := ⟨.hbm, 63, rfl⟩
abbrev main_v11 : Ref sig .tc := ⟨.smem, 0, rfl⟩
abbrev main_v13 : Ref sig .tc := ⟨.smem, 1, rfl⟩
abbrev main_v32 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_v11.idx, main_v13.idx, main_v32.idx], fun | 0 => main_v11.names | 1 => main_v13.names | 2 => main_v32.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond1 (i : grid0.Coords) : BitVec 1 :=
  let arg0 : BitVec 32 := BitVec.ofNat 32 (i 0).val
  let c0_i32_1 : BitVec 32 := 0#32
  let v9 : BitVec 1 := Scalar.cmpi .eq arg0 c0_i32_1
  let v10 : BitVec 32 := Scalar.extui v9
  let c0_i32_2 : BitVec 32 := 0#32
  let v11 : BitVec 1 := Scalar.cmpi .ne v10 c0_i32_2
  v11

def k0_off3 (v1 : BitVec 32) : Fin 4 → Nat :=
  let c0_i32_7 : BitVec 32 := 0#32
  let c0_i32_9 : BitVec 32 := 0#32
  let c0_i32_10 : BitVec 32 := 0#32
  ![0, v1.toNat, 0, 0]

def k0_off4 (v1 : BitVec 32) : Fin 4 → Nat :=
  let c0_i32_15 : BitVec 32 := 0#32
  let c0_i32_16 : BitVec 32 := 0#32
  let c0_i32_17 : BitVec 32 := 0#32
  ![0, v1.toNat, 0, 0]

def k0_chk1 (i : grid0.Coords) (v1 : BitVec 32) : Prop :=
  (∀ (k0_h1 : k0_cond1 i = 1#1), ∀ a, (k0_off3 v1) a + S1x1x1024x512.size a ≤ S2x32x1024x512.size a) ∧
  (∀ (k0_h1 : k0_cond1 i = 1#1), ∀ a, (k0_off4 v1) a + S1x1x512x1024.size a ≤ S2x32x512x1024.size a)
theorem k0_off3_inb : ∀ (i : grid0.Coords) (v1 : BitVec 32) (k0_hw1 : k0_chk1 i v1), ∀ (k0_h1 : k0_cond1 i = 1#1), ∀ a, (k0_off3 v1) a + S1x1x1024x512.size a ≤ S2x32x1024x512.size a := fun i v1 k0_hw1 k0_h1 => k0_hw1.1 k0_h1
theorem k0_off4_inb : ∀ (i : grid0.Coords) (v1 : BitVec 32) (k0_hw1 : k0_chk1 i v1), ∀ (k0_h1 : k0_cond1 i = 1#1), ∀ a, (k0_off4 v1) a + S1x1x512x1024.size a ≤ S2x32x512x1024.size a := fun i v1 k0_hw1 k0_h1 => k0_hw1.2 k0_h1

def k0_off5 (v1 : BitVec 32) : Fin 4 → Nat :=
  let c0_i32_7 : BitVec 32 := 0#32
  let c0_i32_9 : BitVec 32 := 0#32
  let c0_i32_10 : BitVec 32 := 0#32
  ![0, v1.toNat, 0, 0]
def k0_cond2 (i : grid0.Coords) (v1 : BitVec 32) (v6 : BitVec 32) : BitVec 1 :=
  let arg0 : BitVec 32 := BitVec.ofNat 32 (i 0).val
  let c0_i32 : BitVec 32 := 0#32
  let v2 : BitVec 1 := Scalar.cmpi .eq arg0 c0_i32
  let v7 : BitVec 1 := Scalar.cmpi .ne v1 v6
  let v8 : BitVec 1 := Scalar.ori v2 v7
  let v12 : BitVec 32 := Scalar.extui v8
  let c0_i32_3 : BitVec 32 := 0#32
  let v13 : BitVec 1 := Scalar.cmpi .ne v12 c0_i32_3
  v13

def k0_off6 (v1 : BitVec 32) : Fin 4 → Nat :=
  let c0_i32_15 : BitVec 32 := 0#32
  let c0_i32_16 : BitVec 32 := 0#32
  let c0_i32_17 : BitVec 32 := 0#32
  ![0, v1.toNat, 0, 0]

def k0_chk2 (i : grid0.Coords) (v1 : BitVec 32) (v6 : BitVec 32) : Prop :=
  (∀ (k0_h2 : k0_cond2 i v1 v6 = 1#1), ∀ a, (k0_off5 v1) a + S1x1x1024x512.size a ≤ S2x32x1024x512.size a) ∧
  (∀ (k0_h2 : k0_cond2 i v1 v6 = 1#1), ∀ a, (k0_off6 v1) a + S1x1x512x1024.size a ≤ S2x32x512x1024.size a)
theorem k0_off5_inb : ∀ (i : grid0.Coords) (v1 : BitVec 32) (v6 : BitVec 32) (k0_hw2 : k0_chk2 i v1 v6), ∀ (k0_h2 : k0_cond2 i v1 v6 = 1#1), ∀ a, (k0_off5 v1) a + S1x1x1024x512.size a ≤ S2x32x1024x512.size a := fun i v1 v6 k0_hw2 k0_h2 => k0_hw2.1 k0_h2
theorem k0_off6_inb : ∀ (i : grid0.Coords) (v1 : BitVec 32) (v6 : BitVec 32) (k0_hw2 : k0_chk2 i v1 v6), ∀ (k0_h2 : k0_cond2 i v1 v6 = 1#1), ∀ a, (k0_off6 v1) a + S1x1x512x1024.size a ≤ S2x32x512x1024.size a := fun i v1 v6 k0_hw2 k0_h2 => k0_hw2.2 k0_h2

def k0_off7 (i : grid0.Coords) : Fin 1 → Nat :=
  let arg0 : BitVec 32 := BitVec.ofNat 32 (i 0).val
  let v49 : Index := Scalar.indexCast arg0
  ![v49.toNat]
def k0_off8 (i : grid0.Coords) : Fin 1 → Nat :=
  let arg0 : BitVec 32 := BitVec.ofNat 32 (i 0).val
  let v54 : Index := Scalar.indexCast arg0
  ![v54.toNat]
def k0_off9 (v55 : BitVec 32) : Fin 4 → Nat :=
  let c0_i32_32 : BitVec 32 := 0#32
  let c0_i32_34 : BitVec 32 := 0#32
  let c0_i32_35 : BitVec 32 := 0#32
  ![0, v55.toNat, 0, 0]
def k0_cond3 (v50 : BitVec 32) : BitVec 1 :=
  let c0_i32_30 : BitVec 32 := 0#32
  let v51 : BitVec 1 := Scalar.cmpi .sge v50 c0_i32_30
  let v52 : BitVec 32 := Scalar.extui v51
  let c0_i32_31 : BitVec 32 := 0#32
  let v53 : BitVec 1 := Scalar.cmpi .ne v52 c0_i32_31
  v53

def k0_off10 (v55 : BitVec 32) : Fin 4 → Nat :=
  let c0_i32_40 : BitVec 32 := 0#32
  let c0_i32_42 : BitVec 32 := 0#32
  let c0_i32_43 : BitVec 32 := 0#32
  ![0, v55.toNat, 0, 0]

def k0_chk3 (i : grid0.Coords) (v1 : BitVec 32) (v6 : BitVec 32) (v50 : BitVec 32) (v55 : BitVec 32) : Prop :=
  (∀ (k0_h2 : k0_cond2 i v1 v6 = 1#1), ∀ (k0_h3 : k0_cond3 v50 = 1#1), ∀ a, (k0_off9 v55) a + S1x1x1024x512.size a ≤ S2x32x1024x512.size a) ∧
  (∀ (k0_h2 : k0_cond2 i v1 v6 = 1#1), ∀ (k0_h3 : k0_cond3 v50 = 1#1), ∀ a, (k0_off10 v55) a + S1x1x512x1024.size a ≤ S2x32x512x1024.size a)
theorem k0_off9_inb : ∀ (i : grid0.Coords) (v1 : BitVec 32) (v6 : BitVec 32) (v50 : BitVec 32) (v55 : BitVec 32) (k0_hw3 : k0_chk3 i v1 v6 v50 v55), ∀ (k0_h2 : k0_cond2 i v1 v6 = 1#1), ∀ (k0_h3 : k0_cond3 v50 = 1#1), ∀ a, (k0_off9 v55) a + S1x1x1024x512.size a ≤ S2x32x1024x512.size a := fun i v1 v6 v50 v55 k0_hw3 k0_h2 k0_h3 => k0_hw3.1 k0_h2 k0_h3
theorem k0_off10_inb : ∀ (i : grid0.Coords) (v1 : BitVec 32) (v6 : BitVec 32) (v50 : BitVec 32) (v55 : BitVec 32) (k0_hw3 : k0_chk3 i v1 v6 v50 v55), ∀ (k0_h2 : k0_cond2 i v1 v6 = 1#1), ∀ (k0_h3 : k0_cond3 v50 = 1#1), ∀ a, (k0_off10 v55) a + S1x1x512x1024.size a ≤ S2x32x512x1024.size a := fun i v1 v6 v50 v55 k0_hw3 k0_h2 k0_h3 => k0_hw3.2 k0_h2 k0_h3

def k0_cond4 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_4 : BitVec 32 := 0#32
  let v17 : BitVec 1 := Scalar.cmpi .ne v16 c0_i32_4
  v17

def k0_cond5 (i : grid0.Coords) (v18 : BitVec 32) : BitVec 1 :=
  let arg0 : BitVec 32 := BitVec.ofNat 32 (i 0).val
  let v19 : BitVec 1 := Scalar.cmpi .sge arg0 v18
  let v20 : BitVec 32 := Scalar.extui v19
  let c0_i32_6 : BitVec 32 := 0#32
  let v21 : BitVec 1 := Scalar.cmpi .ne v20 c0_i32_6
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ExpertsReferenceIdeal.lean ====
abbrev S32 : Shape := ⟨1, ![32]⟩
abbrev S327680x128 : Shape := ⟨2, ![327680, 128]⟩
abbrev S2x32x1024x512 : Shape := ⟨4, ![2, 32, 1024, 512]⟩
abbrev S2x32x512x1024 : Shape := ⟨4, ![2, 32, 512, 1024]⟩
abbrev S160x256x1024 : Shape := ⟨3, ![160, 256, 1024]⟩
abbrev S160 : Shape := ⟨1, ![160]⟩
abbrev S_ : Shape := ⟨0, ![]⟩
abbrev S1x32 : Shape := ⟨2, ![1, 32]⟩
abbrev S160x1 : Shape := ⟨2, ![160, 1]⟩
abbrev S160x32 : Shape := ⟨2, ![160, 32]⟩
abbrev S1x32x1024x512 : Shape := ⟨4, ![1, 32, 1024, 512]⟩
abbrev S32x1024x512 : Shape := ⟨3, ![32, 1024, 512]⟩
abbrev S160x1024x512 : Shape := ⟨3, ![160, 1024, 512]⟩
abbrev S160x256x512 : Shape := ⟨3, ![160, 256, 512]⟩
abbrev S1x32x512x1024 : Shape := ⟨4, ![1, 32, 512, 1024]⟩
abbrev S32x512x1024 : Shape := ⟨3, ![32, 512, 1024]⟩
abbrev S160x512x1024 : Shape := ⟨3, ![160, 512, 1024]⟩
abbrev S1 : Shape := ⟨1, ![1]⟩
abbrev S160x1x1 : Shape := ⟨3, ![160, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S32, .i32⟩
  | .hbm, ⟨1, _⟩ => ⟨S327680x128, .f32⟩
  | .hbm, ⟨2, _⟩ => ⟨S2x32x1024x512, .f32⟩
  | .hbm, ⟨3, _⟩ => ⟨S2x32x1024x512, .f32⟩
  | .hbm, ⟨4, _⟩ => ⟨S2x32x512x1024, .f32⟩
  | .hbm, ⟨5, _⟩ => ⟨S160x256x1024, .f32⟩
  | .hbm, ⟨6, _⟩ => ⟨S160, .i32⟩
  | .hbm, ⟨7, _⟩ => ⟨S_, .i32⟩
  | .hbm, ⟨8, _⟩ => ⟨S160, .i32⟩
  | .hbm, ⟨9, _⟩ => ⟨S160, .i32⟩
  | .hbm, ⟨10, _⟩ => ⟨S1x32, .i32⟩
  | .hbm, ⟨11, _⟩ => ⟨S160x1, .i32⟩
  | .hbm, ⟨12, _⟩ => ⟨S160x32, .i32⟩
  | .hbm, ⟨13, _⟩ => ⟨S160x32, .i32⟩
  | .hbm, ⟨14, _⟩ => ⟨S160x32, .i1⟩
  | .hbm, ⟨15, _⟩ => ⟨S160x32, .i32⟩
  | .hbm, ⟨16, _⟩ => ⟨S_, .i32⟩
  | .hbm, ⟨17, _⟩ => ⟨S160, .i32⟩
  | .hbm, ⟨18, _⟩ => ⟨S_, .i32⟩
  | .hbm, ⟨19, _⟩ => ⟨S160, .i32⟩
  | .hbm, ⟨20, _⟩ => ⟨S160, .i32⟩
  | .hbm, ⟨21, _⟩ => ⟨S1x32x1024x512, .f32⟩
  | .hbm, ⟨22, _⟩ => ⟨S32x1024x512, .f32⟩
  | .hbm, ⟨23, _⟩ => ⟨S_, .i32⟩
  | .hbm, ⟨24, _⟩ => ⟨S160, .i32⟩
  | .hbm, ⟨25, _⟩ => ⟨S160, .i1⟩
  | .hbm, ⟨26, _⟩ => ⟨S_, .i32⟩
  | .hbm, ⟨27, _⟩ => ⟨S160, .i32⟩
  | .hbm, ⟨28, _⟩ => ⟨S160, .i32⟩
  | .hbm, ⟨29, _⟩ => ⟨S160, .i32⟩
  | .hbm, ⟨30, _⟩ => ⟨S160x1, .i32⟩
  | .hbm, ⟨31, _⟩ => ⟨S160x1024x512, .f32⟩
  | .hbm, ⟨32, _⟩ => ⟨S160x256x512, .f32⟩
  | .hbm, ⟨33, _⟩ => ⟨S1x32x1024x512, .f32⟩
  | .hbm, ⟨34, _⟩ => ⟨S32x1024x512, .f32⟩
  | .hbm, ⟨35, _⟩ => ⟨S_, .i32⟩
  | .hbm, ⟨36, _⟩ => ⟨S160, .i32⟩
  | .hbm, ⟨37, _⟩ => ⟨S160, .i1⟩
  | .hbm, ⟨38, _⟩ => ⟨S_, .i32⟩
  | .hbm, ⟨39, _⟩ => ⟨S160, .i32⟩
  | .hbm, ⟨40, _⟩ => ⟨S160, .i32⟩
  | .hbm, ⟨41, _⟩ => ⟨S160, .i32⟩
  | .hbm, ⟨42, _⟩ => ⟨S160x1, .i32⟩
  | .hbm, ⟨43, _⟩ => ⟨S160x1024x512, .f32⟩
  | .hbm, ⟨44, _⟩ => ⟨S160x256x512, .f32⟩
  | .hbm, ⟨45, _⟩ => ⟨S160x256x512, .f32⟩
  | .hbm, ⟨46, _⟩ => ⟨S160x256x512, .f32⟩
  | .hbm, ⟨47, _⟩ => ⟨S_, .f32⟩
  | .hbm, ⟨48, _⟩ => ⟨S160x256x512, .f32⟩
  | .hbm, ⟨49, _⟩ => ⟨S160x256x512, .f32⟩
  | .hbm, ⟨50, _⟩ => ⟨S_, .f32⟩
  | .hbm, ⟨51, _⟩ => ⟨S160x256x512, .f32⟩
  | .hbm, ⟨52, _⟩ => ⟨S160x256x512, .f32⟩
  | .hbm, ⟨53, _⟩ => ⟨S160x256x512, .f32⟩
  | .hbm, ⟨54, _⟩ => ⟨S160x256x512, .f32⟩
  | .hbm, ⟨55, _⟩ => ⟨S1x32x512x1024, .f32⟩
  | .hbm, ⟨56, _⟩ => ⟨S32x512x1024, .f32⟩
  | .hbm, ⟨57, _⟩ => ⟨S_, .i32⟩
  | .hbm, ⟨58, _⟩ => ⟨S160, .i32⟩
  | .hbm, ⟨59, _⟩ => ⟨S160, .i1⟩
  | .hbm, ⟨60, _⟩ => ⟨S_, .i32⟩
  | .hbm, ⟨61, _⟩ => ⟨S160, .i32⟩
  | .hbm, ⟨62, _⟩ => ⟨S160, .i32⟩
  | .hbm, ⟨63, _⟩ => ⟨S160, .i32⟩
  | .hbm, ⟨64, _⟩ => ⟨S160x1, .i32⟩
  | .hbm, ⟨65, _⟩ => ⟨S160x512x1024, .f32⟩
  | .hbm, ⟨66, _⟩ => ⟨S160x256x1024, .f32⟩
  | .hbm, ⟨67, _⟩ => ⟨S160, .i32⟩
  | .hbm, ⟨68, _⟩ => ⟨S1, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i1⟩
  | .hbm, ⟨76, _⟩ => ⟨S_, .i32⟩
  | .hbm, ⟨77, _⟩ => ⟨S_, .i32⟩
  | .hbm, ⟨78, _⟩ => ⟨S_, .i1⟩
  | .hbm, ⟨79, _⟩ => ⟨S_, .i1⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S160, .i32⟩
  | .hbm, ⟨84, _⟩ => ⟨S160, .i1⟩
  | .hbm, ⟨85, _⟩ => ⟨S160x1x1, .i1⟩
  | .hbm, ⟨86, _⟩ => ⟨S_, .f32⟩
  | .hbm, ⟨87, _⟩ => ⟨S_, .f32⟩
  | .hbm, ⟨88, _⟩ => ⟨S160x256x1024, .i1⟩
  | .hbm, ⟨89, _⟩ => ⟨S160x256x1024, .f32⟩
  | .hbm, ⟨90, _⟩ => ⟨S160x256x1024, .f32⟩
  | .hbm, ⟨91, _⟩ => ⟨S327680x128, .f32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_v37 : Ref sig .tc := ⟨.hbm, 58, rfl⟩
abbrev main_v38 : Ref sig .tc := ⟨.hbm, 59, rfl⟩
abbrev main_c_7 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c : Ref sig .tc := ⟨.hbm, 77, rfl⟩
abbrev main_call1_v6 : Ref sig .tc := ⟨.hbm, 78, rfl⟩
abbrev main_call1_v7 : Ref sig .tc := ⟨.hbm, 79, rfl⟩
abbrev main_call1_c_0 : Ref sig .tc := ⟨.hbm, 80, rfl⟩
abbrev main_call1_v8 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v52 : Ref sig .tc := ⟨.hbm, 90, rfl⟩
abbrev main_v53 : Ref sig .tc := ⟨.hbm, 91, rfl⟩

abbrev nD : Nat := 1
abbrev τ : Topo := Topo.v7x

variable {F : FTy → Type} [FloatOps F]
-- ==== Proof.Frames.lean ====
/- The claims that need no value: each program runs, leaves its arguments unchanged and every counter at zero, and the
   idealized kernel is the kernel but for one constant, given by name the real it was computed from. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite
public import Idealize.ShloMosaic.Lib.Quiescent

@[expose] public section

noncomputable section

open Idealize.ShloMosaic Idealize.ShloMosaic.TcCoe Idealize.SL.Sem

namespace Cert.Proof.Attention

theorem frame_p : Cert.quiescent_Kernel := fun m ρ _ => Cert.Kernel.Gen.frame m ρ

theorem frame_pi : Cert.quiescent_KernelIdeal := fun m ρ _ => Cert.KernelIdeal.Gen.frame m ρ

theorem frame_pi_pre : Cert.quiescent_KernelIdeal_pre_finite := fun m ρ _ => Cert.KernelIdeal.Gen.frame m ρ

/-- The reference's run, whatever its arguments hold: it declares no counter. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_ri_pre : Cert.quiescent_ReferenceIdeal_pre_finite := fun m ρ _ => frame_ri m ρ trivial

/-- The one rewrite: the scale of the scores, times the binary logarithm of `e`, is named the real `1 / (8 log 2)`. -/
theorem preserves : Cert.preserves_Kernel_KernelIdeal :=
  IdealRules.named_const.statement Cert.KernelIdeal.κ "qk_scale" .f32 0x3E38AA3B#32
    (((1 / 8) * (Real.log 2)⁻¹ : ℝ) : EReal) rfl

end Cert.Proof.Attention

end
-- ==== Proof.RefStages.lean ====
/-
  The reference's operations in stages, each read at an index.
-/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.Proof.Attention.Ref

open Cert.ReferenceIdeal Cert.ReferenceIdeal.Gen

/-- The causal mask over queries and keys. -/
def maskR : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked scores. -/
def scoresR (q : FVec Ideal S4x4096x1024 .bf16) (kv : FVec Ideal S4x4096x2048 .bf16) : FVec Ideal S4x8x2x4096x4096 .f32 :=
  select (broadcastInDim S4x8x2x4096x4096 ![3, 4] bcast_S4096x4096_S4x8x2x4096x4096_3_4 maskR)
    (mulf (Host.dotGeneral dot_S4x4096x8x2x64_S4x4096x8x2x64_S4x8x2x4096x4096_4_4_1_1_023_023 none
        (shapeCast _ (extf .f32 q bitsLt_bf16_f32) shapeCasts_S4x4096x1024_S4x4096x8x2x64)
        (shapeCast _ (extractStridedSlice S4x4096x1024 ![0, 0, 0] (extf .f32 kv bitsLt_bf16_f32) slices_S4x4096x2048_S4x4096x1024_0_0_0) shapeCasts_S4x4096x1024_S4x4096x8x2x64))
      (broadcastInDim S4x8x2x4096x4096 ![] bcast_S_S4x8x2x4096x4096 (constant S_ .f32 0x3E000000#32)))
    (broadcastInDim S4x8x2x4096x4096 ![] bcast_S_S4x8x2x4096x4096 (id (constant S_ .f32 0xFF800000#32)))

/-- A row's maximum. -/
def maxR (s : FVec Ideal S4x8x2x4096x4096 .f32) : FVec Ideal S4x8x2x4096 .f32 :=
  maximumf (broadcastInDim S4x8x2x4096 ![] bcast_S_S4x8x2x4096 (constant S_ .f32 0xFF800000#32))
    (Host.reduce FloatOps.maximumf s (constant S_ .f32 0xFF800000#32) reducesTo_S4x8x2x4096x4096_S4x8x2x4096_d4 h_S_)

/-- The scores' exponentials, under the row's maximum. -/
def expR (s : FVec Ideal S4x8x2x4096x4096 .f32) : FVec Ideal S4x8x2x4096x4096 .f32 :=
  Host.exp (subf s (broadcastInDim S4x8x2x4096x4096 ![0, 1, 2, 3, 4] bcast_S4x8x2x4096x1_S4x8x2x4096x4096_0_1_2_3_4
    (broadcastInDim S4x8x2x4096x1 ![0, 1, 2, 3] bcast_S4x8x2x4096_S4x8x2x4096x1_0_1_2_3 (maxR s))))

/-- The weights: each exponential over its row's sum. -/
def probR (e : FVec Ideal S4x8x2x4096x4096 .f32) : FVec Ideal S4x8x2x4096x4096 .f32 :=
  Host.divf e (broadcastInDim S4x8x2x4096x4096 ![0, 1, 2, 3, 4] bcast_S4x8x2x4096x1_S4x8x2x4096x4096_0_1_2_3_4
    (broadcastInDim S4x8x2x4096x1 ![0, 1, 2, 3] bcast_S4x8x2x4096_S4x8x2x4096x1_0_1_2_3
      (Host.reduceAdd e (constant S_ .f32 0x00000000#32) reducesTo_S4x8x2x4096x4096_S4x8x2x4096_d4 h_S_)))

/-- The factor of the second attention. -/
def lamR (a b e f : FVec Ideal S1x64 .f32) : FVec Ideal S_ .f32 :=
  addf (subf (Host.exp (Host.reduceAdd (mulf (shapeCast _ a shapeCasts_S1x64_S64) (shapeCast _ b shapeCasts_S1x64_S64)) (constant S_ .f32 0x00000000#32) reducesTo_S64_S_d0 h_S_))
    (Host.exp (Host.reduceAdd (mulf (shapeCast _ e shapeCasts_S1x64_S64) (shapeCast _ f shapeCasts_S1x64_S64)) (constant S_ .f32 0x00000000#32) reducesTo_S64_S_d0 h_S_)))
    (constant S_ .f32 0x3EB60549#32)

/-- The difference of the two attentions' weights. -/
def diffR (p : FVec Ideal S4x8x2x4096x4096 .f32) (l : FVec Ideal S_ .f32) : FVec Ideal S4x8x4096x4096 .f32 :=
  subf (shapeCast _ (extractStridedSlice S4x8x1x4096x4096 ![0, 0, 0, 0, 0] p slices_S4x8x2x4096x4096_S4x8x1x4096x4096_0_0_0_0_0) shapeCasts_S4x8x1x4096x4096_S4x8x4096x4096)
    (mulf (broadcastInDim S4x8x4096x4096 ![] bcast_S_S4x8x4096x4096 l)
      (shapeCast _ (extractStridedSlice S4x8x1x4096x4096 ![0, 0, 1, 0, 0] p slices_S4x8x2x4096x4096_S4x8x1x4096x4096_0_0_1_0_0) shapeCasts_S4x8x1x4096x4096_S4x8x4096x4096))

/-- The values' weighted sums. -/
def outR (kv : FVec Ideal S4x4096x2048 .bf16) (w : FVec Ideal S4x8x4096x4096 .f32) : FVec Ideal S4x4096x8x128 .f32 :=
  transpose S4x4096x8x128 [0, 3, 1, 2] (Host.dotGeneral dot_S4x4096x8x128_S4x8x4096x4096_S4x8x128x4096_1_3_3_2_02_01 none
    (shapeCast _ (extractStridedSlice S4x4096x1024 ![0, 0, 1024] (extf .f32 kv bitsLt_bf16_f32) slices_S4x4096x2048_S4x4096x1024_0_0_1024) shapeCasts_S4x4096x1024_S4x4096x8x128) w)
    transposes_S4x8x128x4096_S4x4096x8x128_0_3_1_2

/-- A head's lanes normalized and weighted. -/
def normR (y : FVec Ideal S4x4096x8x128 .f32) (g : FVec Ideal S1x128 .f32) : FVec Ideal S4x4096x8x128 .f32 :=
  mulf (mulf (mulf y (broadcastInDim S4x4096x8x128 ![0, 1, 2, 3] bcast_S4x4096x8x1_S4x4096x8x128_0_1_2_3
    (Host.rsqrt (addf (Host.divf (broadcastInDim S4x4096x8x1 ![0, 1, 2] bcast_S4x4096x8_S4x4096x8x1_0_1_2
        (Host.reduceAdd (mulf y y) (constant S_ .f32 0x00000000#32) reducesTo_S4x4096x8x128_S4x4096x8_d3 h_S_))
        (broadcastInDim S4x4096x8x1 ![] bcast_S_S4x4096x8x1 (constant S_ .f32 0x43000000#32)))
      (broadcastInDim S4x4096x8x1 ![] bcast_S_S4x4096x8x1 (constant S_ .f32 0x3727C5AC#32))))))
    (broadcastInDim S4x4096x8x128 ![0, 1, 2, 3] bcast_S1x1x1x128_S4x4096x8x128_0_1_2_3 (broadcastInDim S1x1x1x128 ![3] bcast_S128_S1x1x1x128_3 (shapeCast _ g shapeCasts_S1x128_S128))))
    (broadcastInDim S4x4096x8x128 ![] bcast_S_S4x4096x8x128 (constant S_ .f32 0x3F24FD5C#32))

variable (m : (ℓ : Loc nD τ sig) → Buf (Elt Ideal) ℓ) (c : Dev nD)

/-- The result is these stages one after another. -/
theorem result_stages : Value.res_out0 m c
    = truncf .bf16 (shapeCast _ (normR (outR (m ((c.tc : Thread nD τ).loc main_arg1))
        (diffR (probR (expR (scoresR (m ((c.tc : Thread nD τ).loc main_arg0)) (m ((c.tc : Thread nD τ).loc main_arg1)))))
          (lamR (m ((c.tc : Thread nD τ).loc main_arg2)) (m ((c.tc : Thread nD τ).loc main_arg3)) (m ((c.tc : Thread nD τ).loc main_arg4)) (m ((c.tc : Thread nD τ).loc main_arg5)))))
        (m ((c.tc : Thread nD τ).loc main_arg6))) shapeCasts_S4x4096x8x128_S4x4096x1024) bitsLt_bf16_f32 := rfl

theorem mask_at (t n : Fin 4096) : maskR (ix2 t n) = IntOp.cmpi .sle (BitVec.ofNat 32 n.val) (BitVec.ofNat 32 t.val) := by
  pointwise [maskR]

theorem max_fold (s : FVec Ideal S4x8x2x4096x4096 .f32) (b : Fin 4) (H : Fin 8) (h : Fin 2) (t : Fin 4096) :
    Host.reduce FloatOps.maximumf s (constant S_ .f32 0xFF800000#32) reducesTo_S4x8x2x4096x4096_S4x8x2x4096_d4 h_S_ (ix4 b H h t)
      = Finset.fold max (Ideal.ofBits .f32 0xFF800000#32) (fun n : Fin 4096 => s (ix5 b H h t n)) Finset.univ := by
  pointwise []

theorem max_bot (x : FVec Ideal S4x8x2x4096 .f32) (j : S4x8x2x4096.Idx) :
    maximumf (broadcastInDim S4x8x2x4096 ![] bcast_S_S4x8x2x4096 (constant S_ .f32 0xFF800000#32)) x j = max (Ideal.ofBits .f32 0xFF800000#32) (x j) := rfl

theorem max_at (s : FVec Ideal S4x8x2x4096x4096 .f32) (b : Fin 4) (H : Fin 8) (h : Fin 2) (t : Fin 4096) :
    maxR s (ix4 b H h t) = max (Ideal.ofBits .f32 0xFF800000#32)
      (Finset.fold max (Ideal.ofBits .f32 0xFF800000#32) (fun n : Fin 4096 => s (ix5 b H h t n)) Finset.univ) :=
  (max_bot _ _).trans (congrArg _ (max_fold s b H h t))

theorem exp_at (s : FVec Ideal S4x8x2x4096x4096 .f32) (b : Fin 4) (H : Fin 8) (h : Fin 2) (t n : Fin 4096) :
    expR s (ix5 b H h t n) = Ideal.exp (s (ix5 b H h t n) - maxR s (ix4 b H h t)) := by
  pointwise [expR]

theorem prob_at (e : FVec Ideal S4x8x2x4096x4096 .f32) (b : Fin 4) (H : Fin 8) (h : Fin 2) (t n : Fin 4096) :
    probR e (ix5 b H h t n) = Ideal.div (e (ix5 b H h t n)) (∑ k : Fin 4096, e (ix5 b H h t k)) := by
  pointwise [probR]

theorem lam_at (a b e f : FVec Ideal S1x64 .f32) (i : S_.Idx) :
    lamR a b e f i = Ideal.exp (∑ d : Fin 64, a (ix2 0 d) * b (ix2 0 d)) - Ideal.exp (∑ d : Fin 64, e (ix2 0 d) * f (ix2 0 d)) + Ideal.ofBits .f32 0x3EB60549#32 := by
  pointwise [lamR]

theorem scores_at (q : FVec Ideal S4x4096x1024 .bf16) (kv : FVec Ideal S4x4096x2048 .bf16) (b : Fin 4) (H : Fin 8) (h : Fin 2) (t n : Fin 4096) :
    scoresR q kv (ix5 b H h t n) = Scalar.select (maskR (ix2 t n))
      ((∑ d : Fin 64, q (ix3 b t ⟨H.val * 128 + h.val * 64 + d.val, by omega⟩) * kv (ix3 b n ⟨H.val * 128 + h.val * 64 + d.val, by omega⟩))
        * Ideal.ofBits .f32 0x3E000000#32) (Ideal.ofBits .f32 0xFF800000#32) := by
  pointwise [scoresR]
  rfl

theorem diff_at (p : FVec Ideal S4x8x2x4096x4096 .f32) (l : FVec Ideal S_ .f32) (b : Fin 4) (H : Fin 8) (t n : Fin 4096) :
    diffR p l (ix4 b H t n) = p (ix5 b H 0 t n) - l ix0 * p (ix5 b H 1 t n) := by
  pointwise [diffR]

theorem out_at (kv : FVec Ideal S4x4096x2048 .bf16) (w : FVec Ideal S4x8x4096x4096 .f32) (b : Fin 4) (H : Fin 8) (t : Fin 4096) (e : Fin 128) :
    outR kv w (ix4 b t H e) = ∑ n : Fin 4096, kv (ix3 b n ⟨1024 + (H.val * 128 + e.val), by omega⟩) * w (ix4 b H t n) := by
  pointwise [outR]

theorem norm_at (y : FVec Ideal S4x4096x8x128 .f32) (g : FVec Ideal S1x128 .f32) (b : Fin 4) (H : Fin 8) (t : Fin 4096) (e : Fin 128) :
    normR y g (ix4 b t H e) = y (ix4 b t H e) * Ideal.rsqrt (Ideal.div (∑ d : Fin 128, y (ix4 b t H d) * y (ix4 b t H d)) (Ideal.ofBits .f32 0x43000000#32) + Ideal.ofBits .f32 0x3727C5AC#32)
      * g (ix2 0 e) * Ideal.ofBits .f32 0x3F24FD5C#32 := by
  pointwise [normR]

theorem last_at (y : FVec Ideal S4x4096x8x128 .f32) (b : Fin 4) (t : Fin 4096) (d : Fin 1024) :
    (truncf .bf16 (shapeCast S4x4096x1024 y shapeCasts_S4x4096x8x128_S4x4096x1024) bitsLt_bf16_f32 : FVec Ideal S4x4096x1024 .bf16) (ix3 b t d)
      = y (ix4 b t ⟨d.val / 128, by omega⟩ ⟨d.val % 128, by omega⟩) := by
  pointwise []

end Cert.Proof.Attention.Ref
-- ==== Proof.RealMath.lean ====
/-
  Facts about finite extended reals that the attention's running maximum and running sums rest on: a
  maximum of finitely many entries, of which one at least is a number, is a number; a finite sum of
  numbers is a number; a power of two of a difference.
-/
module

public import Idealize.ShloMosaic.PureOps.Ideal
public import Idealize.ShloMosaic.Lib.Pointwise

@[expose] public section

namespace Cert.Proof.Attention

open Idealize.ShloMosaic

/-- The maximum of finitely many entries, none of them `⊤` and one at least not `⊥`, is a real number. -/
theorem fold_max_real {n : Nat} (f : Fin n → EReal) (ht : ∀ k, f k ≠ ⊤) (hb : ∃ k, f k ≠ ⊥) :
    ∃ μ : ℝ, Finset.univ.fold max (⊥ : EReal) f = (μ : EReal) := by
  have hs : Finset.univ.fold max (⊥ : EReal) f = Finset.univ.sup f := rfl
  obtain ⟨k, hk⟩ := hb
  have h1 : Finset.univ.sup f ≠ ⊤ := by
    apply ne_of_lt
    rw [Finset.sup_lt_iff bot_lt_top]
    intro b _
    exact lt_top_iff_ne_top.mpr (ht b)
  have h2 : Finset.univ.sup f ≠ ⊥ := by
    intro h
    exact hk (le_bot_iff.mp (h ▸ Finset.le_sup (f := f) (Finset.mem_univ k)))
  exact ⟨(Finset.univ.sup f).toReal, by rw [hs, EReal.coe_toReal h1 h2]⟩

/-- A finite sum of real numbers, taken in the extended reals. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Two to a real power, in the extended reals. -/
theorem exp2_real (x : ℝ) : Ideal.exp2 (x : EReal) = ((2 ^ x : ℝ) : EReal) := Ideal.exp2_coe x

/-- An entry `x` of the scores and its weight `w`: a masked entry weighs nothing, a score `σ` weighs `2 ^ σ`. -/
def Weighs (x : EReal) (w : ℝ) : Prop := (x = ⊥ ∧ w = 0) ∨ ∃ σ : ℝ, x = (σ : EReal) ∧ w = 2 ^ σ

theorem Weighs.ne_top {x : EReal} {w : ℝ} (h : Weighs x w) : x ≠ ⊤ := by
  rcases h with ⟨rfl, _⟩ | ⟨σ, rfl, _⟩
  · exact bot_ne_top
  · exact EReal.coe_ne_top σ

/-- The power of two of a score less a real number is its weight over the power of two of that number. -/
theorem Weighs.exp2_sub {x : EReal} {w : ℝ} (h : Weighs x w) (μ : ℝ) :
    Ideal.exp2 (x - (μ : EReal)) = ((2 ^ (-μ) * w : ℝ) : EReal) := by
  rcases h with ⟨rfl, rfl⟩ | ⟨σ, rfl, rfl⟩
  · rw [EReal.bot_sub, Ideal.exp2_bot, mul_zero, EReal.coe_zero]
  · rw [← EReal.coe_sub, exp2_real, ← Real.rpow_add (by norm_num : (0:ℝ) < 2), sub_eq_neg_add]

/-- What one row of the running maximum and of the running sums holds: on every lane one real number `μ`, and in column
    `e` the sum `W e` of the weighted values over `2 ^ μ`. -/
def Row (W : Fin 256 → ℝ) (mr : Fin 128 → EReal) (ar : Fin 256 → EReal) : Prop :=
  ∃ μ : ℝ, (∀ l, mr l = (μ : EReal)) ∧ ∀ e, ar e = ((2 ^ (-μ) * W e : ℝ) : EReal)

/-- The sum over a block of the powers of two of scores less `μ`, times the values. -/
theorem block_sum {n : Nat} (x : Fin n → EReal) (w y : Fin n → ℝ) (hx : ∀ k, Weighs (x k) (w k)) (μ : ℝ) :
    (∑ k, Ideal.exp2 (x k - (μ : EReal)) * ((y k : ℝ) : EReal)) = ((2 ^ (-μ) * ∑ k, w k * y k : ℝ) : EReal) := by
  rw [Finset.mul_sum, ← coe_sum]
  refine Finset.sum_congr rfl fun k _ => ?_
  rw [(hx k).exp2_sub, ← EReal.coe_mul, mul_assoc]

/-- The larger of a real number and a maximum of scores is a real number. -/
theorem max_real {n : Nat} (x : Fin n → EReal) (w : Fin n → ℝ) (hx : ∀ k, Weighs (x k) (w k)) (μ : ℝ) :
    ∃ μ' : ℝ, max (μ : EReal) (Finset.univ.fold max (⊥ : EReal) x) = (μ' : EReal) := by
  by_cases hb : ∃ k, x k ≠ ⊥
  · obtain ⟨ν, hν⟩ := fold_max_real x (fun k => (hx k).ne_top) hb
    exact ⟨max μ ν, by rw [hν]; exact (EReal.coe_strictMono.monotone.map_max).symm⟩
  · refine ⟨μ, max_eq_left ?_⟩
    push Not at hb
    have : Finset.univ.fold max (⊥ : EReal) x = Finset.univ.sup x := rfl
    rw [this]
    exact Finset.sup_le fun k _ => by rw [hb k]; exact bot_le

end Cert.Proof.Attention
-- ==== Proof.Step.lean ====
/-
  One block of keys folded into the running maximum and the running sums of one head, as the kernel computes
  it, and what it does to them in real numbers.
-/
module

public import proofs.«01_k».proof.Defs
public import proofs.«01_k».proof.Proof.Gen.KernelIdeal.Value
public import proofs.«01_k».proof.Proof.RealMath

@[expose] public section

set_option maxRecDepth 16384

noncomputable section

open Idealize.ShloMosaic Idealize.ShloMosaic.TcCoe Idealize.SL.Sem

namespace Cert.Proof.Attention

open Cert.KernelIdeal Cert.KernelIdeal.Gen

/-- The row maxima of a block of scores. -/
def blockMax (s : FVec Ideal S1x1x1024x512 .f32) : FVec Ideal S1024 .f32 :=
  multiReduction .maximumf [1] S1024 (shapeCast S1024x512 s shapeCasts_S1x1x1024x512_S1024x512) 0xFF800000#32
    reduces_S1024x512_S1024 (.inl rfl) rfl

/-- The running maximum after a block. -/
def stepM (s : FVec Ideal S1x1x1024x512 .f32) (mo : FVec Ideal S1x1024x128 .f32) : FVec Ideal S1x1024x128 .f32 :=
  k0_pay190 (shapeCast S1024x128 mo shapeCasts_S1x1024x128_S1024x128) (blockMax s)

/-- The running sums after a block. -/
def stepA (ones : FVec Ideal S512x128 .bf16) (s : FVec Ideal S1x1x1024x512 .f32) (mo : FVec Ideal S1x1024x128 .f32)
    (v : FVec Ideal S1x512x128 .bf16) (ao : FVec Ideal S1x1024x256 .f32) : FVec Ideal S1x1024x256 .f32 :=
  k0_pay191 ones (shapeCast S1024x512 s shapeCasts_S1x1x1024x512_S1024x512)
    (shapeCast S1024x128 mo shapeCasts_S1x1024x128_S1024x128) (blockMax s) v ao

/-- The bits of the masked score are minus infinity. -/
theorem neg_inf : Ideal.ofBits FTy.f32 0xFF800000#32 = ⊥ := by
  simp [Ideal.ofBits, Ideal.ieee]

theorem stepM_apply (s : FVec Ideal S1x1x1024x512 .f32) (mo : FVec Ideal S1x1024x128 .f32) (r : Fin 1024) (l : Fin 128) :
    stepM s mo (ix3 0 r l) = max (mo (ix3 0 r l)) (Finset.univ.fold max (⊥ : EReal) fun k : Fin 512 => s (ix4 0 0 r k)) := by
  unfold stepM blockMax
  pointwise [k0_pay190, k0_pay189]
  rw [neg_inf]

/-- The value a column of the running sums takes of a key: the key's value, or one. -/
def colVal (ones : FVec Ideal S512x128 .bf16) (v : FVec Ideal S1x512x128 .bf16) (k : Fin 512) (e : Fin 256) : EReal :=
  if h : (e : Nat) < 128 then v (ix3 0 k ⟨e, h⟩) else ones (ix2 k ⟨e - 128, by omega⟩)

/-- One block of keys, none of it masked: the row that held the sums `W` holds them with the block's added. -/
theorem step_row (ones : FVec Ideal S512x128 .bf16) (s : FVec Ideal S1x1x1024x512 .f32) (mo : FVec Ideal S1x1024x128 .f32)
    (v : FVec Ideal S1x512x128 .bf16) (ao : FVec Ideal S1x1024x256 .f32) (r : Fin 1024) (W : Fin 256 → ℝ)
    (w : Fin 512 → ℝ) (y : Fin 512 → Fin 256 → ℝ) (hs : ∀ k, Weighs (s (ix4 0 0 r k)) (w k))
    (hy : ∀ k e, colVal ones v k e = ((y k e : ℝ) : EReal))
    (h : Row W (fun l => mo (ix3 0 r l)) fun e => ao (ix3 0 r e)) :
    Row (fun e => W e + ∑ k, w k * y k e) (fun l => stepM s mo (ix3 0 r l)) fun e => stepA ones s mo v ao (ix3 0 r e) := by
  obtain ⟨μ, hm, ha⟩ := h
  obtain ⟨μ', hμ'⟩ := max_real (fun k : Fin 512 => s (ix4 0 0 r k)) w hs μ
  refine ⟨μ', fun l => (stepM_apply s mo r l).trans (by rw [show mo (ix3 0 r l) = (μ : EReal) from hm l]; exact hμ'), fun e => ?_⟩
  have hm' : ∀ l, mo (ix3 0 r l) = (μ : EReal) := hm
  have ha' : ao (ix3 0 r e) = _ := ha e
  have hy' : ∀ k : Fin 512, (if h : (e : Nat) < 128 then v (ix3 0 k ⟨e, h⟩) else ones (ix2 k ⟨e - 128, by omega⟩))
      = ((y k e : ℝ) : EReal) := fun k => hy k e
  beta_reduce
  unfold stepA blockMax
  pointwise [k0_pay191, k0_pay189]
  simp only [neg_inf, hm', hy', ha', hμ', dite_eq_ite, ite_self]
  rw [show (∑ x : Fin 512, FloatOps.exp2 (F := Ideal) (φ := .f32) (s (ix4 0 0 r x) - (μ' : EReal)) * ((y x e : ℝ) : EReal))
      = ((2 ^ (-μ') * ∑ k, w k * y k e : ℝ) : EReal) from block_sum _ w (fun k => y k e) hs μ']
  rw [show FloatOps.exp2 (F := Ideal) (φ := .f32) ((μ : EReal) - (μ' : EReal)) = ((2 ^ (μ - μ') : ℝ) : EReal) from by
    rw [← EReal.coe_sub]; exact exp2_real _]
  rw [← EReal.coe_mul, ← EReal.coe_add]
  congr 1
  rw [sub_eq_add_neg, Real.rpow_add (by norm_num : (0:ℝ) < 2), Real.rpow_neg (by norm_num : (0:ℝ) ≤ 2) μ]
  have : (2:ℝ) ^ μ ≠ 0 := by positivity
  field_simp

/-- The diagonal block's row maxima, on every lane. -/
def diagM (mask : IVec S1024x512 1) (s : FVec Ideal S1x1x1024x512 .f32) : FVec Ideal S1x1024x128 .f32 := k0_pay172 mask s

/-- The diagonal block's sums. -/
def diagA (ones : FVec Ideal S512x128 .bf16) (mask : IVec S1024x512 1) (s : FVec Ideal S1x1x1024x512 .f32)
    (v : FVec Ideal S1x512x128 .bf16) : FVec Ideal S1x1024x256 .f32 := k0_pay173 ones mask s v

/-- The diagonal block: a row of which one entry at least is not masked starts the sums. -/
theorem diag_row (ones : FVec Ideal S512x128 .bf16) (mask : IVec S1024x512 1) (s : FVec Ideal S1x1x1024x512 .f32)
    (v : FVec Ideal S1x512x128 .bf16) (r : Fin 1024)
    (w : Fin 512 → ℝ) (y : Fin 512 → Fin 256 → ℝ)
    (hs : ∀ k, Weighs (Scalar.select (mask (ix2 r k)) (s (ix4 0 0 r k)) ⊥) (w k))
    (hne : ∃ k, Scalar.select (mask (ix2 r k)) (s (ix4 0 0 r k)) ⊥ ≠ ⊥)
    (hy : ∀ k e, colVal ones v k e = ((y k e : ℝ) : EReal)) :
    Row (fun e => ∑ k, w k * y k e) (fun l => diagM mask s (ix3 0 r l)) fun e => diagA ones mask s v (ix3 0 r e) := by
  obtain ⟨μ, hμ⟩ := fold_max_real (fun k : Fin 512 => Scalar.select (mask (ix2 r k)) (s (ix4 0 0 r k)) ⊥)
    (fun k => (hs k).ne_top) hne
  refine ⟨μ, fun l => ?_, fun e => ?_⟩
  · unfold diagM
    pointwise [k0_pay172, k0_pay171, k0_pay170]
    simp only [neg_inf]
    exact hμ
  · have hy' : ∀ k : Fin 512, (if h : (e : Nat) < 128 then v (ix3 0 k ⟨e, h⟩) else ones (ix2 k ⟨e - 128, by omega⟩))
        = ((y k e : ℝ) : EReal) := fun k => hy k e
    unfold diagA
    pointwise [k0_pay173, k0_pay171, k0_pay170]
    simp only [neg_inf, hy', hμ, dite_eq_ite, ite_self]
    exact (block_sum _ w (fun k => y k e) hs μ)

end Cert.Proof.Attention
-- ==== Proof.ReadBack.lean ====
/-
  Where the kernel's loads and stores fall: the offsets of the blocks of keys and values in closed form, how many
  trips its two loops make, and what a load of one head's rows reads back of the stores before it.
-/
module

public import proofs.«01_k».proof.Proof.Step
public import Idealize.ShloMosaic.Lib.WritesUnit

@[expose] public section

set_option maxRecDepth 16384

noncomputable section

open Idealize.ShloMosaic Idealize.ShloMosaic.TcCoe Idealize.SL.Sem

namespace Cert.Proof.Attention

open Cert.KernelIdeal Cert.KernelIdeal.Gen

/-! ## Offsets and trips -/

theorem trips1 : ∀ i : grid0.Coords, (k0_t1_loop i).trips = (i 2).val / 2 := by decide +kernel
theorem trips2 : ∀ i : grid0.Coords, (k0_t2_loop i).trips = 0 := by decide +kernel

theorem off5a : ∀ (i : grid0.Coords) (k : Fin (k0_t1_loop i).trips), k0_off5 i k 1#32 = ![0, 512 * min (2 * k.val + 1) ((i 2).val - 1), 0] := by decide +kernel
theorem off5b : ∀ (i : grid0.Coords) (k : Fin (k0_t1_loop i).trips), k0_off5 i k 2#32 = ![0, 512 * min (2 * k.val + 2) ((i 2).val - 1), 0] := by decide +kernel
theorem off6a : ∀ (i : grid0.Coords) (k : Fin (k0_t1_loop i).trips), k0_off6 i k 1#32 = ![0, 512 * min (2 * k.val + 1) ((i 2).val - 1), 128] := by decide +kernel
theorem off6b : ∀ (i : grid0.Coords) (k : Fin (k0_t1_loop i).trips), k0_off6 i k 2#32 = ![0, 512 * min (2 * k.val + 2) ((i 2).val - 1), 128] := by decide +kernel
theorem off7a : ∀ (i : grid0.Coords) (k : Fin (k0_t1_loop i).trips), k0_off7 i k 1#32 = ![0, 512 * min (2 * k.val + 1) ((i 2).val - 1), 256] := by decide +kernel
theorem off7b : ∀ (i : grid0.Coords) (k : Fin (k0_t1_loop i).trips), k0_off7 i k 2#32 = ![0, 512 * min (2 * k.val + 2) ((i 2).val - 1), 256] := by decide +kernel
theorem off8a : ∀ (i : grid0.Coords) (k : Fin (k0_t1_loop i).trips), k0_off8 i k 1#32 = ![0, 512 * min (2 * k.val + 1) ((i 2).val - 1), 384] := by decide +kernel
theorem off8b : ∀ (i : grid0.Coords) (k : Fin (k0_t1_loop i).trips), k0_off8 i k 2#32 = ![0, 512 * min (2 * k.val + 2) ((i 2).val - 1), 384] := by decide +kernel
theorem off9 : ∀ (i : grid0.Coords) (k : Fin (k0_t1_loop i).trips), k0_off9 i k = ![0, 512 * (2 * k.val), 0] := by decide +kernel
theorem off10 : ∀ (i : grid0.Coords) (k : Fin (k0_t1_loop i).trips), k0_off10 i k = ![0, 512 * (2 * k.val), 128] := by decide +kernel
theorem off11 : ∀ (i : grid0.Coords) (k : Fin (k0_t1_loop i).trips), k0_off11 i k = ![0, 512 * (2 * k.val), 256] := by decide +kernel
theorem off12 : ∀ (i : grid0.Coords) (k : Fin (k0_t1_loop i).trips), k0_off12 i k = ![0, 512 * (2 * k.val), 384] := by decide +kernel
theorem off13 : ∀ (i : grid0.Coords) (k : Fin (k0_t1_loop i).trips), k0_off13 i k = ![0, 512 * (2 * k.val + 1), 0] := by decide +kernel
theorem off14 : ∀ (i : grid0.Coords) (k : Fin (k0_t1_loop i).trips), k0_off14 i k = ![0, 512 * (2 * k.val + 1), 128] := by decide +kernel
theorem off15 : ∀ (i : grid0.Coords) (k : Fin (k0_t1_loop i).trips), k0_off15 i k = ![0, 512 * (2 * k.val + 1), 256] := by decide +kernel
theorem off16 : ∀ (i : grid0.Coords) (k : Fin (k0_t1_loop i).trips), k0_off16 i k = ![0, 512 * (2 * k.val + 1), 384] := by decide +kernel
theorem off29 : ∀ i : grid0.Coords, (i 2).val % 2 = 1 → k0_off29 i = ![0, 512 * ((i 2).val - 1), 0] := by decide +kernel
theorem off30 : ∀ i : grid0.Coords, (i 2).val % 2 = 1 → k0_off30 i = ![0, 512 * ((i 2).val - 1), 128] := by decide +kernel
theorem off31 : ∀ i : grid0.Coords, (i 2).val % 2 = 1 → k0_off31 i = ![0, 512 * ((i 2).val - 1), 256] := by decide +kernel
theorem off32 : ∀ i : grid0.Coords, (i 2).val % 2 = 1 → k0_off32 i = ![0, 512 * ((i 2).val - 1), 384] := by decide +kernel

/-! ## Loads -/

/-- A load of a block of 512 rows and 128 columns of the keys or of the values. -/
theorem load_block (m : Memref sig .tc .vmem S1x4096x512 .bf16) (hm : m.IsWhole) (x : Vec Ideal S1x4096x512 .bf16)
    (off : Fin 3 → Nat) (inb : ∀ a, off a + S1x512x128.size a ≤ S1x4096x512.size a) (a b : Nat) (h : off = ![0, a, b])
    (k : Fin 512) (d : Fin 128) (ha : a + k.val < 4096) (hb : b + d.val < 512) :
    m.view.readAt (Elt Ideal) (Rect.unit (s := S1x4096x512) off S1x512x128.size inb).toLoadRect (hm.unread x) (ix3 0 k d)
      = x (ix3 0 ⟨a + k.val, ha⟩ ⟨b + d.val, hb⟩) := by
  subst h
  rw [View.readAt_eq_ld, hm.read_unread]
  exact congrArg x (funext fun ax => Fin.ext (by fin_cases ax <;> simp [ix3, LoadRect.idx, Rect.unit, Rect.toLoadRect]))

/-- A load of one head's rows of a buffer of four heads' rows. -/
theorem load_head {n : Nat} (v : View sig .tc .vmem ⟨3, ![4, 1024, n]⟩ .f32) (f : v.ty.Contents (Elt Ideal)) (h : Fin 4)
    (inb : ∀ a, (![h.val, 0, 0] : Fin 3 → Nat) a + (⟨3, ![1, 1024, n]⟩ : Shape).size a ≤ (⟨3, ![4, 1024, n]⟩ : Shape).size a)
    (r : Fin 1024) (l : Fin n) :
    v.readAt (Elt Ideal) (Rect.unit (s := ⟨3, ![4, 1024, n]⟩) ![h.val, 0, 0] (⟨3, ![1, 1024, n]⟩ : Shape).size inb).toLoadRect f (ix3 0 r l)
      = v.read (Elt Ideal) f (ix3 h r l) := by
  rw [View.readAt_eq_ld]
  exact congrArg (v.read (Elt Ideal) f) (funext fun ax => Fin.ext (by fin_cases ax <;> simp [ix3, LoadRect.idx, Rect.unit, Rect.toLoadRect]))

/-- A load of one head's scores of one slot. -/
theorem load_slot (v : View sig .tc .vmem S2x4x1024x512 .f32) (f : v.ty.Contents (Elt Ideal)) (s : Fin 2) (h : Fin 4)
    (inb : ∀ a, (![s.val, h.val, 0, 0] : Fin 4 → Nat) a + S1x1x1024x512.size a ≤ S2x4x1024x512.size a)
    (r : Fin 1024) (k : Fin 512) :
    v.readAt (Elt Ideal) (Rect.unit (s := S2x4x1024x512) ![s.val, h.val, 0, 0] S1x1x1024x512.size inb).toLoadRect f (ix4 0 0 r k)
      = v.read (Elt Ideal) f (ix4 s h r k) := by
  rw [View.readAt_eq_ld]
  exact congrArg (v.read (Elt Ideal) f) (funext fun ax => Fin.ext (by fin_cases ax <;> simp [ix4, LoadRect.idx, Rect.unit, Rect.toLoadRect]))

/-! ## Loads after stores -/

/-- A load of one head's rows passes a store of another head's. -/
theorem skip_head {n : Nat} (v : View sig .tc .vmem ⟨3, ![4, 1024, n]⟩ .f32) (a b : Nat) (hab : a ≠ b) (inb inb')
    (w : (Rect.unit (s := ⟨3, ![4, 1024, n]⟩) ![a, 0, 0] (⟨3, ![1, 1024, n]⟩ : Shape).size inb).shape.Idx → Elt Ideal .f32)
    (L : List (View.Piece (Elt Ideal) ⟨3, ![4, 1024, n]⟩ .f32)) :
    v.readCov (⟨Rect.unit (s := ⟨3, ![4, 1024, n]⟩) ![a, 0, 0] (⟨3, ![1, 1024, n]⟩ : Shape).size inb, w⟩ :: L)
        (Rect.unit (s := ⟨3, ![4, 1024, n]⟩) ![b, 0, 0] (⟨3, ![1, 1024, n]⟩ : Shape).size inb').toLoadRect
      = v.readCov L (Rect.unit (s := ⟨3, ![4, 1024, n]⟩) ![b, 0, 0] (⟨3, ![1, 1024, n]⟩ : Shape).size inb').toLoadRect :=
  View.readCov_cons_of_disjoint v _ L _ (Rect.unit_disjoint (inb := inb) 0 (by simp; omega))

/-- A load of one head's scores of a slot passes a store to another head's or slot's. -/
theorem skip_slot (v : View sig .tc .vmem S2x4x1024x512 .f32) (s a s' b : Nat) (hab : s ≠ s' ∨ a ≠ b) (inb inb')
    (w : (Rect.unit (s := S2x4x1024x512) ![s, a, 0, 0] S1x1x1024x512.size inb).shape.Idx → Elt Ideal .f32)
    (L : List (View.Piece (Elt Ideal) S2x4x1024x512 .f32)) :
    v.readCov (⟨Rect.unit (s := S2x4x1024x512) ![s, a, 0, 0] S1x1x1024x512.size inb, w⟩ :: L)
        (Rect.unit (s := S2x4x1024x512) ![s', b, 0, 0] S1x1x1024x512.size inb').toLoadRect
      = v.readCov L (Rect.unit (s := S2x4x1024x512) ![s', b, 0, 0] S1x1x1024x512.size inb').toLoadRect := by
  rcases hab with h | h
  · exact View.readCov_cons_of_disjoint v _ L _ (Rect.unit_disjoint (inb := inb) 0 (by simp; omega))
  · exact View.readCov_cons_of_disjoint v _ L _ (Rect.unit_disjoint (inb := inb) 1 (by simp; omega))

/-- What one head's rows read after a store of them. -/
theorem read_head_hit {n : Nat} (v : View sig .tc .vmem ⟨3, ![4, 1024, n]⟩ .f32) (f : v.ty.Contents (Elt Ideal)) (h : Fin 4) (a : Nat)
    (ha : a = h.val) (inb)
    (w : (Rect.unit (s := ⟨3, ![4, 1024, n]⟩) ![a, 0, 0] (⟨3, ![1, 1024, n]⟩ : Shape).size inb).shape.Idx → Elt Ideal .f32)
    (L : List (View.Piece (Elt Ideal) ⟨3, ![4, 1024, n]⟩ .f32)) (r : Fin 1024) (l : Fin n) :
    v.read (Elt Ideal) (v.writes (Elt Ideal) f (⟨Rect.unit (s := ⟨3, ![4, 1024, n]⟩) ![a, 0, 0] (⟨3, ![1, 1024, n]⟩ : Shape).size inb, w⟩ :: L))
        (ix3 h r l) = w (ix3 0 r l) := by
  subst ha
  exact View.read_writes_cons_unit_of_mem v f inb w L _ (ix3 0 r l) rfl (fun ax => by fin_cases ax <;> simp [ix3])

/-- What one head's rows read after a store of another head's. -/
theorem read_head_miss {n : Nat} (v : View sig .tc .vmem ⟨3, ![4, 1024, n]⟩ .f32) (f : v.ty.Contents (Elt Ideal)) (h : Fin 4) (a : Nat)
    (ha : a ≠ h.val) (inb)
    (w : (Rect.unit (s := ⟨3, ![4, 1024, n]⟩) ![a, 0, 0] (⟨3, ![1, 1024, n]⟩ : Shape).size inb).shape.Idx → Elt Ideal .f32)
    (L : List (View.Piece (Elt Ideal) ⟨3, ![4, 1024, n]⟩ .f32)) (r : Fin 1024) (l : Fin n) :
    v.read (Elt Ideal) (v.writes (Elt Ideal) f (⟨Rect.unit (s := ⟨3, ![4, 1024, n]⟩) ![a, 0, 0] (⟨3, ![1, 1024, n]⟩ : Shape).size inb, w⟩ :: L))
        (ix3 h r l) = v.read (Elt Ideal) (v.writes (Elt Ideal) f L) (ix3 h r l) :=
  View.read_writes_cons_unit_of_not_mem v f inb w L _ rfl 0 (by
    show h.val < a ∨ a + 1 ≤ h.val
    omega)

/-- What a slot's scores read after a store of them. -/
theorem read_slot_hit (v : View sig .tc .vmem S2x4x1024x512 .f32) (f : v.ty.Contents (Elt Ideal)) (s : Fin 2) (h : Fin 4) (t a : Nat)
    (ht : t = s.val) (ha : a = h.val) (inb)
    (w : (Rect.unit (s := S2x4x1024x512) ![t, a, 0, 0] S1x1x1024x512.size inb).shape.Idx → Elt Ideal .f32)
    (L : List (View.Piece (Elt Ideal) S2x4x1024x512 .f32)) (r : Fin 1024) (k : Fin 512) :
    v.read (Elt Ideal) (v.writes (Elt Ideal) f (⟨Rect.unit (s := S2x4x1024x512) ![t, a, 0, 0] S1x1x1024x512.size inb, w⟩ :: L))
        (ix4 s h r k) = w (ix4 0 0 r k) := by
  subst ha ht
  exact View.read_writes_cons_unit_of_mem v f inb w L _ (ix4 0 0 r k) rfl (fun ax => by fin_cases ax <;> simp [ix4])

/-- What a slot's scores read after a store of another head's or slot's. -/
theorem read_slot_miss (v : View sig .tc .vmem S2x4x1024x512 .f32) (f : v.ty.Contents (Elt Ideal)) (s : Fin 2) (h : Fin 4) (t a : Nat)
    (ha : t ≠ s.val ∨ a ≠ h.val) (inb)
    (w : (Rect.unit (s := S2x4x1024x512) ![t, a, 0, 0] S1x1x1024x512.size inb).shape.Idx → Elt Ideal .f32)
    (L : List (View.Piece (Elt Ideal) S2x4x1024x512 .f32)) (r : Fin 1024) (k : Fin 512) :
    v.read (Elt Ideal) (v.writes (Elt Ideal) f (⟨Rect.unit (s := S2x4x1024x512) ![t, a, 0, 0] S1x1x1024x512.size inb, w⟩ :: L))
        (ix4 s h r k) = v.read (Elt Ideal) (v.writes (Elt Ideal) f L) (ix4 s h r k) := by
  rcases ha with ha | ha
  · exact View.read_writes_cons_unit_of_not_mem v f inb w L _ rfl 0 (by
      show s.val < t ∨ t + 1 ≤ s.val
      omega)
  · exact View.read_writes_cons_unit_of_not_mem v f inb w L _ rfl 1 (by
      show h.val < a ∨ a + 1 ≤ h.val
      omega)

end Cert.Proof.Attention
-- ==== Proof.Trip.lean ====
/-
  One trip of the kernel's loop over the key blocks, two blocks at a time: what it does to the running maxima and sums
  of the four heads, and what it leaves in the slot the next trip starts from.
-/
module

public import proofs.«01_k».proof.Proof.ReadBack

@[expose] public section

set_option maxRecDepth 16384

noncomputable section

open Idealize.ShloMosaic Idealize.ShloMosaic.TcCoe Idealize.SL.Sem

namespace Cert.Proof.Attention

open Cert.KernelIdeal Cert.KernelIdeal.Gen

/-! ## The scores and the sums, in real numbers -/

/-- The score, in base two, of stacked query row `r` of head `h` against key `n`. -/
def score (q : Fin 4 → Fin 1024 → Fin 128 → ℝ) (kr : ℕ → ℕ → ℝ) (h : Fin 4) (r : Fin 1024) (n : ℕ) : ℝ :=
  ∑ d : Fin 128, q h r d * kr n (128 * h.val + d.val)

/-- What key `n` adds to column `e` of head `h` of the sums, before it is weighed: its value in the first 128 columns,
    one in the others. -/
def colOf (vr : ℕ → ℕ → ℝ) (h : Fin 4) (n : ℕ) (e : Fin 256) : ℝ :=
  if e.val < 128 then vr n (128 * h.val + e.val) else 1

/-- What key block `j` adds to column `e`. -/
def blk (q : Fin 4 → Fin 1024 → Fin 128 → ℝ) (kr vr : ℕ → ℕ → ℝ) (h : Fin 4) (r : Fin 1024) (j : ℕ) (e : Fin 256) : ℝ :=
  ∑ k : Fin 512, (2 : ℝ) ^ score q kr h r (512 * j + k.val) * colOf vr h (512 * j + k.val) e

/-- The four heads' rows hold the sums over the diagonal block (`D`) and the key blocks before `n`. -/
def StateAt (arg9 : Memref sig .tc .vmem S4x1024x128 .f32) (arg10 : Memref sig .tc .vmem S4x1024x256 .f32)
    (f9 : arg9.view.ty.Contents (Elt Ideal)) (f10 : arg10.view.ty.Contents (Elt Ideal)) (D : Fin 4 → Fin 1024 → Fin 256 → ℝ)
    (q : Fin 4 → Fin 1024 → Fin 128 → ℝ) (kr vr : ℕ → ℕ → ℝ) (n : ℕ) : Prop :=
  ∀ (h : Fin 4) (r : Fin 1024), Row (fun e => D h r e + ∑ j ∈ Finset.range n, blk q kr vr h r j e)
    (fun l => arg9.view.read (Elt Ideal) f9 (ix3 h r l)) (fun e => arg10.view.read (Elt Ideal) f10 (ix3 h r e))

/-- Slot `s` holds the four heads' scores against key block `j`. -/
def SlotAt (arg11 : Memref sig .tc .vmem S2x4x1024x512 .f32) (f11 : arg11.view.ty.Contents (Elt Ideal)) (s : Fin 2) (j : ℕ)
    (q : Fin 4 → Fin 1024 → Fin 128 → ℝ) (kr : ℕ → ℕ → ℝ) : Prop :=
  ∀ (h : Fin 4) (r : Fin 1024) (k : Fin 512),
    arg11.view.read (Elt Ideal) f11 (ix4 s h r k) = ((score q kr h r (512 * j + k.val) : ℝ) : EReal)

theorem fin4 {P : Fin 4 → Prop} (h0 : P 0) (h1 : P 1) (h2 : P 2) (h3 : P 3) : ∀ h, P h :=
  fun h => match h with | 0 => h0 | 1 => h1 | 2 => h2 | 3 => h3

theorem row_congr {W : Fin 256 → ℝ} {m m' : Fin 128 → EReal} {a a' : Fin 256 → EReal} (hm : ∀ l, m' l = m l)
    (ha : ∀ e, a' e = a e) (h : Row W m a) : Row W m' a' := by
  rw [show m' = m from funext hm, show a' = a from funext ha]; exact h

/-- A load of a block of one head's keys, in real numbers. -/
theorem load_key {arg4 : Memref sig .tc .vmem S1x4096x512 .bf16} (harg4 : arg4.IsWhole) (x1 : Vec Ideal S1x4096x512 .bf16)
    (kr : ℕ → ℕ → ℝ) (hx : ∀ (n : Fin 4096) (d : Fin 512), x1 (ix3 0 n d) = ((kr n.val d.val : ℝ) : EReal)) (h : Fin 4) (j : ℕ)
    (off : Fin 3 → Nat) (inb : ∀ a, off a + S1x512x128.size a ≤ S1x4096x512.size a) (ho : off = ![0, 512 * j, 128 * h.val])
    (hj : j < 8) (k : Fin 512) (d : Fin 128) :
    arg4.view.readAt (Elt Ideal) (Rect.unit (s := S1x4096x512) off S1x512x128.size inb).toLoadRect (harg4.unread x1) (ix3 0 k d)
      = ((kr (512 * j + k.val) (128 * h.val + d.val) : ℝ) : EReal) :=
  (load_block arg4 harg4 x1 off inb _ _ ho k d (by omega) (by omega)).trans (hx ⟨_, by omega⟩ ⟨_, by omega⟩)

/-- A load of a block of one head's values, in real numbers. -/
theorem load_val {arg5 : Memref sig .tc .vmem S1x4096x512 .bf16} (harg5 : arg5.IsWhole) (x2 : Vec Ideal S1x4096x512 .bf16)
    (vr : ℕ → ℕ → ℝ) (hx : ∀ (n : Fin 4096) (d : Fin 512), x2 (ix3 0 n d) = ((vr n.val d.val : ℝ) : EReal)) (h : Fin 4) (j : ℕ)
    (off : Fin 3 → Nat) (inb : ∀ a, off a + S1x512x128.size a ≤ S1x4096x512.size a) (ho : off = ![0, 512 * j, 128 * h.val])
    (hj : j < 8) (k : Fin 512) (d : Fin 128) :
    arg5.view.readAt (Elt Ideal) (Rect.unit (s := S1x4096x512) off S1x512x128.size inb).toLoadRect (harg5.unread x2) (ix3 0 k d)
      = ((vr (512 * j + k.val) (128 * h.val + d.val) : ℝ) : EReal) :=
  load_key harg5 x2 vr hx h j off inb ho hj k d

/-- The scores of one head's queries against a block of its keys, in real numbers. -/
theorem scores_real (q : Fin 4 → Fin 1024 → Fin 128 → ℝ) (kr : ℕ → ℕ → ℝ) (h : Fin 4) (j : ℕ) (qv : FVec Ideal S1024x128 .bf16)
    (hq : ∀ r d, qv (ix2 r d) = ((q h r d : ℝ) : EReal)) (kb : Vec Ideal S1x512x128 .bf16)
    (hk : ∀ (k : Fin 512) (d : Fin 128), kb (ix3 0 k d) = ((kr (512 * j + k.val) (128 * h.val + d.val) : ℝ) : EReal))
    (r : Fin 1024) (k : Fin 512) :
    k0_pay162 qv kb (ix4 0 0 r k) = ((score q kr h r (512 * j + k.val) : ℝ) : EReal) := by
  pointwise [k0_pay162]
  simp only [hq, hk, ← EReal.coe_mul]
  rw [coe_sum]
  simp [score]

theorem colVal_real (vr : ℕ → ℕ → ℝ) (h : Fin 4) (j : ℕ) (ones : FVec Ideal S512x128 .bf16) (hones : ∀ k d, ones (ix2 k d) = 1)
    (v : FVec Ideal S1x512x128 .bf16)
    (hv : ∀ (k : Fin 512) (d : Fin 128), v (ix3 0 k d) = ((vr (512 * j + k.val) (128 * h.val + d.val) : ℝ) : EReal))
    (k : Fin 512) (e : Fin 256) : colVal ones v k e = ((colOf vr h (512 * j + k.val) e : ℝ) : EReal) := by
  unfold colVal colOf
  split
  · exact hv k _
  · rw [hones]; rfl

/-- One more key block. -/
theorem fold_one (D : Fin 4 → Fin 1024 → Fin 256 → ℝ) (q : Fin 4 → Fin 1024 → Fin 128 → ℝ) (kr vr : ℕ → ℕ → ℝ) (h : Fin 4)
    (r : Fin 1024) (j : ℕ) (ones : FVec Ideal S512x128 .bf16) (hones : ∀ k d, ones (ix2 k d) = 1)
    (s : FVec Ideal S1x1x1024x512 .f32) (mo : FVec Ideal S1x1024x128 .f32) (ao : FVec Ideal S1x1024x256 .f32)
    (v : FVec Ideal S1x512x128 .bf16)
    (hs : ∀ k : Fin 512, s (ix4 0 0 r k) = ((score q kr h r (512 * j + k.val) : ℝ) : EReal))
    (hv : ∀ (k : Fin 512) (d : Fin 128), v (ix3 0 k d) = ((vr (512 * j + k.val) (128 * h.val + d.val) : ℝ) : EReal))
    (hR : Row (fun e => D h r e + ∑ j ∈ Finset.range j, blk q kr vr h r j e) (fun l => mo (ix3 0 r l)) (fun e => ao (ix3 0 r e))) :
    Row (fun e => D h r e + ∑ j ∈ Finset.range (j + 1), blk q kr vr h r j e) (fun l => stepM s mo (ix3 0 r l))
      (fun e => stepA ones s mo v ao (ix3 0 r e)) := by
  have := step_row ones s mo v ao r _ (fun k => (2 : ℝ) ^ score q kr h r (512 * j + k.val)) (fun k e => colOf vr h (512 * j + k.val) e)
    (fun k => Or.inr ⟨_, hs k, rfl⟩) (colVal_real vr h j ones hones v hv) hR
  simpa only [Finset.sum_range_succ, add_assoc, blk] using this

/-- Two more key blocks, the second from the rows the first left. -/
theorem fold_two (D : Fin 4 → Fin 1024 → Fin 256 → ℝ) (q : Fin 4 → Fin 1024 → Fin 128 → ℝ) (kr vr : ℕ → ℕ → ℝ) (h : Fin 4)
    (r : Fin 1024) (j : ℕ) (hj : j < 8) (ones : FVec Ideal S512x128 .bf16) (hones : ∀ k d, ones (ix2 k d) = 1)
    (s : FVec Ideal S1x1x1024x512 .f32) (mo : FVec Ideal S1x1024x128 .f32) (ao : FVec Ideal S1x1024x256 .f32)
    (v : FVec Ideal S1x512x128 .bf16)
    (s' : FVec Ideal S1x1x1024x512 .f32) (mo' : FVec Ideal S1x1024x128 .f32) (ao' : FVec Ideal S1x1024x256 .f32)
    (v' : FVec Ideal S1x512x128 .bf16)
    (hs : ∀ k : Fin 512, s (ix4 0 0 r k) = ((score q kr h r (512 * j + k.val) : ℝ) : EReal))
    (hv : ∀ (k : Fin 512) (d : Fin 128), v (ix3 0 k d) = ((vr (512 * j + k.val) (128 * h.val + d.val) : ℝ) : EReal))
    (hs' : ∀ k : Fin 512, s' (ix4 0 0 r k) = ((score q kr h r (512 * (j + 1) + k.val) : ℝ) : EReal))
    (hv' : ∀ (k : Fin 512) (d : Fin 128), v' (ix3 0 k d) = ((vr (512 * (j + 1) + k.val) (128 * h.val + d.val) : ℝ) : EReal))
    (hm : mo' = stepM s mo) (ha : ao' = stepA ones s mo v ao)
    (hR : Row (fun e => D h r e + ∑ j ∈ Finset.range j, blk q kr vr h r j e) (fun l => mo (ix3 0 r l)) (fun e => ao (ix3 0 r e))) :
    Row (fun e => D h r e + ∑ j ∈ Finset.range (j + 2), blk q kr vr h r j e) (fun l => stepM s' mo' (ix3 0 r l))
      (fun e => stepA ones s' mo' v' ao' (ix3 0 r e)) := by
  subst hm ha
  exact fold_one D q kr vr h r (j + 1) ones hones s' _ _ v' hs' hv' (fold_one D q kr vr h r j ones hones s mo ao v hs hv hR)

/-! ## The trip -/

variable (𝒱 : Variants) (c : Dev nD) (bd : Option 𝒱.V) (i : grid0.Coords) (arg3 : Memref sig .tc .vmem S1x512x512 .bf16)
  (harg3 : arg3.IsWhole) (arg4 : Memref sig .tc .vmem S1x4096x512 .bf16) (harg4 : arg4.IsWhole)
  (arg5 : Memref sig .tc .vmem S1x4096x512 .bf16) (harg5 : arg5.IsWhole) (arg6 : Memref sig .tc .vmem S4x64 .f32)
  (harg6 : arg6.IsWhole) (arg7 : Memref sig .tc .vmem S1x128 .f32) (harg7 : arg7.IsWhole)
  (arg8 : Memref sig .tc .vmem S1x512x512 .bf16) (harg8 : arg8.IsWhole) (arg9 : Memref sig .tc .vmem S4x1024x128 .f32)
  (harg9 : arg9.IsWhole) (arg10 : Memref sig .tc .vmem S4x1024x256 .f32) (harg10 : arg10.IsWhole)
  (arg11 : Memref sig .tc .vmem S2x4x1024x512 .f32) (harg11 : arg11.IsWhole) (arg2 : BitVec 32)
  (v17 v30 v43 v56 : FVec Ideal S1024x128 .bf16) (v57 : FVec Ideal S512x128 .bf16) (hones : ∀ k d, v57 (ix2 k d) = 1)
  (x1 x2 : Vec Ideal S1x4096x512 .bf16) (q : Fin 4 → Fin 1024 → Fin 128 → ℝ) (kr vr : ℕ → ℕ → ℝ)
  (hq0 : ∀ r d, v17 (ix2 r d) = ((q 0 r d : ℝ) : EReal)) (hq1 : ∀ r d, v30 (ix2 r d) = ((q 1 r d : ℝ) : EReal))
  (hq2 : ∀ r d, v43 (ix2 r d) = ((q 2 r d : ℝ) : EReal)) (hq3 : ∀ r d, v56 (ix2 r d) = ((q 3 r d : ℝ) : EReal))
  (hx1 : ∀ (n : Fin 4096) (d : Fin 512), x1 (ix3 0 n d) = ((kr n.val d.val : ℝ) : EReal))
  (hx2 : ∀ (n : Fin 4096) (d : Fin 512), x2 (ix3 0 n d) = ((vr n.val d.val : ℝ) : EReal))
  (D : Fin 4 → Fin 1024 → Fin 256 → ℝ) (k : Fin (k0_t1_loop i).trips)
  (f9 : arg9.view.ty.Contents (Elt Ideal)) (f10 : arg10.view.ty.Contents (Elt Ideal)) (f11 : arg11.view.ty.Contents (Elt Ideal))

include hones hq0 hq1 hq2 hq3 hx1 hx2

/-- Head 0: a trip folds two blocks of keys into the row. -/
theorem trip_head0 (hs : SlotAt arg11 f11 1 (2 * k.val) q kr) (hS : StateAt arg9 arg10 f9 f10 D q kr vr (2 * k.val)) (r : Fin 1024) :
    Row (fun e => D 0 r e + ∑ j ∈ Finset.range (2 * k.val + 2), blk q kr vr 0 r j e)
      (fun l => (trip_k0_t1.sl.v638 (F := Ideal) i arg4 arg9 arg11 v17 v30 v43 v56 (harg4.unread x1) k f9 f11) (ix3 0 r l))
      (fun e => (trip_k0_t1.sl.v659 (F := Ideal) i arg4 arg5 arg9 arg10 arg11 v17 v30 v43 v56 v57 (harg4.unread x1) (harg5.unread x2) k f9 f10 f11) (ix3 0 r e)) := by
  have hk := k.isLt
  have h8 := (i 2).isLt
  have ht := trips1 i
  have hmin : min (2 * k.val + 1) ((i 2).val - 1) = 2 * k.val + 1 := by omega
  have hj : 2 * k.val + 1 < 8 := by
    have : (i 2).val < 8 := h8
    omega
  refine fold_two D q kr vr 0 r (2 * k.val) (by omega) v57 hones (trip_k0_t1.sl.v459 (F := Ideal) arg11 f11) _ _
    (arg5.view.readAt (Elt Ideal) (Rect.unit (s := S1x4096x512) (k0_off9 i k) S1x512x128.size (k0_off9_inb i k)).toLoadRect (harg5.unread x2))
    (trip_k0_t1.sl.v628 (F := Ideal) i arg4 arg11 v17 v30 v43 v56 (harg4.unread x1) k)
    (trip_k0_t1.sl.v630 (F := Ideal) arg9 arg11 f9 f11)
    (trip_k0_t1.sl.v652 (F := Ideal) i arg5 arg9 arg10 arg11 v57 (harg5.unread x2) k f9 f10 f11)
    (arg5.view.readAt (Elt Ideal) (Rect.unit (s := S1x4096x512) (k0_off13 i k) S1x512x128.size (k0_off13_inb i k)).toLoadRect (harg5.unread x2))
    ?_ (load_val harg5 x2 vr hx2 0 _ _ _ (off9 i k) (by omega)) ?_ (load_val harg5 x2 vr hx2 0 _ _ _ (off13 i k) hj) ((skip_head _ 3 0 (by decide) _ _ _ _).trans ((skip_head _ 2 0 (by decide) _ _ _ _).trans ((skip_head _ 1 0 (by decide) _ _ _ _).trans (View.readCov_cons_toLoadRect _ _ _ _)))) ((skip_head _ 3 0 (by decide) _ _ _ _).trans ((skip_head _ 2 0 (by decide) _ _ _ _).trans ((skip_head _ 1 0 (by decide) _ _ _ _).trans (View.readCov_cons_toLoadRect _ _ _ _)))) (row_congr (fun l => load_head _ _ 0 _ r l) (fun e => load_head _ _ 0 _ r e) (hS 0 r))
  · exact fun kk => (load_slot _ _ 1 0 _ r kk).trans (hs 0 r kk)
  · have e : (trip_k0_t1.sl.v628 (F := Ideal) i arg4 arg11 v17 v30 v43 v56 (harg4.unread x1) k) = (trip_k0_t1.sl.v431 (F := Ideal) i arg4 v17 (harg4.unread x1) k) := (skip_slot _ 1 3 0 0 (by decide) _ _ _ _).trans ((skip_slot _ 1 2 0 0 (by decide) _ _ _ _).trans ((skip_slot _ 1 1 0 0 (by decide) _ _ _ _).trans ((skip_slot _ 1 0 0 0 (by decide) _ _ _ _).trans ((skip_slot _ 0 3 0 0 (by decide) _ _ _ _).trans ((skip_slot _ 0 2 0 0 (by decide) _ _ _ _).trans ((skip_slot _ 0 1 0 0 (by decide) _ _ _ _).trans (View.readCov_cons_toLoadRect _ _ _ _)))))))
    rw [e]
    exact scores_real q kr 0 _ v17 hq0 _ (load_key harg4 x1 kr hx1 0 _ _ _ ((off5a i k).trans (by rw [hmin]; rfl)) hj) r

/-- Head 1: a trip folds two blocks of keys into the row. -/
theorem trip_head1 (hs : SlotAt arg11 f11 1 (2 * k.val) q kr) (hS : StateAt arg9 arg10 f9 f10 D q kr vr (2 * k.val)) (r : Fin 1024) :
    Row (fun e => D 1 r e + ∑ j ∈ Finset.range (2 * k.val + 2), blk q kr vr 1 r j e)
      (fun l => (trip_k0_t1.sl.v670 (F := Ideal) i arg4 arg9 arg11 v17 v30 v43 v56 (harg4.unread x1) k f9 f11) (ix3 0 r l))
      (fun e => (trip_k0_t1.sl.v691 (F := Ideal) i arg4 arg5 arg9 arg10 arg11 v17 v30 v43 v56 v57 (harg4.unread x1) (harg5.unread x2) k f9 f10 f11) (ix3 0 r e)) := by
  have hk := k.isLt
  have h8 := (i 2).isLt
  have ht := trips1 i
  have hmin : min (2 * k.val + 1) ((i 2).val - 1) = 2 * k.val + 1 := by omega
  have hj : 2 * k.val + 1 < 8 := by
    have : (i 2).val < 8 := h8
    omega
  refine fold_two D q kr vr 1 r (2 * k.val) (by omega) v57 hones (trip_k0_t1.sl.v491 (F := Ideal) arg11 f11) _ _
    (arg5.view.readAt (Elt Ideal) (Rect.unit (s := S1x4096x512) (k0_off10 i k) S1x512x128.size (k0_off10_inb i k)).toLoadRect (harg5.unread x2))
    (trip_k0_t1.sl.v660 (F := Ideal) i arg4 arg11 v17 v30 v43 v56 (harg4.unread x1) k)
    (trip_k0_t1.sl.v662 (F := Ideal) i arg4 arg9 arg11 v17 v30 v43 v56 (harg4.unread x1) k f9 f11)
    (trip_k0_t1.sl.v684 (F := Ideal) i arg4 arg5 arg9 arg10 arg11 v17 v30 v43 v56 v57 (harg4.unread x1) (harg5.unread x2) k f9 f10 f11)
    (arg5.view.readAt (Elt Ideal) (Rect.unit (s := S1x4096x512) (k0_off14 i k) S1x512x128.size (k0_off14_inb i k)).toLoadRect (harg5.unread x2))
    ?_ (load_val harg5 x2 vr hx2 1 _ _ _ (off10 i k) (by omega)) ?_ (load_val harg5 x2 vr hx2 1 _ _ _ (off14 i k) hj) ((skip_head _ 0 1 (by decide) _ _ _ _).trans ((skip_head _ 3 1 (by decide) _ _ _ _).trans ((skip_head _ 2 1 (by decide) _ _ _ _).trans (View.readCov_cons_toLoadRect _ _ _ _)))) ((skip_head _ 0 1 (by decide) _ _ _ _).trans ((skip_head _ 3 1 (by decide) _ _ _ _).trans ((skip_head _ 2 1 (by decide) _ _ _ _).trans (View.readCov_cons_toLoadRect _ _ _ _)))) (row_congr (fun l => load_head _ _ 1 _ r l) (fun e => load_head _ _ 1 _ r e) (hS 1 r))
  · exact fun kk => (load_slot _ _ 1 1 _ r kk).trans (hs 1 r kk)
  · have e : (trip_k0_t1.sl.v660 (F := Ideal) i arg4 arg11 v17 v30 v43 v56 (harg4.unread x1) k) = (trip_k0_t1.sl.v440 (F := Ideal) i arg4 v30 (harg4.unread x1) k) := (skip_slot _ 1 3 0 1 (by decide) _ _ _ _).trans ((skip_slot _ 1 2 0 1 (by decide) _ _ _ _).trans ((skip_slot _ 1 1 0 1 (by decide) _ _ _ _).trans ((skip_slot _ 1 0 0 1 (by decide) _ _ _ _).trans ((skip_slot _ 0 3 0 1 (by decide) _ _ _ _).trans ((skip_slot _ 0 2 0 1 (by decide) _ _ _ _).trans (View.readCov_cons_toLoadRect _ _ _ _))))))
    rw [e]
    exact scores_real q kr 1 _ v30 hq1 _ (load_key harg4 x1 kr hx1 1 _ _ _ ((off6a i k).trans (by rw [hmin]; rfl)) hj) r

/-- Head 2: a trip folds two blocks of keys into the row. -/
theorem trip_head2 (hs : SlotAt arg11 f11 1 (2 * k.val) q kr) (hS : StateAt arg9 arg10 f9 f10 D q kr vr (2 * k.val)) (r : Fin 1024) :
    Row (fun e => D 2 r e + ∑ j ∈ Finset.range (2 * k.val + 2), blk q kr vr 2 r j e)
      (fun l => (trip_k0_t1.sl.v702 (F := Ideal) i arg4 arg9 arg11 v17 v30 v43 v56 (harg4.unread x1) k f9 f11) (ix3 0 r l))
      (fun e => (trip_k0_t1.sl.v723 (F := Ideal) i arg4 arg5 arg9 arg10 arg11 v17 v30 v43 v56 v57 (harg4.unread x1) (harg5.unread x2) k f9 f10 f11) (ix3 0 r e)) := by
  have hk := k.isLt
  have h8 := (i 2).isLt
  have ht := trips1 i
  have hmin : min (2 * k.val + 1) ((i 2).val - 1) = 2 * k.val + 1 := by omega
  have hj : 2 * k.val + 1 < 8 := by
    have : (i 2).val < 8 := h8
    omega
  refine fold_two D q kr vr 2 r (2 * k.val) (by omega) v57 hones (trip_k0_t1.sl.v523 (F := Ideal) arg11 f11) _ _
    (arg5.view.readAt (Elt Ideal) (Rect.unit (s := S1x4096x512) (k0_off11 i k) S1x512x128.size (k0_off11_inb i k)).toLoadRect (harg5.unread x2))
    (trip_k0_t1.sl.v692 (F := Ideal) i arg4 arg11 v17 v30 v43 v56 (harg4.unread x1) k)
    (trip_k0_t1.sl.v694 (F := Ideal) i arg4 arg9 arg11 v17 v30 v43 v56 (harg4.unread x1) k f9 f11)
    (trip_k0_t1.sl.v716 (F := Ideal) i arg4 arg5 arg9 arg10 arg11 v17 v30 v43 v56 v57 (harg4.unread x1) (harg5.unread x2) k f9 f10 f11)
    (arg5.view.readAt (Elt Ideal) (Rect.unit (s := S1x4096x512) (k0_off15 i k) S1x512x128.size (k0_off15_inb i k)).toLoadRect (harg5.unread x2))
    ?_ (load_val harg5 x2 vr hx2 2 _ _ _ (off11 i k) (by omega)) ?_ (load_val harg5 x2 vr hx2 2 _ _ _ (off15 i k) hj) ((skip_head _ 1 2 (by decide) _ _ _ _).trans ((skip_head _ 0 2 (by decide) _ _ _ _).trans ((skip_head _ 3 2 (by decide) _ _ _ _).trans (View.readCov_cons_toLoadRect _ _ _ _)))) ((skip_head _ 1 2 (by decide) _ _ _ _).trans ((skip_head _ 0 2 (by decide) _ _ _ _).trans ((skip_head _ 3 2 (by decide) _ _ _ _).trans (View.readCov_cons_toLoadRect _ _ _ _)))) (row_congr (fun l => load_head _ _ 2 _ r l) (fun e => load_head _ _ 2 _ r e) (hS 2 r))
  · exact fun kk => (load_slot _ _ 1 2 _ r kk).trans (hs 2 r kk)
  · have e : (trip_k0_t1.sl.v692 (F := Ideal) i arg4 arg11 v17 v30 v43 v56 (harg4.unread x1) k) = (trip_k0_t1.sl.v449 (F := Ideal) i arg4 v43 (harg4.unread x1) k) := (skip_slot _ 1 3 0 2 (by decide) _ _ _ _).trans ((skip_slot _ 1 2 0 2 (by decide) _ _ _ _).trans ((skip_slot _ 1 1 0 2 (by decide) _ _ _ _).trans ((skip_slot _ 1 0 0 2 (by decide) _ _ _ _).trans ((skip_slot _ 0 3 0 2 (by decide) _ _ _ _).trans (View.readCov_cons_toLoadRect _ _ _ _)))))
    rw [e]
    exact scores_real q kr 2 _ v43 hq2 _ (load_key harg4 x1 kr hx1 2 _ _ _ ((off7a i k).trans (by rw [hmin]; rfl)) hj) r

/-- Head 3: a trip folds two blocks of keys into the row. -/
theorem trip_head3 (hs : SlotAt arg11 f11 1 (2 * k.val) q kr) (hS : StateAt arg9 arg10 f9 f10 D q kr vr (2 * k.val)) (r : Fin 1024) :
    Row (fun e => D 3 r e + ∑ j ∈ Finset.range (2 * k.val + 2), blk q kr vr 3 r j e)
      (fun l => (trip_k0_t1.sl.v734 (F := Ideal) i arg4 arg9 arg11 v17 v30 v43 v56 (harg4.unread x1) k f9 f11) (ix3 0 r l))
      (fun e => (k0_pay187 (trip_k0_t1.sl.v752 (F := Ideal) i arg4 arg5 arg9 arg10 arg11 v17 v30 v43 v56 v57 (harg4.unread x1) (harg5.unread x2) k f9 f10 f11)) (ix3 0 r e)) := by
  have hk := k.isLt
  have h8 := (i 2).isLt
  have ht := trips1 i
  have hmin : min (2 * k.val + 1) ((i 2).val - 1) = 2 * k.val + 1 := by omega
  have hj : 2 * k.val + 1 < 8 := by
    have : (i 2).val < 8 := h8
    omega
  refine fold_two D q kr vr 3 r (2 * k.val) (by omega) v57 hones (trip_k0_t1.sl.v555 (F := Ideal) arg11 f11) _ _
    (arg5.view.readAt (Elt Ideal) (Rect.unit (s := S1x4096x512) (k0_off12 i k) S1x512x128.size (k0_off12_inb i k)).toLoadRect (harg5.unread x2))
    (trip_k0_t1.sl.v724 (F := Ideal) i arg4 arg11 v17 v30 v43 v56 (harg4.unread x1) k)
    (trip_k0_t1.sl.v726 (F := Ideal) i arg4 arg9 arg11 v17 v30 v43 v56 (harg4.unread x1) k f9 f11)
    (trip_k0_t1.sl.v748 (F := Ideal) i arg4 arg5 arg9 arg10 arg11 v17 v30 v43 v56 v57 (harg4.unread x1) (harg5.unread x2) k f9 f10 f11)
    (arg5.view.readAt (Elt Ideal) (Rect.unit (s := S1x4096x512) (k0_off16 i k) S1x512x128.size (k0_off16_inb i k)).toLoadRect (harg5.unread x2))
    ?_ (load_val harg5 x2 vr hx2 3 _ _ _ (off12 i k) (by omega)) ?_ (load_val harg5 x2 vr hx2 3 _ _ _ (off16 i k) hj) ((skip_head _ 2 3 (by decide) _ _ _ _).trans ((skip_head _ 1 3 (by decide) _ _ _ _).trans ((skip_head _ 0 3 (by decide) _ _ _ _).trans (View.readCov_cons_toLoadRect _ _ _ _)))) ((skip_head _ 2 3 (by decide) _ _ _ _).trans ((skip_head _ 1 3 (by decide) _ _ _ _).trans ((skip_head _ 0 3 (by decide) _ _ _ _).trans (View.readCov_cons_toLoadRect _ _ _ _)))) (row_congr (fun l => load_head _ _ 3 _ r l) (fun e => load_head _ _ 3 _ r e) (hS 3 r))
  · exact fun kk => (load_slot _ _ 1 3 _ r kk).trans (hs 3 r kk)
  · have e : (trip_k0_t1.sl.v724 (F := Ideal) i arg4 arg11 v17 v30 v43 v56 (harg4.unread x1) k) = (trip_k0_t1.sl.v458 (F := Ideal) i arg4 v56 (harg4.unread x1) k) := (skip_slot _ 1 3 0 3 (by decide) _ _ _ _).trans ((skip_slot _ 1 2 0 3 (by decide) _ _ _ _).trans ((skip_slot _ 1 1 0 3 (by decide) _ _ _ _).trans ((skip_slot _ 1 0 0 3 (by decide) _ _ _ _).trans (View.readCov_cons_toLoadRect _ _ _ _))))
    rw [e]
    exact scores_real q kr 3 _ v56 hq3 _ (load_key harg4 x1 kr hx1 3 _ _ _ ((off8a i k).trans (by rw [hmin]; rfl)) hj) r

/-- A trip: two more blocks of keys folded into every head's rows. -/
theorem trip_state (hs : SlotAt arg11 f11 1 (2 * k.val) q kr) (hS : StateAt arg9 arg10 f9 f10 D q kr vr (2 * k.val)) :
    StateAt arg9 arg10 (arg9.view.writes (Elt Ideal) f9 (tripL_k0_t1 (F := Ideal) 𝒱 c bd i arg3 harg3 arg4 harg4 arg5 harg5 arg6 harg6 arg7 harg7 arg8 harg8 arg9 harg9 arg10 harg10 arg11 harg11 arg2 v17 v30 v43 v56 v57 (harg4.unread x1) (harg5.unread x2) k f9 f10 f11).1)
      (arg10.view.writes (Elt Ideal) f10 (tripL_k0_t1 (F := Ideal) 𝒱 c bd i arg3 harg3 arg4 harg4 arg5 harg5 arg6 harg6 arg7 harg7 arg8 harg8 arg9 harg9 arg10 harg10 arg11 harg11 arg2 v17 v30 v43 v56 v57 (harg4.unread x1) (harg5.unread x2) k f9 f10 f11).2.1) D q kr vr (2 * k.val + 2) := by
  unfold tripL_k0_t1 trip_k0_t1
  dsimp only
  refine fin4 ?_ ?_ ?_ ?_ <;> intro r
  · exact row_congr (fun x => (read_head_miss _ _ 0 3 (by decide) _ _ _ r x).trans ((read_head_miss _ _ 0 2 (by decide) _ _ _ r x).trans ((read_head_miss _ _ 0 1 (by decide) _ _ _ r x).trans (read_head_hit _ _ 0 0 rfl _ _ _ r x)))) (fun x => (read_head_miss _ _ 0 3 (by decide) _ _ _ r x).trans ((read_head_miss _ _ 0 2 (by decide) _ _ _ r x).trans ((read_head_miss _ _ 0 1 (by decide) _ _ _ r x).trans (read_head_hit _ _ 0 0 rfl _ _ _ r x))))
      (trip_head0 i arg4 harg4 arg5 harg5 arg9 arg10 arg11 v17 v30 v43 v56 v57 hones x1 x2 q kr vr hq0 hq1 hq2 hq3 hx1 hx2 D k f9 f10 f11 hs hS r)
  · exact row_congr (fun x => (read_head_miss _ _ 1 3 (by decide) _ _ _ r x).trans ((read_head_miss _ _ 1 2 (by decide) _ _ _ r x).trans (read_head_hit _ _ 1 1 rfl _ _ _ r x))) (fun x => (read_head_miss _ _ 1 3 (by decide) _ _ _ r x).trans ((read_head_miss _ _ 1 2 (by decide) _ _ _ r x).trans (read_head_hit _ _ 1 1 rfl _ _ _ r x)))
      (trip_head1 i arg4 harg4 arg5 harg5 arg9 arg10 arg11 v17 v30 v43 v56 v57 hones x1 x2 q kr vr hq0 hq1 hq2 hq3 hx1 hx2 D k f9 f10 f11 hs hS r)
  · exact row_congr (fun x => (read_head_miss _ _ 2 3 (by decide) _ _ _ r x).trans (read_head_hit _ _ 2 2 rfl _ _ _ r x)) (fun x => (read_head_miss _ _ 2 3 (by decide) _ _ _ r x).trans (read_head_hit _ _ 2 2 rfl _ _ _ r x))
      (trip_head2 i arg4 harg4 arg5 harg5 arg9 arg10 arg11 v17 v30 v43 v56 v57 hones x1 x2 q kr vr hq0 hq1 hq2 hq3 hx1 hx2 D k f9 f10 f11 hs hS r)
  · exact row_congr (fun x => read_head_hit _ _ 3 3 rfl _ _ _ r x) (fun x => read_head_hit _ _ 3 3 rfl _ _ _ r x)
      (trip_head3 i arg4 harg4 arg5 harg5 arg9 arg10 arg11 v17 v30 v43 v56 v57 hones x1 x2 q kr vr hq0 hq1 hq2 hq3 hx1 hx2 D k f9 f10 f11 hs hS r)

/-- A trip leaves in slot 1 the scores of the block it fetched last. -/
theorem trip_slot :
    SlotAt arg11 (arg11.view.writes (Elt Ideal) f11 (tripL_k0_t1 (F := Ideal) 𝒱 c bd i arg3 harg3 arg4 harg4 arg5 harg5 arg6 harg6 arg7 harg7 arg8 harg8 arg9 harg9 arg10 harg10 arg11 harg11 arg2 v17 v30 v43 v56 v57 (harg4.unread x1) (harg5.unread x2) k f9 f10 f11).2.2) 1 (min (2 * k.val + 2) ((i 2).val - 1)) q kr := by
  have hj : min (2 * k.val + 2) ((i 2).val - 1) < 8 := by
    have : (i 2).val < 8 := (i 2).isLt
    omega
  unfold tripL_k0_t1 trip_k0_t1
  dsimp only
  refine fin4 ?_ ?_ ?_ ?_ <;> intro r x
  · refine Eq.trans ((read_slot_miss _ _ 1 0 1 3 (by decide) _ _ _ r x).trans ((read_slot_miss _ _ 1 0 1 2 (by decide) _ _ _ r x).trans ((read_slot_miss _ _ 1 0 1 1 (by decide) _ _ _ r x).trans (read_slot_hit _ _ 1 0 1 0 rfl rfl _ _ _ r x)))) ?_
    exact scores_real q kr 0 _ v17 hq0 _ (load_key harg4 x1 kr hx1 0 _ _ _ (off5b i k) hj) r x
  · refine Eq.trans ((read_slot_miss _ _ 1 1 1 3 (by decide) _ _ _ r x).trans ((read_slot_miss _ _ 1 1 1 2 (by decide) _ _ _ r x).trans (read_slot_hit _ _ 1 1 1 1 rfl rfl _ _ _ r x))) ?_
    exact scores_real q kr 1 _ v30 hq1 _ (load_key harg4 x1 kr hx1 1 _ _ _ (off6b i k) hj) r x
  · refine Eq.trans ((read_slot_miss _ _ 1 2 1 3 (by decide) _ _ _ r x).trans (read_slot_hit _ _ 1 2 1 2 rfl rfl _ _ _ r x)) ?_
    exact scores_real q kr 2 _ v43 hq2 _ (load_key harg4 x1 kr hx1 2 _ _ _ (off7b i k) hj) r x
  · refine Eq.trans (read_slot_hit _ _ 1 3 1 3 rfl rfl _ _ _ r x) ?_
    exact scores_real q kr 3 _ v56 hq3 _ (load_key harg4 x1 kr hx1 3 _ _ _ (off8b i k) hj) r x

end Cert.Proof.Attention
-- ==== Proof.Loop.lean ====
/-
  The kernel's first block of keys (the block on the diagonal) and its loop over the blocks before it: what the four
  heads' rows hold when the loop ends.
-/
module

public import proofs.«01_k».proof.Proof.Trip

@[expose] public section

set_option maxRecDepth 16384

noncomputable section

open Idealize.ShloMosaic Idealize.ShloMosaic.TcCoe Idealize.SL.Sem

namespace Cert.Proof.Attention

open Cert.KernelIdeal Cert.KernelIdeal.Gen

/-! ## The block on the diagonal -/

/-- The row of a stacked query within its block, as the kernel computes it. -/
def rowWord (x : BitVec 32) : BitVec 32 :=
  Scalar.select
    (IntOp.andi
      (IntOp.xori (IntOp.cmpi CmpIPredicate.slt (IntOp.remsi ArithUnit.vector x (Scalar.select (Scalar.cmpi CmpIPredicate.eq 512#32 0#32) 1#32 512#32)) 0#32)
        (Scalar.cmpi CmpIPredicate.slt (Scalar.select (Scalar.cmpi CmpIPredicate.eq 512#32 0#32) 1#32 512#32) 0#32))
      (IntOp.cmpi CmpIPredicate.ne (IntOp.remsi ArithUnit.vector x (Scalar.select (Scalar.cmpi CmpIPredicate.eq 512#32 0#32) 1#32 512#32)) 0#32))
    (IntOp.addi (IntOp.remsi ArithUnit.vector x (Scalar.select (Scalar.cmpi CmpIPredicate.eq 512#32 0#32) 1#32 512#32)) (Scalar.select (Scalar.cmpi CmpIPredicate.eq 512#32 0#32) 1#32 512#32)) (IntOp.remsi ArithUnit.vector x (Scalar.select (Scalar.cmpi CmpIPredicate.eq 512#32 0#32) 1#32 512#32))

theorem row_mod : ∀ r : Fin 1024, rowWord (BitVec.ofNat 32 r.val) = BitVec.ofNat 32 (r.val % 512) := by decide +kernel

theorem ofNat_sle (a b : ℕ) (ha : a < 512) (hb : b < 512) : (BitVec.ofNat 32 a).sle (BitVec.ofNat 32 b) = decide (a ≤ b) := by
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

/-- The causal mask: a key at or before the query. -/
theorem mask_le (r : Fin 1024) (k : Fin 512) : k0_pay159 (ix2 r k) = if k.val ≤ r.val % 512 then 1#1 else 0#1 := by
  pointwise [k0_pay159]
  change IntOp.cmpi CmpIPredicate.sle (BitVec.ofNat 32 k.val) (rowWord (BitVec.ofNat 32 r.val)) = _
  rw [row_mod]
  have e := ofNat_sle k.val (r.val % 512) k.isLt (Nat.mod_lt _ (by decide))
  by_cases h : k.val ≤ r.val % 512
  · rw [if_pos h]
    rw [decide_eq_true h] at e
    simp [IntOp.cmpi, e]
  · rw [if_neg h]
    rw [decide_eq_false h] at e
    simp [IntOp.cmpi, e]

/-- What the block on the diagonal, key block `n`, adds to column `e`: the keys at or before the query. -/
def diagSum (q : Fin 4 → Fin 1024 → Fin 128 → ℝ) (kr vr : ℕ → ℕ → ℝ) (n : ℕ) (h : Fin 4) (r : Fin 1024) (e : Fin 256) : ℝ :=
  ∑ k : Fin 512, (if k.val ≤ r.val % 512 then (2 : ℝ) ^ score q kr h r (512 * n + k.val) else 0) * colOf vr h (512 * n + k.val) e

theorem select_le (r : Fin 1024) (k : Fin 512) (x : EReal) :
    Scalar.select (k0_pay159 (ix2 r k)) x ⊥ = if k.val ≤ r.val % 512 then x else ⊥ := by
  rw [mask_le]
  by_cases h : k.val ≤ r.val % 512
  · rw [if_pos h, if_pos h]; rfl
  · rw [if_neg h, if_neg h]; rfl

/-- One head's block on the diagonal. -/
theorem diag_head (q : Fin 4 → Fin 1024 → Fin 128 → ℝ) (kr vr : ℕ → ℕ → ℝ) (n : ℕ) (h : Fin 4) (r : Fin 1024)
    (ones : FVec Ideal S512x128 .bf16) (hones : ∀ k d, ones (ix2 k d) = 1) (s : FVec Ideal S1x1x1024x512 .f32)
    (v : FVec Ideal S1x512x128 .bf16)
    (hs : ∀ (r : Fin 1024) (k : Fin 512), s (ix4 0 0 r k) = ((score q kr h r (512 * n + k.val) : ℝ) : EReal))
    (hv : ∀ (k : Fin 512) (d : Fin 128), v (ix3 0 k d) = ((vr (512 * n + k.val) (128 * h.val + d.val) : ℝ) : EReal)) :
    Row (fun e => diagSum q kr vr n h r e + ∑ j ∈ Finset.range 0, blk q kr vr h r j e) (fun l => diagM k0_pay159 s (ix3 0 r l))
      (fun e => diagA ones k0_pay159 s v (ix3 0 r e)) := by
  simp only [Finset.range_zero, Finset.sum_empty, add_zero]
  refine diag_row ones k0_pay159 s v r (fun k => if k.val ≤ r.val % 512 then (2 : ℝ) ^ score q kr h r (512 * n + k.val) else 0)
    (fun k e => colOf vr h (512 * n + k.val) e) (fun k => ?_) ⟨⟨0, by omega⟩, ?_⟩ (colVal_real vr h n ones hones v hv)
  · rw [select_le, hs]
    by_cases hk : k.val ≤ r.val % 512
    · rw [if_pos hk, if_pos hk]; exact Or.inr ⟨_, rfl, rfl⟩
    · rw [if_neg hk, if_neg hk]; exact Or.inl ⟨rfl, rfl⟩
  · rw [select_le, hs, if_pos (Nat.zero_le _)]
    exact EReal.coe_ne_bot _

/-! ## What is stored before the loop -/

theorem inb_slot : ∀ (s : Fin 2) (h : Fin 4), ∀ a, (![s.val, h.val, 0, 0] : Fin 4 → Nat) a + S1x1x1024x512.size a ≤ S2x4x1024x512.size a := by decide
theorem inb_head9 : ∀ h : Fin 4, ∀ a, (![h.val, 0, 0] : Fin 3 → Nat) a + S1x1024x128.size a ≤ S4x1024x128.size a := by decide
theorem inb_head10 : ∀ h : Fin 4, ∀ a, (![h.val, 0, 0] : Fin 3 → Nat) a + S1x1024x256.size a ≤ S4x1024x256.size a := by decide
theorem inb_key : ∀ h : Fin 4, ∀ a, (![0, 0, 128 * h.val] : Fin 3 → Nat) a + S1x512x128.size a ≤ S1x4096x512.size a := by decide

variable (c : Dev nD) (i : grid0.Coords) (arg3 : Memref sig .tc .vmem S1x512x512 .bf16)
  (harg3 : arg3.IsWhole) (arg4 : Memref sig .tc .vmem S1x4096x512 .bf16) (harg4 : arg4.IsWhole)
  (arg5 : Memref sig .tc .vmem S1x4096x512 .bf16) (harg5 : arg5.IsWhole) (arg6 : Memref sig .tc .vmem S4x64 .f32)
  (harg6 : arg6.IsWhole) (arg7 : Memref sig .tc .vmem S1x128 .f32) (harg7 : arg7.IsWhole)
  (arg8 : Memref sig .tc .vmem S1x512x512 .bf16) (harg8 : arg8.IsWhole) (arg9 : Memref sig .tc .vmem S4x1024x128 .f32)
  (harg9 : arg9.IsWhole) (arg10 : Memref sig .tc .vmem S4x1024x256 .f32) (harg10 : arg10.IsWhole)
  (arg11 : Memref sig .tc .vmem S2x4x1024x512 .f32) (harg11 : arg11.IsWhole)
  (v17 v30 v43 v56 : FVec Ideal S1024x128 .bf16) (v57 : FVec Ideal S512x128 .bf16)
  (x1 x2 : Vec Ideal S1x4096x512 .bf16)

/-- The scores stored before the loop: the block on the diagonal in slot 0, block 0 in slot 1. -/
def start11 : List (View.Piece (Elt Ideal) S2x4x1024x512 .f32) :=
  [⟨Rect.unit (s := S2x4x1024x512) ![1, 3, 0, 0] S1x1x1024x512.size (inb_slot 1 3), k0_pay162 v56 (arg4.view.readAt (Elt Ideal) (Rect.unit (s := S1x4096x512) ![0, 0, 384] S1x512x128.size (inb_key 3)).toLoadRect (harg4.unread x1))⟩,
   ⟨Rect.unit (s := S2x4x1024x512) ![1, 2, 0, 0] S1x1x1024x512.size (inb_slot 1 2), k0_pay162 v43 (arg4.view.readAt (Elt Ideal) (Rect.unit (s := S1x4096x512) ![0, 0, 256] S1x512x128.size (inb_key 2)).toLoadRect (harg4.unread x1))⟩,
   ⟨Rect.unit (s := S2x4x1024x512) ![1, 1, 0, 0] S1x1x1024x512.size (inb_slot 1 1), k0_pay162 v30 (arg4.view.readAt (Elt Ideal) (Rect.unit (s := S1x4096x512) ![0, 0, 128] S1x512x128.size (inb_key 1)).toLoadRect (harg4.unread x1))⟩,
   ⟨Rect.unit (s := S2x4x1024x512) ![1, 0, 0, 0] S1x1x1024x512.size (inb_slot 1 0), k0_pay162 v17 (arg4.view.readAt (Elt Ideal) (Rect.unit (s := S1x4096x512) ![0, 0, 0] S1x512x128.size (inb_key 0)).toLoadRect (harg4.unread x1))⟩,
   ⟨Rect.unit (s := S2x4x1024x512) ![0, 3, 0, 0] S1x1x1024x512.size (inb_slot 0 3), k0_pay162 v56 (arg4.view.readAt (Elt Ideal) (Rect.unit (s := S1x4096x512) (k0_off4 i) S1x512x128.size (k0_off4_inb i)).toLoadRect (harg4.unread x1))⟩,
   ⟨Rect.unit (s := S2x4x1024x512) ![0, 2, 0, 0] S1x1x1024x512.size (inb_slot 0 2), k0_pay162 v43 (arg4.view.readAt (Elt Ideal) (Rect.unit (s := S1x4096x512) (k0_off3 i) S1x512x128.size (k0_off3_inb i)).toLoadRect (harg4.unread x1))⟩,
   ⟨Rect.unit (s := S2x4x1024x512) ![0, 1, 0, 0] S1x1x1024x512.size (inb_slot 0 1), k0_pay162 v30 (arg4.view.readAt (Elt Ideal) (Rect.unit (s := S1x4096x512) (k0_off2 i) S1x512x128.size (k0_off2_inb i)).toLoadRect (harg4.unread x1))⟩,
   ⟨Rect.unit (s := S2x4x1024x512) ![0, 0, 0, 0] S1x1x1024x512.size (inb_slot 0 0), k0_pay162 v17 (arg4.view.readAt (Elt Ideal) (Rect.unit (s := S1x4096x512) (k0_off1 i) S1x512x128.size (k0_off1_inb i)).toLoadRect (harg4.unread x1))⟩]

/-- The running maxima stored before the loop. -/
def start9 : List (View.Piece (Elt Ideal) S4x1024x128 .f32) :=
  [⟨Rect.unit (s := S4x1024x128) ![3, 0, 0] S1x1024x128.size (inb_head9 3), diagM k0_pay159 (arg11.view.readCov (start11 i arg4 harg4 v17 v30 v43 v56 x1) (Rect.unit (s := S2x4x1024x512) ![0, 3, 0, 0] S1x1x1024x512.size (inb_slot 0 3)).toLoadRect)⟩,
   ⟨Rect.unit (s := S4x1024x128) ![2, 0, 0] S1x1024x128.size (inb_head9 2), diagM k0_pay159 (arg11.view.readCov (start11 i arg4 harg4 v17 v30 v43 v56 x1) (Rect.unit (s := S2x4x1024x512) ![0, 2, 0, 0] S1x1x1024x512.size (inb_slot 0 2)).toLoadRect)⟩,
   ⟨Rect.unit (s := S4x1024x128) ![1, 0, 0] S1x1024x128.size (inb_head9 1), diagM k0_pay159 (arg11.view.readCov (start11 i arg4 harg4 v17 v30 v43 v56 x1) (Rect.unit (s := S2x4x1024x512) ![0, 1, 0, 0] S1x1x1024x512.size (inb_slot 0 1)).toLoadRect)⟩,
   ⟨Rect.unit (s := S4x1024x128) ![0, 0, 0] S1x1024x128.size (inb_head9 0), diagM k0_pay159 (arg11.view.readCov (start11 i arg4 harg4 v17 v30 v43 v56 x1) (Rect.unit (s := S2x4x1024x512) ![0, 0, 0, 0] S1x1x1024x512.size (inb_slot 0 0)).toLoadRect)⟩]

/-- The running sums stored before the loop. -/
def start10 : List (View.Piece (Elt Ideal) S4x1024x256 .f32) :=
  [⟨Rect.unit (s := S4x1024x256) ![3, 0, 0] S1x1024x256.size (inb_head10 3), diagA v57 k0_pay159 (arg11.view.readCov (start11 i arg4 harg4 v17 v30 v43 v56 x1) (Rect.unit (s := S2x4x1024x512) ![0, 3, 0, 0] S1x1x1024x512.size (inb_slot 0 3)).toLoadRect) (arg5.view.readAt (Elt Ideal) (Rect.unit (s := S1x4096x512) (k0_off4 i) S1x512x128.size (k0_off4_inb i)).toLoadRect (harg5.unread x2))⟩,
   ⟨Rect.unit (s := S4x1024x256) ![2, 0, 0] S1x1024x256.size (inb_head10 2), diagA v57 k0_pay159 (arg11.view.readCov (start11 i arg4 harg4 v17 v30 v43 v56 x1) (Rect.unit (s := S2x4x1024x512) ![0, 2, 0, 0] S1x1x1024x512.size (inb_slot 0 2)).toLoadRect) (arg5.view.readAt (Elt Ideal) (Rect.unit (s := S1x4096x512) (k0_off3 i) S1x512x128.size (k0_off3_inb i)).toLoadRect (harg5.unread x2))⟩,
   ⟨Rect.unit (s := S4x1024x256) ![1, 0, 0] S1x1024x256.size (inb_head10 1), diagA v57 k0_pay159 (arg11.view.readCov (start11 i arg4 harg4 v17 v30 v43 v56 x1) (Rect.unit (s := S2x4x1024x512) ![0, 1, 0, 0] S1x1x1024x512.size (inb_slot 0 1)).toLoadRect) (arg5.view.readAt (Elt Ideal) (Rect.unit (s := S1x4096x512) (k0_off2 i) S1x512x128.size (k0_off2_inb i)).toLoadRect (harg5.unread x2))⟩,
   ⟨Rect.unit (s := S4x1024x256) ![0, 0, 0] S1x1024x256.size (inb_head10 0), diagA v57 k0_pay159 (arg11.view.readCov (start11 i arg4 harg4 v17 v30 v43 v56 x1) (Rect.unit (s := S2x4x1024x512) ![0, 0, 0, 0] S1x1x1024x512.size (inb_slot 0 0)).toLoadRect) (arg5.view.readAt (Elt Ideal) (Rect.unit (s := S1x4096x512) (k0_off1 i) S1x512x128.size (k0_off1_inb i)).toLoadRect (harg5.unread x2))⟩]

variable (hones : ∀ k d, v57 (ix2 k d) = 1) (q : Fin 4 → Fin 1024 → Fin 128 → ℝ) (kr vr : ℕ → ℕ → ℝ)
  (hq0 : ∀ r d, v17 (ix2 r d) = ((q 0 r d : ℝ) : EReal)) (hq1 : ∀ r d, v30 (ix2 r d) = ((q 1 r d : ℝ) : EReal))
  (hq2 : ∀ r d, v43 (ix2 r d) = ((q 2 r d : ℝ) : EReal)) (hq3 : ∀ r d, v56 (ix2 r d) = ((q 3 r d : ℝ) : EReal))
  (hx1 : ∀ (n : Fin 4096) (d : Fin 512), x1 (ix3 0 n d) = ((kr n.val d.val : ℝ) : EReal))
  (hx2 : ∀ (n : Fin 4096) (d : Fin 512), x2 (ix3 0 n d) = ((vr n.val d.val : ℝ) : EReal))

include hones hq0 hq1 hq2 hq3 hx1 hx2

/-- Slot 1 starts with block 0's scores. -/
theorem start_slot (f : arg11.view.ty.Contents (Elt Ideal)) :
    SlotAt arg11 (arg11.view.writes (Elt Ideal) f (start11 i arg4 harg4 v17 v30 v43 v56 x1)) 1 0 q kr := by
  unfold start11
  refine fin4 ?_ ?_ ?_ ?_ <;> intro r x
  · refine Eq.trans ((read_slot_miss _ _ 1 0 1 3 (by decide) _ _ _ r x).trans ((read_slot_miss _ _ 1 0 1 2 (by decide) _ _ _ r x).trans ((read_slot_miss _ _ 1 0 1 1 (by decide) _ _ _ r x).trans (read_slot_hit _ _ 1 0 1 0 rfl rfl _ _ _ r x)))) ?_
    exact scores_real q kr 0 _ v17 hq0 _ (load_key harg4 x1 kr hx1 0 0 _ _ rfl (by omega)) r x
  · refine Eq.trans ((read_slot_miss _ _ 1 1 1 3 (by decide) _ _ _ r x).trans ((read_slot_miss _ _ 1 1 1 2 (by decide) _ _ _ r x).trans (read_slot_hit _ _ 1 1 1 1 rfl rfl _ _ _ r x))) ?_
    exact scores_real q kr 1 _ v30 hq1 _ (load_key harg4 x1 kr hx1 1 0 _ _ rfl (by omega)) r x
  · refine Eq.trans ((read_slot_miss _ _ 1 2 1 3 (by decide) _ _ _ r x).trans (read_slot_hit _ _ 1 2 1 2 rfl rfl _ _ _ r x)) ?_
    exact scores_real q kr 2 _ v43 hq2 _ (load_key harg4 x1 kr hx1 2 0 _ _ rfl (by omega)) r x
  · refine Eq.trans (read_slot_hit _ _ 1 3 1 3 rfl rfl _ _ _ r x) ?_
    exact scores_real q kr 3 _ v56 hq3 _ (load_key harg4 x1 kr hx1 3 0 _ _ rfl (by omega)) r x

/-- Head 0: the block on the diagonal's scores, read back. -/
theorem start_diag0 (r : Fin 1024) (k : Fin 512) : (arg11.view.readCov (start11 i arg4 harg4 v17 v30 v43 v56 x1) (Rect.unit (s := S2x4x1024x512) ![0, 0, 0, 0] S1x1x1024x512.size (inb_slot 0 0)).toLoadRect) (ix4 0 0 r k) = ((score q kr 0 r (512 * (i 2).val + k.val) : ℝ) : EReal) := by
  have e : (arg11.view.readCov (start11 i arg4 harg4 v17 v30 v43 v56 x1) (Rect.unit (s := S2x4x1024x512) ![0, 0, 0, 0] S1x1x1024x512.size (inb_slot 0 0)).toLoadRect) = k0_pay162 v17 (arg4.view.readAt (Elt Ideal) (Rect.unit (s := S1x4096x512) (k0_off1 i) S1x512x128.size (k0_off1_inb i)).toLoadRect (harg4.unread x1)) := by
    unfold start11
    exact (skip_slot _ 1 3 0 0 (by decide) _ _ _ _).trans ((skip_slot _ 1 2 0 0 (by decide) _ _ _ _).trans ((skip_slot _ 1 1 0 0 (by decide) _ _ _ _).trans ((skip_slot _ 1 0 0 0 (by decide) _ _ _ _).trans ((skip_slot _ 0 3 0 0 (by decide) _ _ _ _).trans ((skip_slot _ 0 2 0 0 (by decide) _ _ _ _).trans ((skip_slot _ 0 1 0 0 (by decide) _ _ _ _).trans (View.readCov_cons_toLoadRect _ _ _ _)))))))
  rw [e]
  exact scores_real q kr 0 _ v17 hq0 _ (load_key harg4 x1 kr hx1 0 _ _ _ (k0_off1_eq i) (i 2).isLt) r k

/-- Head 1: the block on the diagonal's scores, read back. -/
theorem start_diag1 (r : Fin 1024) (k : Fin 512) : (arg11.view.readCov (start11 i arg4 harg4 v17 v30 v43 v56 x1) (Rect.unit (s := S2x4x1024x512) ![0, 1, 0, 0] S1x1x1024x512.size (inb_slot 0 1)).toLoadRect) (ix4 0 0 r k) = ((score q kr 1 r (512 * (i 2).val + k.val) : ℝ) : EReal) := by
  have e : (arg11.view.readCov (start11 i arg4 harg4 v17 v30 v43 v56 x1) (Rect.unit (s := S2x4x1024x512) ![0, 1, 0, 0] S1x1x1024x512.size (inb_slot 0 1)).toLoadRect) = k0_pay162 v30 (arg4.view.readAt (Elt Ideal) (Rect.unit (s := S1x4096x512) (k0_off2 i) S1x512x128.size (k0_off2_inb i)).toLoadRect (harg4.unread x1)) := by
    unfold start11
    exact (skip_slot _ 1 3 0 1 (by decide) _ _ _ _).trans ((skip_slot _ 1 2 0 1 (by decide) _ _ _ _).trans ((skip_slot _ 1 1 0 1 (by decide) _ _ _ _).trans ((skip_slot _ 1 0 0 1 (by decide) _ _ _ _).trans ((skip_slot _ 0 3 0 1 (by decide) _ _ _ _).trans ((skip_slot _ 0 2 0 1 (by decide) _ _ _ _).trans (View.readCov_cons_toLoadRect _ _ _ _))))))
  rw [e]
  exact scores_real q kr 1 _ v30 hq1 _ (load_key harg4 x1 kr hx1 1 _ _ _ (k0_off2_eq i) (i 2).isLt) r k

/-- Head 2: the block on the diagonal's scores, read back. -/
theorem start_diag2 (r : Fin 1024) (k : Fin 512) : (arg11.view.readCov (start11 i arg4 harg4 v17 v30 v43 v56 x1) (Rect.unit (s := S2x4x1024x512) ![0, 2, 0, 0] S1x1x1024x512.size (inb_slot 0 2)).toLoadRect) (ix4 0 0 r k) = ((score q kr 2 r (512 * (i 2).val + k.val) : ℝ) : EReal) := by
  have e : (arg11.view.readCov (start11 i arg4 harg4 v17 v30 v43 v56 x1) (Rect.unit (s := S2x4x1024x512) ![0, 2, 0, 0] S1x1x1024x512.size (inb_slot 0 2)).toLoadRect) = k0_pay162 v43 (arg4.view.readAt (Elt Ideal) (Rect.unit (s := S1x4096x512) (k0_off3 i) S1x512x128.size (k0_off3_inb i)).toLoadRect (harg4.unread x1)) := by
    unfold start11
    exact (skip_slot _ 1 3 0 2 (by decide) _ _ _ _).trans ((skip_slot _ 1 2 0 2 (by decide) _ _ _ _).trans ((skip_slot _ 1 1 0 2 (by decide) _ _ _ _).trans ((skip_slot _ 1 0 0 2 (by decide) _ _ _ _).trans ((skip_slot _ 0 3 0 2 (by decide) _ _ _ _).trans (View.readCov_cons_toLoadRect _ _ _ _)))))
  rw [e]
  exact scores_real q kr 2 _ v43 hq2 _ (load_key harg4 x1 kr hx1 2 _ _ _ (k0_off3_eq i) (i 2).isLt) r k

/-- Head 3: the block on the diagonal's scores, read back. -/
theorem start_diag3 (r : Fin 1024) (k : Fin 512) : (arg11.view.readCov (start11 i arg4 harg4 v17 v30 v43 v56 x1) (Rect.unit (s := S2x4x1024x512) ![0, 3, 0, 0] S1x1x1024x512.size (inb_slot 0 3)).toLoadRect) (ix4 0 0 r k) = ((score q kr 3 r (512 * (i 2).val + k.val) : ℝ) : EReal) := by
  have e : (arg11.view.readCov (start11 i arg4 harg4 v17 v30 v43 v56 x1) (Rect.unit (s := S2x4x1024x512) ![0, 3, 0, 0] S1x1x1024x512.size (inb_slot 0 3)).toLoadRect) = k0_pay162 v56 (arg4.view.readAt (Elt Ideal) (Rect.unit (s := S1x4096x512) (k0_off4 i) S1x512x128.size (k0_off4_inb i)).toLoadRect (harg4.unread x1)) := by
    unfold start11
    exact (skip_slot _ 1 3 0 3 (by decide) _ _ _ _).trans ((skip_slot _ 1 2 0 3 (by decide) _ _ _ _).trans ((skip_slot _ 1 1 0 3 (by decide) _ _ _ _).trans ((skip_slot _ 1 0 0 3 (by decide) _ _ _ _).trans (View.readCov_cons_toLoadRect _ _ _ _))))
  rw [e]
  exact scores_real q kr 3 _ v56 hq3 _ (load_key harg4 x1 kr hx1 3 _ _ _ (k0_off4_eq i) (i 2).isLt) r k

/-- The rows start with the block on the diagonal. -/
theorem start_state (f9 : arg9.view.ty.Contents (Elt Ideal)) (f10 : arg10.view.ty.Contents (Elt Ideal)) :
    StateAt arg9 arg10 (arg9.view.writes (Elt Ideal) f9 (start9 i arg4 harg4 arg11 v17 v30 v43 v56 x1))
      (arg10.view.writes (Elt Ideal) f10 (start10 i arg4 harg4 arg5 harg5 arg11 v17 v30 v43 v56 v57 x1 x2)) (diagSum q kr vr (i 2).val) q kr vr 0 := by
  unfold start9 start10
  refine fin4 ?_ ?_ ?_ ?_ <;> intro r
  · exact row_congr (fun x => (read_head_miss _ _ 0 3 (by decide) _ _ _ r x).trans ((read_head_miss _ _ 0 2 (by decide) _ _ _ r x).trans ((read_head_miss _ _ 0 1 (by decide) _ _ _ r x).trans (read_head_hit _ _ 0 0 rfl _ _ _ r x)))) (fun x => (read_head_miss _ _ 0 3 (by decide) _ _ _ r x).trans ((read_head_miss _ _ 0 2 (by decide) _ _ _ r x).trans ((read_head_miss _ _ 0 1 (by decide) _ _ _ r x).trans (read_head_hit _ _ 0 0 rfl _ _ _ r x))))
      (diag_head q kr vr (i 2).val 0 r v57 hones _ _ (start_diag0 i arg4 harg4 arg11 v17 v30 v43 v56 v57 x1 x2 hones q kr vr hq0 hq1 hq2 hq3 hx1 hx2)
        (load_val harg5 x2 vr hx2 0 _ _ _ (k0_off1_eq i) (i 2).isLt))
  · exact row_congr (fun x => (read_head_miss _ _ 1 3 (by decide) _ _ _ r x).trans ((read_head_miss _ _ 1 2 (by decide) _ _ _ r x).trans (read_head_hit _ _ 1 1 rfl _ _ _ r x))) (fun x => (read_head_miss _ _ 1 3 (by decide) _ _ _ r x).trans ((read_head_miss _ _ 1 2 (by decide) _ _ _ r x).trans (read_head_hit _ _ 1 1 rfl _ _ _ r x)))
      (diag_head q kr vr (i 2).val 1 r v57 hones _ _ (start_diag1 i arg4 harg4 arg11 v17 v30 v43 v56 v57 x1 x2 hones q kr vr hq0 hq1 hq2 hq3 hx1 hx2)
        (load_val harg5 x2 vr hx2 1 _ _ _ (k0_off2_eq i) (i 2).isLt))
  · exact row_congr (fun x => (read_head_miss _ _ 2 3 (by decide) _ _ _ r x).trans (read_head_hit _ _ 2 2 rfl _ _ _ r x)) (fun x => (read_head_miss _ _ 2 3 (by decide) _ _ _ r x).trans (read_head_hit _ _ 2 2 rfl _ _ _ r x))
      (diag_head q kr vr (i 2).val 2 r v57 hones _ _ (start_diag2 i arg4 harg4 arg11 v17 v30 v43 v56 v57 x1 x2 hones q kr vr hq0 hq1 hq2 hq3 hx1 hx2)
        (load_val harg5 x2 vr hx2 2 _ _ _ (k0_off3_eq i) (i 2).isLt))
  · exact row_congr (fun x => read_head_hit _ _ 3 3 rfl _ _ _ r x) (fun x => read_head_hit _ _ 3 3 rfl _ _ _ r x)
      (diag_head q kr vr (i 2).val 3 r v57 hones _ _ (start_diag3 i arg4 harg4 arg11 v17 v30 v43 v56 v57 x1 x2 hones q kr vr hq0 hq1 hq2 hq3 hx1 hx2)
        (load_val harg5 x2 vr hx2 3 _ _ _ (k0_off4_eq i) (i 2).isLt))

/-! ## The loop -/

/-- After `n` trips the rows hold the blocks before `2 n`, and slot 1 the scores of block `2 n` (of the last block before
    the diagonal, when there is none). -/
theorem loop_state (arg2 : BitVec 32) (g9 : arg9.view.ty.Contents (Elt Ideal)) (g10 : arg10.view.ty.Contents (Elt Ideal)) (g11 : arg11.view.ty.Contents (Elt Ideal))
    (D : Fin 4 → Fin 1024 → Fin 256 → ℝ) (hS : StateAt arg9 arg10 g9 g10 D q kr vr 0) (hs : SlotAt arg11 g11 1 0 q kr) (n : ℕ) (hn : n ≤ (k0_t1_loop i).trips) :
    StateAt arg9 arg10 (arg9.view.writes (Elt Ideal) g9 (pb_k0_t1 (F := Ideal) Variants.none c none i arg3 harg3 arg4 harg4 arg5 harg5 arg6 harg6 arg7 harg7 arg8 harg8 arg9 harg9 arg10 harg10 arg11 harg11 arg2 v17 v30 v43 v56 v57 (harg4.unread x1) (harg5.unread x2) g9 g10 g11 n).1) (arg10.view.writes (Elt Ideal) g10 (pb_k0_t1 (F := Ideal) Variants.none c none i arg3 harg3 arg4 harg4 arg5 harg5 arg6 harg6 arg7 harg7 arg8 harg8 arg9 harg9 arg10 harg10 arg11 harg11 arg2 v17 v30 v43 v56 v57 (harg4.unread x1) (harg5.unread x2) g9 g10 g11 n).2.1) D q kr vr (2 * n)
      ∧ SlotAt arg11 (arg11.view.writes (Elt Ideal) g11 (pb_k0_t1 (F := Ideal) Variants.none c none i arg3 harg3 arg4 harg4 arg5 harg5 arg6 harg6 arg7 harg7 arg8 harg8 arg9 harg9 arg10 harg10 arg11 harg11 arg2 v17 v30 v43 v56 v57 (harg4.unread x1) (harg5.unread x2) g9 g10 g11 n).2.2) 1 (min (2 * n) ((i 2).val - 1)) q kr := by
  induction n with
  | zero => exact ⟨hS, by rw [Nat.mul_zero, Nat.zero_min]; exact hs⟩
  | succ n ih =>
    obtain ⟨ihS, ihs⟩ := ih (by omega)
    have ht := trips1 i
    rw [show min (2 * n) ((i 2).val - 1) = 2 * n from by omega] at ihs
    rw [pb_k0_t1_succ Variants.none c none i arg3 harg3 arg4 harg4 arg5 harg5 arg6 harg6 arg7 harg7 arg8 harg8 arg9 harg9 arg10 harg10 arg11 harg11 arg2 v17 v30 v43 v56 v57 (harg4.unread x1) (harg5.unread x2) g9 g10 g11 ⟨n, hn⟩]
    simp only [View.writes_append]
    exact ⟨trip_state Variants.none c none i arg3 harg3 arg4 harg4 arg5 harg5 arg6 harg6 arg7 harg7 arg8 harg8 arg9 harg9 arg10 harg10 arg11 harg11 arg2 v17 v30 v43 v56 v57 hones x1 x2 q kr vr hq0 hq1 hq2 hq3 hx1 hx2 D ⟨n, hn⟩ _ _ _ ihs ihS,
      trip_slot Variants.none c none i arg3 harg3 arg4 harg4 arg5 harg5 arg6 harg6 arg7 harg7 arg8 harg8 arg9 harg9 arg10 harg10 arg11 harg11 arg2 v17 v30 v43 v56 v57 hones x1 x2 q kr vr hq0 hq1 hq2 hq3 hx1 hx2 ⟨n, hn⟩ _ _ _⟩

omit hones hq0 hq1 hq2 hq3 hx1 hx2 in
/-- The second loop makes no trip. -/
theorem no_trips (arg2 lo : BitVec 32) (g9 : arg9.view.ty.Contents (Elt Ideal)) (g10 : arg10.view.ty.Contents (Elt Ideal)) (g11 : arg11.view.ty.Contents (Elt Ideal)) :
    pb_k0_t2 (F := Ideal) Variants.none c none i arg3 harg3 arg4 harg4 arg5 harg5 arg6 harg6 arg7 harg7 arg8 harg8 arg9 harg9 arg10 harg10 arg11 harg11 arg2 v17 v30 v43 v56 v57 lo (harg4.unread x1) (harg5.unread x2) g9 g10 g11 (k0_t2_loop i).trips = ([], [], []) := by
  rw [trips2]; rfl
omit hones hq0 hq1 hq2 hq3 hx1 hx2

/-- The stores into memory 9 up to the end of the first loop. -/
def loop9 : List (View.Piece (Elt Ideal) S4x1024x128 .f32) :=
  (pb_k0_t1 (F := Ideal) Variants.none c none i arg3 harg3 arg4 harg4 arg5 harg5 arg6 harg6 arg7 harg7 arg8 harg8 arg9 harg9 arg10 harg10 arg11 harg11 (BitVec.ofNat 32 (i 2).val) v17 v30 v43 v56 v57 (harg4.unread x1) (harg5.unread x2) (arg9.view.writes (Elt Ideal) arg9.view.junk (start9 i arg4 harg4 arg11 v17 v30 v43 v56 x1)) (arg10.view.writes (Elt Ideal) arg10.view.junk (start10 i arg4 harg4 arg5 harg5 arg11 v17 v30 v43 v56 v57 x1 x2)) (arg11.view.writes (Elt Ideal) arg11.view.junk (start11 i arg4 harg4 v17 v30 v43 v56 x1)) (k0_t1_loop i).trips).1 ++ start9 i arg4 harg4 arg11 v17 v30 v43 v56 x1

/-- The stores into memory 10 up to the end of the first loop. -/
def loop10 : List (View.Piece (Elt Ideal) S4x1024x256 .f32) :=
  (pb_k0_t1 (F := Ideal) Variants.none c none i arg3 harg3 arg4 harg4 arg5 harg5 arg6 harg6 arg7 harg7 arg8 harg8 arg9 harg9 arg10 harg10 arg11 harg11 (BitVec.ofNat 32 (i 2).val) v17 v30 v43 v56 v57 (harg4.unread x1) (harg5.unread x2) (arg9.view.writes (Elt Ideal) arg9.view.junk (start9 i arg4 harg4 arg11 v17 v30 v43 v56 x1)) (arg10.view.writes (Elt Ideal) arg10.view.junk (start10 i arg4 harg4 arg5 harg5 arg11 v17 v30 v43 v56 v57 x1 x2)) (arg11.view.writes (Elt Ideal) arg11.view.junk (start11 i arg4 harg4 v17 v30 v43 v56 x1)) (k0_t1_loop i).trips).2.1 ++ start10 i arg4 harg4 arg5 harg5 arg11 v17 v30 v43 v56 v57 x1 x2

/-- The stores into memory 11 up to the end of the first loop. -/
def loop11 : List (View.Piece (Elt Ideal) S2x4x1024x512 .f32) :=
  (pb_k0_t1 (F := Ideal) Variants.none c none i arg3 harg3 arg4 harg4 arg5 harg5 arg6 harg6 arg7 harg7 arg8 harg8 arg9 harg9 arg10 harg10 arg11 harg11 (BitVec.ofNat 32 (i 2).val) v17 v30 v43 v56 v57 (harg4.unread x1) (harg5.unread x2) (arg9.view.writes (Elt Ideal) arg9.view.junk (start9 i arg4 harg4 arg11 v17 v30 v43 v56 x1)) (arg10.view.writes (Elt Ideal) arg10.view.junk (start10 i arg4 harg4 arg5 harg5 arg11 v17 v30 v43 v56 v57 x1 x2)) (arg11.view.writes (Elt Ideal) arg11.view.junk (start11 i arg4 harg4 v17 v30 v43 v56 x1)) (k0_t1_loop i).trips).2.2 ++ start11 i arg4 harg4 v17 v30 v43 v56 x1

/-- The stores into memory 9 up to the end of both loops. -/
def both9 (lo : BitVec 32) : List (View.Piece (Elt Ideal) S4x1024x128 .f32) :=
  (pb_k0_t2 (F := Ideal) Variants.none c none i arg3 harg3 arg4 harg4 arg5 harg5 arg6 harg6 arg7 harg7 arg8 harg8 arg9 harg9 arg10 harg10 arg11 harg11 (BitVec.ofNat 32 (i 2).val) v17 v30 v43 v56 v57 lo (harg4.unread x1) (harg5.unread x2) (arg9.view.writes (Elt Ideal) arg9.view.junk (loop9 c i arg3 harg3 arg4 harg4 arg5 harg5 arg6 harg6 arg7 harg7 arg8 harg8 arg9 harg9 arg10 harg10 arg11 harg11 v17 v30 v43 v56 v57 x1 x2)) (arg10.view.writes (Elt Ideal) arg10.view.junk (loop10 c i arg3 harg3 arg4 harg4 arg5 harg5 arg6 harg6 arg7 harg7 arg8 harg8 arg9 harg9 arg10 harg10 arg11 harg11 v17 v30 v43 v56 v57 x1 x2)) (arg11.view.writes (Elt Ideal) arg11.view.junk (loop11 c i arg3 harg3 arg4 harg4 arg5 harg5 arg6 harg6 arg7 harg7 arg8 harg8 arg9 harg9 arg10 harg10 arg11 harg11 v17 v30 v43 v56 v57 x1 x2)) (k0_t2_loop i).trips).1 ++ (loop9 c i arg3 harg3 arg4 harg4 arg5 harg5 arg6 harg6 arg7 harg7 arg8 harg8 arg9 harg9 arg10 harg10 arg11 harg11 v17 v30 v43 v56 v57 x1 x2)

theorem both9_eq (lo : BitVec 32) : both9 c i arg3 harg3 arg4 harg4 arg5 harg5 arg6 harg6 arg7 harg7 arg8 harg8 arg9 harg9 arg10 harg10 arg11 harg11 v17 v30 v43 v56 v57 x1 x2 lo = (loop9 c i arg3 harg3 arg4 harg4 arg5 harg5 arg6 harg6 arg7 harg7 arg8 harg8 arg9 harg9 arg10 harg10 arg11 harg11 v17 v30 v43 v56 v57 x1 x2) := by
  unfold both9; rw [no_trips]; rfl

/-- The stores into memory 10 up to the end of both loops. -/
def both10 (lo : BitVec 32) : List (View.Piece (Elt Ideal) S4x1024x256 .f32) :=
  (pb_k0_t2 (F := Ideal) Variants.none c none i arg3 harg3 arg4 harg4 arg5 harg5 arg6 harg6 arg7 harg7 arg8 harg8 arg9 harg9 arg10 harg10 arg11 harg11 (BitVec.ofNat 32 (i 2).val) v17 v30 v43 v56 v57 lo (harg4.unread x1) (harg5.unread x2) (arg9.view.writes (Elt Ideal) arg9.view.junk (loop9 c i arg3 harg3 arg4 harg4 arg5 harg5 arg6 harg6 arg7 harg7 arg8 harg8 arg9 harg9 arg10 harg10 arg11 harg11 v17 v30 v43 v56 v57 x1 x2)) (arg10.view.writes (Elt Ideal) arg10.view.junk (loop10 c i arg3 harg3 arg4 harg4 arg5 harg5 arg6 harg6 arg7 harg7 arg8 harg8 arg9 harg9 arg10 harg10 arg11 harg11 v17 v30 v43 v56 v57 x1 x2)) (arg11.view.writes (Elt Ideal) arg11.view.junk (loop11 c i arg3 harg3 arg4 harg4 arg5 harg5 arg6 harg6 arg7 harg7 arg8 harg8 arg9 harg9 arg10 harg10 arg11 harg11 v17 v30 v43 v56 v57 x1 x2)) (k0_t2_loop i).trips).2.1 ++ (loop10 c i arg3 harg3 arg4 harg4 arg5 harg5 arg6 harg6 arg7 harg7 arg8 harg8 arg9 harg9 arg10 harg10 arg11 harg11 v17 v30 v43 v56 v57 x1 x2)

theorem both10_eq (lo : BitVec 32) : both10 c i arg3 harg3 arg4 harg4 arg5 harg5 arg6 harg6 arg7 harg7 arg8 harg8 arg9 harg9 arg10 harg10 arg11 harg11 v17 v30 v43 v56 v57 x1 x2 lo = (loop10 c i arg3 harg3 arg4 harg4 arg5 harg5 arg6 harg6 arg7 harg7 arg8 harg8 arg9 harg9 arg10 harg10 arg11 harg11 v17 v30 v43 v56 v57 x1 x2) := by
  unfold both10; rw [no_trips]; rfl

/-- The stores into memory 11 up to the end of both loops. -/
def both11 (lo : BitVec 32) : List (View.Piece (Elt Ideal) S2x4x1024x512 .f32) :=
  (pb_k0_t2 (F := Ideal) Variants.none c none i arg3 harg3 arg4 harg4 arg5 harg5 arg6 harg6 arg7 harg7 arg8 harg8 arg9 harg9 arg10 harg10 arg11 harg11 (BitVec.ofNat 32 (i 2).val) v17 v30 v43 v56 v57 lo (harg4.unread x1) (harg5.unread x2) (arg9.view.writes (Elt Ideal) arg9.view.junk (loop9 c i arg3 harg3 arg4 harg4 arg5 harg5 arg6 harg6 arg7 harg7 arg8 harg8 arg9 harg9 arg10 harg10 arg11 harg11 v17 v30 v43 v56 v57 x1 x2)) (arg10.view.writes (Elt Ideal) arg10.view.junk (loop10 c i arg3 harg3 arg4 harg4 arg5 harg5 arg6 harg6 arg7 harg7 arg8 harg8 arg9 harg9 arg10 harg10 arg11 harg11 v17 v30 v43 v56 v57 x1 x2)) (arg11.view.writes (Elt Ideal) arg11.view.junk (loop11 c i arg3 harg3 arg4 harg4 arg5 harg5 arg6 harg6 arg7 harg7 arg8 harg8 arg9 harg9 arg10 harg10 arg11 harg11 v17 v30 v43 v56 v57 x1 x2)) (k0_t2_loop i).trips).2.2 ++ (loop11 c i arg3 harg3 arg4 harg4 arg5 harg5 arg6 harg6 arg7 harg7 arg8 harg8 arg9 harg9 arg10 harg10 arg11 harg11 v17 v30 v43 v56 v57 x1 x2)

theorem both11_eq (lo : BitVec 32) : both11 c i arg3 harg3 arg4 harg4 arg5 harg5 arg6 harg6 arg7 harg7 arg8 harg8 arg9 harg9 arg10 harg10 arg11 harg11 v17 v30 v43 v56 v57 x1 x2 lo = (loop11 c i arg3 harg3 arg4 harg4 arg5 harg5 arg6 harg6 arg7 harg7 arg8 harg8 arg9 harg9 arg10 harg10 arg11 harg11 v17 v30 v43 v56 v57 x1 x2) := by
  unfold both11; rw [no_trips]; rfl
include hones hq0 hq1 hq2 hq3 hx1 hx2

/-- After both loops the rows hold the diagonal block and the blocks before `2 (i / 2)`; slot 1 holds the scores of the last block
    before the diagonal, if the number of blocks is odd. -/
theorem both_state (lo : BitVec 32) :
    StateAt arg9 arg10 (arg9.view.writes (Elt Ideal) arg9.view.junk (both9 c i arg3 harg3 arg4 harg4 arg5 harg5 arg6 harg6 arg7 harg7 arg8 harg8 arg9 harg9 arg10 harg10 arg11 harg11 v17 v30 v43 v56 v57 x1 x2 lo)) (arg10.view.writes (Elt Ideal) arg10.view.junk (both10 c i arg3 harg3 arg4 harg4 arg5 harg5 arg6 harg6 arg7 harg7 arg8 harg8 arg9 harg9 arg10 harg10 arg11 harg11 v17 v30 v43 v56 v57 x1 x2 lo))
        (diagSum q kr vr (i 2).val) q kr vr (2 * ((i 2).val / 2))
      ∧ SlotAt arg11 (arg11.view.writes (Elt Ideal) arg11.view.junk (both11 c i arg3 harg3 arg4 harg4 arg5 harg5 arg6 harg6 arg7 harg7 arg8 harg8 arg9 harg9 arg10 harg10 arg11 harg11 v17 v30 v43 v56 v57 x1 x2 lo)) 1 (min (2 * ((i 2).val / 2)) ((i 2).val - 1)) q kr := by
  rw [both9_eq, both10_eq, both11_eq]
  unfold loop9 loop10 loop11
  simp only [View.writes_append]
  have := loop_state c i arg3 harg3 arg4 harg4 arg5 harg5 arg6 harg6 arg7 harg7 arg8 harg8 arg9 harg9 arg10 harg10 arg11 harg11 v17 v30 v43 v56 v57 x1 x2 hones q kr vr hq0 hq1 hq2 hq3 hx1 hx2 (BitVec.ofNat 32 (i 2).val) (arg9.view.writes (Elt Ideal) arg9.view.junk (start9 i arg4 harg4 arg11 v17 v30 v43 v56 x1)) (arg10.view.writes (Elt Ideal) arg10.view.junk (start10 i arg4 harg4 arg5 harg5 arg11 v17 v30 v43 v56 v57 x1 x2)) (arg11.view.writes (Elt Ideal) arg11.view.junk (start11 i arg4 harg4 v17 v30 v43 v56 x1))
    (diagSum q kr vr (i 2).val) (start_state i arg4 harg4 arg5 harg5 arg9 arg10 arg11 v17 v30 v43 v56 v57 x1 x2 hones q kr vr hq0 hq1 hq2 hq3 hx1 hx2 _ _)
    (start_slot i arg4 harg4 arg11 v17 v30 v43 v56 v57 x1 x2 hones q kr vr hq0 hq1 hq2 hq3 hx1 hx2 _) _ le_rfl
  rw [show 2 * ((i 2).val / 2) = 2 * (k0_t1_loop i).trips from by rw [trips1]]
  exact this

end Cert.Proof.Attention
-- ==== Proof.Finish.lean ====
/-
  The kernel's queries and its last step, in real numbers: the stacked, scaled and masked queries of a head, and from a
  head's sums the difference of its two attentions, normalized.
-/
module

public import proofs.«01_k».proof.Proof.Loop

@[expose] public section

set_option maxRecDepth 16384

noncomputable section

open Idealize.ShloMosaic Idealize.ShloMosaic.TcCoe Idealize.SL.Sem

namespace Cert.Proof.Attention

open Cert.KernelIdeal Cert.KernelIdeal.Gen

/-- The scores' scale in base two: one eighth over the logarithm of two. -/
def qkScale : ℝ := 1 / 8 * (Real.log 2)⁻¹

theorem scale_ideal : Named.named (F := Ideal) Cert.KernelIdeal.κ "qk_scale" (φ := .f32) 0x3E38AA3B#32 = ((qkScale : ℝ) : EReal) :=
  IdealRules.named_const.ideal_named_scalar _ _ _ _ rfl

/-- One on the first 64 lanes of a head, for the first of its two queries; on the others, for the second. -/
def half (r : Fin 1024) (d : Fin 128) : ℝ := if r.val < 512 then (if d.val < 64 then 1 else 0) else (if d.val < 64 then 0 else 1)

theorem left_lanes (d : Fin 128) : (k0_pay150 (F := Ideal)) (ix2 0 d) = (((if d.val < 64 then 1 else 0 : ℝ)) : EReal) := by
  pointwise [k0_pay150]
  have e : (BitVec.ofNat 32 d.val).slt 64#32 = decide (d.val < 64) := by
    rw [show (64#32 : BitVec 32) = BitVec.ofNat 32 64 from rfl, BitVec.slt_eq_decide, BitVec.toInt_eq_toNat_of_lt (by simp; omega),
      BitVec.toInt_eq_toNat_of_lt (by simp)]
    have := d.isLt
    simp [Nat.mod_eq_of_lt (show d.val < 4294967296 by omega)]
  by_cases h : d.val < 64
  · rw [if_pos h]
    simp [IntOp.cmpi, e, h, FloatOps.sitofp]
  · rw [if_neg h]
    simp [IntOp.cmpi, e, h, FloatOps.sitofp]

/-- The stacked queries of a head. -/
theorem query_real (v : Vec Ideal S1x512x128 .bf16) (qv : ℕ → ℕ → ℝ) (hv : ∀ (r : Fin 512) (d : Fin 128), v (ix3 0 r d) = ((qv r.val d.val : ℝ) : EReal))
    (r : Fin 1024) (d : Fin 128) : k0_pay151 (F := Ideal) v (ix2 r d) = ((qv (r.val % 512) d.val * qkScale * half r d : ℝ) : EReal) := by
  pointwise [k0_pay151]
  rw [left_lanes, scale_ideal]
  unfold half
  by_cases h : r.val < 512
  · rw [dif_pos h, hv, if_pos h]
    simp only [Nat.mod_eq_of_lt h]
    norm_cast
  · rw [dif_neg h, hv, if_neg h]
    have : r.val % 512 = r.val - 512 := by omega
    simp only [this]
    rw [← EReal.coe_one, ← EReal.coe_sub, ← EReal.coe_mul, ← EReal.coe_mul]
    congr 2
    split <;> norm_num

/-- A head's attention normalized over its 128 columns, times the scale `g` and the last constant. -/
def normed (z : Fin 128 → ℝ) (g : EReal) (e : Fin 128) : EReal :=
  ((z e : ℝ) : EReal) * Ideal.rsqrt (Ideal.div (((∑ d, z d * z d : ℝ)) : EReal) (Ideal.ofBits .f32 0x43000000#32) + Ideal.ofBits .f32 0x3727C5AC#32) * g
    * Ideal.ofBits .f32 0x3F24FD5C#32

/-- The last step of a head. -/
theorem finish_head (lam : FVec Ideal S1x1 .f32) (acc : Vec Ideal S1x1024x256 .f32) (g : Vec Ideal S1x128 .f32) (lr : ℝ)
    (hlam : lam (ix2 0 0) = ((lr : ℝ) : EReal)) (W : Fin 1024 → Fin 256 → ℝ)
    (hpos : ∀ r (e : Fin 128), W r ⟨128 + e.val, by omega⟩ ≠ 0)
    (hR : ∀ r, ∃ μ : ℝ, ∀ e, acc (ix3 0 r e) = ((2 ^ (-μ) * W r e : ℝ) : EReal)) (r : Fin 512) (e : Fin 128) :
    k0_pay195 lam acc g (ix3 0 r e)
      = normed (fun e => W ⟨r.val, by omega⟩ ⟨e.val, by omega⟩ / W ⟨r.val, by omega⟩ ⟨128 + e.val, by omega⟩
          - lr * (W ⟨512 + r.val, by omega⟩ ⟨e.val, by omega⟩ / W ⟨512 + r.val, by omega⟩ ⟨128 + e.val, by omega⟩)) (g (ix2 0 e)) e := by
  have quot : ∀ (r : Fin 1024) (e : Fin 128), Ideal.div (acc (ix3 0 r ⟨e.val, by omega⟩)) (acc (ix3 0 r ⟨128 + e.val, by omega⟩))
      = ((W r ⟨e.val, by omega⟩ / W r ⟨128 + e.val, by omega⟩ : ℝ) : EReal) := by
    intro r e
    obtain ⟨μ, hμ⟩ := hR r
    have hp : (2 : ℝ) ^ (-μ) ≠ 0 := (Real.rpow_pos_of_pos (by norm_num) _).ne'
    rw [hμ, hμ, Ideal.div_coe (mul_ne_zero hp (hpos r e)), ← EReal.coe_mul]
    congr 1
    field_simp
  pointwise [k0_pay195]
  unfold normed
  simp only [hlam, quot ⟨r.val, by omega⟩, quot ⟨512 + r.val, by omega⟩, ← EReal.coe_mul, ← EReal.coe_sub, coe_sum]

end Cert.Proof.Attention
-- ==== Proof.Rows.lean ====
/-
  What the kernel's accumulators hold when a block of queries has met all its keys, for an even and for an odd number of
  blocks of keys before the diagonal.
-/
module

public import proofs.«01_k».proof.Proof.Finish

@[expose] public section

set_option maxRecDepth 16384

noncomputable section

open Idealize.ShloMosaic Idealize.ShloMosaic.TcCoe Idealize.SL.Sem

namespace Cert.Proof.Attention

open Cert.KernelIdeal Cert.KernelIdeal.Gen

/-- The stacked queries of a head, in real numbers. -/
def qq (qb : ℕ → ℕ → ℝ) (h : Fin 4) (r : Fin 1024) (d : Fin 128) : ℝ := qb (r.val % 512) (128 * h.val + d.val) * qkScale * half r d

/-- The sums over all keys that a block of queries sees: its diagonal block and the blocks before. -/
def final (qb kr vr : ℕ → ℕ → ℝ) (n : ℕ) (h : Fin 4) (r : Fin 1024) (e : Fin 256) : ℝ :=
  diagSum (qq qb) kr vr n h r e + ∑ j ∈ Finset.range n, blk (qq qb) kr vr h r j e

/-- A load of one head's queries. -/
theorem load_query {arg3 : Memref sig .tc .vmem S1x512x512 .bf16} (harg3 : arg3.IsWhole) (x0 : Vec Ideal S1x512x512 .bf16)
    (qb : ℕ → ℕ → ℝ) (hx : ∀ (n : Fin 512) (d : Fin 512), x0 (ix3 0 n d) = ((qb n.val d.val : ℝ) : EReal)) (h : Fin 4)
    (off : Fin 3 → Nat) (inb : ∀ a, off a + S1x512x128.size a ≤ S1x512x512.size a) (ho : off = ![0, 0, 128 * h.val])
    (k : Fin 512) (d : Fin 128) :
    arg3.view.readAt (Elt Ideal) (Rect.unit (s := S1x512x512) off S1x512x128.size inb).toLoadRect (harg3.unread x0) (ix3 0 k d)
      = ((qb k.val (128 * h.val + d.val) : ℝ) : EReal) := by
  subst ho
  rw [View.readAt_eq_ld, harg3.read_unread]
  refine Eq.trans (congrArg x0 (funext fun ax => Fin.ext ?_)) (hx k ⟨128 * h.val + d.val, by omega⟩)
  fin_cases ax <;> simp [ix3, LoadRect.idx, Rect.unit, Rect.toLoadRect]

theorem ones_real (k : Fin 512) (d : Fin 128) : (k0_pay158 (F := Ideal)) (ix2 k d) = 1 := by
  pointwise [k0_pay158]

/-- What the words of one head's accumulators say of the sums. -/
def Sums (qb kr vr : ℕ → ℕ → ℝ) (n : ℕ) (h : Fin 4) (a : Fin 1024 → Fin 256 → EReal) : Prop :=
  ∀ r, ∃ μ : ℝ, ∀ e, a r e = ((2 ^ (-μ) * final qb kr vr n h r e : ℝ) : EReal)

theorem odd_point : ∀ i : grid0.Coords, cond0_0 i → (i 2).val % 2 = 1 := by decide +kernel

variable (c : Dev nD) (i : grid0.Coords)
variable (arg3 : Memref sig .tc .vmem S1x512x512 .bf16) (harg3 : arg3.IsWhole)
variable (arg4 : Memref sig .tc .vmem S1x4096x512 .bf16) (harg4 : arg4.IsWhole)
variable (arg5 : Memref sig .tc .vmem S1x4096x512 .bf16) (harg5 : arg5.IsWhole)
variable (arg6 : Memref sig .tc .vmem S4x64 .f32) (harg6 : arg6.IsWhole)
variable (arg7 : Memref sig .tc .vmem S1x128 .f32) (harg7 : arg7.IsWhole)
variable (arg8 : Memref sig .tc .vmem S1x512x512 .bf16) (harg8 : arg8.IsWhole)
variable (arg9 : Memref sig .tc .vmem S4x1024x128 .f32) (harg9 : arg9.IsWhole)
variable (arg10 : Memref sig .tc .vmem S4x1024x256 .f32) (harg10 : arg10.IsWhole)
variable (arg11 : Memref sig .tc .vmem S2x4x1024x512 .f32) (harg11 : arg11.IsWhole)
variable (x0 : Vec Ideal S1x512x512 .bf16) (x1 x2 : Vec Ideal S1x4096x512 .bf16)
variable (qb kr vr : ℕ → ℕ → ℝ) (hx0 : ∀ (n d : Fin 512), x0 (ix3 0 n d) = ((qb n.val d.val : ℝ) : EReal))
variable (hx1 : ∀ (n : Fin 4096) (d : Fin 512), x1 (ix3 0 n d) = ((kr n.val d.val : ℝ) : EReal))
variable (hx2 : ∀ (n : Fin 4096) (d : Fin 512), x2 (ix3 0 n d) = ((vr n.val d.val : ℝ) : EReal))

include hx0

theorem queryA0 (r : Fin 1024) (d : Fin 128) :
    kernelRun0_A.sl.r (F := Ideal) c arg3 harg3 x0 (ix2 r d) = ((qq qb 0 r d : ℝ) : EReal) :=
  query_real _ (fun r d => qb r (128 * 0 + d)) (fun r d => load_query harg3 x0 qb hx0 0 _ _ rfl r d) r d

theorem queryA1 (r : Fin 1024) (d : Fin 128) :
    kernelRun0_A.sl.r_1 (F := Ideal) c arg3 harg3 x0 (ix2 r d) = ((qq qb 1 r d : ℝ) : EReal) :=
  query_real _ (fun r d => qb r (128 * 1 + d)) (fun r d => load_query harg3 x0 qb hx0 1 _ _ rfl r d) r d

theorem queryA2 (r : Fin 1024) (d : Fin 128) :
    kernelRun0_A.sl.r_4 (F := Ideal) c arg3 harg3 x0 (ix2 r d) = ((qq qb 2 r d : ℝ) : EReal) :=
  query_real _ (fun r d => qb r (128 * 2 + d)) (fun r d => load_query harg3 x0 qb hx0 2 _ _ rfl r d) r d

theorem queryA3 (r : Fin 1024) (d : Fin 128) :
    kernelRun0_A.sl.r_5 (F := Ideal) c arg3 harg3 x0 (ix2 r d) = ((qq qb 3 r d : ℝ) : EReal) :=
  query_real _ (fun r d => qb r (128 * 3 + d)) (fun r d => load_query harg3 x0 qb hx0 3 _ _ rfl r d) r d

theorem queryB0 (r : Fin 1024) (d : Fin 128) :
    kernelRun0_B.sl.r (F := Ideal) c arg3 harg3 x0 (ix2 r d) = ((qq qb 0 r d : ℝ) : EReal) :=
  query_real _ (fun r d => qb r (128 * 0 + d)) (fun r d => load_query harg3 x0 qb hx0 0 _ _ rfl r d) r d

theorem queryB1 (r : Fin 1024) (d : Fin 128) :
    kernelRun0_B.sl.r_1 (F := Ideal) c arg3 harg3 x0 (ix2 r d) = ((qq qb 1 r d : ℝ) : EReal) :=
  query_real _ (fun r d => qb r (128 * 1 + d)) (fun r d => load_query harg3 x0 qb hx0 1 _ _ rfl r d) r d

theorem queryB2 (r : Fin 1024) (d : Fin 128) :
    kernelRun0_B.sl.r_4 (F := Ideal) c arg3 harg3 x0 (ix2 r d) = ((qq qb 2 r d : ℝ) : EReal) :=
  query_real _ (fun r d => qb r (128 * 2 + d)) (fun r d => load_query harg3 x0 qb hx0 2 _ _ rfl r d) r d

theorem queryB3 (r : Fin 1024) (d : Fin 128) :
    kernelRun0_B.sl.r_5 (F := Ideal) c arg3 harg3 x0 (ix2 r d) = ((qq qb 3 r d : ℝ) : EReal) :=
  query_real _ (fun r d => qb r (128 * 3 + d)) (fun r d => load_query harg3 x0 qb hx0 3 _ _ rfl r d) r d

include hx1 hx2

theorem rowA0 (even : (i 2).val % 2 = 0) :
    Sums qb kr vr (i 2).val 0 (fun r e => kernelRun0_A.sl.v297 (F := Ideal) c i arg3 harg3 arg4 harg4 arg5 harg5 arg6 harg6 arg7 harg7 arg8 harg8 arg9 harg9 arg10 harg10 arg11 harg11 x0 x1 x2 (ix3 0 r e)) := by
  intro r
  have hS := (both_state c i arg3 harg3 arg4 harg4 arg5 harg5 arg6 harg6 arg7 harg7 arg8 harg8 arg9 harg9 arg10 harg10 arg11 harg11
      (kernelRun0_A.sl.r c arg3 harg3 x0) (kernelRun0_A.sl.r_1 c arg3 harg3 x0) (kernelRun0_A.sl.r_4 c arg3 harg3 x0) (kernelRun0_A.sl.r_5 c arg3 harg3 x0) k0_pay158 x1 x2 ones_real (qq qb) kr vr (queryA0 c arg3 harg3 x0 qb hx0) (queryA1 c arg3 harg3 x0 qb hx0) (queryA2 c arg3 harg3 x0 qb hx0) (queryA3 c arg3 harg3 x0 qb hx0) hx1 hx2 (kernelRun0_A.sl.v266 i)).1 0 r
  rw [show 2 * ((i 2).val / 2) = (i 2).val from by omega] at hS
  obtain ⟨μ, -, ha⟩ := hS
  exact ⟨μ, fun e => (load_head arg10.view _ 0 _ r e).trans (ha e)⟩

theorem rowA1 (even : (i 2).val % 2 = 0) :
    Sums qb kr vr (i 2).val 1 (fun r e => kernelRun0_A.sl.v327 (F := Ideal) c i arg3 harg3 arg4 harg4 arg5 harg5 arg6 harg6 arg7 harg7 arg8 harg8 arg9 harg9 arg10 harg10 arg11 harg11 x0 x1 x2 (ix3 0 r e)) := by
  intro r
  have hS := (both_state c i arg3 harg3 arg4 harg4 arg5 harg5 arg6 harg6 arg7 harg7 arg8 harg8 arg9 harg9 arg10 harg10 arg11 harg11
      (kernelRun0_A.sl.r c arg3 harg3 x0) (kernelRun0_A.sl.r_1 c arg3 harg3 x0) (kernelRun0_A.sl.r_4 c arg3 harg3 x0) (kernelRun0_A.sl.r_5 c arg3 harg3 x0) k0_pay158 x1 x2 ones_real (qq qb) kr vr (queryA0 c arg3 harg3 x0 qb hx0) (queryA1 c arg3 harg3 x0 qb hx0) (queryA2 c arg3 harg3 x0 qb hx0) (queryA3 c arg3 harg3 x0 qb hx0) hx1 hx2 (kernelRun0_A.sl.v266 i)).1 1 r
  rw [show 2 * ((i 2).val / 2) = (i 2).val from by omega] at hS
  obtain ⟨μ, -, ha⟩ := hS
  exact ⟨μ, fun e => (load_head arg10.view _ 1 _ r e).trans (ha e)⟩

theorem rowA2 (even : (i 2).val % 2 = 0) :
    Sums qb kr vr (i 2).val 2 (fun r e => kernelRun0_A.sl.v357 (F := Ideal) c i arg3 harg3 arg4 harg4 arg5 harg5 arg6 harg6 arg7 harg7 arg8 harg8 arg9 harg9 arg10 harg10 arg11 harg11 x0 x1 x2 (ix3 0 r e)) := by
  intro r
  have hS := (both_state c i arg3 harg3 arg4 harg4 arg5 harg5 arg6 harg6 arg7 harg7 arg8 harg8 arg9 harg9 arg10 harg10 arg11 harg11
      (kernelRun0_A.sl.r c arg3 harg3 x0) (kernelRun0_A.sl.r_1 c arg3 harg3 x0) (kernelRun0_A.sl.r_4 c arg3 harg3 x0) (kernelRun0_A.sl.r_5 c arg3 harg3 x0) k0_pay158 x1 x2 ones_real (qq qb) kr vr (queryA0 c arg3 harg3 x0 qb hx0) (queryA1 c arg3 harg3 x0 qb hx0) (queryA2 c arg3 harg3 x0 qb hx0) (queryA3 c arg3 harg3 x0 qb hx0) hx1 hx2 (kernelRun0_A.sl.v266 i)).1 2 r
  rw [show 2 * ((i 2).val / 2) = (i 2).val from by omega] at hS
  obtain ⟨μ, -, ha⟩ := hS
  exact ⟨μ, fun e => (load_head arg10.view _ 2 _ r e).trans (ha e)⟩

theorem rowA3 (even : (i 2).val % 2 = 0) :
    Sums qb kr vr (i 2).val 3 (fun r e => kernelRun0_A.sl.v387 (F := Ideal) c i arg3 harg3 arg4 harg4 arg5 harg5 arg6 harg6 arg7 harg7 arg8 harg8 arg9 harg9 arg10 harg10 arg11 harg11 x0 x1 x2 (ix3 0 r e)) := by
  intro r
  have hS := (both_state c i arg3 harg3 arg4 harg4 arg5 harg5 arg6 harg6 arg7 harg7 arg8 harg8 arg9 harg9 arg10 harg10 arg11 harg11
      (kernelRun0_A.sl.r c arg3 harg3 x0) (kernelRun0_A.sl.r_1 c arg3 harg3 x0) (kernelRun0_A.sl.r_4 c arg3 harg3 x0) (kernelRun0_A.sl.r_5 c arg3 harg3 x0) k0_pay158 x1 x2 ones_real (qq qb) kr vr (queryA0 c arg3 harg3 x0 qb hx0) (queryA1 c arg3 harg3 x0 qb hx0) (queryA2 c arg3 harg3 x0 qb hx0) (queryA3 c arg3 harg3 x0 qb hx0) hx1 hx2 (kernelRun0_A.sl.v266 i)).1 3 r
  rw [show 2 * ((i 2).val / 2) = (i 2).val from by omega] at hS
  obtain ⟨μ, -, ha⟩ := hS
  exact ⟨μ, fun e => (load_head arg10.view _ 3 _ r e).trans (ha e)⟩

variable (hc0 : cond0_0 i)

/-- Head 0 meets the block just before the diagonal. -/
theorem tail0 (r : Fin 1024) :
    Row (final qb kr vr (i 2).val 0 r) (fun l => stepM (kernelRun0_B.sl.v418 (F := Ideal) c i arg3 harg3 arg4 harg4 arg5 harg5 arg6 harg6 arg7 harg7 arg8 harg8 arg9 harg9 arg10 harg10 arg11 harg11 x0 x1 x2) (kernelRun0_B.sl.v420 (F := Ideal) c i arg3 harg3 arg4 harg4 arg5 harg5 arg6 harg6 arg7 harg7 arg8 harg8 arg9 harg9 arg10 harg10 arg11 harg11 x0 x1 x2) (ix3 0 r l))
      (fun e => stepA k0_pay158 (kernelRun0_B.sl.v418 (F := Ideal) c i arg3 harg3 arg4 harg4 arg5 harg5 arg6 harg6 arg7 harg7 arg8 harg8 arg9 harg9 arg10 harg10 arg11 harg11 x0 x1 x2) (kernelRun0_B.sl.v420 (F := Ideal) c i arg3 harg3 arg4 harg4 arg5 harg5 arg6 harg6 arg7 harg7 arg8 harg8 arg9 harg9 arg10 harg10 arg11 harg11 x0 x1 x2)
        (arg5.view.readAt (Elt Ideal) (Rect.unit (s := S1x4096x512) (k0_off29 i) S1x512x128.size (k0_off29_inb i hc0)).toLoadRect (harg5.unread x2))
        (kernelRun0_B.sl.v442 (F := Ideal) c i arg3 harg3 arg4 harg4 arg5 harg5 arg6 harg6 arg7 harg7 arg8 harg8 arg9 harg9 arg10 harg10 arg11 harg11 x0 x1 x2) (ix3 0 r e)) := by
  have odd := odd_point i hc0
  obtain ⟨hS, hs⟩ := both_state c i arg3 harg3 arg4 harg4 arg5 harg5 arg6 harg6 arg7 harg7 arg8 harg8 arg9 harg9 arg10 harg10 arg11 harg11
      (kernelRun0_B.sl.r c arg3 harg3 x0) (kernelRun0_B.sl.r_1 c arg3 harg3 x0) (kernelRun0_B.sl.r_4 c arg3 harg3 x0) (kernelRun0_B.sl.r_5 c arg3 harg3 x0) k0_pay158 x1 x2 ones_real (qq qb) kr vr (queryB0 c arg3 harg3 x0 qb hx0) (queryB1 c arg3 harg3 x0 qb hx0) (queryB2 c arg3 harg3 x0 qb hx0) (queryB3 c arg3 harg3 x0 qb hx0) hx1 hx2 (kernelRun0_B.sl.v266 i)
  have hS := hS 0 r
  rw [show 2 * ((i 2).val / 2) = (i 2).val - 1 from by omega] at hS hs
  rw [Nat.min_self] at hs
  have := fold_one (diagSum (qq qb) kr vr (i 2).val) (qq qb) kr vr 0 r ((i 2).val - 1) k0_pay158 ones_real
    (kernelRun0_B.sl.v418 (F := Ideal) c i arg3 harg3 arg4 harg4 arg5 harg5 arg6 harg6 arg7 harg7 arg8 harg8 arg9 harg9 arg10 harg10 arg11 harg11 x0 x1 x2) (kernelRun0_B.sl.v420 (F := Ideal) c i arg3 harg3 arg4 harg4 arg5 harg5 arg6 harg6 arg7 harg7 arg8 harg8 arg9 harg9 arg10 harg10 arg11 harg11 x0 x1 x2) (kernelRun0_B.sl.v442 (F := Ideal) c i arg3 harg3 arg4 harg4 arg5 harg5 arg6 harg6 arg7 harg7 arg8 harg8 arg9 harg9 arg10 harg10 arg11 harg11 x0 x1 x2)
    (arg5.view.readAt (Elt Ideal) (Rect.unit (s := S1x4096x512) (k0_off29 i) S1x512x128.size (k0_off29_inb i hc0)).toLoadRect (harg5.unread x2))
    (fun k => (load_slot arg11.view _ 1 0 _ r k).trans (hs 0 r k))
    (fun k d => load_val harg5 x2 vr hx2 0 ((i 2).val - 1) _ _ (off29 i odd) (by have := (i 2).isLt; have : (i 2).val < 8 := this; omega) k d)
    (row_congr (fun l => (congrFun (show kernelRun0_B.sl.v420 (F := Ideal) c i arg3 harg3 arg4 harg4 arg5 harg5 arg6 harg6 arg7 harg7 arg8 harg8 arg9 harg9 arg10 harg10 arg11 harg11 x0 x1 x2 = _ from rfl) _).trans (load_head arg9.view _ 0 _ r l))
      (fun e => (congrFun (show kernelRun0_B.sl.v442 (F := Ideal) c i arg3 harg3 arg4 harg4 arg5 harg5 arg6 harg6 arg7 harg7 arg8 harg8 arg9 harg9 arg10 harg10 arg11 harg11 x0 x1 x2 = _ from rfl) _).trans (load_head arg10.view _ 0 _ r e)) hS)
  rw [show (i 2).val - 1 + 1 = (i 2).val from by omega] at this
  exact this

/-- Head 1 meets the block just before the diagonal. -/
theorem tail1 (r : Fin 1024) :
    Row (final qb kr vr (i 2).val 1 r) (fun l => stepM (kernelRun0_B.sl.v450 (F := Ideal) c i arg3 harg3 arg4 harg4 arg5 harg5 arg6 harg6 arg7 harg7 arg8 harg8 arg9 harg9 arg10 harg10 arg11 harg11 x0 x1 x2) (kernelRun0_B.sl.v452 (F := Ideal) c i arg3 harg3 arg4 harg4 arg5 harg5 arg6 harg6 arg7 harg7 arg8 harg8 arg9 harg9 arg10 harg10 arg11 harg11 x0 x1 x2) (ix3 0 r l))
      (fun e => stepA k0_pay158 (kernelRun0_B.sl.v450 (F := Ideal) c i arg3 harg3 arg4 harg4 arg5 harg5 arg6 harg6 arg7 harg7 arg8 harg8 arg9 harg9 arg10 harg10 arg11 harg11 x0 x1 x2) (kernelRun0_B.sl.v452 (F := Ideal) c i arg3 harg3 arg4 harg4 arg5 harg5 arg6 harg6 arg7 harg7 arg8 harg8 arg9 harg9 arg10 harg10 arg11 harg11 x0 x1 x2)
        (arg5.view.readAt (Elt Ideal) (Rect.unit (s := S1x4096x512) (k0_off30 i) S1x512x128.size (k0_off30_inb i hc0)).toLoadRect (harg5.unread x2))
        (kernelRun0_B.sl.v474 (F := Ideal) c i arg3 harg3 arg4 harg4 arg5 harg5 arg6 harg6 arg7 harg7 arg8 harg8 arg9 harg9 arg10 harg10 arg11 harg11 hc0 x0 x1 x2) (ix3 0 r e)) := by
  have odd := odd_point i hc0
  obtain ⟨hS, hs⟩ := both_state c i arg3 harg3 arg4 harg4 arg5 harg5 arg6 harg6 arg7 harg7 arg8 harg8 arg9 harg9 arg10 harg10 arg11 harg11
      (kernelRun0_B.sl.r c arg3 harg3 x0) (kernelRun0_B.sl.r_1 c arg3 harg3 x0) (kernelRun0_B.sl.r_4 c arg3 harg3 x0) (kernelRun0_B.sl.r_5 c arg3 harg3 x0) k0_pay158 x1 x2 ones_real (qq qb) kr vr (queryB0 c arg3 harg3 x0 qb hx0) (queryB1 c arg3 harg3 x0 qb hx0) (queryB2 c arg3 harg3 x0 qb hx0) (queryB3 c arg3 harg3 x0 qb hx0) hx1 hx2 (kernelRun0_B.sl.v266 i)
  have hS := hS 1 r
  rw [show 2 * ((i 2).val / 2) = (i 2).val - 1 from by omega] at hS hs
  rw [Nat.min_self] at hs
  have := fold_one (diagSum (qq qb) kr vr (i 2).val) (qq qb) kr vr 1 r ((i 2).val - 1) k0_pay158 ones_real
    (kernelRun0_B.sl.v450 (F := Ideal) c i arg3 harg3 arg4 harg4 arg5 harg5 arg6 harg6 arg7 harg7 arg8 harg8 arg9 harg9 arg10 harg10 arg11 harg11 x0 x1 x2) (kernelRun0_B.sl.v452 (F := Ideal) c i arg3 harg3 arg4 harg4 arg5 harg5 arg6 harg6 arg7 harg7 arg8 harg8 arg9 harg9 arg10 harg10 arg11 harg11 x0 x1 x2) (kernelRun0_B.sl.v474 (F := Ideal) c i arg3 harg3 arg4 harg4 arg5 harg5 arg6 harg6 arg7 harg7 arg8 harg8 arg9 harg9 arg10 harg10 arg11 harg11 hc0 x0 x1 x2)
    (arg5.view.readAt (Elt Ideal) (Rect.unit (s := S1x4096x512) (k0_off30 i) S1x512x128.size (k0_off30_inb i hc0)).toLoadRect (harg5.unread x2))
    (fun k => (load_slot arg11.view _ 1 1 _ r k).trans (hs 1 r k))
    (fun k d => load_val harg5 x2 vr hx2 1 ((i 2).val - 1) _ _ (off30 i odd) (by have := (i 2).isLt; have : (i 2).val < 8 := this; omega) k d)
    (row_congr (fun l => (congrFun (show kernelRun0_B.sl.v452 (F := Ideal) c i arg3 harg3 arg4 harg4 arg5 harg5 arg6 harg6 arg7 harg7 arg8 harg8 arg9 harg9 arg10 harg10 arg11 harg11 x0 x1 x2 = _ from skip_head arg9.view 0 1 (by decide) _ _ _ _) _).trans (load_head arg9.view _ 1 _ r l))
      (fun e => (congrFun (show kernelRun0_B.sl.v474 (F := Ideal) c i arg3 harg3 arg4 harg4 arg5 harg5 arg6 harg6 arg7 harg7 arg8 harg8 arg9 harg9 arg10 harg10 arg11 harg11 hc0 x0 x1 x2 = _ from skip_head arg10.view 0 1 (by decide) _ _ _ _) _).trans (load_head arg10.view _ 1 _ r e)) hS)
  rw [show (i 2).val - 1 + 1 = (i 2).val from by omega] at this
  exact this

/-- Head 2 meets the block just before the diagonal. -/
theorem tail2 (r : Fin 1024) :
    Row (final qb kr vr (i 2).val 2 r) (fun l => stepM (kernelRun0_B.sl.v482 (F := Ideal) c i arg3 harg3 arg4 harg4 arg5 harg5 arg6 harg6 arg7 harg7 arg8 harg8 arg9 harg9 arg10 harg10 arg11 harg11 x0 x1 x2) (kernelRun0_B.sl.v484 (F := Ideal) c i arg3 harg3 arg4 harg4 arg5 harg5 arg6 harg6 arg7 harg7 arg8 harg8 arg9 harg9 arg10 harg10 arg11 harg11 x0 x1 x2) (ix3 0 r l))
      (fun e => stepA k0_pay158 (kernelRun0_B.sl.v482 (F := Ideal) c i arg3 harg3 arg4 harg4 arg5 harg5 arg6 harg6 arg7 harg7 arg8 harg8 arg9 harg9 arg10 harg10 arg11 harg11 x0 x1 x2) (kernelRun0_B.sl.v484 (F := Ideal) c i arg3 harg3 arg4 harg4 arg5 harg5 arg6 harg6 arg7 harg7 arg8 harg8 arg9 harg9 arg10 harg10 arg11 harg11 x0 x1 x2)
        (arg5.view.readAt (Elt Ideal) (Rect.unit (s := S1x4096x512) (k0_off31 i) S1x512x128.size (k0_off31_inb i hc0)).toLoadRect (harg5.unread x2))
        (kernelRun0_B.sl.v506 (F := Ideal) c i arg3 harg3 arg4 harg4 arg5 harg5 arg6 harg6 arg7 harg7 arg8 harg8 arg9 harg9 arg10 harg10 arg11 harg11 hc0 x0 x1 x2) (ix3 0 r e)) := by
  have odd := odd_point i hc0
  obtain ⟨hS, hs⟩ := both_state c i arg3 harg3 arg4 harg4 arg5 harg5 arg6 harg6 arg7 harg7 arg8 harg8 arg9 harg9 arg10 harg10 arg11 harg11
      (kernelRun0_B.sl.r c arg3 harg3 x0) (kernelRun0_B.sl.r_1 c arg3 harg3 x0) (kernelRun0_B.sl.r_4 c arg3 harg3 x0) (kernelRun0_B.sl.r_5 c arg3 harg3 x0) k0_pay158 x1 x2 ones_real (qq qb) kr vr (queryB0 c arg3 harg3 x0 qb hx0) (queryB1 c arg3 harg3 x0 qb hx0) (queryB2 c arg3 harg3 x0 qb hx0) (queryB3 c arg3 harg3 x0 qb hx0) hx1 hx2 (kernelRun0_B.sl.v266 i)
  have hS := hS 2 r
  rw [show 2 * ((i 2).val / 2) = (i 2).val - 1 from by omega] at hS hs
  rw [Nat.min_self] at hs
  have := fold_one (diagSum (qq qb) kr vr (i 2).val) (qq qb) kr vr 2 r ((i 2).val - 1) k0_pay158 ones_real
    (kernelRun0_B.sl.v482 (F := Ideal) c i arg3 harg3 arg4 harg4 arg5 harg5 arg6 harg6 arg7 harg7 arg8 harg8 arg9 harg9 arg10 harg10 arg11 harg11 x0 x1 x2) (kernelRun0_B.sl.v484 (F := Ideal) c i arg3 harg3 arg4 harg4 arg5 harg5 arg6 harg6 arg7 harg7 arg8 harg8 arg9 harg9 arg10 harg10 arg11 harg11 x0 x1 x2) (kernelRun0_B.sl.v506 (F := Ideal) c i arg3 harg3 arg4 harg4 arg5 harg5 arg6 harg6 arg7 harg7 arg8 harg8 arg9 harg9 arg10 harg10 arg11 harg11 hc0 x0 x1 x2)
    (arg5.view.readAt (Elt Ideal) (Rect.unit (s := S1x4096x512) (k0_off31 i) S1x512x128.size (k0_off31_inb i hc0)).toLoadRect (harg5.unread x2))
    (fun k => (load_slot arg11.view _ 1 2 _ r k).trans (hs 2 r k))
    (fun k d => load_val harg5 x2 vr hx2 2 ((i 2).val - 1) _ _ (off31 i odd) (by have := (i 2).isLt; have : (i 2).val < 8 := this; omega) k d)
    (row_congr (fun l => (congrFun (show kernelRun0_B.sl.v484 (F := Ideal) c i arg3 harg3 arg4 harg4 arg5 harg5 arg6 harg6 arg7 harg7 arg8 harg8 arg9 harg9 arg10 harg10 arg11 harg11 x0 x1 x2 = _ from (skip_head arg9.view 1 2 (by decide) _ _ _ _).trans (skip_head arg9.view 0 2 (by decide) _ _ _ _)) _).trans (load_head arg9.view _ 2 _ r l))
      (fun e => (congrFun (show kernelRun0_B.sl.v506 (F := Ideal) c i arg3 harg3 arg4 harg4 arg5 harg5 arg6 harg6 arg7 harg7 arg8 harg8 arg9 harg9 arg10 harg10 arg11 harg11 hc0 x0 x1 x2 = _ from (skip_head arg10.view 1 2 (by decide) _ _ _ _).trans (skip_head arg10.view 0 2 (by decide) _ _ _ _)) _).trans (load_head arg10.view _ 2 _ r e)) hS)
  rw [show (i 2).val - 1 + 1 = (i 2).val from by omega] at this
  exact this

/-- Head 3 meets the block just before the diagonal. -/
theorem tail3 (r : Fin 1024) :
    Row (final qb kr vr (i 2).val 3 r) (fun l => stepM (kernelRun0_B.sl.v514 (F := Ideal) c i arg3 harg3 arg4 harg4 arg5 harg5 arg6 harg6 arg7 harg7 arg8 harg8 arg9 harg9 arg10 harg10 arg11 harg11 x0 x1 x2) (kernelRun0_B.sl.v516 (F := Ideal) c i arg3 harg3 arg4 harg4 arg5 harg5 arg6 harg6 arg7 harg7 arg8 harg8 arg9 harg9 arg10 harg10 arg11 harg11 x0 x1 x2) (ix3 0 r l))
      (fun e => stepA k0_pay158 (kernelRun0_B.sl.v514 (F := Ideal) c i arg3 harg3 arg4 harg4 arg5 harg5 arg6 harg6 arg7 harg7 arg8 harg8 arg9 harg9 arg10 harg10 arg11 harg11 x0 x1 x2) (kernelRun0_B.sl.v516 (F := Ideal) c i arg3 harg3 arg4 harg4 arg5 harg5 arg6 harg6 arg7 harg7 arg8 harg8 arg9 harg9 arg10 harg10 arg11 harg11 x0 x1 x2)
        (arg5.view.readAt (Elt Ideal) (Rect.unit (s := S1x4096x512) (k0_off32 i) S1x512x128.size (k0_off32_inb i hc0)).toLoadRect (harg5.unread x2))
        (kernelRun0_B.sl.v538 (F := Ideal) c i arg3 harg3 arg4 harg4 arg5 harg5 arg6 harg6 arg7 harg7 arg8 harg8 arg9 harg9 arg10 harg10 arg11 harg11 hc0 x0 x1 x2) (ix3 0 r e)) := by
  have odd := odd_point i hc0
  obtain ⟨hS, hs⟩ := both_state c i arg3 harg3 arg4 harg4 arg5 harg5 arg6 harg6 arg7 harg7 arg8 harg8 arg9 harg9 arg10 harg10 arg11 harg11
      (kernelRun0_B.sl.r c arg3 harg3 x0) (kernelRun0_B.sl.r_1 c arg3 harg3 x0) (kernelRun0_B.sl.r_4 c arg3 harg3 x0) (kernelRun0_B.sl.r_5 c arg3 harg3 x0) k0_pay158 x1 x2 ones_real (qq qb) kr vr (queryB0 c arg3 harg3 x0 qb hx0) (queryB1 c arg3 harg3 x0 qb hx0) (queryB2 c arg3 harg3 x0 qb hx0) (queryB3 c arg3 harg3 x0 qb hx0) hx1 hx2 (kernelRun0_B.sl.v266 i)
  have hS := hS 3 r
  rw [show 2 * ((i 2).val / 2) = (i 2).val - 1 from by omega] at hS hs
  rw [Nat.min_self] at hs
  have := fold_one (diagSum (qq qb) kr vr (i 2).val) (qq qb) kr vr 3 r ((i 2).val - 1) k0_pay158 ones_real
    (kernelRun0_B.sl.v514 (F := Ideal) c i arg3 harg3 arg4 harg4 arg5 harg5 arg6 harg6 arg7 harg7 arg8 harg8 arg9 harg9 arg10 harg10 arg11 harg11 x0 x1 x2) (kernelRun0_B.sl.v516 (F := Ideal) c i arg3 harg3 arg4 harg4 arg5 harg5 arg6 harg6 arg7 harg7 arg8 harg8 arg9 harg9 arg10 harg10 arg11 harg11 x0 x1 x2) (kernelRun0_B.sl.v538 (F := Ideal) c i arg3 harg3 arg4 harg4 arg5 harg5 arg6 harg6 arg7 harg7 arg8 harg8 arg9 harg9 arg10 harg10 arg11 harg11 hc0 x0 x1 x2)
    (arg5.view.readAt (Elt Ideal) (Rect.unit (s := S1x4096x512) (k0_off32 i) S1x512x128.size (k0_off32_inb i hc0)).toLoadRect (harg5.unread x2))
    (fun k => (load_slot arg11.view _ 1 3 _ r k).trans (hs 3 r k))
    (fun k d => load_val harg5 x2 vr hx2 3 ((i 2).val - 1) _ _ (off32 i odd) (by have := (i 2).isLt; have : (i 2).val < 8 := this; omega) k d)
    (row_congr (fun l => (congrFun (show kernelRun0_B.sl.v516 (F := Ideal) c i arg3 harg3 arg4 harg4 arg5 harg5 arg6 harg6 arg7 harg7 arg8 harg8 arg9 harg9 arg10 harg10 arg11 harg11 x0 x1 x2 = _ from ((skip_head arg9.view 2 3 (by decide) _ _ _ _).trans (skip_head arg9.view 1 3 (by decide) _ _ _ _)).trans (skip_head arg9.view 0 3 (by decide) _ _ _ _)) _).trans (load_head arg9.view _ 3 _ r l))
      (fun e => (congrFun (show kernelRun0_B.sl.v538 (F := Ideal) c i arg3 harg3 arg4 harg4 arg5 harg5 arg6 harg6 arg7 harg7 arg8 harg8 arg9 harg9 arg10 harg10 arg11 harg11 hc0 x0 x1 x2 = _ from ((skip_head arg10.view 2 3 (by decide) _ _ _ _).trans (skip_head arg10.view 1 3 (by decide) _ _ _ _)).trans (skip_head arg10.view 0 3 (by decide) _ _ _ _)) _).trans (load_head arg10.view _ 3 _ r e)) hS)
  rw [show (i 2).val - 1 + 1 = (i 2).val from by omega] at this
  exact this

theorem rowB0 :
    Sums qb kr vr (i 2).val 0 (fun r e => kernelRun0_B.sl.v297 (F := Ideal) c i arg3 harg3 arg4 harg4 arg5 harg5 arg6 harg6 arg7 harg7 arg8 harg8 arg9 harg9 arg10 harg10 arg11 harg11 hc0 x0 x1 x2 (ix3 0 r e)) := by
  intro r
  obtain ⟨μ, -, ha⟩ := tail0 c i arg3 harg3 arg4 harg4 arg5 harg5 arg6 harg6 arg7 harg7 arg8 harg8 arg9 harg9 arg10 harg10 arg11 harg11 x0 x1 x2 qb kr vr hx0 hx1 hx2 hc0 r
  exact ⟨μ, fun e => (congrFun (show kernelRun0_B.sl.v297 (F := Ideal) c i arg3 harg3 arg4 harg4 arg5 harg5 arg6 harg6 arg7 harg7 arg8 harg8 arg9 harg9 arg10 harg10 arg11 harg11 hc0 x0 x1 x2 = _ from
    (skip_head arg10.view 3 0 (by decide) _ _ _ _).trans ((skip_head arg10.view 2 0 (by decide) _ _ _ _).trans ((skip_head arg10.view 1 0 (by decide) _ _ _ _).trans (View.readCov_cons_toLoadRect _ _ _ _)))) _).trans (ha e)⟩

theorem rowB1 :
    Sums qb kr vr (i 2).val 1 (fun r e => kernelRun0_B.sl.v327 (F := Ideal) c i arg3 harg3 arg4 harg4 arg5 harg5 arg6 harg6 arg7 harg7 arg8 harg8 arg9 harg9 arg10 harg10 arg11 harg11 hc0 x0 x1 x2 (ix3 0 r e)) := by
  intro r
  obtain ⟨μ, -, ha⟩ := tail1 c i arg3 harg3 arg4 harg4 arg5 harg5 arg6 harg6 arg7 harg7 arg8 harg8 arg9 harg9 arg10 harg10 arg11 harg11 x0 x1 x2 qb kr vr hx0 hx1 hx2 hc0 r
  exact ⟨μ, fun e => (congrFun (show kernelRun0_B.sl.v327 (F := Ideal) c i arg3 harg3 arg4 harg4 arg5 harg5 arg6 harg6 arg7 harg7 arg8 harg8 arg9 harg9 arg10 harg10 arg11 harg11 hc0 x0 x1 x2 = _ from
    (skip_head arg10.view 3 1 (by decide) _ _ _ _).trans ((skip_head arg10.view 2 1 (by decide) _ _ _ _).trans (View.readCov_cons_toLoadRect _ _ _ _))) _).trans (ha e)⟩

theorem rowB2 :
    Sums qb kr vr (i 2).val 2 (fun r e => kernelRun0_B.sl.v357 (F := Ideal) c i arg3 harg3 arg4 harg4 arg5 harg5 arg6 harg6 arg7 harg7 arg8 harg8 arg9 harg9 arg10 harg10 arg11 harg11 hc0 x0 x1 x2 (ix3 0 r e)) := by
  intro r
  obtain ⟨μ, -, ha⟩ := tail2 c i arg3 harg3 arg4 harg4 arg5 harg5 arg6 harg6 arg7 harg7 arg8 harg8 arg9 harg9 arg10 harg10 arg11 harg11 x0 x1 x2 qb kr vr hx0 hx1 hx2 hc0 r
  exact ⟨μ, fun e => (congrFun (show kernelRun0_B.sl.v357 (F := Ideal) c i arg3 harg3 arg4 harg4 arg5 harg5 arg6 harg6 arg7 harg7 arg8 harg8 arg9 harg9 arg10 harg10 arg11 harg11 hc0 x0 x1 x2 = _ from
    (skip_head arg10.view 3 2 (by decide) _ _ _ _).trans (View.readCov_cons_toLoadRect _ _ _ _)) _).trans (ha e)⟩

theorem rowB3 :
    Sums qb kr vr (i 2).val 3 (fun r e => kernelRun0_B.sl.v387 (F := Ideal) c i arg3 harg3 arg4 harg4 arg5 harg5 arg6 harg6 arg7 harg7 arg8 harg8 arg9 harg9 arg10 harg10 arg11 harg11 hc0 x0 x1 x2 (ix3 0 r e)) := by
  intro r
  obtain ⟨μ, -, ha⟩ := tail3 c i arg3 harg3 arg4 harg4 arg5 harg5 arg6 harg6 arg7 harg7 arg8 harg8 arg9 harg9 arg10 harg10 arg11 harg11 x0 x1 x2 qb kr vr hx0 hx1 hx2 hc0 r
  exact ⟨μ, fun e => (congrFun (show kernelRun0_B.sl.v387 (F := Ideal) c i arg3 harg3 arg4 harg4 arg5 harg5 arg6 harg6 arg7 harg7 arg8 harg8 arg9 harg9 arg10 harg10 arg11 harg11 hc0 x0 x1 x2 = _ from
    View.readCov_cons_toLoadRect _ _ _ _) _).trans (ha e)⟩

end Cert.Proof.Attention
-- ==== Proof.Block.lean ====
/-
  What the kernel stores of a block of queries: head by head, the difference of the head's two attentions, normalized.
-/
module

public import proofs.«01_k».proof.Proof.Rows
public import proofs.«01_k».proof.Proof.Gen.KernelIdeal.Value

@[expose] public section

set_option maxRecDepth 16384

noncomputable section

open Idealize.ShloMosaic Idealize.ShloMosaic.TcCoe Idealize.SL.Sem

namespace Cert.Proof.Attention

open Cert.KernelIdeal Cert.KernelIdeal.Gen

/-- The sum of a query's weights is positive: the query sees the first key of its own block. -/
theorem final_pos (qb kr vr : ℕ → ℕ → ℝ) (n : ℕ) (h : Fin 4) (r : Fin 1024) (e : Fin 128) :
    0 < final qb kr vr n h r ⟨128 + e.val, by omega⟩ := by
  have hc : ∀ k, colOf vr h k ⟨128 + e.val, by omega⟩ = 1 := fun k => by simp [colOf]
  have hp : ∀ x : ℝ, (0 : ℝ) < 2 ^ x := fun x => Real.rpow_pos_of_pos (by norm_num) x
  unfold final
  refine add_pos_of_pos_of_nonneg ?_ (Finset.sum_nonneg fun j _ => Finset.sum_nonneg fun k _ => ?_)
  · refine Finset.sum_pos' (fun k _ => ?_) ⟨0, Finset.mem_univ _, ?_⟩
    · rw [hc, mul_one]
      split
      · exact (hp _).le
      · exact le_rfl
    · rw [hc, mul_one, if_pos (by simp)]
      exact hp _
  · rw [hc, mul_one]
    exact (hp _).le

/-- The difference of a head's two attentions, for one query of a block. -/
def zOf (qb kr vr : ℕ → ℕ → ℝ) (n : ℕ) (lr : ℝ) (h : Fin 4) (r : Fin 512) (e : Fin 128) : ℝ :=
  final qb kr vr n h ⟨r.val, by omega⟩ ⟨e.val, by omega⟩ / final qb kr vr n h ⟨r.val, by omega⟩ ⟨128 + e.val, by omega⟩
    - lr * (final qb kr vr n h ⟨512 + r.val, by omega⟩ ⟨e.val, by omega⟩
      / final qb kr vr n h ⟨512 + r.val, by omega⟩ ⟨128 + e.val, by omega⟩)

theorem inb_out : ∀ h : Fin 4, ∀ a, (![0, 0, 128 * h.val] : Fin 3 → Nat) a + S1x512x128.size a ≤ S1x512x512.size a := by decide

/-- The four heads' stores of a block, the last in front. -/
def outs (w : Fin 4 → S1x512x128.Idx → EReal) : List (View.Piece (Elt Ideal) S1x512x512 .bf16) :=
  [⟨Rect.unit (s := S1x512x512) ![0, 0, 384] S1x512x128.size (inb_out 3), w 3⟩, ⟨Rect.unit (s := S1x512x512) ![0, 0, 256] S1x512x128.size (inb_out 2), w 2⟩,
   ⟨Rect.unit (s := S1x512x512) ![0, 0, 128] S1x512x128.size (inb_out 1), w 1⟩, ⟨Rect.unit (s := S1x512x512) ![0, 0, 0] S1x512x128.size (inb_out 0), w 0⟩]

/-- What the block holds after the four stores. -/
theorem read_outs (v : View sig .tc .vmem S1x512x512 .bf16) (f : v.ty.Contents (Elt Ideal)) (w : Fin 4 → S1x512x128.Idx → EReal)
    (r : Fin 512) (e : Fin 128) (h : Fin 4) :
    v.read (Elt Ideal) (v.writes (Elt Ideal) f (outs w)) (ix3 0 r ⟨128 * h.val + e.val, by omega⟩) = w h (ix3 0 r e) := by
  have hit : ∀ (h : Fin 4) (inb) (L : List (View.Piece (Elt Ideal) S1x512x512 .bf16)) (w : S1x512x128.Idx → EReal),
      v.read (Elt Ideal) (v.writes (Elt Ideal) f (⟨Rect.unit (s := S1x512x512) ![0, 0, 128 * h.val] S1x512x128.size inb, w⟩ :: L))
        (ix3 0 r ⟨128 * h.val + e.val, by omega⟩) = w (ix3 0 r e) := fun h inb L w =>
    View.read_writes_cons_unit_of_mem v f inb w L _ (ix3 0 r e) rfl (fun ax => by fin_cases ax <;> simp [ix3])
  have miss : ∀ (h k : Fin 4) (inb) (L : List (View.Piece (Elt Ideal) S1x512x512 .bf16)) (w : S1x512x128.Idx → EReal), h.val < k.val →
      v.read (Elt Ideal) (v.writes (Elt Ideal) f (⟨Rect.unit (s := S1x512x512) ![0, 0, 128 * k.val] S1x512x128.size inb, w⟩ :: L))
        (ix3 0 r ⟨128 * h.val + e.val, by omega⟩) = v.read (Elt Ideal) (v.writes (Elt Ideal) f L) (ix3 0 r ⟨128 * h.val + e.val, by omega⟩) :=
    fun h k inb L w hk => View.read_writes_cons_unit_of_not_mem v f inb w L _ rfl 2 (by
      show 128 * h.val + e.val < 128 * k.val ∨ 128 * k.val + 128 ≤ 128 * h.val + e.val
      omega)
  revert h
  refine fin4 ?_ ?_ ?_ ?_
  · exact (miss 0 3 (inb_out 3) _ _ (by decide)).trans ((miss 0 2 (inb_out 2) _ _ (by decide)).trans ((miss 0 1 (inb_out 1) _ _ (by decide)).trans (hit 0 (inb_out 0) _ _)))
  · exact (miss 1 3 (inb_out 3) _ _ (by decide)).trans ((miss 1 2 (inb_out 2) _ _ (by decide)).trans (hit 1 (inb_out 1) _ _))
  · exact (miss 2 3 (inb_out 3) _ _ (by decide)).trans (hit 2 (inb_out 2) _ _)
  · exact hit 3 (inb_out 3) _ _

/-- A load of the whole of a small operand. -/
theorem load_whole {s : Shape} {e : EltTy} {m : Memref sig .tc .vmem s e} (hm : m.IsWhole) (x : Vec Ideal s e) (off : Fin s.rank → Nat)
    (inb : ∀ a, off a + s.size a ≤ s.size a) :
    m.view.readAt (Elt Ideal) (Rect.unit (s := s) off s.size inb).toLoadRect (hm.unread x) = x := by
  rw [View.readAt_eq_ld, hm.read_unread]
  funext j
  refine congrArg x (funext fun ax => Fin.ext ?_)
  have := inb ax
  simp [LoadRect.idx, Rect.unit, Rect.toLoadRect]
  omega

/-- The last step of a head from its accumulators' sums. -/
theorem head_out (qb kr vr : ℕ → ℕ → ℝ) (n : ℕ) (h : Fin 4) (acc : Vec Ideal S1x1024x256 .f32)
    (ha : Sums qb kr vr n h (fun r e => acc (ix3 0 r e))) (lam : FVec Ideal S1x1 .f32) (lr : ℝ) (hlam : lam (ix2 0 0) = ((lr : ℝ) : EReal))
    (g : Vec Ideal S1x128 .f32) (r : Fin 512) (e : Fin 128) :
    k0_pay195 lam acc g (ix3 0 r e) = normed (zOf qb kr vr n lr h r) (g (ix2 0 e)) e :=
  finish_head lam acc g lr hlam (final qb kr vr n h) (fun r e => (final_pos qb kr vr n h r e).ne') ha r e

theorem even_point : ∀ i : grid0.Coords, ¬cond0_0 i → (i 2).val % 2 = 0 := by decide +kernel

variable (c : Dev nD) (i : grid0.Coords)
variable (arg3 : Memref sig .tc .vmem S1x512x512 .bf16) (harg3 : arg3.IsWhole)
variable (arg4 : Memref sig .tc .vmem S1x4096x512 .bf16) (harg4 : arg4.IsWhole)
variable (arg5 : Memref sig .tc .vmem S1x4096x512 .bf16) (harg5 : arg5.IsWhole)
variable (arg6 : Memref sig .tc .vmem S4x64 .f32) (harg6 : arg6.IsWhole)
variable (arg7 : Memref sig .tc .vmem S1x128 .f32) (harg7 : arg7.IsWhole)
variable (arg8 : Memref sig .tc .vmem S1x512x512 .bf16) (harg8 : arg8.IsWhole)
variable (arg9 : Memref sig .tc .vmem S4x1024x128 .f32) (harg9 : arg9.IsWhole)
variable (arg10 : Memref sig .tc .vmem S4x1024x256 .f32) (harg10 : arg10.IsWhole)
variable (arg11 : Memref sig .tc .vmem S2x4x1024x512 .f32) (harg11 : arg11.IsWhole)
variable (x0 : Vec Ideal S1x512x512 .bf16) (x1 x2 : Vec Ideal S1x4096x512 .bf16) (x3 : Vec Ideal S4x64 .f32) (x4 : Vec Ideal S1x128 .f32)
variable (qb kr vr : ℕ → ℕ → ℝ) (hx0 : ∀ (n d : Fin 512), x0 (ix3 0 n d) = ((qb n.val d.val : ℝ) : EReal))
variable (hx1 : ∀ (n : Fin 4096) (d : Fin 512), x1 (ix3 0 n d) = ((kr n.val d.val : ℝ) : EReal))
variable (hx2 : ∀ (n : Fin 4096) (d : Fin 512), x2 (ix3 0 n d) = ((vr n.val d.val : ℝ) : EReal))
variable (lr : ℝ) (hlam : k0_pay192 x3 (ix2 0 0) = ((lr : ℝ) : EReal))

include hx0 hx1 hx2 hlam

/-- The block stored at a point of case A. -/
theorem blockA (hc0 : ¬cond0_0 i) (h : Fin 4) (r : Fin 512) (e : Fin 128) :
    out0_A_5 (F := Ideal) c i arg3 harg3 arg4 harg4 arg5 harg5 arg6 harg6 arg7 harg7 arg8 harg8 arg9 harg9 arg10 harg10 arg11 harg11 hc0 x0 x1 x2 x3 x4 (ix3 0 r ⟨128 * h.val + e.val, by omega⟩)
      = normed (zOf qb kr vr (i 2).val lr h r) (x4 (ix2 0 e)) e := by
  refine (show out0_A_5 (F := Ideal) c i arg3 harg3 arg4 harg4 arg5 harg5 arg6 harg6 arg7 harg7 arg8 harg8 arg9 harg9 arg10 harg10 arg11 harg11 hc0 x0 x1 x2 x3 x4 (ix3 0 r ⟨128 * h.val + e.val, by omega⟩)
    = VO0_5.read (Elt Ideal) (VO0_5.writes (Elt Ideal) VO0_5.junk (outs ![k0_pay195 (k0_pay192 (arg6.view.readAt (Elt Ideal) (Rect.unit (s := S4x64) ![0, 0] S4x64.size (by decide)).toLoadRect (harg6.unread x3))) (kernelRun0_A.sl.v297 (F := Ideal) c i arg3 harg3 arg4 harg4 arg5 harg5 arg6 harg6 arg7 harg7 arg8 harg8 arg9 harg9 arg10 harg10 arg11 harg11 x0 x1 x2) (arg7.view.readAt (Elt Ideal) (Rect.unit (s := S1x128) ![0, 0] S1x128.size (by decide)).toLoadRect (harg7.unread x4)), k0_pay195 (k0_pay192 (arg6.view.readAt (Elt Ideal) (Rect.unit (s := S4x64) ![0, 0] S4x64.size (by decide)).toLoadRect (harg6.unread x3))) (kernelRun0_A.sl.v327 (F := Ideal) c i arg3 harg3 arg4 harg4 arg5 harg5 arg6 harg6 arg7 harg7 arg8 harg8 arg9 harg9 arg10 harg10 arg11 harg11 x0 x1 x2) (arg7.view.readAt (Elt Ideal) (Rect.unit (s := S1x128) ![0, 0] S1x128.size (by decide)).toLoadRect (harg7.unread x4)), k0_pay195 (k0_pay192 (arg6.view.readAt (Elt Ideal) (Rect.unit (s := S4x64) ![0, 0] S4x64.size (by decide)).toLoadRect (harg6.unread x3))) (kernelRun0_A.sl.v357 (F := Ideal) c i arg3 harg3 arg4 harg4 arg5 harg5 arg6 harg6 arg7 harg7 arg8 harg8 arg9 harg9 arg10 harg10 arg11 harg11 x0 x1 x2) (arg7.view.readAt (Elt Ideal) (Rect.unit (s := S1x128) ![0, 0] S1x128.size (by decide)).toLoadRect (harg7.unread x4)), k0_pay195 (k0_pay192 (arg6.view.readAt (Elt Ideal) (Rect.unit (s := S4x64) ![0, 0] S4x64.size (by decide)).toLoadRect (harg6.unread x3))) (kernelRun0_A.sl.v387 (F := Ideal) c i arg3 harg3 arg4 harg4 arg5 harg5 arg6 harg6 arg7 harg7 arg8 harg8 arg9 harg9 arg10 harg10 arg11 harg11 x0 x1 x2) (arg7.view.readAt (Elt Ideal) (Rect.unit (s := S1x128) ![0, 0] S1x128.size (by decide)).toLoadRect (harg7.unread x4))])) (ix3 0 r ⟨128 * h.val + e.val, by omega⟩) from rfl).trans ?_
  rw [read_outs, load_whole harg6, load_whole harg7]
  revert h
  refine fin4 ?_ ?_ ?_ ?_
  · exact head_out qb kr vr _ 0 _ (rowA0 c i arg3 harg3 arg4 harg4 arg5 harg5 arg6 harg6 arg7 harg7 arg8 harg8 arg9 harg9 arg10 harg10 arg11 harg11 x0 x1 x2 qb kr vr hx0 hx1 hx2 (even_point i hc0)) _ lr hlam _ r e
  · exact head_out qb kr vr _ 1 _ (rowA1 c i arg3 harg3 arg4 harg4 arg5 harg5 arg6 harg6 arg7 harg7 arg8 harg8 arg9 harg9 arg10 harg10 arg11 harg11 x0 x1 x2 qb kr vr hx0 hx1 hx2 (even_point i hc0)) _ lr hlam _ r e
  · exact head_out qb kr vr _ 2 _ (rowA2 c i arg3 harg3 arg4 harg4 arg5 harg5 arg6 harg6 arg7 harg7 arg8 harg8 arg9 harg9 arg10 harg10 arg11 harg11 x0 x1 x2 qb kr vr hx0 hx1 hx2 (even_point i hc0)) _ lr hlam _ r e
  · exact head_out qb kr vr _ 3 _ (rowA3 c i arg3 harg3 arg4 harg4 arg5 harg5 arg6 harg6 arg7 harg7 arg8 harg8 arg9 harg9 arg10 harg10 arg11 harg11 x0 x1 x2 qb kr vr hx0 hx1 hx2 (even_point i hc0)) _ lr hlam _ r e

/-- The block stored at a point of case B. -/
theorem blockB (hc0 : cond0_0 i) (h : Fin 4) (r : Fin 512) (e : Fin 128) :
    out0_B_5 (F := Ideal) c i arg3 harg3 arg4 harg4 arg5 harg5 arg6 harg6 arg7 harg7 arg8 harg8 arg9 harg9 arg10 harg10 arg11 harg11 hc0 x0 x1 x2 x3 x4 (ix3 0 r ⟨128 * h.val + e.val, by omega⟩)
      = normed (zOf qb kr vr (i 2).val lr h r) (x4 (ix2 0 e)) e := by
  refine (show out0_B_5 (F := Ideal) c i arg3 harg3 arg4 harg4 arg5 harg5 arg6 harg6 arg7 harg7 arg8 harg8 arg9 harg9 arg10 harg10 arg11 harg11 hc0 x0 x1 x2 x3 x4 (ix3 0 r ⟨128 * h.val + e.val, by omega⟩)
    = VO0_5.read (Elt Ideal) (VO0_5.writes (Elt Ideal) VO0_5.junk (outs ![k0_pay195 (k0_pay192 (arg6.view.readAt (Elt Ideal) (Rect.unit (s := S4x64) ![0, 0] S4x64.size (by decide)).toLoadRect (harg6.unread x3))) (kernelRun0_B.sl.v297 (F := Ideal) c i arg3 harg3 arg4 harg4 arg5 harg5 arg6 harg6 arg7 harg7 arg8 harg8 arg9 harg9 arg10 harg10 arg11 harg11 hc0 x0 x1 x2) (arg7.view.readAt (Elt Ideal) (Rect.unit (s := S1x128) ![0, 0] S1x128.size (by decide)).toLoadRect (harg7.unread x4)), k0_pay195 (k0_pay192 (arg6.view.readAt (Elt Ideal) (Rect.unit (s := S4x64) ![0, 0] S4x64.size (by decide)).toLoadRect (harg6.unread x3))) (kernelRun0_B.sl.v327 (F := Ideal) c i arg3 harg3 arg4 harg4 arg5 harg5 arg6 harg6 arg7 harg7 arg8 harg8 arg9 harg9 arg10 harg10 arg11 harg11 hc0 x0 x1 x2) (arg7.view.readAt (Elt Ideal) (Rect.unit (s := S1x128) ![0, 0] S1x128.size (by decide)).toLoadRect (harg7.unread x4)), k0_pay195 (k0_pay192 (arg6.view.readAt (Elt Ideal) (Rect.unit (s := S4x64) ![0, 0] S4x64.size (by decide)).toLoadRect (harg6.unread x3))) (kernelRun0_B.sl.v357 (F := Ideal) c i arg3 harg3 arg4 harg4 arg5 harg5 arg6 harg6 arg7 harg7 arg8 harg8 arg9 harg9 arg10 harg10 arg11 harg11 hc0 x0 x1 x2) (arg7.view.readAt (Elt Ideal) (Rect.unit (s := S1x128) ![0, 0] S1x128.size (by decide)).toLoadRect (harg7.unread x4)), k0_pay195 (k0_pay192 (arg6.view.readAt (Elt Ideal) (Rect.unit (s := S4x64) ![0, 0] S4x64.size (by decide)).toLoadRect (harg6.unread x3))) (kernelRun0_B.sl.v387 (F := Ideal) c i arg3 harg3 arg4 harg4 arg5 harg5 arg6 harg6 arg7 harg7 arg8 harg8 arg9 harg9 arg10 harg10 arg11 harg11 hc0 x0 x1 x2) (arg7.view.readAt (Elt Ideal) (Rect.unit (s := S1x128) ![0, 0] S1x128.size (by decide)).toLoadRect (harg7.unread x4))])) (ix3 0 r ⟨128 * h.val + e.val, by omega⟩) from rfl).trans ?_
  rw [read_outs, load_whole harg6, load_whole harg7]
  revert h
  refine fin4 ?_ ?_ ?_ ?_
  · exact head_out qb kr vr _ 0 _ (rowB0 c i arg3 harg3 arg4 harg4 arg5 harg5 arg6 harg6 arg7 harg7 arg8 harg8 arg9 harg9 arg10 harg10 arg11 harg11 x0 x1 x2 qb kr vr hx0 hx1 hx2 (hc0)) _ lr hlam _ r e
  · exact head_out qb kr vr _ 1 _ (rowB1 c i arg3 harg3 arg4 harg4 arg5 harg5 arg6 harg6 arg7 harg7 arg8 harg8 arg9 harg9 arg10 harg10 arg11 harg11 x0 x1 x2 qb kr vr hx0 hx1 hx2 (hc0)) _ lr hlam _ r e
  · exact head_out qb kr vr _ 2 _ (rowB2 c i arg3 harg3 arg4 harg4 arg5 harg5 arg6 harg6 arg7 harg7 arg8 harg8 arg9 harg9 arg10 harg10 arg11 harg11 x0 x1 x2 qb kr vr hx0 hx1 hx2 (hc0)) _ lr hlam _ r e
  · exact head_out qb kr vr _ 3 _ (rowB3 c i arg3 harg3 arg4 harg4 arg5 harg5 arg6 harg6 arg7 harg7 arg8 harg8 arg9 harg9 arg10 harg10 arg11 harg11 x0 x1 x2 qb kr vr hx0 hx1 hx2 (hc0)) _ lr hlam _ r e

end Cert.Proof.Attention
-- ==== Proof.Spec.lean ====
/-
  The attention in real numbers, as both programs compute it: for a head and a half of its lanes, the softmax weights of the
  keys up to the query; the values' weighted mean; the difference of the two halves' means.
-/
module

public import proofs.«01_k».proof.Proof.Block

@[expose] public section

set_option maxRecDepth 16384

noncomputable section

open Idealize.ShloMosaic Idealize.ShloMosaic.TcCoe Idealize.SL.Sem

namespace Cert.Proof.Attention

/-- The score of query `t` and key `n` over half `s` of head `H`'s lanes. -/
def sc (qn kn : ℕ → ℕ → ℝ) (t H s n : ℕ) : ℝ := (∑ d ∈ Finset.range 64, qn t (128 * H + (64 * s + d)) * kn n (128 * H + (64 * s + d))) * (1 / 8)

/-- The sum of a query's weights. -/
def den (qn kn : ℕ → ℕ → ℝ) (t H s : ℕ) : ℝ := ∑ n ∈ Finset.range (t + 1), Real.exp (sc qn kn t H s n)

/-- The values' weighted sum. -/
def num (qn kn vn : ℕ → ℕ → ℝ) (t H s e : ℕ) : ℝ := ∑ n ∈ Finset.range (t + 1), Real.exp (sc qn kn t H s n) * vn n (128 * H + e)

/-- The difference of the two attentions. -/
def zed (qn kn vn : ℕ → ℕ → ℝ) (lr : ℝ) (t H e : ℕ) : ℝ :=
  num qn kn vn t H 0 e / den qn kn t H 0 - lr * (num qn kn vn t H 1 e / den qn kn t H 1)

/-! ## The kernel's sums are these -/

/-- The diagonal block and the blocks before it are the keys up to the query. -/
theorem final_sum (qb kr vr : ℕ → ℕ → ℝ) (n : ℕ) (h : Fin 4) (r : Fin 1024) (e : Fin 256) :
    final qb kr vr n h r e
      = ∑ k ∈ Finset.range (512 * n + r.val % 512 + 1), 2 ^ score (qq qb) kr h r k * colOf vr h k e := by
  have blocks : ∀ m, ∑ j ∈ Finset.range m, blk (qq qb) kr vr h r j e
      = ∑ k ∈ Finset.range (512 * m), 2 ^ score (qq qb) kr h r k * colOf vr h k e := by
    intro m
    induction m with
    | zero => simp
    | succ m ih =>
      rw [Finset.sum_range_succ, ih, Nat.mul_succ, Finset.sum_range_add]
      exact congrArg _ (Finset.sum_range (fun k => (2 : ℝ) ^ score (qq qb) kr h r (512 * m + k) * colOf vr h (512 * m + k) e)).symm
  have diag : diagSum (qq qb) kr vr n h r e
      = ∑ k ∈ Finset.range (r.val % 512 + 1), 2 ^ score (qq qb) kr h r (512 * n + k) * colOf vr h (512 * n + k) e := by
    unfold diagSum
    rw [← Finset.sum_range (fun k => (if k ≤ r.val % 512 then (2 : ℝ) ^ score (qq qb) kr h r (512 * n + k) else 0) * colOf vr h (512 * n + k) e)]
    have hs : Finset.range (r.val % 512 + 1) ⊆ Finset.range 512 := Finset.range_subset_range.mpr (by omega)
    rw [← Finset.sum_subset hs]
    · refine Finset.sum_congr rfl fun k hk => ?_
      rw [if_pos (by have := Finset.mem_range.mp hk; omega)]
    · intro k _ hk
      rw [if_neg (by simpa using hk), zero_mul]
  unfold final
  rw [blocks, diag, Nat.add_assoc, Finset.sum_range_add _ (512 * n) (r.val % 512 + 1), add_comm]

/-- A score in base two is the score in base `e`. -/
theorem pow_score (qb kr : ℕ → ℕ → ℝ) (h : Fin 4) (r : Fin 1024) (n : ℕ) (s : ℕ) (hs : s = r.val / 512) :
    (2 : ℝ) ^ score (qq qb) kr h r n
      = Real.exp ((∑ d ∈ Finset.range 64, qb (r.val % 512) (128 * h.val + (64 * s + d)) * kr n (128 * h.val + (64 * s + d))) * (1 / 8)) := by
  have e1 : score (qq qb) kr h r n
      = qkScale * ∑ d ∈ Finset.range 64, qb (r.val % 512) (128 * h.val + (64 * s + d)) * kr n (128 * h.val + (64 * s + d)) := by
    let g : ℕ → ℝ := fun d => (qb (r.val % 512) (128 * h.val + d) * qkScale
      * (if r.val < 512 then (if d < 64 then 1 else 0) else (if d < 64 then 0 else 1))) * kr n (128 * h.val + d)
    have e2 : score (qq qb) kr h r n = ∑ d ∈ Finset.range (64 + 64), g d := by
      rw [Finset.sum_range]; rfl
    rw [e2, Finset.sum_range_add, Finset.mul_sum, ← Finset.sum_add_distrib]
    refine Finset.sum_congr rfl fun d hd => ?_
    have hd := Finset.mem_range.mp hd
    have := r.isLt
    simp only [g]
    by_cases hr : r.val < 512
    · have : s = 0 := by omega
      subst this
      simp [hr, hd]
      ring
    · have : s = 1 := by omega
      subst this
      simp [hr, hd]
      ring
  rw [e1, Real.rpow_def_of_pos (by norm_num)]
  congr 1
  have : Real.log 2 ≠ 0 := (Real.log_pos (by norm_num)).ne'
  unfold qkScale
  field_simp

/-- The kernel's difference of attentions, at a block's place in the arrays. -/
theorem zOf_eq (qb kr vr qn kn vn : ℕ → ℕ → ℝ) (n i1 : ℕ) (lr : ℝ) (h : Fin 4) (r : Fin 512) (e : Fin 128)
    (hq : ∀ r d, qb r d = qn (512 * n + r) (512 * i1 + d)) (hk : ∀ n d, kr n d = kn n (512 * i1 + d)) (hv : ∀ n d, vr n d = vn n (512 * i1 + d)) :
    zOf qb kr vr n lr h r e = zed qn kn vn lr (512 * n + r.val) (4 * i1 + h.val) e.val := by
  have w : ∀ (r' : Fin 1024) (s k : ℕ), s = r'.val / 512 → r'.val % 512 = r.val →
      (2 : ℝ) ^ score (qq qb) kr h r' k = Real.exp (sc qn kn (512 * n + r.val) (4 * i1 + h.val) s k) := by
    intro r' s k hs hr
    rw [pow_score qb kr h r' k s hs, hr]
    unfold sc
    congr 2
    refine Finset.sum_congr rfl fun d _ => ?_
    rw [hq, hk, show 512 * i1 + (128 * h.val + (64 * s + d)) = 128 * (4 * i1 + h.val) + (64 * s + d) from by ring]
  have a : ∀ (r' : Fin 1024) (s : ℕ), s = r'.val / 512 → r'.val % 512 = r.val →
      final qb kr vr n h r' ⟨e.val, by omega⟩ = num qn kn vn (512 * n + r.val) (4 * i1 + h.val) s e.val := by
    intro r' s hs hr
    rw [final_sum, hr]
    refine Finset.sum_congr rfl fun k _ => ?_
    rw [w r' s k hs hr]
    simp only [colOf, e.isLt, ↓reduceIte, hv]
    rw [show 512 * i1 + (128 * h.val + e.val) = 128 * (4 * i1 + h.val) + e.val from by ring]
  have b : ∀ (r' : Fin 1024) (s : ℕ), s = r'.val / 512 → r'.val % 512 = r.val →
      final qb kr vr n h r' ⟨128 + e.val, by omega⟩ = den qn kn (512 * n + r.val) (4 * i1 + h.val) s := by
    intro r' s hs hr
    rw [final_sum, hr]
    refine Finset.sum_congr rfl fun k _ => ?_
    rw [w r' s k hs hr]
    simp [colOf]
  unfold zOf zed
  rw [a ⟨r.val, by omega⟩ 0 (by simp <;> omega) (by simp <;> omega), b ⟨r.val, by omega⟩ 0 (by simp <;> omega) (by simp <;> omega),
    a ⟨512 + r.val, by omega⟩ 1 (by simp <;> omega) (by simp <;> omega), b ⟨512 + r.val, by omega⟩ 1 (by simp <;> omega) (by simp <;> omega)]

theorem den_pos (qn kn : ℕ → ℕ → ℝ) (t H s : ℕ) : 0 < den qn kn t H s :=
  Finset.sum_pos (fun _ _ => Real.exp_pos _) ⟨0, by simp⟩

end Cert.Proof.Attention
-- ==== Proof.KernelValue.lean ====
/-
  What the kernel leaves in its result array: at each query and column the normalized difference of the head's attentions.
-/
module

public import proofs.«01_k».proof.Proof.Spec
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.Attention

open Cert.KernelIdeal Cert.KernelIdeal.Gen

theorem index_q : ∀ t : Fin cfg0.N, win0_0.index t = ![(grid0.coords t 0).val, (grid0.coords t 2).val, (grid0.coords t 1).val] :=
  (by decide +kernel : ∀ t : Fin grid0.N, _)
theorem index_k : ∀ t : Fin cfg0.N, win0_1.index t = ![(grid0.coords t 0).val, 0, (grid0.coords t 1).val] :=
  (by decide +kernel : ∀ t : Fin grid0.N, _)
theorem index_v : ∀ t : Fin cfg0.N, win0_2.index t = ![(grid0.coords t 0).val, 0, 2 + (grid0.coords t 1).val] :=
  (by decide +kernel : ∀ t : Fin grid0.N, _)
theorem index_l : ∀ t : Fin cfg0.N, win0_3.index t = ![0, 0] := (by decide +kernel : ∀ t : Fin grid0.N, _)
theorem index_g : ∀ t : Fin cfg0.N, win0_4.index t = ![0, 0] := (by decide +kernel : ∀ t : Fin grid0.N, _)
theorem index_o : ∀ t : Fin cfg0.N, win0_5.index t = ![(grid0.coords t 0).val, (grid0.coords t 2).val, (grid0.coords t 1).val] :=
  (by decide +kernel : ∀ t : Fin grid0.N, _)

variable (m : (ℓ : Loc nD τ sig) → Buf (Elt Ideal) ℓ) (c : Dev nD)
variable (qn kn : ℕ → ℕ → ℕ → ℝ)
  (hq : ∀ (b : Fin 4) (t : Fin 4096) (d : Fin 1024), (m ((c : Thread nD τ).loc main_arg0) : Vec Ideal S4x4096x1024 .bf16) (ix3 b t d) = ((qn b.val t.val d.val : ℝ) : EReal))
  (hk : ∀ (b : Fin 4) (t : Fin 4096) (d : Fin 2048), (m ((c : Thread nD τ).loc main_arg1) : Vec Ideal S4x4096x2048 .bf16) (ix3 b t d) = ((kn b.val t.val d.val : ℝ) : EReal))

include hq in
theorem block_q (t : Fin cfg0.N) (n d : Fin 512) :
    (iblk m c 0 t : Vec Ideal S1x512x512 .bf16) (ix3 0 n d)
      = ((qn (grid0.coords t 0).val (512 * (grid0.coords t 2).val + n.val) (512 * (grid0.coords t 1).val + d.val) : ℝ) : EReal) := by
  have h0 : (grid0.coords t 0).val < 4 := (grid0.coords t 0).isLt
  have h1 : (grid0.coords t 1).val < 2 := (grid0.coords t 1).isLt
  have h2 : (grid0.coords t 2).val < 8 := (grid0.coords t 2).isLt
  refine Eq.trans ?_ (hq ⟨(grid0.coords t 0).val, h0⟩ ⟨512 * (grid0.coords t 2).val + n.val, by omega⟩ ⟨512 * (grid0.coords t 1).val + d.val, by omega⟩)
  blk_ext [iblk, V, index_q t]

include hk in
theorem block_k (t : Fin cfg0.N) (n : Fin 4096) (d : Fin 512) :
    (iblk m c 1 t : Vec Ideal S1x4096x512 .bf16) (ix3 0 n d)
      = ((kn (grid0.coords t 0).val n.val (512 * (grid0.coords t 1).val + d.val) : ℝ) : EReal) := by
  have h0 : (grid0.coords t 0).val < 4 := (grid0.coords t 0).isLt
  have h1 : (grid0.coords t 1).val < 2 := (grid0.coords t 1).isLt
  refine Eq.trans ?_ (hk ⟨(grid0.coords t 0).val, h0⟩ n ⟨512 * (grid0.coords t 1).val + d.val, by omega⟩)
  blk_ext [iblk, V, index_k t]

include hk in
theorem block_v (t : Fin cfg0.N) (n : Fin 4096) (d : Fin 512) :
    (iblk m c 2 t : Vec Ideal S1x4096x512 .bf16) (ix3 0 n d)
      = ((kn (grid0.coords t 0).val n.val (1024 + (512 * (grid0.coords t 1).val + d.val)) : ℝ) : EReal) := by
  have h0 : (grid0.coords t 0).val < 4 := (grid0.coords t 0).isLt
  have h1 : (grid0.coords t 1).val < 2 := (grid0.coords t 1).isLt
  refine Eq.trans ?_ (hk ⟨(grid0.coords t 0).val, h0⟩ n ⟨1024 + (512 * (grid0.coords t 1).val + d.val), by omega⟩)
  blk_ext [iblk, V, index_v t]

theorem block_g (t : Fin cfg0.N) (e : Fin 128) :
    (iblk m c 4 t : Vec Ideal S1x128 .f32) (ix2 0 e) = (m ((c : Thread nD τ).loc main_arg6) : Vec Ideal S1x128 .f32) (ix2 0 e) := by
  blk_simp [iblk, index_g t]
  entry_read
  pointwise
  blk_ext [index_g t]

theorem stacked (m : (ℓ : Loc nD τ sig) → Buf (Elt Ideal) ℓ) (c : Dev nD) : (V m c main_v8 : Vec Ideal S4x64 .f32)
    = (concatenate S4x64 0 [⟨S1x64, (V m c main_v4 : Vec Ideal S1x64 .f32)⟩, ⟨S1x64, (V m c main_v5 : Vec Ideal S1x64 .f32)⟩,
      ⟨S1x64, (V m c main_v6 : Vec Ideal S1x64 .f32)⟩, ⟨S1x64, (V m c main_v7 : Vec Ideal S1x64 .f32)⟩] concatenates_S1x64_S1x64_S1x64_S1x64_S4x64_d0) := by
  rfl

theorem row4 (d : Fin 64) : (V m c main_v4 : Vec Ideal S1x64 .f32) (ix2 0 d) = (m ((c : Thread nD τ).loc main_arg2) : Vec Ideal S1x64 .f32) (ix2 0 d) := by
  entry_read
  pointwise

theorem row5 (d : Fin 64) : (V m c main_v5 : Vec Ideal S1x64 .f32) (ix2 0 d) = (m ((c : Thread nD τ).loc main_arg3) : Vec Ideal S1x64 .f32) (ix2 0 d) := by
  entry_read
  pointwise

theorem row6 (d : Fin 64) : (V m c main_v6 : Vec Ideal S1x64 .f32) (ix2 0 d) = (m ((c : Thread nD τ).loc main_arg4) : Vec Ideal S1x64 .f32) (ix2 0 d) := by
  entry_read
  pointwise

theorem row7 (d : Fin 64) : (V m c main_v7 : Vec Ideal S1x64 .f32) (ix2 0 d) = (m ((c : Thread nD τ).loc main_arg5) : Vec Ideal S1x64 .f32) (ix2 0 d) := by
  entry_read
  pointwise

theorem rows_b (t : Fin cfg0.N) (r : Fin 4) (d : Fin 64) :
    (iblk m c 3 t : Vec Ideal S4x64 .f32) (ix2 r d) = (V m c main_v8 : Vec Ideal S4x64 .f32) (ix2 r d) := by
  blk_ext [iblk, index_l t]

theorem row_l0 (t : Fin cfg0.N) (d : Fin 64) :
    (iblk m c 3 t : Vec Ideal S4x64 .f32) (ix2 0 d) = (m ((c : Thread nD τ).loc main_arg2) : Vec Ideal S1x64 .f32) (ix2 0 d) := by
  rw [rows_b, stacked, ← row4 m c d]
  generalize (V m c main_v4 : Vec Ideal S1x64 .f32) = a
  generalize (V m c main_v5 : Vec Ideal S1x64 .f32) = b
  generalize (V m c main_v6 : Vec Ideal S1x64 .f32) = e
  generalize (V m c main_v7 : Vec Ideal S1x64 .f32) = f
  pointwise

theorem row_l1 (t : Fin cfg0.N) (d : Fin 64) :
    (iblk m c 3 t : Vec Ideal S4x64 .f32) (ix2 1 d) = (m ((c : Thread nD τ).loc main_arg3) : Vec Ideal S1x64 .f32) (ix2 0 d) := by
  rw [rows_b, stacked, ← row5 m c d]
  generalize (V m c main_v4 : Vec Ideal S1x64 .f32) = a
  generalize (V m c main_v5 : Vec Ideal S1x64 .f32) = b
  generalize (V m c main_v6 : Vec Ideal S1x64 .f32) = e
  generalize (V m c main_v7 : Vec Ideal S1x64 .f32) = f
  pointwise

theorem row_l2 (t : Fin cfg0.N) (d : Fin 64) :
    (iblk m c 3 t : Vec Ideal S4x64 .f32) (ix2 2 d) = (m ((c : Thread nD τ).loc main_arg4) : Vec Ideal S1x64 .f32) (ix2 0 d) := by
  rw [rows_b, stacked, ← row6 m c d]
  generalize (V m c main_v4 : Vec Ideal S1x64 .f32) = a
  generalize (V m c main_v5 : Vec Ideal S1x64 .f32) = b
  generalize (V m c main_v6 : Vec Ideal S1x64 .f32) = e
  generalize (V m c main_v7 : Vec Ideal S1x64 .f32) = f
  pointwise

theorem row_l3 (t : Fin cfg0.N) (d : Fin 64) :
    (iblk m c 3 t : Vec Ideal S4x64 .f32) (ix2 3 d) = (m ((c : Thread nD τ).loc main_arg5) : Vec Ideal S1x64 .f32) (ix2 0 d) := by
  rw [rows_b, stacked, ← row7 m c d]
  generalize (V m c main_v4 : Vec Ideal S1x64 .f32) = a
  generalize (V m c main_v5 : Vec Ideal S1x64 .f32) = b
  generalize (V m c main_v6 : Vec Ideal S1x64 .f32) = e
  generalize (V m c main_v7 : Vec Ideal S1x64 .f32) = f
  pointwise

/-- The constant part of the second attention's weight, in real numbers. -/
def lamInit : ℝ := (Ideal.ofBits .f32 0x3EB60549#32).toReal

theorem lam_init : Ideal.ofBits .f32 0x3EB60549#32 = ((lamInit : ℝ) : EReal) := by
  refine (EReal.coe_toReal ?_ ?_).symm
  · simp [Ideal.ofBits, Ideal.ieee, -EReal.coe_mul]
  · simp [Ideal.ofBits, Ideal.ieee, -EReal.coe_mul]

/-- The weight of the second attention. -/
def lamOf (l2 l3 l4 l5 : Fin 64 → ℝ) : ℝ := Real.exp (∑ d, l2 d * l3 d) - Real.exp (∑ d, l4 d * l5 d) + lamInit

theorem lam_real (a b e f : Fin 64 → EReal) (l2 l3 l4 l5 : Fin 64 → ℝ) (h2 : ∀ d, a d = ((l2 d : ℝ) : EReal))
    (h3 : ∀ d, b d = ((l3 d : ℝ) : EReal)) (h4 : ∀ d, e d = ((l4 d : ℝ) : EReal)) (h5 : ∀ d, f d = ((l5 d : ℝ) : EReal)) :
    Ideal.exp (∑ d, a d * b d) - Ideal.exp (∑ d, e d * f d) + Ideal.ofBits .f32 0x3EB60549#32 = ((lamOf l2 l3 l4 l5 : ℝ) : EReal) := by
  simp only [h2, h3, h4, h5, ← EReal.coe_mul, coe_sum, Ideal.exp_coe, lam_init, ← EReal.coe_sub, ← EReal.coe_add]
  rfl

/-- The result: at each query and column the normalized difference of the head's attentions. -/
def attn (qn kn : ℕ → ℕ → ℕ → ℝ) (lr : ℝ) (g : Fin 128 → EReal) (b t d : ℕ) : EReal :=
  normed (fun e => zed (qn b) (kn b) (fun n d => kn b n (1024 + d)) lr t (d / 128) e.val) (g ⟨d % 128, Nat.mod_lt _ (by norm_num)⟩)
    ⟨d % 128, Nat.mod_lt _ (by norm_num)⟩

variable (l2 l3 l4 l5 : Fin 64 → ℝ)
  (hl2 : ∀ d : Fin 64, (m ((c : Thread nD τ).loc main_arg2) : Vec Ideal S1x64 .f32) (ix2 0 d) = ((l2 d : ℝ) : EReal))
  (hl3 : ∀ d : Fin 64, (m ((c : Thread nD τ).loc main_arg3) : Vec Ideal S1x64 .f32) (ix2 0 d) = ((l3 d : ℝ) : EReal))
  (hl4 : ∀ d : Fin 64, (m ((c : Thread nD τ).loc main_arg4) : Vec Ideal S1x64 .f32) (ix2 0 d) = ((l4 d : ℝ) : EReal))
  (hl5 : ∀ d : Fin 64, (m ((c : Thread nD τ).loc main_arg5) : Vec Ideal S1x64 .f32) (ix2 0 d) = ((l5 d : ℝ) : EReal))

include hl2 hl3 hl4 hl5 in
theorem block_l (t : Fin cfg0.N) : k0_pay192 (iblk m c 3 t : Vec Ideal S4x64 .f32) (ix2 0 0) = ((lamOf l2 l3 l4 l5 : ℝ) : EReal) := by
  have form : ∀ x : Vec Ideal S4x64 .f32, k0_pay192 x (ix2 0 0)
      = Ideal.exp (∑ d, x (ix2 0 d) * x (ix2 1 d)) - Ideal.exp (∑ d, x (ix2 2 d) * x (ix2 3 d)) + Ideal.ofBits .f32 0x3EB60549#32 := by
    intro x
    pointwise [k0_pay192]
  rw [form]
  exact lam_real _ _ _ _ l2 l3 l4 l5 (fun d => (row_l0 m c t d).trans (hl2 d)) (fun d => (row_l1 m c t d).trans (hl3 d))
    (fun d => (row_l2 m c t d).trans (hl4 d)) (fun d => (row_l3 m c t d).trans (hl5 d))

include hq hk hl2 hl3 hl4 hl5 in
/-- What a point stores in its block. -/
theorem after_block (t : Fin cfg0.N) (h : Fin 4) (r : Fin 512) (e : Fin 128) :
    (outsAt0 m c t.val t.isLt : Vec Ideal S1x512x512 .bf16) (ix3 0 r ⟨128 * h.val + e.val, by omega⟩)
      = attn qn kn (lamOf l2 l3 l4 l5) (fun e => (m ((c : Thread nD τ).loc main_arg6) : Vec Ideal S1x128 .f32) (ix2 0 e))
          (grid0.coords t 0).val (512 * (grid0.coords t 2).val + r.val) (512 * (grid0.coords t 1).val + (128 * h.val + e.val)) := by
  have key : (outsAt0 m c t.val t.isLt : Vec Ideal S1x512x512 .bf16) (ix3 0 r ⟨128 * h.val + e.val, by omega⟩)
      = normed (zOf (fun r d => qn (grid0.coords t 0).val (512 * (grid0.coords t 2).val + r) (512 * (grid0.coords t 1).val + d))
          (fun n d => kn (grid0.coords t 0).val n (512 * (grid0.coords t 1).val + d))
          (fun n d => kn (grid0.coords t 0).val n (1024 + (512 * (grid0.coords t 1).val + d)))
          (grid0.coords t 2).val (lamOf l2 l3 l4 l5) h r) ((iblk m c 4 t : Vec Ideal S1x128 .f32) (ix2 0 e)) e := by
    by_cases ht : t.val % 2 = 1
    · rw [outsAt0_B m c t ht]
      exact blockB _ _ _ _ _ _ _ _ _ _ _ _ _ _ _ _ _ _ _ _ _ _ _ _ _ _ _ _ (block_q m c qn hq t) (block_k m c kn hk t) (block_v m c kn hk t) _
        (block_l m c l2 l3 l4 l5 hl2 hl3 hl4 hl5 t) _ h r e
    · rw [outsAt0_A m c t ht]
      exact blockA _ _ _ _ _ _ _ _ _ _ _ _ _ _ _ _ _ _ _ _ _ _ _ _ _ _ _ _ (block_q m c qn hq t) (block_k m c kn hk t) (block_v m c kn hk t) _
        (block_l m c l2 l3 l4 l5 hl2 hl3 hl4 hl5 t) _ h r e
  rw [key, block_g m c t e]
  unfold attn
  have e1 : (512 * (grid0.coords t 1).val + (128 * h.val + e.val)) % 128 = e.val := by omega
  have e2 : (512 * (grid0.coords t 1).val + (128 * h.val + e.val)) / 128 = 4 * (grid0.coords t 1).val + h.val := by omega
  simp only [e1, e2, Fin.eta]
  congr 1
  funext e'
  exact zOf_eq _ _ _ _ _ _ _ _ _ h r e' (fun _ _ => rfl) (fun _ _ => rfl) (fun _ _ => rfl)

include hq hk hl2 hl3 hl4 hl5 in
/-- The result array after the run. -/
theorem kernel_value : (dats m 0 c).arrAt 5 cfg0.N = (fun j : S4x4096x1024.Idx =>
    attn qn kn (lamOf l2 l3 l4 l5) (fun e => (m ((c : Thread nD τ).loc main_arg6) : Vec Ideal S1x128 .f32) (ix2 0 e)) (j 0).val (j 1).val (j 2).val) := by
  refine (dats m 0 c).arrAt_eq_of_covers 5 _ (by decide +kernel) fun t hf y => ?_
  blk_simp [index_o t]
  rw [after0_5]
  have h0 : (y 0).val < 1 := (y 0).isLt
  have h1 : (y 1).val < 512 := (y 1).isLt
  have h2 : (y 2).val < 512 := (y 2).isLt
  have key := after_block m c qn kn hq hk l2 l3 l4 l5 hl2 hl3 hl4 hl5 t ⟨(y 2).val / 128, by omega⟩ ⟨(y 1).val, h1⟩
    ⟨(y 2).val % 128, Nat.mod_lt _ (by norm_num)⟩
  have hd : 128 * ((y 2).val / 128) + (y 2).val % 128 = (y 2).val := Nat.div_add_mod _ _
  simp only [hd] at key
  rw [Nat.mul_comm _ 512, Nat.mul_comm _ 512, ← key]
  refine congrArg (outsAt0 m c t.val t.isLt) (funext fun a => Fin.ext ?_)
  match a with
  | ⟨0, _⟩ => show (y 0).val = 0; omega
  | ⟨1, _⟩ => rfl
  | ⟨2, _⟩ => rfl

end Cert.Proof.Attention
-- ==== Proof.RefValue.lean ====
/-
  What the reference computes: at each query and column the same normalized difference of the head's attentions.
-/
module

public import proofs.«01_k».proof.Proof.RefStages
public import proofs.«01_k».proof.Proof.KernelValue

@[expose] public section

set_option maxRecDepth 16384

noncomputable section

open Idealize.ShloMosaic Idealize.ShloMosaic.TcCoe Idealize.SL.Sem

namespace Cert.Proof.Attention

/-! ## A row of the softmax, in real numbers -/

/-- A sum over all keys of what is zero after the query is the sum over the keys up to it. -/
theorem sum_upto (t : Fin 4096) (f : ℕ → ℝ) :
    (∑ n : Fin 4096, if n.val ≤ t.val then f n.val else 0) = ∑ n ∈ Finset.range (t.val + 1), f n := by
  rw [← Finset.sum_range (fun n => if n ≤ t.val then f n else 0)]
  have hs : Finset.range (t.val + 1) ⊆ Finset.range 4096 := Finset.range_subset_range.mpr (by omega)
  rw [← Finset.sum_subset hs]
  · refine Finset.sum_congr rfl fun k hk => ?_
    rw [if_pos (by have := Finset.mem_range.mp hk; omega)]
  · intro k _ hk
    rw [if_neg (by simpa using hk)]

/-- The weights of a row of masked scores: the row's maximum cancels. -/
theorem softmax_row (f : ℕ → ℝ) (t : Fin 4096) (x : Fin 4096 → EReal) (hx : ∀ n, x n = if n.val ≤ t.val then ((f n.val : ℝ) : EReal) else ⊥)
    (M : EReal) (hM : M = max ⊥ (Finset.univ.fold max (⊥ : EReal) x)) (n : Fin 4096) :
    Ideal.div (Ideal.exp (x n - M)) (∑ k, Ideal.exp (x k - M))
      = ((if n.val ≤ t.val then Real.exp (f n.val) / ∑ k ∈ Finset.range (t.val + 1), Real.exp (f k) else 0 : ℝ) : EReal) := by
  obtain ⟨μ, hμ⟩ := fold_max_real x (fun k => by rw [hx]; split_ifs <;> simp) ⟨t, by rw [hx, if_pos le_rfl]; simp⟩
  rw [hμ, max_eq_right bot_le] at hM
  subst hM
  have he : ∀ k, Ideal.exp (x k - (μ : EReal)) = ((Real.exp (-μ) * (if k.val ≤ t.val then Real.exp (f k.val) else 0) : ℝ) : EReal) := by
    intro k
    rw [hx]
    split_ifs
    · rw [← EReal.coe_sub, Ideal.exp_coe, ← Real.exp_add, neg_add_eq_sub]
    · rw [EReal.bot_sub, Ideal.exp_bot, mul_zero, EReal.coe_zero]
  have hd : 0 < ∑ k ∈ Finset.range (t.val + 1), Real.exp (f k) :=
    Finset.sum_pos (fun _ _ => Real.exp_pos _) ⟨0, by simp⟩
  have hm := Real.exp_pos (-μ)
  simp only [he]
  rw [coe_sum, ← Finset.mul_sum, sum_upto t (fun k => Real.exp (f k)), Ideal.div_coe (mul_pos hm hd).ne', ← EReal.coe_mul]
  congr 1
  split_ifs
  · field_simp
  · simp

/-- The values' weighted sum, by the difference of the two attentions' weights. -/
theorem weighted (qn kn vn : ℕ → ℕ → ℝ) (lr : ℝ) (t : Fin 4096) (H e : ℕ) :
    (∑ n : Fin 4096, vn n.val (128 * H + e) * ((if n.val ≤ t.val then Real.exp (sc qn kn t.val H 0 n.val) / den qn kn t.val H 0 else 0)
        - lr * (if n.val ≤ t.val then Real.exp (sc qn kn t.val H 1 n.val) / den qn kn t.val H 1 else 0)))
      = zed qn kn vn lr t.val H e := by
  have h := sum_upto t fun n => vn n (128 * H + e) * (Real.exp (sc qn kn t.val H 0 n) / den qn kn t.val H 0
    - lr * (Real.exp (sc qn kn t.val H 1 n) / den qn kn t.val H 1))
  unfold zed num
  rw [Finset.sum_div, Finset.sum_div, Finset.mul_sum, ← Finset.sum_sub_distrib]
  refine Eq.trans ?_ (h.trans (Finset.sum_congr rfl fun n _ => by ring))
  refine Finset.sum_congr rfl fun n _ => ?_
  split_ifs <;> simp

/-- The word order of the positions of queries and keys. -/
theorem position_sle (a b : ℕ) (ha : a < 4096) (hb : b < 4096) : (BitVec.ofNat 32 a).sle (BitVec.ofNat 32 b) = decide (a ≤ b) := by
  rw [BitVec.sle_eq_decide, BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  simp

theorem eighth : Ideal.ofBits FTy.f32 0x3E000000#32 = ((1 / 8 : ℝ) : EReal) := by
  simp [Ideal.ofBits, Ideal.ieee, -EReal.coe_mul]
  norm_num

namespace Ref

open Cert.ReferenceIdeal Cert.ReferenceIdeal.Gen

theorem mask_bit (t n : Fin 4096) : maskR (ix2 t n) = if n.val ≤ t.val then 1#1 else 0#1 := by
  rw [mask_at]
  have e := position_sle n.val t.val n.isLt t.isLt
  by_cases h : n.val ≤ t.val
  · rw [if_pos h]
    rw [decide_eq_true h] at e
    simp [IntOp.cmpi, e]
  · rw [if_neg h]
    rw [decide_eq_false h] at e
    simp [IntOp.cmpi, e]

variable (qn kn : ℕ → ℕ → ℕ → ℝ)
  (q : FVec Ideal S4x4096x1024 .bf16) (hq : ∀ (b : Fin 4) (t : Fin 4096) (d : Fin 1024), q (ix3 b t d) = ((qn b.val t.val d.val : ℝ) : EReal))
  (kv : FVec Ideal S4x4096x2048 .bf16) (hk : ∀ (b : Fin 4) (t : Fin 4096) (d : Fin 2048), kv (ix3 b t d) = ((kn b.val t.val d.val : ℝ) : EReal))

include hq hk

theorem scores_real (b : Fin 4) (H : Fin 8) (h : Fin 2) (t n : Fin 4096) :
    scoresR q kv (ix5 b H h t n) = if n.val ≤ t.val then ((sc (qn b.val) (kn b.val) t.val H.val h.val n.val : ℝ) : EReal) else ⊥ := by
  rw [scores_at, mask_bit, neg_inf, eighth]
  by_cases hn : n.val ≤ t.val
  · rw [if_pos hn, if_pos hn]
    refine Eq.trans (if_pos (by decide)) ?_
    unfold sc
    rw [Finset.sum_range, EReal.coe_mul, ← coe_sum]
    refine congrArg (· * _) (Finset.sum_congr rfl fun d _ => ?_)
    rw [hq, hk, ← EReal.coe_mul]
    have e : H.val * 128 + h.val * 64 + d.val = 128 * H.val + (64 * h.val + d.val) := by ring
    simp only [e]
  · rw [if_neg hn, if_neg hn]
    exact if_neg (by decide)

theorem prob_real (b : Fin 4) (H : Fin 8) (h : Fin 2) (t n : Fin 4096) :
    probR (expR (scoresR q kv)) (ix5 b H h t n)
      = ((if n.val ≤ t.val then Real.exp (sc (qn b.val) (kn b.val) t.val H.val h.val n.val) / den (qn b.val) (kn b.val) t.val H.val h.val else 0 : ℝ) : EReal) := by
  rw [prob_at]
  simp only [exp_at]
  exact softmax_row (fun n => sc (qn b.val) (kn b.val) t.val H.val h.val n) t (fun n => scoresR q kv (ix5 b H h t n))
    (fun n => scores_real qn kn q hq kv hk b H h t n) _ (by rw [max_at, neg_inf]) n

variable (l2 l3 l4 l5 : FVec Ideal S1x64 .f32) (lr : ℝ) (hl : ∀ i, lamR l2 l3 l4 l5 i = ((lr : ℝ) : EReal))

include hl

theorem out_real (b : Fin 4) (H : Fin 8) (t : Fin 4096) (e : Fin 128) :
    outR kv (diffR (probR (expR (scoresR q kv))) (lamR l2 l3 l4 l5)) (ix4 b t H e)
      = ((zed (qn b.val) (kn b.val) (fun n d => kn b.val n (1024 + d)) lr t.val H.val e.val : ℝ) : EReal) := by
  rw [out_at, ← weighted, ← coe_sum]
  refine Finset.sum_congr rfl fun n _ => ?_
  rw [diff_at, prob_real qn kn q hq kv hk, prob_real qn kn q hq kv hk, hl, hk, ← EReal.coe_mul, ← EReal.coe_sub, ← EReal.coe_mul]
  have e : 1024 + (H.val * 128 + e.val) = 1024 + (128 * H.val + e.val) := by ring
  simp only [e]
  rfl

theorem value (g : FVec Ideal S1x128 .f32) (b : Fin 4) (t : Fin 4096) (d : Fin 1024) :
    (truncf .bf16 (shapeCast S4x4096x1024 (normR (outR kv (diffR (probR (expR (scoresR q kv))) (lamR l2 l3 l4 l5))) g)
        shapeCasts_S4x4096x8x128_S4x4096x1024) bitsLt_bf16_f32 : FVec Ideal S4x4096x1024 .bf16) (ix3 b t d)
      = attn qn kn lr (fun e => g (ix2 0 e)) b.val t.val d.val := by
  rw [last_at, norm_at]
  simp only [out_real qn kn q hq kv hk l2 l3 l4 l5 lr hl]
  unfold attn normed
  rw [← coe_sum]
  simp only [EReal.coe_mul]

end Ref

end Cert.Proof.Attention
-- ==== Proof.Algebraic.lean ====
/-
  The idealized kernel and the reference leave the same array: each, at each query and column, the normalized difference of
  the head's attentions in the real numbers the arguments hold.
-/
module

public import proofs.«01_k».proof.Defs
public import proofs.«01_k».proof.Proof.RefValue
public import proofs.«01_k».proof.Proof.Gen.KernelIdeal.Value
public import proofs.«01_k».proof.Proof.Gen.Pre_finite

@[expose] public section

set_option maxRecDepth 16384

noncomputable section

open Idealize.ShloMosaic Idealize.ShloMosaic.TcCoe Idealize.SL.Sem

namespace Cert.Proof.Attention

open Cert.KernelIdeal Cert.KernelIdeal.Gen

theorem infinity : Ideal.ofBits FTy.f32 0x7F800000#32 = ⊤ := by
  simp [Ideal.ofBits, Ideal.ieee]

/-- What is less than infinity in size is a real number. -/
theorem real_of_lt {x : EReal} (h : Ideal.cmp .olt (FloatOps.absf (F := Ideal) (φ := .f32) x) (Ideal.ofBits .f32 0x7F800000#32) = 1#1) :
    x = ((x.toReal : ℝ) : EReal) := by
  rw [infinity] at h
  change Ideal.cmp .olt (max x (-x)) ⊤ = 1#1 at h
  induction x using EReal.rec with
  | bot => exact absurd h (by simp [Ideal.cmp])
  | coe r => rfl
  | top => exact absurd h (by simp [Ideal.cmp])

variable (m : (ℓ : Loc nD τ sig) → Buf (Elt Ideal) ℓ) (hpre : Cert.Pre_KernelIdeal_finite m) (c : Dev nD)

include hpre

theorem query_finite (b : Fin 4) (t : Fin 4096) (d : Fin 1024) :
    (m ((c : Thread nD τ).loc main_arg0) : Vec Ideal S4x4096x1024 .bf16) (ix3 b t d)
      = ((((m ((c : Thread nD τ).loc main_arg0) : Vec Ideal S4x4096x1024 .bf16) (ix3 b t d) : EReal).toReal : ℝ) : EReal) :=
  real_of_lt (congrFun (hpre c).1 (ix3 b t d))

theorem keys_finite (b : Fin 4) (t : Fin 4096) (d : Fin 2048) :
    (m ((c : Thread nD τ).loc main_arg1) : Vec Ideal S4x4096x2048 .bf16) (ix3 b t d)
      = ((((m ((c : Thread nD τ).loc main_arg1) : Vec Ideal S4x4096x2048 .bf16) (ix3 b t d) : EReal).toReal : ℝ) : EReal) :=
  real_of_lt (congrFun (hpre c).2.1 (ix3 b t d))

theorem lambda2_finite (d : Fin 64) :
    (m ((c : Thread nD τ).loc main_arg2) : Vec Ideal S1x64 .f32) (ix2 0 d)
      = ((((m ((c : Thread nD τ).loc main_arg2) : Vec Ideal S1x64 .f32) (ix2 0 d) : EReal).toReal : ℝ) : EReal) :=
  real_of_lt (congrFun (hpre c).2.2.1 (ix2 0 d))

theorem lambda3_finite (d : Fin 64) :
    (m ((c : Thread nD τ).loc main_arg3) : Vec Ideal S1x64 .f32) (ix2 0 d)
      = ((((m ((c : Thread nD τ).loc main_arg3) : Vec Ideal S1x64 .f32) (ix2 0 d) : EReal).toReal : ℝ) : EReal) :=
  real_of_lt (congrFun (hpre c).2.2.2.1 (ix2 0 d))

theorem lambda4_finite (d : Fin 64) :
    (m ((c : Thread nD τ).loc main_arg4) : Vec Ideal S1x64 .f32) (ix2 0 d)
      = ((((m ((c : Thread nD τ).loc main_arg4) : Vec Ideal S1x64 .f32) (ix2 0 d) : EReal).toReal : ℝ) : EReal) :=
  real_of_lt (congrFun (hpre c).2.2.2.2.1 (ix2 0 d))

theorem lambda5_finite (d : Fin 64) :
    (m ((c : Thread nD τ).loc main_arg5) : Vec Ideal S1x64 .f32) (ix2 0 d)
      = ((((m ((c : Thread nD τ).loc main_arg5) : Vec Ideal S1x64 .f32) (ix2 0 d) : EReal).toReal : ℝ) : EReal) :=
  real_of_lt (congrFun (hpre c).2.2.2.2.2 (ix2 0 d))

omit hpre

/-- The queries' numbers, by batch, position and lane. -/
def qn (b t d : ℕ) : ℝ :=
  ((m ((c : Thread nD τ).loc main_arg0) : Vec Ideal S4x4096x1024 .bf16)
    (ix3 ⟨b % 4, Nat.mod_lt _ (by norm_num)⟩ ⟨t % 4096, Nat.mod_lt _ (by norm_num)⟩ ⟨d % 1024, Nat.mod_lt _ (by norm_num)⟩) : EReal).toReal

/-- The keys' and values' numbers, by batch, position and lane. -/
def kn (b t d : ℕ) : ℝ :=
  ((m ((c : Thread nD τ).loc main_arg1) : Vec Ideal S4x4096x2048 .bf16)
    (ix3 ⟨b % 4, Nat.mod_lt _ (by norm_num)⟩ ⟨t % 4096, Nat.mod_lt _ (by norm_num)⟩ ⟨d % 2048, Nat.mod_lt _ (by norm_num)⟩) : EReal).toReal

include hpre

theorem query_numbers (b : Fin 4) (t : Fin 4096) (d : Fin 1024) :
    (m ((c : Thread nD τ).loc main_arg0) : Vec Ideal S4x4096x1024 .bf16) (ix3 b t d) = ((qn m c b.val t.val d.val : ℝ) : EReal) := by
  refine (query_finite m hpre c b t d).trans ?_
  unfold qn
  simp only [Nat.mod_eq_of_lt b.isLt, Nat.mod_eq_of_lt t.isLt, Nat.mod_eq_of_lt d.isLt, Fin.eta]

theorem keys_numbers (b : Fin 4) (t : Fin 4096) (d : Fin 2048) :
    (m ((c : Thread nD τ).loc main_arg1) : Vec Ideal S4x4096x2048 .bf16) (ix3 b t d) = ((kn m c b.val t.val d.val : ℝ) : EReal) := by
  refine (keys_finite m hpre c b t d).trans ?_
  unfold kn
  simp only [Nat.mod_eq_of_lt b.isLt, Nat.mod_eq_of_lt t.isLt, Nat.mod_eq_of_lt d.isLt, Fin.eta]

omit hpre

theorem algebraic : Cert.algebraic_KernelIdeal_ReferenceIdeal_pre_finite := by
  intro m ρ m' ρ' hpre hagree
  refine ⟨_, Cert.KernelIdeal.Value.run_blocks m ρ, ?_⟩
  refine (θ_run Cert.ReferenceIdeal.defs _ _).mono (fun _ h c => ⟨(h c).1.trans ?_, (h c).2⟩) (Cert.ReferenceIdeal.Value.run (F := Ideal) m' ρ')
  refine Eq.trans ?_ (kernel_value m c (qn m c) (kn m c) (query_numbers m hpre c) (keys_numbers m hpre c) _ _ _ _
    (lambda2_finite m hpre c) (lambda3_finite m hpre c) (lambda4_finite m hpre c) (lambda5_finite m hpre c)).symm
  refine (Ref.result_stages m' c).trans ?_
  obtain ⟨a0, a1, a2, a3, a4, a5, a6⟩ := hagree c
  rw [a0, a1, a2, a3, a4, a5, a6]
  funext j
  have hj : j = ix3 (j 0) (j 1) (j 2) := by
    funext a
    match a with
    | ⟨0, _⟩ => rfl
    | ⟨1, _⟩ => rfl
    | ⟨2, _⟩ => rfl
  refine (congrArg _ hj).trans ?_
  exact Ref.value (qn m c) (kn m c) _ (query_numbers m hpre c) _ (keys_numbers m hpre c) _ _ _ _ _
    (fun i => (Ref.lam_at _ _ _ _ i).trans (lam_real _ _ _ _ _ _ _ _ (lambda2_finite m hpre c) (lambda3_finite m hpre c) (lambda4_finite m hpre c) (lambda5_finite m hpre c)))
    _ (j 0) (j 1) (j 2)

end Cert.Proof.Attention
-- ==== Proof.CallFrames.lean ====
/- The claims that need no value, for the two calls before the attention and the recurrence: the programs of the projection
   and of the mixing run, leave their arguments unchanged and every counter at zero, and nothing in their kernels is renamed. -/
module

public import proofs.«01_k».proof.Defs
public import proofs.«01_k».proof.Proof.Gen.Qkv.Frame
public import proofs.«01_k».proof.Proof.Gen.QkvIdeal.Value
public import proofs.«01_k».proof.Proof.Gen.QkvReferenceIdeal.Run
public import proofs.«01_k».proof.Proof.Gen.Mix.Frame
public import proofs.«01_k».proof.Proof.Gen.MixIdeal.Value
public import proofs.«01_k».proof.Proof.Gen.MixReferenceIdeal.Run
public import Idealize.ShloMosaic.Lib.Quiescent

@[expose] public section

noncomputable section

open Idealize.ShloMosaic Idealize.ShloMosaic.TcCoe Idealize.SL.Sem

namespace Cert.Proof

namespace Projection

theorem frame_p : Cert.quiescent_Qkv := fun m ρ _ => Cert.Qkv.Gen.frame m ρ

theorem frame_pi : Cert.quiescent_QkvIdeal := fun m ρ _ => Cert.QkvIdeal.Gen.frame m ρ

/-- The reference's run: its results come first, then the arguments; it declares no counter. -/
theorem frame_ri : Cert.quiescent_QkvReferenceIdeal := fun m ρ _ =>
  (θ_run Cert.QkvReferenceIdeal.defs _ _).mono (fun r h => ⟨fun c => (h c).2.2,
      Idealize.ShloMosaic.sem_eq_zero_of_no_sems (by decide) r.2⟩)
    (Cert.QkvReferenceIdeal.Value.run (F := Ideal) m ρ)

theorem preserves : Cert.preserves_Qkv_QkvIdeal := trivial

end Projection

namespace Mix

theorem frame_p : Cert.quiescent_Mix := fun m ρ _ => Cert.Mix.Gen.frame m ρ

theorem frame_pi : Cert.quiescent_MixIdeal := fun m ρ _ => Cert.MixIdeal.Gen.frame m ρ

/-- The reference's run: its results come first, then the arguments; it declares no counter. -/
theorem frame_ri : Cert.quiescent_MixReferenceIdeal := fun m ρ _ =>
  (θ_run Cert.MixReferenceIdeal.defs _ _).mono (fun r h => ⟨fun c => (h c).2.2.2.2.2.2.2,
      Idealize.ShloMosaic.sem_eq_zero_of_no_sems (by decide) r.2⟩)
    (Cert.MixReferenceIdeal.Value.run (F := Ideal) m ρ)

theorem preserves : Cert.preserves_Mix_MixIdeal := trivial

end Mix

end Cert.Proof

end
-- ==== Proof.QkvBlock.lean ====
/-
  The normalized, scaled and shifted row times a matrix: what the projection kernel's body stores, entry by entry.
-/
module

public import proofs.«01_k».proof.Proof.Gen.QkvIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Proof.Projection

/-- A row over its root mean square. -/
def rmsRow (x : Fin 1024 → EReal) (d : Fin 1024) : EReal :=
  x d * Ideal.rsqrt (Ideal.div (∑ i, x i * x i) (Ideal.ofBits .f32 0x44800000#32) + Ideal.ofBits .f32 0x358637BD#32)

/-- The row over its root mean square, times the gains, scaled and shifted. -/
def modRow (x g sc sh : Fin 1024 → EReal) (d : Fin 1024) : EReal :=
  rmsRow x d * g d * (Ideal.ofBits .f32 0x3F800000#32 + sc d) + sh d

/-- Such a row times a matrix. -/
def project {n : ℕ} (x g sc sh : Fin 1024 → EReal) (w : Fin 1024 → Fin n → EReal) (e : Fin n) : EReal :=
  ∑ d, modRow x g sc sh d * w d e

theorem project_congr {n : ℕ} {x x' g g' sc sc' sh sh' : Fin 1024 → EReal} {w w' : Fin 1024 → Fin n → EReal} (e : Fin n)
    (hx : ∀ d, x d = x' d) (hg : ∀ d, g d = g' d) (hsc : ∀ d, sc d = sc' d) (hsh : ∀ d, sh d = sh' d) (hw : ∀ d e, w d e = w' d e) :
    project x g sc sh w e = project x' g' sc' sh' w' e := by
  rw [funext hx, funext hg, funext hsc, funext hsh, funext fun d => funext (hw d)]

open Cert.QkvIdeal Cert.QkvIdeal.Gen

variable (x0 : Vec Ideal S1x512x1024 .f32) (x1 : Vec Ideal S1x2x1024 .f32) (x2 : Vec Ideal S1x1024 .f32) (x3 : Vec Ideal S1024x1024 .bf16)
  (x4 : Vec Ideal S1x2x1024 .f32) (x5 : Vec Ideal S1x1024 .f32) (x6 : Vec Ideal S1024x2048 .bf16)

theorem pay_rms (v : Vec Ideal S1x512x1024 .f32) (r : Fin 512) (d : Fin 1024) :
    k0_pay2 v (ix2 r d) = rmsRow (fun d => v (ix3 0 r d)) d := by
  pointwise [k0_pay2, rmsRow]

theorem pay_q (v : Vec Ideal S1x512x1024 .f32) (g : Vec Ideal S1x1024 .f32) (sc sh : Vec Ideal S1x1x1024 .f32) (w : Vec Ideal S1024x1024 .bf16)
    (r : Fin 512) (e : Fin 1024) : k0_pay3 v g sc sh w (ix3 0 r e)
      = project (fun d => v (ix3 0 r d)) (fun d => g (ix2 0 d)) (fun d => sc (ix3 0 0 d)) (fun d => sh (ix3 0 0 d)) (fun d e => w (ix2 d e)) e := by
  simp only [project, modRow, ← pay_rms]
  pointwise [k0_pay3]

theorem pay_kv (v : Vec Ideal S1x512x1024 .f32) (g : Vec Ideal S1x1024 .f32) (sc sh : Vec Ideal S1x1x1024 .f32) (w : Vec Ideal S1024x2048 .bf16)
    (r : Fin 512) (e : Fin 2048) : k0_pay1 (k0_pay2 v) g sc sh w (ix3 0 r e)
      = project (fun d => v (ix3 0 r d)) (fun d => g (ix2 0 d)) (fun d => sc (ix3 0 0 d)) (fun d => sh (ix3 0 0 d)) (fun d e => w (ix2 d e)) e := by
  simp only [project, modRow, ← pay_rms]
  pointwise [k0_pay1]

theorem row_scale (x : Vec Ideal S1x2x1024 .f32) (d : Fin 1024) :
    (View.ld (Val := Elt Ideal) (e' := .f32) x r0_2 : Vec Ideal S1x1x1024 .f32) (ix3 0 0 d) = x (ix3 0 1 d) := by
  refine View.ld_unit_apply_of x _ _ _ _ _ fun a => ?_
  match a with
  | ⟨0, _⟩ => rfl
  | ⟨1, _⟩ => rfl
  | ⟨2, _⟩ => exact (Nat.zero_add _).symm

theorem row_shift (x : Vec Ideal S1x2x1024 .f32) (d : Fin 1024) :
    (View.ld (Val := Elt Ideal) (e' := .f32) x r0_3 : Vec Ideal S1x1x1024 .f32) (ix3 0 0 d) = x (ix3 0 0 d) := by
  refine View.ld_unit_apply_of x _ _ _ _ _ fun a => ?_
  match a with
  | ⟨0, _⟩ => rfl
  | ⟨1, _⟩ => rfl
  | ⟨2, _⟩ => exact (Nat.zero_add _).symm

theorem whole_x (x : Vec Ideal S1x512x1024 .f32) : View.ld (Val := Elt Ideal) (e' := .f32) x r0_0 = x :=
  View.ld_unit_lit _ x (by decide)

theorem whole_g (x : Vec Ideal S1x1024 .f32) : View.ld (Val := Elt Ideal) (e' := .f32) x r0_1 = x :=
  View.ld_unit_lit _ x (by decide)

theorem whole_wq (x : Vec Ideal S1024x1024 .bf16) : View.ld (Val := Elt Ideal) (e' := .bf16) x r0_4 = x :=
  View.ld_unit_lit _ x (by decide)

theorem whole_wkv (x : Vec Ideal S1024x2048 .bf16) : View.ld (Val := Elt Ideal) (e' := .bf16) x r0_5 = x :=
  View.ld_unit_lit _ x (by decide)

/-- The entry stored for the queries. -/
theorem out_q (r : Fin 512) (e : Fin 1024) : out0_7 x0 x1 x2 x3 x4 x5 x6 (ix3 0 r e)
    = project (fun d => x0 (ix3 0 r d)) (fun d => x2 (ix2 0 d)) (fun d => x1 (ix3 0 1 d)) (fun d => x1 (ix3 0 0 d)) (fun d e => x3 (ix2 d e)) e := by
  refine (congrFun (View.canon_cons_unit_lit _ _ _ (by decide)) _).trans ((pay_q _ _ _ _ _ r e).trans ?_)
  exact project_congr e (fun d => congrFun (whole_x x0) _) (fun d => congrFun (whole_g x2) _) (fun d => row_scale x1 d) (fun d => row_shift x1 d)
    (fun d e => congrFun (whole_wq x3) _)

/-- The entry stored for the keys and values. -/
theorem out_kv (r : Fin 512) (e : Fin 2048) : out0_8 x0 x1 x2 x3 x4 x5 x6 (ix3 0 r e)
    = project (fun d => x0 (ix3 0 r d)) (fun d => x5 (ix2 0 d)) (fun d => x4 (ix3 0 1 d)) (fun d => x4 (ix3 0 0 d)) (fun d e => x6 (ix2 d e)) e := by
  refine (congrFun (View.canon_cons_unit_lit _ _ _ (by decide)) _).trans ((pay_kv _ _ _ _ _ r e).trans ?_)
  exact project_congr e (fun d => congrFun (whole_x x0) _) (fun d => congrFun (whole_g x5) _) (fun d => row_scale x4 d) (fun d => row_shift x4 d)
    (fun d e => congrFun (whole_wkv x6) _)

end Cert.Proof.Projection
-- ==== Proof.QkvValue.lean ====
/-
  What the projection kernel leaves in its two result arrays, and what its reference computes: the same entries.
-/
module

public import proofs.«01_k».proof.Proof.QkvBlock
public import proofs.«01_k».proof.Proof.Gen.QkvReferenceIdeal.Run
public import proofs.«01_k».proof.Defs

@[expose] public section

set_option maxRecDepth 16384

noncomputable section

open Idealize.ShloMosaic Idealize.ShloMosaic.TcCoe Idealize.SL.Sem

namespace Cert.Proof.Projection

section Kernel

open Cert.QkvIdeal Cert.QkvIdeal.Gen

theorem index_x : ∀ t : Fin cfg0.N, win0_0.index t = ![(grid0.coords t 0).val, (grid0.coords t 1).val, 0] :=
  (by decide +kernel : ∀ t : Fin grid0.N, _)
theorem index_m : ∀ t : Fin cfg0.N, win0_1.index t = ![(grid0.coords t 0).val, 0, 0] := (by decide +kernel : ∀ t : Fin grid0.N, _)
theorem index_g : ∀ t : Fin cfg0.N, win0_2.index t = ![0, 0] := (by decide +kernel : ∀ t : Fin grid0.N, _)
theorem index_wq : ∀ t : Fin cfg0.N, win0_3.index t = ![0, 0] := (by decide +kernel : ∀ t : Fin grid0.N, _)
theorem index_mkv : ∀ t : Fin cfg0.N, win0_4.index t = ![(grid0.coords t 0).val, 0, 0] := (by decide +kernel : ∀ t : Fin grid0.N, _)
theorem index_gkv : ∀ t : Fin cfg0.N, win0_5.index t = ![0, 0] := (by decide +kernel : ∀ t : Fin grid0.N, _)
theorem index_wkv : ∀ t : Fin cfg0.N, win0_6.index t = ![0, 0] := (by decide +kernel : ∀ t : Fin grid0.N, _)
theorem index_q : ∀ t : Fin cfg0.N, win0_7.index t = ![(grid0.coords t 0).val, (grid0.coords t 1).val, 0] :=
  (by decide +kernel : ∀ t : Fin grid0.N, _)
theorem index_kv : ∀ t : Fin cfg0.N, win0_8.index t = ![(grid0.coords t 0).val, (grid0.coords t 1).val, 0] :=
  (by decide +kernel : ∀ t : Fin grid0.N, _)

variable (m : (ℓ : Loc nD τ sig) → Buf (Elt Ideal) ℓ) (c : Dev nD)

theorem block_x (t : Fin cfg0.N) (r : Fin 512) (d : Fin 1024) (b : Fin 4) (n : Fin 4096) (hb : b.val = (grid0.coords t 0).val)
    (hn : n.val = 512 * (grid0.coords t 1).val + r.val) :
    (iblk m c 0 t : Vec Ideal S1x512x1024 .f32) (ix3 0 r d) = (m ((c : Thread nD τ).loc main_arg0) : Vec Ideal S4x4096x1024 .f32) (ix3 b n d) := by
  blk_ext [iblk, V, index_x t]

theorem block_m (t : Fin cfg0.N) (s : Fin 2) (d : Fin 1024) (b : Fin 4) (hb : b.val = (grid0.coords t 0).val) :
    (iblk m c 1 t : Vec Ideal S1x2x1024 .f32) (ix3 0 s d) = (V m c main_v2 : Vec Ideal S4x2x1024 .f32) (ix3 b s d) := by
  blk_ext [iblk, index_m t]

theorem block_mkv (t : Fin cfg0.N) (s : Fin 2) (d : Fin 1024) (b : Fin 4) (hb : b.val = (grid0.coords t 0).val) :
    (iblk m c 4 t : Vec Ideal S1x2x1024 .f32) (ix3 0 s d) = (V m c main_v10 : Vec Ideal S4x2x1024 .f32) (ix3 b s d) := by
  blk_ext [iblk, index_mkv t]

theorem pair_m : (V m c main_v2 : Vec Ideal S4x2x1024 .f32) = concatenate S4x2x1024 1 [⟨S4x1x1024, (V m c main_v0 : Vec Ideal S4x1x1024 .f32)⟩,
    ⟨S4x1x1024, (V m c main_v1 : Vec Ideal S4x1x1024 .f32)⟩] concatenates_S4x1x1024_S4x1x1024_S4x2x1024_d1 := by
  rfl

theorem pair_mkv : (V m c main_v10 : Vec Ideal S4x2x1024 .f32) = concatenate S4x2x1024 1 [⟨S4x1x1024, (V m c main_v8 : Vec Ideal S4x1x1024 .f32)⟩,
    ⟨S4x1x1024, (V m c main_v9 : Vec Ideal S4x1x1024 .f32)⟩] concatenates_S4x1x1024_S4x1x1024_S4x2x1024_d1 := by
  rfl

theorem pair_first (a b : Vec Ideal S4x1x1024 .f32) (i : Fin 4) (d : Fin 1024) :
    concatenate S4x2x1024 1 [⟨S4x1x1024, a⟩, ⟨S4x1x1024, b⟩] concatenates_S4x1x1024_S4x1x1024_S4x2x1024_d1 (ix3 i 0 d) = a (ix3 i 0 d) := by
  pointwise

theorem pair_second (a b : Vec Ideal S4x1x1024 .f32) (i : Fin 4) (d : Fin 1024) :
    concatenate S4x2x1024 1 [⟨S4x1x1024, a⟩, ⟨S4x1x1024, b⟩] concatenates_S4x1x1024_S4x1x1024_S4x2x1024_d1 (ix3 i 1 d) = b (ix3 i 0 d) := by
  pointwise

theorem lift_0 (b : Fin 4) (d : Fin 1024) : (V m c main_v0 : Vec Ideal S4x1x1024 .f32) (ix3 b 0 d)
    = (m ((c : Thread nD τ).loc main_arg1) : Vec Ideal S4x1024 .f32) (ix2 b d) := by
  entry_read
  pointwise

theorem lift_1 (b : Fin 4) (d : Fin 1024) : (V m c main_v1 : Vec Ideal S4x1x1024 .f32) (ix3 b 0 d)
    = (m ((c : Thread nD τ).loc main_arg2) : Vec Ideal S4x1024 .f32) (ix2 b d) := by
  entry_read
  pointwise

theorem lift_8 (b : Fin 4) (d : Fin 1024) : (V m c main_v8 : Vec Ideal S4x1x1024 .f32) (ix3 b 0 d)
    = (m ((c : Thread nD τ).loc main_arg5) : Vec Ideal S4x1024 .f32) (ix2 b d) := by
  entry_read
  pointwise

theorem lift_9 (b : Fin 4) (d : Fin 1024) : (V m c main_v9 : Vec Ideal S4x1x1024 .f32) (ix3 b 0 d)
    = (m ((c : Thread nD τ).loc main_arg6) : Vec Ideal S4x1024 .f32) (ix2 b d) := by
  entry_read
  pointwise

theorem gains_q (d : Fin 1024) : (V m c main_v5 : Vec Ideal S1x1024 .f32) (ix2 0 d)
    = (m ((c : Thread nD τ).loc main_arg3) : Vec Ideal S2x1024 .f32) (ix2 1 d) := by
  entry_read
  pointwise

theorem gains_kv (d : Fin 1024) : (V m c main_v11 : Vec Ideal S1x1024 .f32) (ix2 0 d)
    = (m ((c : Thread nD τ).loc main_arg7) : Vec Ideal S1024 .f32) (ix1 d) := by
  entry_read
  pointwise

theorem matrix_q (d e : Fin 1024) : (V m c main_v7 : Vec Ideal S1024x1024 .bf16) (ix2 d e)
    = (m ((c : Thread nD τ).loc main_arg4) : Vec Ideal S1x1024x1024 .f32) (ix3 0 d e) := by
  entry_read
  pointwise

theorem matrix_kv (d : Fin 1024) (e : Fin 2048) : (V m c main_v12 : Vec Ideal S1024x2048 .bf16) (ix2 d e)
    = (m ((c : Thread nD τ).loc main_arg8) : Vec Ideal S1024x2048 .f32) (ix2 d e) := by
  entry_read
  pointwise

theorem block_g (t : Fin cfg0.N) (d : Fin 1024) :
    (iblk m c 2 t : Vec Ideal S1x1024 .f32) (ix2 0 d) = (V m c main_v5 : Vec Ideal S1x1024 .f32) (ix2 0 d) := by
  blk_ext [iblk, index_g t]

theorem block_gkv (t : Fin cfg0.N) (d : Fin 1024) :
    (iblk m c 5 t : Vec Ideal S1x1024 .f32) (ix2 0 d) = (V m c main_v11 : Vec Ideal S1x1024 .f32) (ix2 0 d) := by
  blk_ext [iblk, index_gkv t]

theorem block_wq (t : Fin cfg0.N) (d e : Fin 1024) :
    (iblk m c 3 t : Vec Ideal S1024x1024 .bf16) (ix2 d e) = (V m c main_v7 : Vec Ideal S1024x1024 .bf16) (ix2 d e) := by
  blk_ext [iblk, index_wq t]

theorem block_wkv (t : Fin cfg0.N) (d : Fin 1024) (e : Fin 2048) :
    (iblk m c 6 t : Vec Ideal S1024x2048 .bf16) (ix2 d e) = (V m c main_v12 : Vec Ideal S1024x2048 .bf16) (ix2 d e) := by
  blk_ext [iblk, index_wkv t]

/-- The queries, from the arguments. -/
def queries (j : S4x4096x1024.Idx) : EReal :=
  project (fun d => (m ((c : Thread nD τ).loc main_arg0) : Vec Ideal S4x4096x1024 .f32) (ix3 (j 0) (j 1) d))
    (fun d => (m ((c : Thread nD τ).loc main_arg3) : Vec Ideal S2x1024 .f32) (ix2 1 d))
    (fun d => (m ((c : Thread nD τ).loc main_arg2) : Vec Ideal S4x1024 .f32) (ix2 (j 0) d))
    (fun d => (m ((c : Thread nD τ).loc main_arg1) : Vec Ideal S4x1024 .f32) (ix2 (j 0) d))
    (fun d e => (m ((c : Thread nD τ).loc main_arg4) : Vec Ideal S1x1024x1024 .f32) (ix3 0 d e)) (j 2)

/-- The keys and values, from the arguments. -/
def keysValues (j : S4x4096x2048.Idx) : EReal :=
  project (fun d => (m ((c : Thread nD τ).loc main_arg0) : Vec Ideal S4x4096x1024 .f32) (ix3 (j 0) (j 1) d))
    (fun d => (m ((c : Thread nD τ).loc main_arg7) : Vec Ideal S1024 .f32) (ix1 d))
    (fun d => (m ((c : Thread nD τ).loc main_arg6) : Vec Ideal S4x1024 .f32) (ix2 (j 0) d))
    (fun d => (m ((c : Thread nD τ).loc main_arg5) : Vec Ideal S4x1024 .f32) (ix2 (j 0) d))
    (fun d e => (m ((c : Thread nD τ).loc main_arg8) : Vec Ideal S1024x2048 .f32) (ix2 d e)) (j 2)

theorem point_q (t : Fin cfg0.N) (r : Fin 512) (e : Fin 1024) (b : Fin 4) (n : Fin 4096) (hb : b.val = (grid0.coords t 0).val)
    (hn : n.val = 512 * (grid0.coords t 1).val + r.val) :
    (out0_7 (iblk m c 0 t) (iblk m c 1 t) (iblk m c 2 t) (iblk m c 3 t) (iblk m c 4 t) (iblk m c 5 t) (iblk m c 6 t) : Vec Ideal S1x512x1024 .bf16) (ix3 0 r e)
      = queries m c (ix3 b n e) := by
  refine (out_q _ _ _ _ _ _ _ r e).trans ?_
  exact project_congr e (fun d => block_x m c t r d b n hb hn) (fun d => (block_g m c t d).trans (gains_q m c d))
    (fun d => (block_m m c t 1 d b hb).trans (((congrFun (pair_m m c) _).trans (pair_second _ _ b d)).trans (lift_1 m c b d)))
    (fun d => (block_m m c t 0 d b hb).trans (((congrFun (pair_m m c) _).trans (pair_first _ _ b d)).trans (lift_0 m c b d)))
    (fun d e => (block_wq m c t d e).trans (matrix_q m c d e))

theorem point_kv (t : Fin cfg0.N) (r : Fin 512) (e : Fin 2048) (b : Fin 4) (n : Fin 4096) (hb : b.val = (grid0.coords t 0).val)
    (hn : n.val = 512 * (grid0.coords t 1).val + r.val) :
    (out0_8 (iblk m c 0 t) (iblk m c 1 t) (iblk m c 2 t) (iblk m c 3 t) (iblk m c 4 t) (iblk m c 5 t) (iblk m c 6 t) : Vec Ideal S1x512x2048 .bf16) (ix3 0 r e)
      = keysValues m c (ix3 b n e) := by
  refine (out_kv _ _ _ _ _ _ _ r e).trans ?_
  exact project_congr e (fun d => block_x m c t r d b n hb hn) (fun d => (block_gkv m c t d).trans (gains_kv m c d))
    (fun d => (block_mkv m c t 1 d b hb).trans (((congrFun (pair_mkv m c) _).trans (pair_second _ _ b d)).trans (lift_9 m c b d)))
    (fun d => (block_mkv m c t 0 d b hb).trans (((congrFun (pair_mkv m c) _).trans (pair_first _ _ b d)).trans (lift_8 m c b d)))
    (fun d e => (block_wkv m c t d e).trans (matrix_kv m c d e))

/-- The array of queries after the run. -/
theorem queries_value : (dats m 0 c).arrAt 7 cfg0.N = queries m c := by
  refine (dats m 0 c).arrAt_eq_of_covers 7 _ (by decide +kernel) fun t hf y => ?_
  blk_simp [index_q t]
  rw [after0_7]
  have h0 : (y 0).val < 1 := (y 0).isLt
  have h1 : (y 1).val < 512 := (y 1).isLt
  have h2 : (y 2).val < 1024 := (y 2).isLt
  have hb : (grid0.coords t 0).val < 4 := (grid0.coords t 0).isLt
  have hn : (grid0.coords t 1).val < 8 := (grid0.coords t 1).isLt
  have key := point_q m c t ⟨(y 1).val, h1⟩ ⟨(y 2).val, h2⟩ ⟨(grid0.coords t 0).val, hb⟩ ⟨512 * (grid0.coords t 1).val + (y 1).val, by omega⟩ rfl rfl
  generalize out0_7 (iblk m c 0 t) (iblk m c 1 t) (iblk m c 2 t) (iblk m c 3 t) (iblk m c 4 t) (iblk m c 5 t) (iblk m c 6 t) = o at key ⊢
  refine Eq.trans (congrArg o (funext fun a => Fin.ext ?_)) (key.trans (congrArg (queries m c) (funext fun a => Fin.ext ?_)))
  · match a with
    | ⟨0, _⟩ => show (y 0).val = 0; omega
    | ⟨1, _⟩ => rfl
    | ⟨2, _⟩ => rfl
  · match a with
    | ⟨0, _⟩ => show (grid0.coords t 0).val = _; simp [index_q t]
    | ⟨1, _⟩ => show 512 * (grid0.coords t 1).val + (y 1).val = _; simp [index_q t, Nat.mul_comm]
    | ⟨2, _⟩ => show (y 2).val = _; simp [index_q t]

/-- The array of keys and values after the run. -/
theorem keysValues_value : (dats m 0 c).arrAt 8 cfg0.N = keysValues m c := by
  refine (dats m 0 c).arrAt_eq_of_covers 8 _ (by decide +kernel) fun t hf y => ?_
  blk_simp [index_kv t]
  rw [after0_8]
  have h0 : (y 0).val < 1 := (y 0).isLt
  have h1 : (y 1).val < 512 := (y 1).isLt
  have h2 : (y 2).val < 2048 := (y 2).isLt
  have hb : (grid0.coords t 0).val < 4 := (grid0.coords t 0).isLt
  have hn : (grid0.coords t 1).val < 8 := (grid0.coords t 1).isLt
  have key := point_kv m c t ⟨(y 1).val, h1⟩ ⟨(y 2).val, h2⟩ ⟨(grid0.coords t 0).val, hb⟩ ⟨512 * (grid0.coords t 1).val + (y 1).val, by omega⟩ rfl rfl
  generalize out0_8 (iblk m c 0 t) (iblk m c 1 t) (iblk m c 2 t) (iblk m c 3 t) (iblk m c 4 t) (iblk m c 5 t) (iblk m c 6 t) = o at key ⊢
  refine Eq.trans (congrArg o (funext fun a => Fin.ext ?_)) (key.trans (congrArg (keysValues m c) (funext fun a => Fin.ext ?_)))
  · match a with
    | ⟨0, _⟩ => show (y 0).val = 0; omega
    | ⟨1, _⟩ => rfl
    | ⟨2, _⟩ => rfl
  · match a with
    | ⟨0, _⟩ => show (grid0.coords t 0).val = _; simp [index_kv t]
    | ⟨1, _⟩ => show 512 * (grid0.coords t 1).val + (y 1).val = _; simp [index_kv t, Nat.mul_comm]
    | ⟨2, _⟩ => show (y 2).val = _; simp [index_kv t]

end Kernel

section Reference

open Cert.QkvReferenceIdeal Cert.QkvReferenceIdeal.Gen

/-- The reference's row over its root mean square, times the gains, scaled and shifted. -/
def modR (x : FVec Ideal S4x4096x1024 .f32) (g : FVec Ideal S1024 .f32) (sc sh : FVec Ideal S4x1024 .f32) : FVec Ideal S4x4096x1024 .f32 :=
  addf (mulf (mulf (mulf x (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf x x) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 g)))
      (broadcastInDim S4x4096x1024 ![0, 1, 2] bcast_S4x1x1024_S4x4096x1024_0_1_2
        (addf (broadcastInDim S4x1x1024 ![] bcast_S_S4x1x1024 (constant S_ .f32 0x3F800000#32))
          (broadcastInDim S4x1x1024 ![0, 2] bcast_S4x1024_S4x1x1024_0_2 sc))))
    (broadcastInDim S4x4096x1024 ![0, 1, 2] bcast_S4x1x1024_S4x4096x1024_0_1_2 (broadcastInDim S4x1x1024 ![0, 2] bcast_S4x1024_S4x1x1024_0_2 sh))

theorem modR_at (x : FVec Ideal S4x4096x1024 .f32) (g : FVec Ideal S1024 .f32) (sc sh : FVec Ideal S4x1024 .f32)
    (b : Fin 4) (n : Fin 4096) (d : Fin 1024) : modR x g sc sh (ix3 b n d)
      = modRow (fun d => x (ix3 b n d)) (fun d => g (ix1 d)) (fun d => sc (ix2 b d)) (fun d => sh (ix2 b d)) d := by
  pointwise [modR, modRow, rmsRow]

/-- The reference's queries from its normalized rows and their matrix. -/
def queriesR (h : FVec Ideal S4x4096x1024 .f32) (w : FVec Ideal S1x1024x1024 .f32) : FVec Ideal S4x4096x1024 .bf16 :=
  truncf .bf16 (Host.dotGeneral dot_S4x4096x1024_S1024x1024_S4x4096x1024_2_0_01_1_n_n none h
    (shapeCast _ w shapeCasts_S1x1024x1024_S1024x1024)) bitsLt_bf16_f32

theorem queriesR_at (h : FVec Ideal S4x4096x1024 .f32) (w : FVec Ideal S1x1024x1024 .f32) (b : Fin 4) (n : Fin 4096) (e : Fin 1024) :
    queriesR h w (ix3 b n e) = ∑ d, h (ix3 b n d) * w (ix3 0 d e) := by
  pointwise [queriesR]

/-- The reference's keys and values from its normalized rows and their matrix. -/
def keysValuesR (h : FVec Ideal S4x4096x1024 .f32) (w : FVec Ideal S1024x2048 .f32) : FVec Ideal S4x4096x2048 .bf16 :=
  truncf .bf16 (Host.dotGeneral dot_S4x4096x1024_S1024x2048_S4x4096x2048_2_0_01_1_n_n none h w) bitsLt_bf16_f32

theorem keysValuesR_at (h : FVec Ideal S4x4096x1024 .f32) (w : FVec Ideal S1024x2048 .f32) (b : Fin 4) (n : Fin 4096) (e : Fin 2048) :
    keysValuesR h w (ix3 b n e) = ∑ d, h (ix3 b n d) * w (ix2 d e) := by
  pointwise [keysValuesR]

/-- The second row of the stacked gains. -/
def gainsR (g : FVec Ideal S2x1024 .f32) : FVec Ideal S1024 .f32 :=
  shapeCast _ (extractStridedSlice S1x1024 ![1, 0] g slices_S2x1024_S1x1024_1_0) shapeCasts_S1x1024_S1024

theorem gainsR_at (g : FVec Ideal S2x1024 .f32) (d : Fin 1024) : gainsR g (ix1 d) = g (ix2 1 d) := by
  pointwise [gainsR]

theorem queries_ref (x : FVec Ideal S4x4096x1024 .f32) (g : FVec Ideal S2x1024 .f32) (sc sh : FVec Ideal S4x1024 .f32)
    (w : FVec Ideal S1x1024x1024 .f32) (b : Fin 4) (n : Fin 4096) (e : Fin 1024) : queriesR (modR x (gainsR g) sc sh) w (ix3 b n e)
      = project (fun d => x (ix3 b n d)) (fun d => g (ix2 1 d)) (fun d => sc (ix2 b d)) (fun d => sh (ix2 b d)) (fun d e => w (ix3 0 d e)) e := by
  simp only [queriesR_at, modR_at, gainsR_at]
  rfl

theorem keysValues_ref (x : FVec Ideal S4x4096x1024 .f32) (g : FVec Ideal S1024 .f32) (sc sh : FVec Ideal S4x1024 .f32)
    (w : FVec Ideal S1024x2048 .f32) (b : Fin 4) (n : Fin 4096) (e : Fin 2048) : keysValuesR (modR x g sc sh) w (ix3 b n e)
      = project (fun d => x (ix3 b n d)) (fun d => g (ix1 d)) (fun d => sc (ix2 b d)) (fun d => sh (ix2 b d)) (fun d e => w (ix2 d e)) e := by
  simp only [keysValuesR_at, modR_at]
  rfl

end Reference

theorem algebraic : Cert.algebraic_QkvIdeal_QkvReferenceIdeal := by
  intro m ρ m' ρ' hpre hagree
  refine ⟨_, _, Cert.QkvIdeal.Value.run_blocks m ρ, ?_⟩
  refine (θ_run Cert.QkvReferenceIdeal.defs _ _).mono (fun _ h c => ⟨(h c).1.trans ?_, (h c).2.1.trans ?_, (h c).2.2⟩)
    (Cert.QkvReferenceIdeal.Value.run (F := Ideal) m' ρ')
  · obtain ⟨a0, a1, a2, a3, a4, a5, a6, a7, a8⟩ := hagree c
    rw [queries_value, a0, a1, a2, a3, a4]
    funext j
    have hj : j = ix3 (j 0) (j 1) (j 2) := funext fun a => match a with
      | ⟨0, _⟩ => rfl
      | ⟨1, _⟩ => rfl
      | ⟨2, _⟩ => rfl
    exact (congrArg _ hj).trans (queries_ref _ _ _ _ _ (j 0) (j 1) (j 2))
  · obtain ⟨a0, a1, a2, a3, a4, a5, a6, a7, a8⟩ := hagree c
    rw [keysValues_value, a0, a5, a6, a7, a8]
    funext j
    have hj : j = ix3 (j 0) (j 1) (j 2) := funext fun a => match a with
      | ⟨0, _⟩ => rfl
      | ⟨1, _⟩ => rfl
      | ⟨2, _⟩ => rfl
    exact (congrArg _ hj).trans (keysValues_ref _ _ _ _ _ (j 0) (j 1) (j 2))

end Cert.Proof.Projection
-- ==== Proof.MixBlock.lean ====
/-
  What the mixing kernel's body computes, entry by entry.
-/
module

public import proofs.«01_k».proof.Proof.QkvBlock
public import proofs.«01_k».proof.Proof.Gen.MixIdeal.Value

@[expose] public section

set_option maxRecDepth 16384

noncomputable section

open Idealize.ShloMosaic Idealize.ShloMosaic.TcCoe Idealize.SL.Sem

namespace Cert.Proof.Mix

open Cert.Proof.Projection
open Cert.MixIdeal Cert.MixIdeal.Gen

theorem hidden (g : Vec Ideal S1x1024 .f32) (sh sc : Vec Ideal S1x1x1024 .f32) (x : Vec Ideal S1x512x1024 .f32) (r : Fin 512) (d : Fin 1024) :
    k0_pay8 g sh sc x (ix2 r d)
      = modRow (fun d => x (ix3 0 r d)) (fun d => g (ix2 0 d)) (fun d => sc (ix3 0 0 d)) (fun d => sh (ix3 0 0 d)) d := by
  pointwise [k0_pay8, k0_pay5, k0_pay6, k0_pay7, modRow, rmsRow]

theorem first_row (a : BitVec 32) (g : Vec Ideal S1x1024 .f32) (sh sc p : Vec Ideal S1x1x1024 .f32) (h : Vec Ideal S512x1024 .f32) (d : Fin 1024) :
    k0_pay11 (F := Ideal) a (k0_pay5 g) (k0_pay6 sh) (k0_pay7 sc) h (k0_pay9 p) (k0_pay10 p) (ix2 0 d)
      = (if a = 0#32 then 0 else modRow (fun d => p (ix3 0 0 d)) (fun d => g (ix2 0 d)) (fun d => sc (ix3 0 0 d)) (fun d => sh (ix3 0 0 d)) d)
        - h (ix2 0 d) := by
  pointwise [k0_pay11, k0_pay5, k0_pay6, k0_pay7, k0_pay9, k0_pay10, modRow, rmsRow]
  by_cases ha : a = 0#32
  · simp [Scalar.select, Scalar.cmpi, IntOp.cmpi, ha]
  · have h1 : (a == 0#32) = false := beq_eq_false_iff_ne.mpr ha
    simp [Scalar.select, Scalar.cmpi, IntOp.cmpi, ha, h1]

theorem later_row (a : BitVec 32) (v1 v3 v5 v27 v36 : Vec Ideal S1x1024 .f32) (h : Vec Ideal S512x1024 .f32) (r : ℕ) (hr : r + 1 < 512) (d : Fin 1024) :
    k0_pay11 (F := Ideal) a v1 v3 v5 h v27 v36 (ix2 ⟨r + 1, hr⟩ d) = h (ix2 ⟨r, by omega⟩ d) - h (ix2 ⟨r + 1, hr⟩ d) := by
  pointwise [k0_pay11]
  have h1 : (BitVec.ofNat 32 (r + 1) == 0#32) = false := by
    refine beq_eq_false_iff_ne.mpr fun h => ?_
    have := congrArg BitVec.toNat h
    simp only [BitVec.toNat_ofNat] at this
    omega
  have h2 : (r + 1 + 512 - 1) % 512 = r := by omega
  simp only [h2]
  simp [Scalar.select, IntOp.cmpi, h1]

section mixed

variable (a : BitVec 32) (v1 v3 v5 v27 v36 : Vec Ideal S1x1024 .f32) (h : Vec Ideal S512x1024 .f32) (mu : Vec Ideal S6x1024 .f32) (r : Fin 512) (d : Fin 1024)

theorem mixed0 : k0_pay13 (F := Ideal) a v1 v3 v5 h v27 v36 mu (ix2 r d) = h (ix2 r d) + k0_pay11 (F := Ideal) a v1 v3 v5 h v27 v36 (ix2 r d) * mu (ix2 0 d) := by
  pointwise [k0_pay13, k0_pay12]

theorem mixed1 : k0_pay14 (F := Ideal) a v1 v3 v5 h v27 v36 mu (ix2 r d) = h (ix2 r d) + k0_pay11 (F := Ideal) a v1 v3 v5 h v27 v36 (ix2 r d) * mu (ix2 1 d) := by
  pointwise [k0_pay14, k0_pay12]

theorem mixed2 : k0_pay15 (F := Ideal) a v1 v3 v5 h v27 v36 mu (ix2 r d) = h (ix2 r d) + k0_pay11 (F := Ideal) a v1 v3 v5 h v27 v36 (ix2 r d) * mu (ix2 2 d) := by
  pointwise [k0_pay15, k0_pay12]

theorem mixed3 : k0_pay16 (F := Ideal) a v1 v3 v5 h v27 v36 mu (ix2 r d) = h (ix2 r d) + k0_pay11 (F := Ideal) a v1 v3 v5 h v27 v36 (ix2 r d) * mu (ix2 3 d) := by
  pointwise [k0_pay16, k0_pay12]

theorem mixed4 : k0_pay17 (F := Ideal) a v1 v3 v5 h v27 v36 mu (ix2 r d) = h (ix2 r d) + k0_pay11 (F := Ideal) a v1 v3 v5 h v27 v36 (ix2 r d) * mu (ix2 4 d) := by
  pointwise [k0_pay17, k0_pay12]

theorem mixed5 : k0_pay18 (F := Ideal) a v1 v3 v5 h v27 v36 mu (ix2 r d) = h (ix2 r d) + k0_pay11 (F := Ideal) a v1 v3 v5 h v27 v36 (ix2 r d) * mu (ix2 5 d) := by
  pointwise [k0_pay18, k0_pay12]

end mixed

section stages

variable (xr : Vec Ideal S512x1024 .bf16) (w : Vec Ideal S1x1024x1024 .bf16) (b0 b1 : Vec Ideal S1x1024 .f32) (w1 : Vec Ideal S1024x64 .bf16)
  (w2 : Vec Ideal S64x1024 .bf16) (g1 : Vec Ideal S1024x128 .bf16) (g2 : Vec Ideal S128x1024 .bf16) (t : Vec Ideal S512x64 .f32) (k : Vec Ideal S512x1024 .f32)
  (r : Fin 512) (e : Fin 1024)

theorem store_r : k0_pay30 (k0_pay23 xr w) (ix3 0 r e) = ∑ d, xr (ix2 r d) * w (ix3 0 d e) := by
  pointwise [k0_pay30, k0_pay23]

theorem keys : k0_pay24 xr w (ix2 r e) = ∑ d, xr (ix2 r d) * w (ix3 0 d e) := by
  pointwise [k0_pay24]

theorem store_v : k0_pay32 (k0_pay25 xr w) (ix3 0 r e) = ∑ d, xr (ix2 r d) * w (ix3 0 d e) := by
  pointwise [k0_pay32, k0_pay25]

theorem store_kk : k0_pay2 (k0_pay21 b0) k (ix3 0 r e) = k (ix2 r e) * b0 (ix2 0 e) := by
  pointwise [k0_pay2, k0_pay21]

theorem store_w : k0_pay1 (k0_pay26 xr (k0_pay19 b0) w1 w2) (ix3 0 r e)
    = Ideal.ofBits .f32 0xBF1B4598#32 * Ideal.logistic (b0 (ix2 0 e) + ∑ j, Ideal.tanh (∑ d, xr (ix2 r d) * w1 (ix2 d j)) * w2 (ix2 j e)) := by
  pointwise [k0_pay1, k0_pay26, k0_pay19]

theorem inner_a (j : Fin 64) : k0_pay27 xr w1 (ix2 r j) = ∑ d, xr (ix2 r d) * w1 (ix2 d j) := by
  pointwise [k0_pay27]

theorem gate_a : k0_pay28 (k0_pay20 b0) t w2 (ix2 r e) = Ideal.logistic (b0 (ix2 0 e) + ∑ j, t (ix2 r j) * w2 (ix2 j e)) := by
  pointwise [k0_pay28, k0_pay20]

theorem store_a : k0_pay3 (k0_pay28 (k0_pay20 b0) t w2) (ix3 0 r e) = Ideal.logistic (b0 (ix2 0 e) + ∑ j, t (ix2 r j) * w2 (ix2 j e)) := by
  rw [← gate_a]
  pointwise [k0_pay3]

theorem store_k : k0_pay31 (k0_pay20 b0) (k0_pay22 b1) k t w2 (ix3 0 r e)
    = k (ix2 r e) * (Ideal.ofBits .f32 0x3F800000#32 + (Ideal.logistic (b0 (ix2 0 e) + ∑ j, t (ix2 r j) * w2 (ix2 j e))
      - Ideal.ofBits .f32 0x3F800000#32) * b1 (ix2 0 e)) := by
  rw [← gate_a]
  pointwise [k0_pay31, k0_pay22]

theorem store_g : k0_pay4 (k0_pay29 xr g1 g2) (ix3 0 r e)
    = ∑ j, Ideal.logistic (∑ d, xr (ix2 r d) * g1 (ix2 d j)) * g2 (ix2 j e) := by
  pointwise [k0_pay4, k0_pay29]

end stages

end Cert.Proof.Mix
-- ==== Proof.MixBlocks.lean ====
/-
  What the mixing kernel leaves in its seven result arrays.
-/
module

public import proofs.«01_k».proof.Proof.MixBlock
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.Mix

open Cert.Proof.Projection
open Cert.MixIdeal Cert.MixIdeal.Gen

/-! ## The results, from the arguments -/

section spec

variable (x : Vec Ideal S4x4096x1024 .f32) (sh sc : Vec Ideal S4x1024 .f32) (g : Vec Ideal S2x1024 .f32) (mu : Vec Ideal S1x6x1024 .f32)
  (w : Vec Ideal S1x3x1024x1024 .f32)

/-- The rows above, with a row of zeros above the first. -/
def prevRow (h : Fin 4096 → Fin 1024 → EReal) (n : Fin 4096) (d : Fin 1024) : EReal :=
  if n.val = 0 then 0 else h ⟨n.val - 1, by omega⟩ d

/-- The normalized rows. -/
def hid (b : Fin 4) (n : Fin 4096) (d : Fin 1024) : EReal :=
  modRow (fun d => x (ix3 b n d)) (fun d => g (ix2 0 d)) (fun d => sc (ix2 b d)) (fun d => sh (ix2 b d)) d

/-- A row moved towards the row above by a factor per column. -/
def mixRow (s : Fin 6) (b : Fin 4) (n : Fin 4096) (d : Fin 1024) : EReal :=
  hid x sh sc g b n d + (prevRow (hid x sh sc g b) n d - hid x sh sc g b n d) * mu (ix3 0 s d)

/-- A row times one of the three square matrices. -/
def lin (X : Fin 1024 → EReal) (s : Fin 3) (e : Fin 1024) : EReal := ∑ d, X d * w (ix4 0 s d e)

/-- The logarithm of the decay. -/
def decay (X : Fin 1024 → EReal) (w0 : Vec Ideal S1x1024 .f32) (w1 : Vec Ideal S1x1024x64 .f32) (w2 : Vec Ideal S1x64x1024 .f32) (e : Fin 1024) : EReal :=
  Ideal.ofBits .f32 0xBF1B4598#32 * Ideal.logistic (w0 (ix2 0 e) + ∑ j, Ideal.tanh (∑ d, X d * w1 (ix3 0 d j)) * w2 (ix3 0 j e))

/-- The rate at which a row is learnt. -/
def rate (X : Fin 1024 → EReal) (a0 : Vec Ideal S1x1024 .f32) (a1 : Vec Ideal S1x1024x64 .f32) (a2 : Vec Ideal S1x64x1024 .f32) (e : Fin 1024) : EReal :=
  Ideal.logistic (a0 (ix2 0 e) + ∑ j, (∑ d, X d * a1 (ix3 0 d j)) * a2 (ix3 0 j e))

/-- The gate of the output. -/
def outGate (X : Fin 1024 → EReal) (g1 : Vec Ideal S1x1024x128 .f32) (g2 : Vec Ideal S1x128x1024 .f32) (e : Fin 1024) : EReal :=
  ∑ j, Ideal.logistic (∑ d, X d * g1 (ix3 0 d j)) * g2 (ix3 0 j e)

/-- A key weighed by the rate at which it is learnt. -/
def keptKey (k a : EReal) (ka : Vec Ideal S1x1024 .f32) (e : Fin 1024) : EReal :=
  k * (Ideal.ofBits .f32 0x3F800000#32 + (a - Ideal.ofBits .f32 0x3F800000#32) * ka (ix2 0 e))

end spec

/-! ## Loads of the staged blocks -/

theorem whole_g (x : Vec Ideal S1x1024 .f32) : View.ld (Val := Elt Ideal) (e' := .f32) x r0_0 = x :=
  View.ld_unit_lit _ x (by decide)

theorem whole_x (x : Vec Ideal S1x512x1024 .f32) : View.ld (Val := Elt Ideal) (e' := .f32) x r0_3 = x :=
  View.ld_unit_lit _ x (by decide)

theorem whole_mu (x : Vec Ideal S6x1024 .f32) : View.ld (Val := Elt Ideal) (e' := .f32) x r0_5 = x :=
  View.ld_unit_lit _ x (by decide)

theorem whole_down (x : Vec Ideal S1024x64 .bf16) : View.ld (Val := Elt Ideal) (e' := .bf16) x r0_13 = x :=
  View.ld_unit_lit _ x (by decide)

theorem whole_up (x : Vec Ideal S64x1024 .bf16) : View.ld (Val := Elt Ideal) (e' := .bf16) x r0_14 = x :=
  View.ld_unit_lit _ x (by decide)

theorem whole_g1 (x : Vec Ideal S1024x128 .bf16) : View.ld (Val := Elt Ideal) (e' := .bf16) x r0_15 = x :=
  View.ld_unit_lit _ x (by decide)

theorem whole_g2 (x : Vec Ideal S128x1024 .bf16) : View.ld (Val := Elt Ideal) (e' := .bf16) x r0_16 = x :=
  View.ld_unit_lit _ x (by decide)

theorem row_shift (x : Vec Ideal S1x2x1024 .f32) (d : Fin 1024) :
    (View.ld (Val := Elt Ideal) (e' := .f32) x r0_1 : Vec Ideal S1x1x1024 .f32) (ix3 0 0 d) = x (ix3 0 0 d) := by
  refine View.ld_unit_apply_of x _ _ _ _ _ fun a => ?_
  match a with
  | ⟨0, _⟩ => rfl
  | ⟨1, _⟩ => rfl
  | ⟨2, _⟩ => exact (Nat.zero_add _).symm

theorem row_scale (x : Vec Ideal S1x2x1024 .f32) (d : Fin 1024) :
    (View.ld (Val := Elt Ideal) (e' := .f32) x r0_2 : Vec Ideal S1x1x1024 .f32) (ix3 0 0 d) = x (ix3 0 1 d) := by
  refine View.ld_unit_apply_of x _ _ _ _ _ fun a => ?_
  match a with
  | ⟨0, _⟩ => rfl
  | ⟨1, _⟩ => rfl
  | ⟨2, _⟩ => exact (Nat.zero_add _).symm

theorem row_above (x : Vec Ideal S1x8x1024 .f32) (d : Fin 1024) :
    (View.ld (Val := Elt Ideal) (e' := .f32) x r0_4 : Vec Ideal S1x1x1024 .f32) (ix3 0 0 d) = x (ix3 0 7 d) := by
  refine View.ld_unit_apply_of x _ _ _ _ _ fun a => ?_
  match a with
  | ⟨0, _⟩ => rfl
  | ⟨1, _⟩ => rfl
  | ⟨2, _⟩ => exact (Nat.zero_add _).symm

theorem bias_0 (x : Vec Ideal S4x1024 .f32) (d : Fin 1024) :
    (View.ld (Val := Elt Ideal) (e' := .f32) x r0_6 : Vec Ideal S1x1024 .f32) (ix2 0 d) = x (ix2 0 d) := by
  refine View.ld_unit_apply_of x _ _ _ _ _ fun a => ?_
  match a with
  | ⟨0, _⟩ => rfl
  | ⟨1, _⟩ => exact (Nat.zero_add _).symm

theorem bias_1 (x : Vec Ideal S4x1024 .f32) (d : Fin 1024) :
    (View.ld (Val := Elt Ideal) (e' := .f32) x r0_7 : Vec Ideal S1x1024 .f32) (ix2 0 d) = x (ix2 1 d) := by
  refine View.ld_unit_apply_of x _ _ _ _ _ fun a => ?_
  match a with
  | ⟨0, _⟩ => rfl
  | ⟨1, _⟩ => exact (Nat.zero_add _).symm

theorem bias_2 (x : Vec Ideal S4x1024 .f32) (d : Fin 1024) :
    (View.ld (Val := Elt Ideal) (e' := .f32) x r0_8 : Vec Ideal S1x1024 .f32) (ix2 0 d) = x (ix2 2 d) := by
  refine View.ld_unit_apply_of x _ _ _ _ _ fun a => ?_
  match a with
  | ⟨0, _⟩ => rfl
  | ⟨1, _⟩ => exact (Nat.zero_add _).symm

theorem bias_3 (x : Vec Ideal S4x1024 .f32) (d : Fin 1024) :
    (View.ld (Val := Elt Ideal) (e' := .f32) x r0_9 : Vec Ideal S1x1024 .f32) (ix2 0 d) = x (ix2 3 d) := by
  refine View.ld_unit_apply_of x _ _ _ _ _ fun a => ?_
  match a with
  | ⟨0, _⟩ => rfl
  | ⟨1, _⟩ => exact (Nat.zero_add _).symm

theorem matrix_0 (x : Vec Ideal S3x1024x1024 .bf16) (d e : Fin 1024) :
    (View.ld (Val := Elt Ideal) (e' := .bf16) x r0_10 : Vec Ideal S1x1024x1024 .bf16) (ix3 0 d e) = x (ix3 0 d e) := by
  refine View.ld_unit_apply_of x _ _ _ _ _ fun a => ?_
  match a with
  | ⟨0, _⟩ => rfl
  | ⟨1, _⟩ => exact (Nat.zero_add _).symm
  | ⟨2, _⟩ => exact (Nat.zero_add _).symm

theorem matrix_1 (x : Vec Ideal S3x1024x1024 .bf16) (d e : Fin 1024) :
    (View.ld (Val := Elt Ideal) (e' := .bf16) x r0_11 : Vec Ideal S1x1024x1024 .bf16) (ix3 0 d e) = x (ix3 1 d e) := by
  refine View.ld_unit_apply_of x _ _ _ _ _ fun a => ?_
  match a with
  | ⟨0, _⟩ => rfl
  | ⟨1, _⟩ => exact (Nat.zero_add _).symm
  | ⟨2, _⟩ => exact (Nat.zero_add _).symm

theorem matrix_2 (x : Vec Ideal S3x1024x1024 .bf16) (d e : Fin 1024) :
    (View.ld (Val := Elt Ideal) (e' := .bf16) x r0_12 : Vec Ideal S1x1024x1024 .bf16) (ix3 0 d e) = x (ix3 2 d e) := by
  refine View.ld_unit_apply_of x _ _ _ _ _ fun a => ?_
  match a with
  | ⟨0, _⟩ => rfl
  | ⟨1, _⟩ => exact (Nat.zero_add _).symm
  | ⟨2, _⟩ => exact (Nat.zero_add _).symm

/-! ## The blocks, from the arguments -/

theorem index_0 : ∀ t : Fin cfg0.N, win0_0.index t = ![(grid0.coords t 0).val, (grid0.coords t 1).val, 0] := (by decide +kernel : ∀ t : Fin grid0.N, _)
theorem index_1 : ∀ t : Fin cfg0.N, win0_1.index t = ![(grid0.coords t 0).val, 64 * (grid0.coords t 1).val - 1, 0] := (by decide +kernel : ∀ t : Fin grid0.N, _)
theorem index_2 : ∀ t : Fin cfg0.N, win0_2.index t = ![(grid0.coords t 0).val, 0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![(grid0.coords t 0).val, (grid0.coords t 1).val, 0] := (by decide +kernel : ∀ t : Fin grid0.N, _)
theorem index_14 : ∀ t : Fin cfg0.N, win0_14.index t = ![(grid0.coords t 0).val, (grid0.coords t 1).val, 0] := (by decide +kernel : ∀ t : Fin grid0.N, _)
theorem index_15 : ∀ t : Fin cfg0.N, win0_15.index t = ![(grid0.coords t 0).val, (grid0.coords t 1).val, 0] := (by decide +kernel : ∀ t : Fin grid0.N, _)
theorem index_16 : ∀ t : Fin cfg0.N, win0_16.index t = ![(grid0.coords t 0).val, (grid0.coords t 1).val, 0] := (by decide +kernel : ∀ t : Fin grid0.N, _)
theorem index_17 : ∀ t : Fin cfg0.N, win0_17.index t = ![(grid0.coords t 0).val, (grid0.coords t 1).val, 0] := (by decide +kernel : ∀ t : Fin grid0.N, _)
theorem index_18 : ∀ t : Fin cfg0.N, win0_18.index t = ![(grid0.coords t 0).val, (grid0.coords t 1).val, 0] := (by decide +kernel : ∀ t : Fin grid0.N, _)
theorem index_19 : ∀ t : Fin cfg0.N, win0_19.index t = ![(grid0.coords t 0).val, (grid0.coords t 1).val, 0] := (by decide +kernel : ∀ t : Fin grid0.N, _)

variable (m : (ℓ : Loc nD τ sig) → Buf (Elt Ideal) ℓ) (c : Dev nD)

theorem block_x (t : Fin cfg0.N) (r : Fin 512) (d : Fin 1024) (b : Fin 4) (n : Fin 4096) (hb : b.val = (grid0.coords t 0).val) (hn : n.val = 512 * (grid0.coords t 1).val + r.val) :
    (iblk m c 0 t : Vec Ideal S1x512x1024 .f32) (ix3 0 r d) = (m ((c : Thread nD τ).loc main_arg0) : Vec Ideal S4x4096x1024 .f32) (ix3 b n d) := by
  blk_ext [iblk, V, index_0 t]

theorem block_above (t : Fin cfg0.N) (d : Fin 1024) (b : Fin 4) (n : Fin 4096) (hb : b.val = (grid0.coords t 0).val) (hn : n.val + 1 = 512 * (grid0.coords t 1).val) :
    (iblk m c 1 t : Vec Ideal S1x8x1024 .f32) (ix3 0 7 d) = (m ((c : Thread nD τ).loc main_arg0) : Vec Ideal S4x4096x1024 .f32) (ix3 b n d) := by
  blk_ext [iblk, V, index_1 t]

theorem block_m (t : Fin cfg0.N) (s : Fin 2) (d : Fin 1024) (b : Fin 4) (hb : b.val = (grid0.coords t 0).val) :
    (iblk m c 2 t : Vec Ideal S1x2x1024 .f32) (ix3 0 s d) = (V m c main_v2 : Vec Ideal S4x2x1024 .f32) (ix3 b s d) := by
  blk_ext [iblk, index_2 t]

theorem pair_m : (V m c main_v2 : Vec Ideal S4x2x1024 .f32) = concatenate S4x2x1024 1 [⟨S4x1x1024, (V m c main_v0 : Vec Ideal S4x1x1024 .f32)⟩,
    ⟨S4x1x1024, (V m c main_v1 : Vec Ideal S4x1x1024 .f32)⟩] concatenates_S4x1x1024_S4x1x1024_S4x2x1024_d1 := by
  rfl

theorem pair_first (a b : Vec Ideal S4x1x1024 .f32) (i : Fin 4) (d : Fin 1024) :
    concatenate S4x2x1024 1 [⟨S4x1x1024, a⟩, ⟨S4x1x1024, b⟩] concatenates_S4x1x1024_S4x1x1024_S4x2x1024_d1 (ix3 i 0 d) = a (ix3 i 0 d) := by
  pointwise

theorem pair_second (a b : Vec Ideal S4x1x1024 .f32) (i : Fin 4) (d : Fin 1024) :
    concatenate S4x2x1024 1 [⟨S4x1x1024, a⟩, ⟨S4x1x1024, b⟩] concatenates_S4x1x1024_S4x1x1024_S4x2x1024_d1 (ix3 i 1 d) = b (ix3 i 0 d) := by
  pointwise

theorem lift_0 (b : Fin 4) (d : Fin 1024) : (V m c main_v0 : Vec Ideal S4x1x1024 .f32) (ix3 b 0 d) = (m ((c : Thread nD τ).loc main_arg1) : Vec Ideal S4x1024 .f32) (ix2 b d) := by
  entry_read
  pointwise

theorem lift_1 (b : Fin 4) (d : Fin 1024) : (V m c main_v1 : Vec Ideal S4x1x1024 .f32) (ix3 b 0 d) = (m ((c : Thread nD τ).loc main_arg2) : Vec Ideal S4x1024 .f32) (ix2 b d) := by
  entry_read
  pointwise

theorem block_shift (t : Fin cfg0.N) (d : Fin 1024) (b : Fin 4) (hb : b.val = (grid0.coords t 0).val) :
    (iblk m c 2 t : Vec Ideal S1x2x1024 .f32) (ix3 0 0 d) = (m ((c : Thread nD τ).loc main_arg1) : Vec Ideal S4x1024 .f32) (ix2 b d) :=
  (block_m m c t 0 d b hb).trans (((congrFun (pair_m m c) _).trans (pair_first _ _ b d)).trans (lift_0 m c b d))

theorem block_scale (t : Fin cfg0.N) (d : Fin 1024) (b : Fin 4) (hb : b.val = (grid0.coords t 0).val) :
    (iblk m c 2 t : Vec Ideal S1x2x1024 .f32) (ix3 0 1 d) = (m ((c : Thread nD τ).loc main_arg2) : Vec Ideal S4x1024 .f32) (ix2 b d) :=
  (block_m m c t 1 d b hb).trans (((congrFun (pair_m m c) _).trans (pair_second _ _ b d)).trans (lift_1 m c b d))

theorem host_3 (d : Fin 1024) : (V m c main_v14 : Vec Ideal S1x1024 .f32) (ix2 0 d) = (m ((c : Thread nD τ).loc main_arg3) : Vec Ideal S2x1024 .f32) (ix2 0 d) := by
  entry_read
  pointwise

theorem staged_3 (t : Fin cfg0.N) (d : Fin 1024) : (iblk m c 3 t : Vec Ideal S1x1024 .f32) (ix2 0 d) = (V m c main_v14 : Vec Ideal S1x1024 .f32) (ix2 0 d) := by
  blk_ext [iblk, index_3 t]

theorem block_3 (t : Fin cfg0.N) (d : Fin 1024) : (iblk m c 3 t : Vec Ideal S1x1024 .f32) (ix2 0 d) = (m ((c : Thread nD τ).loc main_arg3) : Vec Ideal S2x1024 .f32) (ix2 0 d) :=
  (staged_3 m c t d).trans (host_3 m c d)

theorem host_4 (s : Fin 6) (d : Fin 1024) : (V m c main_v15 : Vec Ideal S6x1024 .f32) (ix2 s d) = (m ((c : Thread nD τ).loc main_arg4) : Vec Ideal S1x6x1024 .f32) (ix3 0 s d) := by
  entry_read
  pointwise

theorem staged_4 (t : Fin cfg0.N) (s : Fin 6) (d : Fin 1024) : (iblk m c 4 t : Vec Ideal S6x1024 .f32) (ix2 s d) = (V m c main_v15 : Vec Ideal S6x1024 .f32) (ix2 s d) := by
  blk_ext [iblk, index_4 t]

theorem block_4 (t : Fin cfg0.N) (s : Fin 6) (d : Fin 1024) : (iblk m c 4 t : Vec Ideal S6x1024 .f32) (ix2 s d) = (m ((c : Thread nD τ).loc main_arg4) : Vec Ideal S1x6x1024 .f32) (ix3 0 s d) :=
  (staged_4 m c t s d).trans (host_4 m c s d)

theorem host_5 (s : Fin 3) (d e : Fin 1024) : (V m c main_v17 : Vec Ideal S3x1024x1024 .bf16) (ix3 s d e) = (m ((c : Thread nD τ).loc main_arg5) : Vec Ideal S1x3x1024x1024 .f32) (ix4 0 s d e) := by
  entry_read
  pointwise

theorem staged_5 (t : Fin cfg0.N) (s : Fin 3) (d e : Fin 1024) : (iblk m c 5 t : Vec Ideal S3x1024x1024 .bf16) (ix3 s d e) = (V m c main_v17 : Vec Ideal S3x1024x1024 .bf16) (ix3 s d e) := by
  blk_ext [iblk, index_5 t]

theorem block_5 (t : Fin cfg0.N) (s : Fin 3) (d e : Fin 1024) : (iblk m c 5 t : Vec Ideal S3x1024x1024 .bf16) (ix3 s d e) = (m ((c : Thread nD τ).loc main_arg5) : Vec Ideal S1x3x1024x1024 .f32) (ix4 0 s d e) :=
  (staged_5 m c t s d e).trans (host_5 m c s d e)

theorem host_6 (d : Fin 1024) (e : Fin 64) : (V m c main_v19 : Vec Ideal S1024x64 .bf16) (ix2 d e) = (m ((c : Thread nD τ).loc main_arg7) : Vec Ideal S1x1024x64 .f32) (ix3 0 d e) := by
  entry_read
  pointwise

theorem staged_6 (t : Fin cfg0.N) (d : Fin 1024) (e : Fin 64) : (iblk m c 6 t : Vec Ideal S1024x64 .bf16) (ix2 d e) = (V m c main_v19 : Vec Ideal S1024x64 .bf16) (ix2 d e) := by
  blk_ext [iblk, index_6 t]

theorem block_6 (t : Fin cfg0.N) (d : Fin 1024) (e : Fin 64) : (iblk m c 6 t : Vec Ideal S1024x64 .bf16) (ix2 d e) = (m ((c : Thread nD τ).loc main_arg7) : Vec Ideal S1x1024x64 .f32) (ix3 0 d e) :=
  (staged_6 m c t d e).trans (host_6 m c d e)

theorem host_7 (d : Fin 64) (e : Fin 1024) : (V m c main_v21 : Vec Ideal S64x1024 .bf16) (ix2 d e) = (m ((c : Thread nD τ).loc main_arg8) : Vec Ideal S1x64x1024 .f32) (ix3 0 d e) := by
  entry_read
  pointwise

theorem staged_7 (t : Fin cfg0.N) (d : Fin 64) (e : Fin 1024) : (iblk m c 7 t : Vec Ideal S64x1024 .bf16) (ix2 d e) = (V m c main_v21 : Vec Ideal S64x1024 .bf16) (ix2 d e) := by
  blk_ext [iblk, index_7 t]

theorem block_7 (t : Fin cfg0.N) (d : Fin 64) (e : Fin 1024) : (iblk m c 7 t : Vec Ideal S64x1024 .bf16) (ix2 d e) = (m ((c : Thread nD τ).loc main_arg8) : Vec Ideal S1x64x1024 .f32) (ix3 0 d e) :=
  (staged_7 m c t d e).trans (host_7 m c d e)

theorem host_8 (d : Fin 1024) (e : Fin 64) : (V m c main_v23 : Vec Ideal S1024x64 .bf16) (ix2 d e) = (m ((c : Thread nD τ).loc main_arg10) : Vec Ideal S1x1024x64 .f32) (ix3 0 d e) := by
  entry_read
  pointwise

theorem staged_8 (t : Fin cfg0.N) (d : Fin 1024) (e : Fin 64) : (iblk m c 8 t : Vec Ideal S1024x64 .bf16) (ix2 d e) = (V m c main_v23 : Vec Ideal S1024x64 .bf16) (ix2 d e) := by
  blk_ext [iblk, index_8 t]

theorem block_8 (t : Fin cfg0.N) (d : Fin 1024) (e : Fin 64) : (iblk m c 8 t : Vec Ideal S1024x64 .bf16) (ix2 d e) = (m ((c : Thread nD τ).loc main_arg10) : Vec Ideal S1x1024x64 .f32) (ix3 0 d e) :=
  (staged_8 m c t d e).trans (host_8 m c d e)

theorem host_9 (d : Fin 64) (e : Fin 1024) : (V m c main_v25 : Vec Ideal S64x1024 .bf16) (ix2 d e) = (m ((c : Thread nD τ).loc main_arg11) : Vec Ideal S1x64x1024 .f32) (ix3 0 d e) := by
  entry_read
  pointwise

theorem staged_9 (t : Fin cfg0.N) (d : Fin 64) (e : Fin 1024) : (iblk m c 9 t : Vec Ideal S64x1024 .bf16) (ix2 d e) = (V m c main_v25 : Vec Ideal S64x1024 .bf16) (ix2 d e) := by
  blk_ext [iblk, index_9 t]

theorem block_9 (t : Fin cfg0.N) (d : Fin 64) (e : Fin 1024) : (iblk m c 9 t : Vec Ideal S64x1024 .bf16) (ix2 d e) = (m ((c : Thread nD τ).loc main_arg11) : Vec Ideal S1x64x1024 .f32) (ix3 0 d e) :=
  (staged_9 m c t d e).trans (host_9 m c d e)

theorem host_10 (d : Fin 1024) (e : Fin 128) : (V m c main_v27 : Vec Ideal S1024x128 .bf16) (ix2 d e) = (m ((c : Thread nD τ).loc main_arg12) : Vec Ideal S1x1024x128 .f32) (ix3 0 d e) := by
  entry_read
  pointwise

theorem staged_10 (t : Fin cfg0.N) (d : Fin 1024) (e : Fin 128) : (iblk m c 10 t : Vec Ideal S1024x128 .bf16) (ix2 d e) = (V m c main_v27 : Vec Ideal S1024x128 .bf16) (ix2 d e) := by
  blk_ext [iblk, index_10 t]

theorem block_10 (t : Fin cfg0.N) (d : Fin 1024) (e : Fin 128) : (iblk m c 10 t : Vec Ideal S1024x128 .bf16) (ix2 d e) = (m ((c : Thread nD τ).loc main_arg12) : Vec Ideal S1x1024x128 .f32) (ix3 0 d e) :=
  (staged_10 m c t d e).trans (host_10 m c d e)

theorem host_11 (d : Fin 128) (e : Fin 1024) : (V m c main_v29 : Vec Ideal S128x1024 .bf16) (ix2 d e) = (m ((c : Thread nD τ).loc main_arg13) : Vec Ideal S1x128x1024 .f32) (ix3 0 d e) := by
  entry_read
  pointwise

theorem staged_11 (t : Fin cfg0.N) (d : Fin 128) (e : Fin 1024) : (iblk m c 11 t : Vec Ideal S128x1024 .bf16) (ix2 d e) = (V m c main_v29 : Vec Ideal S128x1024 .bf16) (ix2 d e) := by
  blk_ext [iblk, index_11 t]

theorem block_11 (t : Fin cfg0.N) (d : Fin 128) (e : Fin 1024) : (iblk m c 11 t : Vec Ideal S128x1024 .bf16) (ix2 d e) = (m ((c : Thread nD τ).loc main_arg13) : Vec Ideal S1x128x1024 .f32) (ix3 0 d e) :=
  (staged_11 m c t d e).trans (host_11 m c d e)

set_option maxHeartbeats 4000000 in
theorem stacked : (V m c main_v11 : Vec Ideal S4x1024 .f32)
    = (concatenate S4x1024 0 [⟨S1x1024, (V m c main_v7 : Vec Ideal S1x1024 .f32)⟩, ⟨S1x1024, (V m c main_v8 : Vec Ideal S1x1024 .f32)⟩,
      ⟨S1x1024, (V m c main_v9 : Vec Ideal S1x1024 .f32)⟩, ⟨S1x1024, (V m c main_v10 : Vec Ideal S1x1024 .f32)⟩]
      concatenates_S1x1024_S1x1024_S1x1024_S1x1024_S4x1024_d0) := by
  rfl

theorem staged_12 (t : Fin cfg0.N) (s : Fin 4) (d : Fin 1024) :
    (iblk m c 12 t : Vec Ideal S4x1024 .f32) (ix2 s d) = (V m c main_v11 : Vec Ideal S4x1024 .f32) (ix2 s d) := by
  blk_ext [iblk, index_12 t]

section four

variable (p q u v : Vec Ideal S1x1024 .f32) (d : Fin 1024)

theorem four_0 : concatenate S4x1024 0 [⟨S1x1024, p⟩, ⟨S1x1024, q⟩, ⟨S1x1024, u⟩, ⟨S1x1024, v⟩]
    concatenates_S1x1024_S1x1024_S1x1024_S1x1024_S4x1024_d0 (ix2 0 d) = p (ix2 0 d) := by
  pointwise

theorem four_1 : concatenate S4x1024 0 [⟨S1x1024, p⟩, ⟨S1x1024, q⟩, ⟨S1x1024, u⟩, ⟨S1x1024, v⟩]
    concatenates_S1x1024_S1x1024_S1x1024_S1x1024_S4x1024_d0 (ix2 1 d) = q (ix2 0 d) := by
  pointwise

theorem four_2 : concatenate S4x1024 0 [⟨S1x1024, p⟩, ⟨S1x1024, q⟩, ⟨S1x1024, u⟩, ⟨S1x1024, v⟩]
    concatenates_S1x1024_S1x1024_S1x1024_S1x1024_S4x1024_d0 (ix2 2 d) = u (ix2 0 d) := by
  pointwise

theorem four_3 : concatenate S4x1024 0 [⟨S1x1024, p⟩, ⟨S1x1024, q⟩, ⟨S1x1024, u⟩, ⟨S1x1024, v⟩]
    concatenates_S1x1024_S1x1024_S1x1024_S1x1024_S4x1024_d0 (ix2 3 d) = v (ix2 0 d) := by
  pointwise

end four

theorem host_row_0 (d : Fin 1024) : (V m c main_v7 : Vec Ideal S1x1024 .f32) (ix2 0 d) = (m ((c : Thread nD τ).loc main_arg6) : Vec Ideal S1x1024 .f32) (ix2 0 d) := by
  entry_read
  pointwise

theorem block_row_0 (t : Fin cfg0.N) (d : Fin 1024) : (iblk m c 12 t : Vec Ideal S4x1024 .f32) (ix2 0 d) = (m ((c : Thread nD τ).loc main_arg6) : Vec Ideal S1x1024 .f32) (ix2 0 d) :=
  (staged_12 m c t 0 d).trans (((congrFun (stacked m c) _).trans (four_0 _ _ _ _ d)).trans (host_row_0 m c d))

theorem host_row_1 (d : Fin 1024) : (V m c main_v8 : Vec Ideal S1x1024 .f32) (ix2 0 d) = (m ((c : Thread nD τ).loc main_arg9) : Vec Ideal S1x1024 .f32) (ix2 0 d) := by
  entry_read
  pointwise

theorem block_row_1 (t : Fin cfg0.N) (d : Fin 1024) : (iblk m c 12 t : Vec Ideal S4x1024 .f32) (ix2 1 d) = (m ((c : Thread nD τ).loc main_arg9) : Vec Ideal S1x1024 .f32) (ix2 0 d) :=
  (staged_12 m c t 1 d).trans (((congrFun (stacked m c) _).trans (four_1 _ _ _ _ d)).trans (host_row_1 m c d))

theorem host_row_2 (d : Fin 1024) : (V m c main_v9 : Vec Ideal S1x1024 .f32) (ix2 0 d) = (m ((c : Thread nD τ).loc main_arg14) : Vec Ideal S1x1024 .f32) (ix2 0 d) := by
  entry_read
  pointwise

theorem block_row_2 (t : Fin cfg0.N) (d : Fin 1024) : (iblk m c 12 t : Vec Ideal S4x1024 .f32) (ix2 2 d) = (m ((c : Thread nD τ).loc main_arg14) : Vec Ideal S1x1024 .f32) (ix2 0 d) :=
  (staged_12 m c t 2 d).trans (((congrFun (stacked m c) _).trans (four_2 _ _ _ _ d)).trans (host_row_2 m c d))

theorem host_row_3 (d : Fin 1024) : (V m c main_v10 : Vec Ideal S1x1024 .f32) (ix2 0 d) = (m ((c : Thread nD τ).loc main_arg15) : Vec Ideal S1x1024 .f32) (ix2 0 d) := by
  entry_read
  pointwise

theorem block_row_3 (t : Fin cfg0.N) (d : Fin 1024) : (iblk m c 12 t : Vec Ideal S4x1024 .f32) (ix2 3 d) = (m ((c : Thread nD τ).loc main_arg15) : Vec Ideal S1x1024 .f32) (ix2 0 d) :=
  (staged_12 m c t 3 d).trans (((congrFun (stacked m c) _).trans (four_3 _ _ _ _ d)).trans (host_row_3 m c d))

end Cert.Proof.Mix
-- ==== Proof.MixValue.lean ====
/-
  The seven arrays the mixing kernel leaves, as functions of its arguments.
-/
module

public import proofs.«01_k».proof.Proof.MixBlocks

@[expose] public section

set_option maxRecDepth 16384

noncomputable section

open Idealize.ShloMosaic Idealize.ShloMosaic.TcCoe Idealize.SL.Sem

namespace Cert.Proof.Mix

open Cert.Proof.Projection
open Cert.MixIdeal Cert.MixIdeal.Gen

theorem modRow_congr {x x' g g' sc sc' sh sh' : Fin 1024 → EReal} (d : Fin 1024) (hx : ∀ d, x d = x' d) (hg : ∀ d, g d = g' d)
    (hsc : ∀ d, sc d = sc' d) (hsh : ∀ d, sh d = sh' d) : modRow x g sc sh d = modRow x' g' sc' sh' d := by
  rw [funext hx, funext hg, funext hsc, funext hsh]

variable (m : (ℓ : Loc nD τ sig) → Buf (Elt Ideal) ℓ) (c : Dev nD)

/-- The normalized rows of the call's own arguments. -/
def hidAt (b : Fin 4) (n : Fin 4096) (d : Fin 1024) : EReal :=
  hid (m ((c : Thread nD τ).loc main_arg0) : Vec Ideal S4x4096x1024 .f32) (m ((c : Thread nD τ).loc main_arg1) : Vec Ideal S4x1024 .f32)
    (m ((c : Thread nD τ).loc main_arg2) : Vec Ideal S4x1024 .f32) (m ((c : Thread nD τ).loc main_arg3) : Vec Ideal S2x1024 .f32) b n d

/-- The mixed rows of the call's own arguments. -/
def mixAt (s : Fin 6) (b : Fin 4) (n : Fin 4096) (d : Fin 1024) : EReal :=
  mixRow (m ((c : Thread nD τ).loc main_arg0) : Vec Ideal S4x4096x1024 .f32) (m ((c : Thread nD τ).loc main_arg1) : Vec Ideal S4x1024 .f32)
    (m ((c : Thread nD τ).loc main_arg2) : Vec Ideal S4x1024 .f32) (m ((c : Thread nD τ).loc main_arg3) : Vec Ideal S2x1024 .f32)
    (m ((c : Thread nD τ).loc main_arg4) : Vec Ideal S1x6x1024 .f32) s b n d

theorem hid_block (t : Fin cfg0.N) (r : Fin 512) (b : Fin 4) (n : Fin 4096) (hb : b.val = (grid0.coords t 0).val) (hn : n.val = 512 * (grid0.coords t 1).val + r.val) (d : Fin 1024) :
    (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r d) = hidAt m c b n d := by
  refine (hidden _ _ _ _ r d).trans ?_
  exact modRow_congr d (fun d => (congrFun (whole_x _) _).trans (block_x m c t r d b n hb hn))
    (fun d => (congrFun (whole_g _) _).trans (block_3 m c t d))
    (fun d => (row_scale _ d).trans (block_scale m c t d b hb)) (fun d => (row_shift _ d).trans (block_shift m c t d b hb))

/-- The row above a block's first one, from the block of rows staged for it. -/
theorem above_block (t : Fin cfg0.N) (b : Fin 4) (n : Fin 4096) (hb : b.val = (grid0.coords t 0).val) (hn : n.val + 1 = 512 * (grid0.coords t 1).val)
    (d : Fin 1024) :
    modRow (fun d => (View.ld (Val := Elt Ideal) (e' := .f32) (iblk m c 1 t : Vec Ideal S1x8x1024 .f32) r0_4 : Vec Ideal S1x1x1024 .f32) (ix3 0 0 d))
      (fun d => (View.ld (Val := Elt Ideal) (e' := .f32) (iblk m c 3 t : Vec Ideal S1x1024 .f32) r0_0 : Vec Ideal S1x1024 .f32) (ix2 0 d))
      (fun d => (View.ld (Val := Elt Ideal) (e' := .f32) (iblk m c 2 t : Vec Ideal S1x2x1024 .f32) r0_2 : Vec Ideal S1x1x1024 .f32) (ix3 0 0 d))
      (fun d => (View.ld (Val := Elt Ideal) (e' := .f32) (iblk m c 2 t : Vec Ideal S1x2x1024 .f32) r0_1 : Vec Ideal S1x1x1024 .f32) (ix3 0 0 d)) d
      = hidAt m c b n d :=
  modRow_congr d (fun d => (row_above _ d).trans (block_above m c t d b n hb hn))
    (fun d => (congrFun (whole_g _) _).trans (block_3 m c t d))
    (fun d => (row_scale _ d).trans (block_scale m c t d b hb)) (fun d => (row_shift _ d).trans (block_shift m c t d b hb))

theorem diff_block (t : Fin cfg0.N) (r : Fin 512) (b : Fin 4) (n : Fin 4096) (hb : b.val = (grid0.coords t 0).val) (hn : n.val = 512 * (grid0.coords t 1).val + r.val) (d : Fin 1024) :
    k0_pay11 (F := Ideal) (BitVec.ofNat 32 (grid0.coords t 1).val) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay34 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay35 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r d)
      = prevRow (hidAt m c b) n d - hidAt m c b n d := by
  have hi : (grid0.coords t 1).val < 8 := (grid0.coords t 1).isLt
  rcases r with ⟨r, hr⟩
  cases r with
  | zero =>
    refine (first_row _ _ _ _ _ _ d).trans (congrArg₂ HSub.hSub ?_ (hid_block m c t _ b n hb hn d))
    have hn' : n.val = 512 * (grid0.coords t 1).val := hn
    by_cases h0 : (grid0.coords t 1).val = 0
    · have h1 : n.val = 0 := by omega
      rw [prevRow, if_pos h1, h0]
      exact if_pos rfl
    · have h1 : ¬ n.val = 0 := by omega
      have h2 : ¬ BitVec.ofNat 32 (grid0.coords t 1).val = 0#32 := fun h => by
        have h3 := congrArg BitVec.toNat h
        simp only [BitVec.toNat_ofNat] at h3
        omega
      rw [prevRow, if_neg h1]
      refine (if_neg h2).trans ?_
      exact above_block m c t b ⟨n.val - 1, by omega⟩ hb (by show n.val - 1 + 1 = _; omega) d
  | succ r =>
    have hn' : n.val = 512 * (grid0.coords t 1).val + (r + 1) := hn
    have h1 : ¬ n.val = 0 := by omega
    refine (later_row _ _ _ _ _ _ _ r hr d).trans (congrArg₂ HSub.hSub ?_ (hid_block m c t _ b n hb hn d))
    rw [prevRow, if_neg h1]
    exact hid_block m c t ⟨r, by omega⟩ b ⟨n.val - 1, by omega⟩ hb (by show n.val - 1 = _ + r; omega) d

theorem mix_0 (t : Fin cfg0.N) (r : Fin 512) (b : Fin 4) (n : Fin 4096) (hb : b.val = (grid0.coords t 0).val) (hn : n.val = 512 * (grid0.coords t 1).val + r.val) (d : Fin 1024) :
    k0_pay13 (F := Ideal) (BitVec.ofNat 32 (grid0.coords t 1).val) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay34 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay35 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (Val := Elt Ideal) (e' := .f32) (iblk m c 4 t : Vec Ideal S6x1024 .f32) r0_5) (ix2 r d)
      = mixAt m c 0 b n d :=
  (mixed0 _ _ _ _ _ _ _ _ r d).trans (congrArg₂ HAdd.hAdd (hid_block m c t r b n hb hn d)
    (congrArg₂ HMul.hMul (diff_block m c t r b n hb hn d) ((congrFun (whole_mu _) _).trans (block_4 m c t 0 d))))

theorem mix_1 (t : Fin cfg0.N) (r : Fin 512) (b : Fin 4) (n : Fin 4096) (hb : b.val = (grid0.coords t 0).val) (hn : n.val = 512 * (grid0.coords t 1).val + r.val) (d : Fin 1024) :
    k0_pay14 (F := Ideal) (BitVec.ofNat 32 (grid0.coords t 1).val) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay34 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay35 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (Val := Elt Ideal) (e' := .f32) (iblk m c 4 t : Vec Ideal S6x1024 .f32) r0_5) (ix2 r d)
      = mixAt m c 1 b n d :=
  (mixed1 _ _ _ _ _ _ _ _ r d).trans (congrArg₂ HAdd.hAdd (hid_block m c t r b n hb hn d)
    (congrArg₂ HMul.hMul (diff_block m c t r b n hb hn d) ((congrFun (whole_mu _) _).trans (block_4 m c t 1 d))))

theorem mix_2 (t : Fin cfg0.N) (r : Fin 512) (b : Fin 4) (n : Fin 4096) (hb : b.val = (grid0.coords t 0).val) (hn : n.val = 512 * (grid0.coords t 1).val + r.val) (d : Fin 1024) :
    k0_pay15 (F := Ideal) (BitVec.ofNat 32 (grid0.coords t 1).val) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay34 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay35 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (Val := Elt Ideal) (e' := .f32) (iblk m c 4 t : Vec Ideal S6x1024 .f32) r0_5) (ix2 r d)
      = mixAt m c 2 b n d :=
  (mixed2 _ _ _ _ _ _ _ _ r d).trans (congrArg₂ HAdd.hAdd (hid_block m c t r b n hb hn d)
    (congrArg₂ HMul.hMul (diff_block m c t r b n hb hn d) ((congrFun (whole_mu _) _).trans (block_4 m c t 2 d))))

theorem mix_3 (t : Fin cfg0.N) (r : Fin 512) (b : Fin 4) (n : Fin 4096) (hb : b.val = (grid0.coords t 0).val) (hn : n.val = 512 * (grid0.coords t 1).val + r.val) (d : Fin 1024) :
    k0_pay16 (F := Ideal) (BitVec.ofNat 32 (grid0.coords t 1).val) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay34 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay35 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (Val := Elt Ideal) (e' := .f32) (iblk m c 4 t : Vec Ideal S6x1024 .f32) r0_5) (ix2 r d)
      = mixAt m c 3 b n d :=
  (mixed3 _ _ _ _ _ _ _ _ r d).trans (congrArg₂ HAdd.hAdd (hid_block m c t r b n hb hn d)
    (congrArg₂ HMul.hMul (diff_block m c t r b n hb hn d) ((congrFun (whole_mu _) _).trans (block_4 m c t 3 d))))

theorem mix_4 (t : Fin cfg0.N) (r : Fin 512) (b : Fin 4) (n : Fin 4096) (hb : b.val = (grid0.coords t 0).val) (hn : n.val = 512 * (grid0.coords t 1).val + r.val) (d : Fin 1024) :
    k0_pay17 (F := Ideal) (BitVec.ofNat 32 (grid0.coords t 1).val) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay34 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay35 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (Val := Elt Ideal) (e' := .f32) (iblk m c 4 t : Vec Ideal S6x1024 .f32) r0_5) (ix2 r d)
      = mixAt m c 4 b n d :=
  (mixed4 _ _ _ _ _ _ _ _ r d).trans (congrArg₂ HAdd.hAdd (hid_block m c t r b n hb hn d)
    (congrArg₂ HMul.hMul (diff_block m c t r b n hb hn d) ((congrFun (whole_mu _) _).trans (block_4 m c t 4 d))))

theorem mix_5 (t : Fin cfg0.N) (r : Fin 512) (b : Fin 4) (n : Fin 4096) (hb : b.val = (grid0.coords t 0).val) (hn : n.val = 512 * (grid0.coords t 1).val + r.val) (d : Fin 1024) :
    k0_pay18 (F := Ideal) (BitVec.ofNat 32 (grid0.coords t 1).val) (k0_pay33 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay34 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay35 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay36 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay37 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (View.ld (Val := Elt Ideal) (e' := .f32) (iblk m c 4 t : Vec Ideal S6x1024 .f32) r0_5) (ix2 r d)
      = mixAt m c 5 b n d :=
  (mixed5 _ _ _ _ _ _ _ _ r d).trans (congrArg₂ HAdd.hAdd (hid_block m c t r b n hb hn d)
    (congrArg₂ HMul.hMul (diff_block m c t r b n hb hn d) ((congrFun (whole_mu _) _).trans (block_4 m c t 5 d))))

theorem key_block (t : Fin cfg0.N) (r : Fin 512) (b : Fin 4) (n : Fin 4096) (hb : b.val = (grid0.coords t 0).val) (hn : n.val = 512 * (grid0.coords t 1).val + r.val) (e : Fin 1024) :
    (k0_pay40 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r e) = lin (m ((c : Thread nD τ).loc main_arg5) : Vec Ideal S1x3x1024x1024 .f32) (mixAt m c 1 b n) 1 e :=
  (keys _ _ r e).trans (Finset.sum_congr rfl fun d _ => congrArg₂ HMul.hMul (mix_1 m c t r b n hb hn d) ((matrix_1 _ d e).trans (block_5 m c t 1 d e)))

theorem inner_block (t : Fin cfg0.N) (r : Fin 512) (b : Fin 4) (n : Fin 4096) (hb : b.val = (grid0.coords t 0).val) (hn : n.val = 512 * (grid0.coords t 1).val + r.val) (j : Fin 64) :
    (k0_pay41 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j)
      = ∑ d, mixAt m c 4 b n d * (m ((c : Thread nD τ).loc main_arg10) : Vec Ideal S1x1024x64 .f32) (ix3 0 d j) :=
  (inner_a _ _ r j).trans (Finset.sum_congr rfl fun d _ => congrArg₂ HMul.hMul (mix_4 m c t r b n hb hn d) ((congrFun (whole_down _) _).trans (block_8 m c t d j)))

theorem rate_block (t : Fin cfg0.N) (r : Fin 512) (b : Fin 4) (n : Fin 4096) (hb : b.val = (grid0.coords t 0).val) (hn : n.val = 512 * (grid0.coords t 1).val + r.val) (e : Fin 1024) :
    Ideal.logistic ((View.ld (Val := Elt Ideal) (e' := .f32) (iblk m c 12 t : Vec Ideal S4x1024 .f32) r0_7 : Vec Ideal S1x1024 .f32) (ix2 0 e)
        + ∑ j : Fin 64, (k0_pay41 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 r j)
          * (View.ld (Val := Elt Ideal) (e' := .bf16) (iblk m c 9 t : Vec Ideal S64x1024 .bf16) r0_14 : Vec Ideal S64x1024 .bf16) (ix2 j e))
      = rate (mixAt m c 4 b n) (m ((c : Thread nD τ).loc main_arg9) : Vec Ideal S1x1024 .f32) (m ((c : Thread nD τ).loc main_arg10) : Vec Ideal S1x1024x64 .f32)
          (m ((c : Thread nD τ).loc main_arg11) : Vec Ideal S1x64x1024 .f32) e :=
  congrArg Ideal.logistic (congrArg₂ HAdd.hAdd ((bias_1 _ e).trans (block_row_1 m c t e)) (Finset.sum_congr rfl fun j _ =>
    congrArg₂ HMul.hMul (inner_block m c t r b n hb hn j) ((congrFun (whole_up _) _).trans (block_9 m c t j e))))

/-! ## The results of a grid point -/

/-- The receptances, from the call's arguments. -/
def receptances : Vec Ideal S4x4096x1024 .bf16 := fun j => lin (m ((c : Thread nD τ).loc main_arg5) : Vec Ideal S1x3x1024x1024 .f32) (mixAt m c 0 (j 0) (j 1)) 0 (j 2)

theorem point_receptances (t : Fin cfg0.N) (r : Fin 512) (b : Fin 4) (n : Fin 4096) (hb : b.val = (grid0.coords t 0).val) (hn : n.val = 512 * (grid0.coords t 1).val + r.val) (e : Fin 1024) :
    (out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S1x512x1024 .bf16) (ix3 0 r e)
      = receptances m c (ix3 b n e) :=
  (congrFun (View.canon_cons_unit_lit _ _ _ (by decide)) _).trans ((store_r _ _ r e).trans (Finset.sum_congr rfl fun d _ => congrArg₂ HMul.hMul (mix_0 m c t r b n hb hn d) ((matrix_0 _ d e).trans (block_5 m c t 0 d e))))

/-- The keys after the rate, from the call's arguments. -/
def keptKeys : Vec Ideal S4x4096x1024 .bf16 := fun j => keptKey (lin (m ((c : Thread nD τ).loc main_arg5) : Vec Ideal S1x3x1024x1024 .f32) (mixAt m c 1 (j 0) (j 1)) 1 (j 2)) (rate (mixAt m c 4 (j 0) (j 1)) (m ((c : Thread nD τ).loc main_arg9) : Vec Ideal S1x1024 .f32) (m ((c : Thread nD τ).loc main_arg10) : Vec Ideal S1x1024x64 .f32) (m ((c : Thread nD τ).loc main_arg11) : Vec Ideal S1x64x1024 .f32) (j 2)) (m ((c : Thread nD τ).loc main_arg15) : Vec Ideal S1x1024 .f32) (j 2)

theorem point_keptKeys (t : Fin cfg0.N) (r : Fin 512) (b : Fin 4) (n : Fin 4096) (hb : b.val = (grid0.coords t 0).val) (hn : n.val = 512 * (grid0.coords t 1).val + r.val) (e : Fin 1024) :
    (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S1x512x1024 .bf16) (ix3 0 r e)
      = keptKeys m c (ix3 b n e) :=
  (congrFun (View.canon_cons_unit_lit _ _ _ (by decide)) _).trans ((store_k _ _ _ _ _ r e).trans (congrArg₂ HMul.hMul (key_block m c t r b n hb hn e) (congrArg (HAdd.hAdd (Ideal.ofBits .f32 0x3F800000#32))
    (congrArg₂ HMul.hMul (congrArg (fun z : EReal => z - (Ideal.ofBits .f32 0x3F800000#32)) (rate_block m c t r b n hb hn e)) ((bias_3 _ e).trans (block_row_3 m c t e))))))

/-- The values, from the call's arguments. -/
def values : Vec Ideal S4x4096x1024 .bf16 := fun j => lin (m ((c : Thread nD τ).loc main_arg5) : Vec Ideal S1x3x1024x1024 .f32) (mixAt m c 2 (j 0) (j 1)) 2 (j 2)

theorem point_values (t : Fin cfg0.N) (r : Fin 512) (b : Fin 4) (n : Fin 4096) (hb : b.val = (grid0.coords t 0).val) (hn : n.val = 512 * (grid0.coords t 1).val + r.val) (e : Fin 1024) :
    (out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S1x512x1024 .bf16) (ix3 0 r e)
      = values m c (ix3 b n e) :=
  (congrFun (View.canon_cons_unit_lit _ _ _ (by decide)) _).trans ((store_v _ _ r e).trans (Finset.sum_congr rfl fun d _ => congrArg₂ HMul.hMul (mix_2 m c t r b n hb hn d) ((matrix_2 _ d e).trans (block_5 m c t 2 d e))))

/-- The logarithms of the decays, from the call's arguments. -/
def decays : Vec Ideal S4x4096x1024 .f32 := fun j => decay (mixAt m c 3 (j 0) (j 1)) (m ((c : Thread nD τ).loc main_arg6) : Vec Ideal S1x1024 .f32) (m ((c : Thread nD τ).loc main_arg7) : Vec Ideal S1x1024x64 .f32) (m ((c : Thread nD τ).loc main_arg8) : Vec Ideal S1x64x1024 .f32) (j 2)

theorem point_decays (t : Fin cfg0.N) (r : Fin 512) (b : Fin 4) (n : Fin 4096) (hb : b.val = (grid0.coords t 0).val) (hn : n.val = 512 * (grid0.coords t 1).val + r.val) (e : Fin 1024) :
    (out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S1x512x1024 .f32) (ix3 0 r e)
      = decays m c (ix3 b n e) :=
  (congrFun (View.canon_cons_unit_lit _ _ _ (by decide)) _).trans ((store_w _ _ _ _ r e).trans (congrArg (fun z : EReal => Ideal.ofBits .f32 0xBF1B4598#32 * Ideal.logistic z) (congrArg₂ HAdd.hAdd ((bias_0 _ e).trans (block_row_0 m c t e))
    (Finset.sum_congr rfl fun j _ => congrArg₂ HMul.hMul (congrArg Ideal.tanh (Finset.sum_congr rfl fun d _ => congrArg₂ HMul.hMul (mix_3 m c t r b n hb hn d)
      ((congrFun (whole_down _) _).trans (block_6 m c t d j)))) ((congrFun (whole_up _) _).trans (block_7 m c t j e))))))

/-- The keys as removed, from the call's arguments. -/
def removals : Vec Ideal S4x4096x1024 .bf16 := fun j => lin (m ((c : Thread nD τ).loc main_arg5) : Vec Ideal S1x3x1024x1024 .f32) (mixAt m c 1 (j 0) (j 1)) 1 (j 2) * (m ((c : Thread nD τ).loc main_arg14) : Vec Ideal S1x1024 .f32) (ix2 0 (j 2))

theorem point_removals (t : Fin cfg0.N) (r : Fin 512) (b : Fin 4) (n : Fin 4096) (hb : b.val = (grid0.coords t 0).val) (hn : n.val = 512 * (grid0.coords t 1).val + r.val) (e : Fin 1024) :
    (out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S1x512x1024 .bf16) (ix3 0 r e)
      = removals m c (ix3 b n e) :=
  (congrFun (View.canon_cons_unit_lit _ _ _ (by decide)) _).trans ((store_kk _ _ r e).trans (congrArg₂ HMul.hMul (key_block m c t r b n hb hn e) ((bias_2 _ e).trans (block_row_2 m c t e))))

/-- The rates of learning, from the call's arguments. -/
def rates : Vec Ideal S4x4096x1024 .bf16 := fun j => rate (mixAt m c 4 (j 0) (j 1)) (m ((c : Thread nD τ).loc main_arg9) : Vec Ideal S1x1024 .f32) (m ((c : Thread nD τ).loc main_arg10) : Vec Ideal S1x1024x64 .f32) (m ((c : Thread nD τ).loc main_arg11) : Vec Ideal S1x64x1024 .f32) (j 2)

theorem point_rates (t : Fin cfg0.N) (r : Fin 512) (b : Fin 4) (n : Fin 4096) (hb : b.val = (grid0.coords t 0).val) (hn : n.val = 512 * (grid0.coords t 1).val + r.val) (e : Fin 1024) :
    (out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S1x512x1024 .bf16) (ix3 0 r e)
      = rates m c (ix3 b n e) :=
  (congrFun (View.canon_cons_unit_lit _ _ _ (by decide)) _).trans ((store_a _ _ _ r e).trans (rate_block m c t r b n hb hn e))

/-- The gates of the output, from the call's arguments. -/
def gates : Vec Ideal S4x4096x1024 .bf16 := fun j => outGate (mixAt m c 5 (j 0) (j 1)) (m ((c : Thread nD τ).loc main_arg12) : Vec Ideal S1x1024x128 .f32) (m ((c : Thread nD τ).loc main_arg13) : Vec Ideal S1x128x1024 .f32) (j 2)

theorem point_gates (t : Fin cfg0.N) (r : Fin 512) (b : Fin 4) (n : Fin 4096) (hb : b.val = (grid0.coords t 0).val) (hn : n.val = 512 * (grid0.coords t 1).val + r.val) (e : Fin 1024) :
    (out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : Vec Ideal S1x512x1024 .bf16) (ix3 0 r e)
      = gates m c (ix3 b n e) :=
  (congrFun (View.canon_cons_unit_lit _ _ _ (by decide)) _).trans ((store_g _ _ _ r e).trans (Finset.sum_congr rfl fun j _ => congrArg₂ HMul.hMul (congrArg Ideal.logistic (Finset.sum_congr rfl fun d _ =>
    congrArg₂ HMul.hMul (mix_5 m c t r b n hb hn d) ((congrFun (whole_g1 _) _).trans (block_10 m c t d j)))) ((congrFun (whole_g2 _) _).trans (block_11 m c t j e))))

/-- A staged block of rows that agrees with an array at one place of it is read where the block goes. -/
theorem place {G : S4x4096x1024.Idx → EReal} {o : S1x512x1024.Idx → EReal} (t : Fin cfg0.N) (y : S1x512x1024.Idx) (i : S4x4096x1024.Idx)
    (h0 : (i 0).val = (grid0.coords t 0).val) (h1 : (i 1).val = 512 * (grid0.coords t 1).val + (y 1).val) (h2 : (i 2).val = (y 2).val)
    (key : ∀ (r : Fin 512) (b : Fin 4) (n : Fin 4096), b.val = (grid0.coords t 0).val → n.val = 512 * (grid0.coords t 1).val + r.val →
      ∀ e : Fin 1024, o (ix3 0 r e) = G (ix3 b n e)) : o y = G i := by
  have hy0 : (y 0).val < 1 := (y 0).isLt
  have k := key (y 1) (i 0) (i 1) h0 h1 (y 2)
  refine Eq.trans (congrArg o (funext fun a => Fin.ext ?_)) (k.trans (congrArg G (funext fun a => Fin.ext ?_)))
  · match a with
    | ⟨0, _⟩ => show (y 0).val = 0; omega
    | ⟨1, _⟩ => rfl
    | ⟨2, _⟩ => rfl
  · match a with
    | ⟨0, _⟩ => rfl
    | ⟨1, _⟩ => rfl
    | ⟨2, _⟩ => exact h2.symm

theorem receptances_value : (dats m 0 c).arrAt 13 cfg0.N = receptances m c := by
  refine (dats m 0 c).arrAt_eq_of_covers 13 _ (by decide +kernel) fun t hf y => ?_
  blk_simp [index_13 t]
  rw [after0_13]
  have key := point_receptances m c t
  generalize out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = o at key ⊢
  refine place t y _ ?_ ?_ ?_ key
  · simp [index_13 t]
  · simp [index_13 t, Nat.mul_comm]
  · simp [index_13 t]

theorem keptKeys_value : (dats m 0 c).arrAt 14 cfg0.N = keptKeys m c := by
  refine (dats m 0 c).arrAt_eq_of_covers 14 _ (by decide +kernel) fun t hf y => ?_
  blk_simp [index_14 t]
  rw [after0_14]
  have key := point_keptKeys m c t
  generalize out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = o at key ⊢
  refine place t y _ ?_ ?_ ?_ key
  · simp [index_14 t]
  · simp [index_14 t, Nat.mul_comm]
  · simp [index_14 t]

theorem values_value : (dats m 0 c).arrAt 15 cfg0.N = values m c := by
  refine (dats m 0 c).arrAt_eq_of_covers 15 _ (by decide +kernel) fun t hf y => ?_
  blk_simp [index_15 t]
  rw [after0_15]
  have key := point_values m c t
  generalize out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = o at key ⊢
  refine place t y _ ?_ ?_ ?_ key
  · simp [index_15 t]
  · simp [index_15 t, Nat.mul_comm]
  · simp [index_15 t]

theorem decays_value : (dats m 0 c).arrAt 16 cfg0.N = decays m c := by
  refine (dats m 0 c).arrAt_eq_of_covers 16 _ (by decide +kernel) fun t hf y => ?_
  blk_simp [index_16 t]
  rw [after0_16]
  have key := point_decays m c t
  generalize out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = o at key ⊢
  refine place t y _ ?_ ?_ ?_ key
  · simp [index_16 t]
  · simp [index_16 t, Nat.mul_comm]
  · simp [index_16 t]

theorem removals_value : (dats m 0 c).arrAt 17 cfg0.N = removals m c := by
  refine (dats m 0 c).arrAt_eq_of_covers 17 _ (by decide +kernel) fun t hf y => ?_
  blk_simp [index_17 t]
  rw [after0_17]
  have key := point_removals m c t
  generalize out0_17 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = o at key ⊢
  refine place t y _ ?_ ?_ ?_ key
  · simp [index_17 t]
  · simp [index_17 t, Nat.mul_comm]
  · simp [index_17 t]

theorem rates_value : (dats m 0 c).arrAt 18 cfg0.N = rates m c := by
  refine (dats m 0 c).arrAt_eq_of_covers 18 _ (by decide +kernel) fun t hf y => ?_
  blk_simp [index_18 t]
  rw [after0_18]
  have key := point_rates m c t
  generalize out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = o at key ⊢
  refine place t y _ ?_ ?_ ?_ key
  · simp [index_18 t]
  · simp [index_18 t, Nat.mul_comm]
  · simp [index_18 t]

theorem gates_value : (dats m 0 c).arrAt 19 cfg0.N = gates m c := by
  refine (dats m 0 c).arrAt_eq_of_covers 19 _ (by decide +kernel) fun t hf y => ?_
  blk_simp [index_19 t]
  rw [after0_19]
  have key := point_gates m c t
  generalize out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = o at key ⊢
  refine place t y _ ?_ ?_ ?_ key
  · simp [index_19 t]
  · simp [index_19 t, Nat.mul_comm]
  · simp [index_19 t]

end Cert.Proof.Mix
-- ==== Proof.MixReference.lean ====
/-
  The reference of the mixing call, stage by stage, and its agreement with the kernel.
-/
module

public import proofs.«01_k».proof.Proof.MixValue
public import proofs.«01_k».proof.Proof.Gen.MixReferenceIdeal.Run
public import proofs.«01_k».proof.Defs

@[expose] public section

set_option maxRecDepth 16384

noncomputable section

open Idealize.ShloMosaic Idealize.ShloMosaic.TcCoe Idealize.SL.Sem

namespace Cert.Proof.Mix

open Cert.Proof.Projection

/-- The kernel's factor is the reference's, negated. -/
theorem factor_neg : Ideal.ofBits .f32 0xBF1B4598#32 = -Ideal.ofBits .f32 0x3F1B4598#32 := by
  simp [Ideal.ofBits, Ideal.ieee, -EReal.coe_mul]

theorem exp_neg_softplus_real (r : ℝ) :
    Real.exp (-(max (-r) 0 + Real.log (1 + Real.exp (-max (-r) r)))) = (1 + Real.exp (-r))⁻¹ := by
  have hp : 0 < 1 + Real.exp (-max (-r) r) := by positivity
  rw [neg_add, Real.exp_add, Real.exp_neg (Real.log _), Real.exp_log hp]
  rcases le_total 0 r with h | h
  · rw [max_eq_right (by linarith), max_eq_right (by linarith)]
    simp
  · rw [max_eq_left (by linarith), max_eq_left (by linarith), neg_neg]
    have e : Real.exp r * Real.exp (-r) = 1 := by rw [← Real.exp_add]; simp
    have h1 : (1 + Real.exp r) ≠ 0 := by positivity
    have h2 : (1 + Real.exp (-r)) ≠ 0 := by positivity
    field_simp
    linear_combination e

/-- The exponential of a negated softplus of a negated argument is the logistic function, at the infinities too. -/
theorem exp_neg_softplus (z : EReal) :
    Ideal.exp (-(max (-z) 0 + Ideal.log1p (Ideal.exp (-max (-z) (- -z))))) = Ideal.logistic z := by
  induction z using EReal.rec with
  | bot =>
    have h : Ideal.log 1 = 0 := (Ideal.log_coe 1).trans (by simp)
    simp [Ideal.log1p, h]
  | top =>
    have h : Ideal.log (1 + 0) = 0 := by
      have : (1 + 0 : EReal) = ((1 : ℝ) : EReal) := by simp
      rw [this, Ideal.log_coe]
      simp
    simp only [EReal.neg_top, EReal.neg_bot, bot_le, max_eq_right, Ideal.exp_bot, Ideal.log1p, h, Ideal.logistic_top]
    simp
    exact (Ideal.exp_coe 0).trans (by simp)
  | coe r =>
    have h1 : (1 : EReal) + ((Real.exp (-max (-r) r) : ℝ) : EReal) = ((1 + Real.exp (-max (-r) r) : ℝ) : EReal) := by
      rw [EReal.coe_add, EReal.coe_one]
    have hp : ¬ 1 + Real.exp (-max (-r) r) ≤ 0 := not_le.mpr (by positivity)
    have hm : ∀ x y : ℝ, max (x : EReal) (y : EReal) = ((max x y : ℝ) : EReal) := fun x y => (EReal.coe_strictMono.monotone.map_max).symm
    rw [neg_neg, ← EReal.coe_neg, hm, ← EReal.coe_neg, Ideal.exp_coe, Ideal.log1p, h1, Ideal.log_coe, if_neg hp,
      ← EReal.coe_zero, hm, ← EReal.coe_add, ← EReal.coe_neg, Ideal.exp_coe, Ideal.logistic_coe, exp_neg_softplus_real]

section Reference

open Cert.MixReferenceIdeal Cert.MixReferenceIdeal.Gen

/-- The reference's row over its root mean square, times the gains, scaled and shifted. -/
def rowsR (x : FVec Ideal S4x4096x1024 .f32) (g : FVec Ideal S2x1024 .f32) (sc sh : FVec Ideal S4x1024 .f32) : FVec Ideal S4x4096x1024 .f32 :=
  addf (mulf (mulf (mulf x (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf x x) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2
        (shapeCast _ (extractStridedSlice S1x1024 ![0, 0] g slices_S2x1024_S1x1024_0_0) shapeCasts_S1x1024_S1024))))
      (broadcastInDim S4x4096x1024 ![0, 1, 2] bcast_S4x1x1024_S4x4096x1024_0_1_2
        (addf (broadcastInDim S4x1x1024 ![] bcast_S_S4x1x1024 (constant S_ .f32 0x3F800000#32))
          (broadcastInDim S4x1x1024 ![0, 2] bcast_S4x1024_S4x1x1024_0_2 sc))))
    (broadcastInDim S4x4096x1024 ![0, 1, 2] bcast_S4x1x1024_S4x4096x1024_0_1_2 (broadcastInDim S4x1x1024 ![0, 2] bcast_S4x1024_S4x1x1024_0_2 sh))

theorem rowsR_at (x : FVec Ideal S4x4096x1024 .f32) (g : FVec Ideal S2x1024 .f32) (sc sh : FVec Ideal S4x1024 .f32)
    (b : Fin 4) (n : Fin 4096) (d : Fin 1024) : rowsR x g sc sh (ix3 b n d) = hid x sh sc g b n d := by
  pointwise [rowsR, hid, modRow, rmsRow]

/-- The reference's rows moved down by one, zeros above the first. -/
def downR (h : FVec Ideal S4x4096x1024 .f32) : FVec Ideal S4x4096x1024 .f32 :=
  extractStridedSlice S4x4096x1024 ![0, 0, 0] (pad S4x4097x1024 ![0, 1, 0] ![0, 0, 0] ![0, 0, 0] h (sitofp .f32 (constantI S_ 32 0#32))
    pads_S4x4096x1024_S4x4097x1024_000_100_000 h_S_) slices_S4x4097x1024_S4x4096x1024_0_0_0

theorem downR_at (h : FVec Ideal S4x4096x1024 .f32) (b : Fin 4) (n : Fin 4096) (d : Fin 1024) :
    downR h (ix3 b n d) = prevRow (fun n d => h (ix3 b n d)) n d := by
  pointwise [downR, prevRow]
  have hz : FloatOps.sitofp (F := Ideal) FTy.f32 0#32 = (0 : EReal) := by
    show (((0#32 : BitVec 32).toInt : ℝ) : EReal) = 0
    simp
  by_cases h0 : n.val = 0
  · rw [if_pos h0, dif_neg (by omega), hz]
  · rw [if_neg h0, dif_pos (by omega)]

/-- The reference's six mixtures of the rows with the rows above them. -/
def sixR (h : FVec Ideal S4x4096x1024 .f32) (mu : FVec Ideal S1x6x1024 .f32) : FVec Ideal S6x4x4096x1024 .f32 :=
  addf (broadcastInDim S6x4x4096x1024 ![0, 1, 2, 3] bcast_S1x4x4096x1024_S6x4x4096x1024_0_1_2_3
      (broadcastInDim S1x4x4096x1024 ![1, 2, 3] bcast_S4x4096x1024_S1x4x4096x1024_1_2_3 h))
    (mulf (broadcastInDim S6x4x4096x1024 ![0, 1, 2, 3] bcast_S1x4x4096x1024_S6x4x4096x1024_0_1_2_3
        (broadcastInDim S1x4x4096x1024 ![1, 2, 3] bcast_S4x4096x1024_S1x4x4096x1024_1_2_3 (subf (downR h) h)))
      (broadcastInDim S6x4x4096x1024 ![0, 1, 2, 3] bcast_S6x1x1x1024_S6x4x4096x1024_0_1_2_3
        (broadcastInDim S6x1x1x1024 ![0, 3] bcast_S6x1024_S6x1x1x1024_0_3 (shapeCast _ mu shapeCasts_S1x6x1024_S6x1024))))

theorem sixR_at (h : FVec Ideal S4x4096x1024 .f32) (mu : FVec Ideal S1x6x1024 .f32) (s : Fin 6) (b : Fin 4) (n : Fin 4096) (d : Fin 1024) :
    sixR h mu (ix4 s b n d) = h (ix3 b n d) + (downR h (ix3 b n d) - h (ix3 b n d)) * mu (ix3 0 s d) := by
  pointwise [sixR]

theorem six_ref (x : FVec Ideal S4x4096x1024 .f32) (g : FVec Ideal S2x1024 .f32) (sc sh : FVec Ideal S4x1024 .f32) (mu : FVec Ideal S1x6x1024 .f32)
    (s : Fin 6) (b : Fin 4) (n : Fin 4096) (d : Fin 1024) : sixR (rowsR x g sc sh) mu (ix4 s b n d) = mixRow x sh sc g mu s b n d := by
  rw [sixR_at, downR_at]
  simp only [rowsR_at]
  rfl

/-- The reference's products of three mixtures with three square matrices. -/
def threeR (xs : FVec Ideal S6x4x4096x1024 .f32) (w : FVec Ideal S1x3x1024x1024 .f32) : FVec Ideal S3x4x4096x1024 .f32 :=
  Host.dotGeneral dot_S3x4x4096x1024_S3x1024x1024_S3x4x4096x1024_3_1_12_2_0_0 none
    (extractStridedSlice S3x4x4096x1024 ![0, 0, 0, 0] xs slices_S6x4x4096x1024_S3x4x4096x1024_0_0_0_0)
    (shapeCast _ w shapeCasts_S1x3x1024x1024_S3x1024x1024)

theorem threeR_at (xs : FVec Ideal S6x4x4096x1024 .f32) (w : FVec Ideal S1x3x1024x1024 .f32) (s : Fin 3) (b : Fin 4) (n : Fin 4096) (e : Fin 1024) :
    threeR xs w (ix4 s b n e) = ∑ d, xs (ix4 ⟨s.val, by omega⟩ b n d) * w (ix4 0 s d e) := by
  pointwise [threeR]

/-- The first of the three products. -/
def firstR (y : FVec Ideal S3x4x4096x1024 .f32) : FVec Ideal S4x4096x1024 .f32 :=
  shapeCast _ (extractStridedSlice S1x4x4096x1024 ![0, 0, 0, 0] y slices_S3x4x4096x1024_S1x4x4096x1024_0_0_0_0) shapeCasts_S1x4x4096x1024_S4x4096x1024

theorem firstR_at (y : FVec Ideal S3x4x4096x1024 .f32) (b : Fin 4) (n : Fin 4096) (e : Fin 1024) : firstR y (ix3 b n e) = y (ix4 0 b n e) := by
  pointwise [firstR]

/-- The second of the three products. -/
def secondR (y : FVec Ideal S3x4x4096x1024 .f32) : FVec Ideal S4x4096x1024 .f32 :=
  shapeCast _ (extractStridedSlice S1x4x4096x1024 ![1, 0, 0, 0] y slices_S3x4x4096x1024_S1x4x4096x1024_1_0_0_0) shapeCasts_S1x4x4096x1024_S4x4096x1024

theorem secondR_at (y : FVec Ideal S3x4x4096x1024 .f32) (b : Fin 4) (n : Fin 4096) (e : Fin 1024) : secondR y (ix3 b n e) = y (ix4 1 b n e) := by
  pointwise [secondR]

/-- The third of the three products. -/
def thirdR (y : FVec Ideal S3x4x4096x1024 .f32) : FVec Ideal S4x4096x1024 .f32 :=
  shapeCast _ (extractStridedSlice S1x4x4096x1024 ![2, 0, 0, 0] y slices_S3x4x4096x1024_S1x4x4096x1024_2_0_0_0) shapeCasts_S1x4x4096x1024_S4x4096x1024

theorem thirdR_at (y : FVec Ideal S3x4x4096x1024 .f32) (b : Fin 4) (n : Fin 4096) (e : Fin 1024) : thirdR y (ix3 b n e) = y (ix4 2 b n e) := by
  pointwise [thirdR]

/-- The fourth of the six mixtures. -/
def fourthR (xs : FVec Ideal S6x4x4096x1024 .f32) : FVec Ideal S4x4096x1024 .f32 :=
  shapeCast _ (extractStridedSlice S1x4x4096x1024 ![3, 0, 0, 0] xs slices_S6x4x4096x1024_S1x4x4096x1024_3_0_0_0) shapeCasts_S1x4x4096x1024_S4x4096x1024

theorem fourthR_at (xs : FVec Ideal S6x4x4096x1024 .f32) (b : Fin 4) (n : Fin 4096) (d : Fin 1024) : fourthR xs (ix3 b n d) = xs (ix4 3 b n d) := by
  pointwise [fourthR]

/-- The fifth of the six mixtures. -/
def fifthR (xs : FVec Ideal S6x4x4096x1024 .f32) : FVec Ideal S4x4096x1024 .f32 :=
  shapeCast _ (extractStridedSlice S1x4x4096x1024 ![4, 0, 0, 0] xs slices_S6x4x4096x1024_S1x4x4096x1024_4_0_0_0) shapeCasts_S1x4x4096x1024_S4x4096x1024

theorem fifthR_at (xs : FVec Ideal S6x4x4096x1024 .f32) (b : Fin 4) (n : Fin 4096) (d : Fin 1024) : fifthR xs (ix3 b n d) = xs (ix4 4 b n d) := by
  pointwise [fifthR]

/-- The sixth of the six mixtures. -/
def sixthR (xs : FVec Ideal S6x4x4096x1024 .f32) : FVec Ideal S4x4096x1024 .f32 :=
  shapeCast _ (extractStridedSlice S1x4x4096x1024 ![5, 0, 0, 0] xs slices_S6x4x4096x1024_S1x4x4096x1024_5_0_0_0) shapeCasts_S1x4x4096x1024_S4x4096x1024

theorem sixthR_at (xs : FVec Ideal S6x4x4096x1024 .f32) (b : Fin 4) (n : Fin 4096) (d : Fin 1024) : sixthR xs (ix3 b n d) = xs (ix4 5 b n d) := by
  pointwise [sixthR]

/-- A bias per column, for every row. -/
def biasR (v : FVec Ideal S1x1024 .f32) : FVec Ideal S4x4096x1024 .f32 :=
  broadcastInDim S4x4096x1024 ![0, 1, 2] bcast_S1x1x1024_S4x4096x1024_0_1_2 (broadcastInDim S1x1x1024 ![2] bcast_S1024_S1x1x1024_2
    (shapeCast _ v shapeCasts_S1x1024_S1024))

theorem biasR_at (v : FVec Ideal S1x1024 .f32) (b : Fin 4) (n : Fin 4096) (e : Fin 1024) : biasR v (ix3 b n e) = v (ix2 0 e) := by
  pointwise [biasR]

/-- One constant everywhere. -/
def everyR (k : BitVec 32) : FVec Ideal S4x4096x1024 .f32 := broadcastInDim S4x4096x1024 ![] bcast_S_S4x4096x1024 (constant S_ .f32 k)

theorem everyR_at (k : BitVec 32) (b : Fin 4) (n : Fin 4096) (e : Fin 1024) : everyR k (ix3 b n e) = Ideal.ofBits .f32 k := by
  pointwise [everyR]

/-- A product down to 64 columns. -/
def narrowR (x : FVec Ideal S4x4096x1024 .f32) (w : FVec Ideal S1x1024x64 .f32) : FVec Ideal S4x4096x64 .f32 :=
  Host.dotGeneral dot_S4x4096x1024_S1024x64_S4x4096x64_2_0_01_1_n_n none x (shapeCast _ w shapeCasts_S1x1024x64_S1024x64)

theorem narrowR_at (x : FVec Ideal S4x4096x1024 .f32) (w : FVec Ideal S1x1024x64 .f32) (b : Fin 4) (n : Fin 4096) (j : Fin 64) :
    narrowR x w (ix3 b n j) = ∑ d, x (ix3 b n d) * w (ix3 0 d j) := by
  pointwise [narrowR]

/-- A product back up from 64 columns. -/
def widenR (y : FVec Ideal S4x4096x64 .f32) (w : FVec Ideal S1x64x1024 .f32) : FVec Ideal S4x4096x1024 .f32 :=
  Host.dotGeneral dot_S4x4096x64_S64x1024_S4x4096x1024_2_0_01_1_n_n none y (shapeCast _ w shapeCasts_S1x64x1024_S64x1024)

theorem widenR_at (y : FVec Ideal S4x4096x64 .f32) (w : FVec Ideal S1x64x1024 .f32) (b : Fin 4) (n : Fin 4096) (e : Fin 1024) :
    widenR y w (ix3 b n e) = ∑ j, y (ix3 b n j) * w (ix3 0 j e) := by
  pointwise [widenR]

/-- The softplus of a negated argument, negated again, its exponential, and the factor in front of it. -/
def decayR (z : FVec Ideal S4x4096x1024 .f32) : FVec Ideal S4x4096x1024 .f32 :=
  Host.negf (mulf (everyR 0x3F1B4598#32) (Host.exp (Host.negf (select
    (cmpf .une (subf (Host.negf z) (everyR 0x00000000#32)) (subf (Host.negf z) (everyR 0x00000000#32)))
    (addf (Host.negf z) (everyR 0x00000000#32))
    (addf (maximumf (Host.negf z) (everyR 0x00000000#32)) (Host.log1p (Host.exp (Host.negf (Host.absf (subf (Host.negf z) (everyR 0x00000000#32)))))))))))

theorem decayR_at (z : FVec Ideal S4x4096x1024 .f32) (b : Fin 4) (n : Fin 4096) (e : Fin 1024) :
    decayR z (ix3 b n e) = Ideal.ofBits .f32 0xBF1B4598#32 * Ideal.logistic (z (ix3 b n e)) := by
  pointwise [decayR, everyR]
  rw [if_neg (by simp)]
  exact (congrArg (fun u => -(Ideal.ofBits .f32 0x3F1B4598#32 * u)) (exp_neg_softplus _)).trans
    ((EReal.neg_mul _ _).symm.trans (congrArg (· * _) factor_neg.symm))

/-- One over one and the exponential of the negated argument. -/
def sigmoidR (z : FVec Ideal S4x4096x1024 .f32) : FVec Ideal S4x4096x1024 .f32 :=
  Host.divf (everyR 0x3F800000#32) (addf (everyR 0x3F800000#32) (Host.exp (Host.negf z)))

theorem sigmoidR_at (z : FVec Ideal S4x4096x1024 .f32) (b : Fin 4) (n : Fin 4096) (e : Fin 1024) :
    sigmoidR z (ix3 b n e) = Ideal.logistic (z (ix3 b n e)) := by
  pointwise [sigmoidR, everyR]
  rfl

/-- The reference's gate of the output. -/
def gateR (x : FVec Ideal S4x4096x1024 .f32) (g1 : FVec Ideal S1x1024x128 .f32) (g2 : FVec Ideal S1x128x1024 .f32) : FVec Ideal S4x4096x1024 .f32 :=
  Host.dotGeneral dot_S4x4096x128_S128x1024_S4x4096x1024_2_0_01_1_n_n none
    (Host.divf (broadcastInDim S4x4096x128 ![] bcast_S_S4x4096x128 (constant S_ .f32 0x3F800000#32))
      (addf (broadcastInDim S4x4096x128 ![] bcast_S_S4x4096x128 (constant S_ .f32 0x3F800000#32))
        (Host.exp (Host.negf (Host.dotGeneral dot_S4x4096x1024_S1024x128_S4x4096x128_2_0_01_1_n_n none x (shapeCast _ g1 shapeCasts_S1x1024x128_S1024x128))))))
    (shapeCast _ g2 shapeCasts_S1x128x1024_S128x1024)

theorem gateR_at (x : FVec Ideal S4x4096x1024 .f32) (g1 : FVec Ideal S1x1024x128 .f32) (g2 : FVec Ideal S1x128x1024 .f32)
    (b : Fin 4) (n : Fin 4096) (e : Fin 1024) :
    gateR x g1 g2 (ix3 b n e) = ∑ j, Ideal.logistic (∑ d, x (ix3 b n d) * g1 (ix3 0 d j)) * g2 (ix3 0 j e) := by
  pointwise [gateR]
  rfl

/-! ## The seven results -/

section results

variable (x : FVec Ideal S4x4096x1024 .f32) (g : FVec Ideal S2x1024 .f32) (sc sh : FVec Ideal S4x1024 .f32) (mu : FVec Ideal S1x6x1024 .f32)
  (w : FVec Ideal S1x3x1024x1024 .f32) (a0 kk ka : FVec Ideal S1x1024 .f32) (a1 : FVec Ideal S1x1024x64 .f32) (a2 : FVec Ideal S1x64x1024 .f32)
  (g1 : FVec Ideal S1x1024x128 .f32) (g2 : FVec Ideal S1x128x1024 .f32) (b : Fin 4) (n : Fin 4096) (e : Fin 1024)

theorem first_ref : firstR (threeR (sixR (rowsR x g sc sh) mu) w) (ix3 b n e) = lin w (mixRow x sh sc g mu 0 b n) 0 e := by
  simp only [firstR_at, threeR_at, six_ref]
  rfl

theorem second_ref : secondR (threeR (sixR (rowsR x g sc sh) mu) w) (ix3 b n e) = lin w (mixRow x sh sc g mu 1 b n) 1 e := by
  simp only [secondR_at, threeR_at, six_ref]
  rfl

theorem third_ref : thirdR (threeR (sixR (rowsR x g sc sh) mu) w) (ix3 b n e) = lin w (mixRow x sh sc g mu 2 b n) 2 e := by
  simp only [thirdR_at, threeR_at, six_ref]
  rfl

/-- The reference's logarithm of the decay. -/
def decaysR (xs : FVec Ideal S6x4x4096x1024 .f32) (w0 : FVec Ideal S1x1024 .f32) (w1 : FVec Ideal S1x1024x64 .f32) (w2 : FVec Ideal S1x64x1024 .f32) :
    FVec Ideal S4x4096x1024 .f32 :=
  decayR (addf (biasR w0) (widenR (Host.tanh (narrowR (fourthR xs) w1)) w2))

theorem decays_ref : decaysR (sixR (rowsR x g sc sh) mu) a0 a1 a2 (ix3 b n e) = decay (mixRow x sh sc g mu 3 b n) a0 a1 a2 e := by
  rw [decaysR, decayR_at]
  pointwise
  simp only [biasR_at, widenR_at]
  pointwise
  simp only [narrowR_at, fourthR_at, six_ref]
  rfl

/-- The reference's rate of learning. -/
def ratesR (xs : FVec Ideal S6x4x4096x1024 .f32) (a0 : FVec Ideal S1x1024 .f32) (a1 : FVec Ideal S1x1024x64 .f32) (a2 : FVec Ideal S1x64x1024 .f32) :
    FVec Ideal S4x4096x1024 .f32 :=
  sigmoidR (addf (biasR a0) (widenR (narrowR (fifthR xs) a1) a2))

theorem rates_ref : ratesR (sixR (rowsR x g sc sh) mu) a0 a1 a2 (ix3 b n e) = rate (mixRow x sh sc g mu 4 b n) a0 a1 a2 e := by
  rw [ratesR, sigmoidR_at]
  pointwise
  simp only [biasR_at, widenR_at, narrowR_at, fifthR_at, six_ref]
  rfl

theorem gates_ref : gateR (sixthR (sixR (rowsR x g sc sh) mu)) g1 g2 (ix3 b n e) = outGate (mixRow x sh sc g mu 5 b n) g1 g2 e := by
  simp only [gateR_at, sixthR_at, six_ref]
  rfl

/-- The reference's key as removed. -/
def removalsR (k : FVec Ideal S4x4096x1024 .f32) (kk : FVec Ideal S1x1024 .f32) : FVec Ideal S4x4096x1024 .f32 := mulf k (biasR kk)

theorem removalsR_at (k : FVec Ideal S4x4096x1024 .f32) : removalsR k kk (ix3 b n e) = k (ix3 b n e) * kk (ix2 0 e) :=
  congrArg (k (ix3 b n e) * ·) (biasR_at kk b n e)

/-- The reference's key after the rate. -/
def keptR (k a : FVec Ideal S4x4096x1024 .f32) (ka : FVec Ideal S1x1024 .f32) : FVec Ideal S4x4096x1024 .f32 :=
  mulf k (addf (everyR 0x3F800000#32) (mulf (subf a (everyR 0x3F800000#32)) (biasR ka)))

theorem keptR_at (k a : FVec Ideal S4x4096x1024 .f32) : keptR k a ka (ix3 b n e) = keptKey (k (ix3 b n e)) (a (ix3 b n e)) ka e := by
  refine (?_ : _ = k (ix3 b n e) * (everyR 0x3F800000#32 (ix3 b n e) + (a (ix3 b n e) - everyR 0x3F800000#32 (ix3 b n e)) * biasR ka (ix3 b n e))).trans ?_
  · pointwise [keptR]
  · rw [everyR_at, biasR_at]
    rfl

end results

/-- A truncation's entries are what they were. -/
theorem narrowed_at (v : FVec Ideal S4x4096x1024 .f32) (j : S4x4096x1024.Idx) : truncf (F := Ideal) .bf16 v bitsLt_bf16_f32 j = v j := rfl

theorem entries (j : S4x4096x1024.Idx) : j = ix3 (j 0) (j 1) (j 2) := funext fun a => match a with
  | ⟨0, _⟩ => rfl
  | ⟨1, _⟩ => rfl
  | ⟨2, _⟩ => rfl

end Reference

theorem algebraic : Cert.algebraic_MixIdeal_MixReferenceIdeal := by
  intro m ρ m' ρ' hpre hagree
  refine ⟨_, _, _, _, _, _, _, Cert.MixIdeal.Value.run_blocks m ρ, ?_⟩
  refine (θ_run Cert.MixReferenceIdeal.defs _ _).mono (fun _ h c => ⟨(h c).1.trans ?_, (h c).2.1.trans ?_, (h c).2.2.1.trans ?_,
    (h c).2.2.2.1.trans ?_, (h c).2.2.2.2.1.trans ?_, (h c).2.2.2.2.2.1.trans ?_, (h c).2.2.2.2.2.2.1.trans ?_, (h c).2.2.2.2.2.2.2⟩)
    (Cert.MixReferenceIdeal.Value.run (F := Ideal) m' ρ')
  · obtain ⟨a0, a1, a2, a3, a4, a5, a6, a7, a8, a9, a10, a11, a12, a13, a14, a15⟩ := hagree c
    rw [receptances_value]
    funext j
    refine ((congrArg (Cert.MixReferenceIdeal.Value.res_main_v103 m' c) (entries j)).trans (first_ref _ _ _ _ _ _ (j 0) (j 1) (j 2))).trans ?_
    rw [a0, a1, a2, a3, a4, a5]
    rfl
  · obtain ⟨a0, a1, a2, a3, a4, a5, a6, a7, a8, a9, a10, a11, a12, a13, a14, a15⟩ := hagree c
    rw [keptKeys_value]
    funext j
    refine ((congrArg (Cert.MixReferenceIdeal.Value.res_main_v104 m' c) (entries j)).trans ((keptR_at _ _ _ _ _ _).trans (congrArg₂ (fun k a => keptKey k a _ (j 2)) (second_ref _ _ _ _ _ _ (j 0) (j 1) (j 2)) (rates_ref _ _ _ _ _ _ _ _ (j 0) (j 1) (j 2))))).trans ?_
    rw [a0, a1, a2, a3, a4, a5, a9, a10, a11, a15]
    rfl
  · obtain ⟨a0, a1, a2, a3, a4, a5, a6, a7, a8, a9, a10, a11, a12, a13, a14, a15⟩ := hagree c
    rw [values_value]
    funext j
    refine ((congrArg (Cert.MixReferenceIdeal.Value.res_main_v105 m' c) (entries j)).trans (third_ref _ _ _ _ _ _ (j 0) (j 1) (j 2))).trans ?_
    rw [a0, a1, a2, a3, a4, a5]
    rfl
  · obtain ⟨a0, a1, a2, a3, a4, a5, a6, a7, a8, a9, a10, a11, a12, a13, a14, a15⟩ := hagree c
    rw [decays_value]
    funext j
    refine ((congrArg (Cert.MixReferenceIdeal.Value.res_main_v72 m' c) (entries j)).trans (decays_ref _ _ _ _ _ _ _ _ (j 0) (j 1) (j 2))).trans ?_
    rw [a0, a1, a2, a3, a4, a6, a7, a8]
    rfl
  · obtain ⟨a0, a1, a2, a3, a4, a5, a6, a7, a8, a9, a10, a11, a12, a13, a14, a15⟩ := hagree c
    rw [removals_value]
    funext j
    refine ((congrArg (Cert.MixReferenceIdeal.Value.res_main_v106 m' c) (entries j)).trans ((removalsR_at _ _ _ _ _).trans (congrArg (· * _) (second_ref _ _ _ _ _ _ (j 0) (j 1) (j 2))))).trans ?_
    rw [a0, a1, a2, a3, a4, a5, a14]
    rfl
  · obtain ⟨a0, a1, a2, a3, a4, a5, a6, a7, a8, a9, a10, a11, a12, a13, a14, a15⟩ := hagree c
    rw [rates_value]
    funext j
    refine ((congrArg (Cert.MixReferenceIdeal.Value.res_main_v107 m' c) (entries j)).trans (rates_ref _ _ _ _ _ _ _ _ (j 0) (j 1) (j 2))).trans ?_
    rw [a0, a1, a2, a3, a4, a9, a10, a11]
    rfl
  · obtain ⟨a0, a1, a2, a3, a4, a5, a6, a7, a8, a9, a10, a11, a12, a13, a14, a15⟩ := hagree c
    rw [gates_value]
    funext j
    refine ((congrArg (Cert.MixReferenceIdeal.Value.res_main_v108 m' c) (entries j)).trans (gates_ref _ _ _ _ _ _ _ (j 0) (j 1) (j 2))).trans ?_
    rw [a0, a1, a2, a3, a4, a12, a13]
    rfl

end Cert.Proof.Mix
-- ==== Proof.OutFrames.lean ====
/-
  The claims that need no value, for the call after each mixing: the programs of both layers run, leave their arguments
  unchanged and every counter at zero, and nothing in their kernels is renamed.
-/
module

public import proofs.«01_k».proof.Defs
public import proofs.«01_k».proof.Proof.Gen.RwkvOut.Frame
public import proofs.«01_k».proof.Proof.Gen.RwkvOutIdeal.Value
public import proofs.«01_k».proof.Proof.Gen.RwkvOutReferenceIdeal.Run
public import proofs.«01_k».proof.Proof.Gen.AttnOut.Frame
public import proofs.«01_k».proof.Proof.Gen.AttnOutIdeal.Value
public import proofs.«01_k».proof.Proof.Gen.AttnOutReferenceIdeal.Run
public import Idealize.ShloMosaic.Lib.Quiescent

@[expose] public section

noncomputable section

open Idealize.ShloMosaic Idealize.ShloMosaic.TcCoe Idealize.SL.Sem

namespace Cert.Proof

namespace RwkvOut

theorem frame_p : Cert.quiescent_RwkvOut := fun m ρ _ => Cert.RwkvOut.Gen.frame m ρ

theorem frame_pi : Cert.quiescent_RwkvOutIdeal := fun m ρ _ => Cert.RwkvOutIdeal.Gen.frame m ρ

/-- The reference's run: its result comes first, then the arguments; it declares no counter. -/
theorem frame_ri : Cert.quiescent_RwkvOutReferenceIdeal := fun m ρ _ =>
  (θ_run Cert.RwkvOutReferenceIdeal.defs _ _).mono (fun r h => ⟨fun c => (h c).2,
      Idealize.ShloMosaic.sem_eq_zero_of_no_sems (by decide) r.2⟩)
    (Cert.RwkvOutReferenceIdeal.Value.run (F := Ideal) m ρ)

theorem preserves : Cert.preserves_RwkvOut_RwkvOutIdeal := trivial

end RwkvOut

namespace AttnOut

theorem frame_p : Cert.quiescent_AttnOut := fun m ρ _ => Cert.AttnOut.Gen.frame m ρ

theorem frame_pi : Cert.quiescent_AttnOutIdeal := fun m ρ _ => Cert.AttnOutIdeal.Gen.frame m ρ

/-- The reference's run: its result comes first, then the arguments; it declares no counter. -/
theorem frame_ri : Cert.quiescent_AttnOutReferenceIdeal := fun m ρ _ =>
  (θ_run Cert.AttnOutReferenceIdeal.defs _ _).mono (fun r h => ⟨fun c => (h c).2,
      Idealize.ShloMosaic.sem_eq_zero_of_no_sems (by decide) r.2⟩)
    (Cert.AttnOutReferenceIdeal.Value.run (F := Ideal) m ρ)

theorem preserves : Cert.preserves_AttnOut_AttnOutIdeal := trivial

end AttnOut

end Cert.Proof

end
-- ==== Proof.Residual.lean ====
/-
  The step after each mixing: a row's residual plus the gate of the adaptive norm times the row's product with the output matrix.
-/
module

public import Idealize.ShloMosaic.Lib.Pipeline.ValueKit
public import Idealize.ShloMosaic.Lib.Pointwise
public import Idealize.ShloMosaic.Lib.WritesUnit
public import Idealize.ShloMosaic.Lib.Claim

@[expose] public section

noncomputable section

open Idealize.ShloMosaic

namespace Cert.Proof.Residual

/-- The residual plus the gate times the row times the matrix. -/
def mixed (x g y : Fin 1024 → EReal) (w : Fin 1024 → Fin 1024 → EReal) (e : Fin 1024) : EReal :=
  x e + g e * ∑ d, y d * w d e

/-- An entry times its gate. -/
def gated (y s : EReal) : EReal := y * s

theorem mixed_congr {x x' g g' y y' : Fin 1024 → EReal} {w w' : Fin 1024 → Fin 1024 → EReal} (e : Fin 1024)
    (hx : ∀ d, x d = x' d) (hg : ∀ d, g d = g' d) (hy : ∀ d, y d = y' d) (hw : ∀ d e, w d e = w' d e) :
    mixed x g y w e = mixed x' g' y' w' e := by
  rw [funext hx, funext hg, funext hy, funext fun d => funext (hw d)]

/-- Loading a whole buffer that holds `x` gives `x`. -/
theorem whole {sig : RefSig} {s : Shape} {e : EltTy} {a : Memref sig .tc .vmem s e} (ha : a.IsWhole) (x : Vec Ideal s e) {off : Fin s.rank → Nat}
    (inb : ∀ k, off k + s.size k ≤ s.size k) (h : ∀ k, off k = 0 := by decide) :
    a.view.readAt (Elt Ideal) (Rect.unit (s := s) off s.size inb).toLoadRect (ha.unread x) = x := by
  rw [View.readAt_eq_ld, ha.read_unread]
  exact View.ld_unit_lit inb x h

end Cert.Proof.Residual

end
-- ==== Proof.RwkvOutValue.lean ====
/-
  The hidden rows after the recurrence: what the kernel leaves in its first result array, and what its reference computes.
-/
module

public import proofs.«01_k».proof.Proof.Residual
public import proofs.«01_k».proof.Proof.Gen.RwkvOutIdeal.Value
public import proofs.«01_k».proof.Proof.Gen.RwkvOutReferenceIdeal.Run
public import proofs.«01_k».proof.Defs

@[expose] public section

set_option maxRecDepth 16384

noncomputable section

open Idealize.ShloMosaic Idealize.ShloMosaic.TcCoe Idealize.SL.Sem
open Cert.Proof.Residual

namespace Cert.Proof.RwkvOut

section Kernel

open Cert.RwkvOutIdeal Cert.RwkvOutIdeal.Gen

/-- An entry of the block the kernel computes. -/
theorem pay_row (y : Vec Ideal S1x512x1024 .bf16) (gate : Vec Ideal S1x512x1024 .bf16) (x : Vec Ideal S1x512x1024 .f32) (g : Vec Ideal S1x1x1024 .f32) (w : Vec Ideal S1024x1024 .bf16)
    (r : Fin 512) (e : Fin 1024) : k0_pay3 y gate x g w (ix3 0 r e)
      = mixed (fun d => x (ix3 0 r d)) (fun d => g (ix3 0 0 d)) (fun d => gated (y (ix3 0 r d)) (gate (ix3 0 r d))) (fun d e => w (ix2 d e)) e := by
  pointwise [k0_pay3, k0_pay2, mixed, gated]

section Stored

variable (c : Dev nD) (i : grid0.Coords)
variable (arg2 : Memref sig .tc .vmem S1x512x1024 .bf16) (harg2 : arg2.IsWhole)
variable (arg3 : Memref sig .tc .vmem S1x512x1024 .bf16) (harg3 : arg3.IsWhole)
variable (arg4 : Memref sig .tc .vmem S1x512x1024 .f32) (harg4 : arg4.IsWhole)
variable (arg5 : Memref sig .tc .vmem S1x1x1024 .f32) (harg5 : arg5.IsWhole)
variable (arg6 : Memref sig .tc .vmem S1024x1024 .bf16) (harg6 : arg6.IsWhole)
variable (arg7 : Memref sig .tc .vmem S1x2x1024 .f32) (harg7 : arg7.IsWhole)
variable (arg8 : Memref sig .tc .vmem S1x1024 .f32) (harg8 : arg8.IsWhole)
variable (arg9 : Memref sig .tc .vmem S1024x256 .bf16) (harg9 : arg9.IsWhole)
variable (arg10 : Memref sig .tc .vmem S1x512x1024 .f32) (harg10 : arg10.IsWhole)
variable (arg11 : Memref sig .tc .vmem S512x128 .f32) (harg11 : arg11.IsWhole)
variable (arg12 : Memref sig .tc .vmem S8x128 .f32) (harg12 : arg12.IsWhole)
variable (x0 : Vec Ideal S1x512x1024 .bf16) (x1 : Vec Ideal S1x512x1024 .bf16) (x2 : Vec Ideal S1x512x1024 .f32) (x3 : Vec Ideal S1x1x1024 .f32) (x4 : Vec Ideal S1024x1024 .bf16) (x5 : Vec Ideal S1x2x1024 .f32) (x6 : Vec Ideal S1x1024 .f32) (x7 : Vec Ideal S1024x256 .bf16)

/-- At the first point the stored block is the one computed from the blocks read. -/
theorem storedA (hc0 : cond0_0 i) : out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7
    = k0_pay3 x0 x1 x2 x3 x4 := by
  funext j
  refine (show out0_A_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 j
    = VO0_8.read (Elt Ideal) (VO0_8.writes (Elt Ideal) VO0_8.junk [⟨Rect.unit (s := S1x512x1024) ![0, 0, 0] S1x512x1024.size (by decide), k0_pay3 (arg2.view.readAt (Elt Ideal) (Rect.unit (s := S1x512x1024) ![0, 0, 0] S1x512x1024.size (by decide)).toLoadRect (harg2.unread x0)) (arg3.view.readAt (Elt Ideal) (Rect.unit (s := S1x512x1024) ![0, 0, 0] S1x512x1024.size (by decide)).toLoadRect (harg3.unread x1)) (arg4.view.readAt (Elt Ideal) (Rect.unit (s := S1x512x1024) ![0, 0, 0] S1x512x1024.size (by decide)).toLoadRect (harg4.unread x2)) (arg5.view.readAt (Elt Ideal) (Rect.unit (s := S1x1x1024) ![0, 0, 0] S1x1x1024.size (by decide)).toLoadRect (harg5.unread x3)) (arg6.view.readAt (Elt Ideal) (Rect.unit (s := S1024x1024) ![0, 0] S1024x1024.size (by decide)).toLoadRect (harg6.unread x4))⟩]) j from rfl).trans ?_
  rw [whole harg2, whole harg3, whole harg4, whole harg5, whole harg6]
  exact View.read_writes_cons_unit_of_mem _ _ _ _ _ j j rfl (fun ax => match ax with
    | ⟨0, _⟩ => (Nat.zero_add _).symm
    | ⟨1, _⟩ => (Nat.zero_add _).symm
    | ⟨2, _⟩ => (Nat.zero_add _).symm)

/-- At every later point too. -/
theorem storedB (hc0 : ¬cond0_0 i) (xo : Vec Ideal S8x128 .f32) : out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo
    = k0_pay3 x0 x1 x2 x3 x4 := by
  funext j
  refine (show out0_B_8 (F := Ideal) c i arg2 harg2 arg3 harg3 arg4 harg4 arg5 harg5 arg6 harg6 arg7 harg7 arg8 harg8 arg9 harg9 arg10 harg10 arg11 harg11 arg12 harg12 hc0 x0 x1 x2 x3 x4 x5 x6 x7 xo j
    = VO0_8.read (Elt Ideal) (VO0_8.writes (Elt Ideal) VO0_8.junk [⟨Rect.unit (s := S1x512x1024) ![0, 0, 0] S1x512x1024.size (by decide), k0_pay3 (arg2.view.readAt (Elt Ideal) (Rect.unit (s := S1x512x1024) ![0, 0, 0] S1x512x1024.size (by decide)).toLoadRect (harg2.unread x0)) (arg3.view.readAt (Elt Ideal) (Rect.unit (s := S1x512x1024) ![0, 0, 0] S1x512x1024.size (by decide)).toLoadRect (harg3.unread x1)) (arg4.view.readAt (Elt Ideal) (Rect.unit (s := S1x512x1024) ![0, 0, 0] S1x512x1024.size (by decide)).toLoadRect (harg4.unread x2)) (arg5.view.readAt (Elt Ideal) (Rect.unit (s := S1x1x1024) ![0, 0, 0] S1x1x1024.size (by decide)).toLoadRect (harg5.unread x3)) (arg6.view.readAt (Elt Ideal) (Rect.unit (s := S1024x1024) ![0, 0] S1024x1024.size (by decide)).toLoadRect (harg6.unread x4))⟩]) j from rfl).trans ?_
  rw [whole harg2, whole harg3, whole harg4, whole harg5, whole harg6]
  exact View.read_writes_cons_unit_of_mem _ _ _ _ _ j j rfl (fun ax => match ax with
    | ⟨0, _⟩ => (Nat.zero_add _).symm
    | ⟨1, _⟩ => (Nat.zero_add _).symm
    | ⟨2, _⟩ => (Nat.zero_add _).symm)

end Stored

theorem index_y : ∀ t : Fin cfg0.N, win0_0.index t = ![(grid0.coords t 0).val, (grid0.coords t 1).val, 0] := (by decide +kernel : ∀ t : Fin grid0.N, _)
theorem index_gate : ∀ t : Fin cfg0.N, win0_1.index t = ![(grid0.coords t 0).val, (grid0.coords t 1).val, 0] := (by decide +kernel : ∀ t : Fin grid0.N, _)
theorem index_x : ∀ t : Fin cfg0.N, win0_2.index t = ![(grid0.coords t 0).val, (grid0.coords t 1).val, 0] := (by decide +kernel : ∀ t : Fin grid0.N, _)
theorem index_g : ∀ t : Fin cfg0.N, win0_3.index t = ![(grid0.coords t 0).val, 0, 0] := (by decide +kernel : ∀ t : Fin grid0.N, _)
theorem index_w : ∀ t : Fin cfg0.N, win0_4.index t = ![0, 0] := (by decide +kernel : ∀ t : Fin grid0.N, _)
theorem index_o : ∀ t : Fin cfg0.N, win0_8.index t = ![(grid0.coords t 0).val, (grid0.coords t 1).val, 0] := (by decide +kernel : ∀ t : Fin grid0.N, _)

variable (m : (ℓ : Loc nD τ sig) → Buf (Elt Ideal) ℓ) (c : Dev nD)

theorem block_y (t : Fin cfg0.N) (r : Fin 512) (d : Fin 1024) (b : Fin 4) (n : Fin 4096) (hb : b.val = (grid0.coords t 0).val)
    (hn : n.val = 512 * (grid0.coords t 1).val + r.val) :
    (iblk m c 0 t : Vec Ideal S1x512x1024 .bf16) (ix3 0 r d) = (m ((c : Thread nD τ).loc main_arg0) : Vec Ideal S4x4096x1024 .bf16) (ix3 b n d) := by
  blk_ext [iblk, V, index_y t]

theorem block_gate (t : Fin cfg0.N) (r : Fin 512) (d : Fin 1024) (b : Fin 4) (n : Fin 4096) (hb : b.val = (grid0.coords t 0).val)
    (hn : n.val = 512 * (grid0.coords t 1).val + r.val) :
    (iblk m c 1 t : Vec Ideal S1x512x1024 .bf16) (ix3 0 r d) = (m ((c : Thread nD τ).loc main_arg1) : Vec Ideal S4x4096x1024 .bf16) (ix3 b n d) := by
  blk_ext [iblk, V, index_gate t]

theorem block_x (t : Fin cfg0.N) (r : Fin 512) (d : Fin 1024) (b : Fin 4) (n : Fin 4096) (hb : b.val = (grid0.coords t 0).val)
    (hn : n.val = 512 * (grid0.coords t 1).val + r.val) :
    (iblk m c 2 t : Vec Ideal S1x512x1024 .f32) (ix3 0 r d) = (m ((c : Thread nD τ).loc main_arg2) : Vec Ideal S4x4096x1024 .f32) (ix3 b n d) := by
  blk_ext [iblk, V, index_x t]

theorem block_g (t : Fin cfg0.N) (d : Fin 1024) (b : Fin 4) (hb : b.val = (grid0.coords t 0).val) :
    (iblk m c 3 t : Vec Ideal S1x1x1024 .f32) (ix3 0 0 d) = (V m c main_v3 : Vec Ideal S4x1x1024 .f32) (ix3 b 0 d) := by
  blk_ext [iblk, index_g t]

theorem block_w (t : Fin cfg0.N) (d e : Fin 1024) :
    (iblk m c 4 t : Vec Ideal S1024x1024 .bf16) (ix2 d e) = (V m c main_v5 : Vec Ideal S1024x1024 .bf16) (ix2 d e) := by
  blk_ext [iblk, index_w t]

theorem lift_g (b : Fin 4) (d : Fin 1024) : (V m c main_v3 : Vec Ideal S4x1x1024 .f32) (ix3 b 0 d)
    = (m ((c : Thread nD τ).loc main_arg3) : Vec Ideal S4x1024 .f32) (ix2 b d) := by
  entry_read
  pointwise

theorem matrix_w (d e : Fin 1024) : (V m c main_v5 : Vec Ideal S1024x1024 .bf16) (ix2 d e)
    = (m ((c : Thread nD τ).loc main_arg4) : Vec Ideal S1x1024x1024 .f32) (ix3 0 d e) := by
  entry_read
  pointwise

/-- The rows after the call, from the arguments. -/
def rows (j : S4x4096x1024.Idx) : EReal :=
  mixed (fun d => (m ((c : Thread nD τ).loc main_arg2) : Vec Ideal S4x4096x1024 .f32) (ix3 (j 0) (j 1) d))
    (fun d => (m ((c : Thread nD τ).loc main_arg3) : Vec Ideal S4x1024 .f32) (ix2 (j 0) d))
    (fun d => gated ((m ((c : Thread nD τ).loc main_arg0) : Vec Ideal S4x4096x1024 .bf16) (ix3 (j 0) (j 1) d)) ((m ((c : Thread nD τ).loc main_arg1) : Vec Ideal S4x4096x1024 .bf16) (ix3 (j 0) (j 1) d)))
    (fun d e => (m ((c : Thread nD τ).loc main_arg4) : Vec Ideal S1x1024x1024 .f32) (ix3 0 d e)) (j 2)

theorem stored (t : Fin cfg0.N) : (outsAt0 m c t.val t.isLt).1
    = k0_pay3 (iblk m c 0 t) (iblk m c 1 t) (iblk m c 2 t) (iblk m c 3 t) (iblk m c 4 t) := by
  by_cases h0 : t.val % 32 = 0
  · simp only [outsAt0_A m c t h0]
    exact (storedA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) ((hcond0_0 t).mpr h0))
  · simp only [outsAt0_B m c t h0]
    exact (storedB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) (fun h => h0 ((hcond0_0 t).mp h)) _)

theorem point (t : Fin cfg0.N) (r : Fin 512) (e : Fin 1024) (b : Fin 4) (n : Fin 4096) (hb : b.val = (grid0.coords t 0).val)
    (hn : n.val = 512 * (grid0.coords t 1).val + r.val) :
    ((outsAt0 m c t.val t.isLt).1 : Vec Ideal S1x512x1024 .f32) (ix3 0 r e) = rows m c (ix3 b n e) := by
  rw [stored]
  refine (pay_row _ _ _ _ _ r e).trans ?_
  exact mixed_congr e (fun d => block_x m c t r d b n hb hn) (fun d => (block_g m c t d b hb).trans (lift_g m c b d))
    (fun d => congrArg₂ gated (block_y m c t r d b n hb hn) (block_gate m c t r d b n hb hn)) (fun d e => (block_w m c t d e).trans (matrix_w m c d e))

/-- The first result array after the run. -/
theorem rows_value : (dats m 0 c).arrAt 8 cfg0.N = rows m c := by
  refine (dats m 0 c).arrAt_eq_of_covers 8 _ (by decide +kernel) fun t hf y => ?_
  blk_simp [index_o t]
  rw [after0_8]
  have h0 : (y 0).val < 1 := (y 0).isLt
  have h1 : (y 1).val < 512 := (y 1).isLt
  have h2 : (y 2).val < 1024 := (y 2).isLt
  have hb : (grid0.coords t 0).val < 4 := (grid0.coords t 0).isLt
  have hn : (grid0.coords t 1).val < 8 := (grid0.coords t 1).isLt
  have key := point m c t ⟨(y 1).val, h1⟩ ⟨(y 2).val, h2⟩ ⟨(grid0.coords t 0).val, hb⟩ ⟨512 * (grid0.coords t 1).val + (y 1).val, by omega⟩ rfl rfl
  generalize (outsAt0 m c t.val t.isLt).1 = o at key ⊢
  refine Eq.trans (congrArg o (funext fun a => Fin.ext ?_)) (key.trans (congrArg (rows m c) (funext fun a => Fin.ext ?_)))
  · match a with
    | ⟨0, _⟩ => show (y 0).val = 0; omega
    | ⟨1, _⟩ => rfl
    | ⟨2, _⟩ => rfl
  · match a with
    | ⟨0, _⟩ => show (grid0.coords t 0).val = _; simp [index_o t]
    | ⟨1, _⟩ => show 512 * (grid0.coords t 1).val + (y 1).val = _; simp [index_o t, Nat.mul_comm]
    | ⟨2, _⟩ => show (y 2).val = _; simp [index_o t]

end Kernel

section Reference

open Cert.RwkvOutReferenceIdeal Cert.RwkvOutReferenceIdeal.Gen

/-- An entry of the reference's result. -/
theorem ref_row (y gate : FVec Ideal S4x4096x1024 .bf16) (x : FVec Ideal S4x4096x1024 .f32) (g : FVec Ideal S4x1024 .f32)
    (w : FVec Ideal S1x1024x1024 .f32) (b : Fin 4) (n : Fin 4096) (e : Fin 1024) :
    addf x (mulf (broadcastInDim S4x4096x1024 ![0, 1, 2] bcast_S4x1x1024_S4x4096x1024_0_1_2 (broadcastInDim S4x1x1024 ![0, 2] bcast_S4x1024_S4x1x1024_0_2 g))
      (Host.dotGeneral dot_S4x4096x1024_S1024x1024_S4x4096x1024_2_0_01_1_n_n none (mulf (extf .f32 y bitsLt_bf16_f32) (extf .f32 gate bitsLt_bf16_f32))
        (shapeCast S1024x1024 w shapeCasts_S1x1024x1024_S1024x1024))) (ix3 b n e)
      = mixed (fun d => x (ix3 b n d)) (fun d => g (ix2 b d)) (fun d => gated (y (ix3 b n d)) (gate (ix3 b n d))) (fun d e => w (ix3 0 d e)) e := by
  pointwise [mixed, gated]

end Reference

theorem algebraic : Cert.algebraic_RwkvOutIdeal_RwkvOutReferenceIdeal := by
  intro m ρ m' ρ' hpre hagree
  refine ⟨_, (θ_run Cert.RwkvOutIdeal.defs _ _).mono (fun _ h c => ⟨(h c).1, (h c).2.2.2⟩) (Cert.RwkvOutIdeal.Value.run_blocks m ρ), ?_⟩
  refine (θ_run Cert.RwkvOutReferenceIdeal.defs _ _).mono (fun _ h c => ⟨(h c).1.trans ?_, (h c).2⟩)
    (Cert.RwkvOutReferenceIdeal.Value.run (F := Ideal) m' ρ')
  obtain ⟨a0, a1, a2, a3, a4, a5, a6, a7, a8, a9⟩ := hagree c
  rw [rows_value, a0, a1, a2, a3, a4]
  funext j
  have hj : j = ix3 (j 0) (j 1) (j 2) := funext fun a => match a with
    | ⟨0, _⟩ => rfl
    | ⟨1, _⟩ => rfl
    | ⟨2, _⟩ => rfl
  exact (congrArg _ hj).trans (ref_row (m ((c.tc : Thread _ _).loc Cert.RwkvOutIdeal.main_arg0)) (m ((c.tc : Thread _ _).loc Cert.RwkvOutIdeal.main_arg1)) (m ((c.tc : Thread _ _).loc Cert.RwkvOutIdeal.main_arg2)) (m ((c.tc : Thread _ _).loc Cert.RwkvOutIdeal.main_arg3)) (m ((c.tc : Thread _ _).loc Cert.RwkvOutIdeal.main_arg4)) (j 0) (j 1) (j 2))

end Cert.Proof.RwkvOut

end
-- ==== Proof.AttnOutValue.lean ====
/-
  The hidden rows after the attention: what the kernel leaves in its first result array, and what its reference computes.
-/
module

public import proofs.«01_k».proof.Proof.Residual
public import proofs.«01_k».proof.Proof.Gen.AttnOutIdeal.Value
public import proofs.«01_k».proof.Proof.Gen.AttnOutReferenceIdeal.Run
public import proofs.«01_k».proof.Defs

@[expose] public section

set_option maxRecDepth 16384

noncomputable section

open Idealize.ShloMosaic Idealize.ShloMosaic.TcCoe Idealize.SL.Sem
open Cert.Proof.Residual

namespace Cert.Proof.AttnOut

section Kernel

open Cert.AttnOutIdeal Cert.AttnOutIdeal.Gen

/-- An entry of the block the kernel computes. -/
theorem pay_row (y : Vec Ideal S1x512x1024 .bf16) (x : Vec Ideal S1x512x1024 .f32) (g : Vec Ideal S1x1x1024 .f32) (w : Vec Ideal S1024x1024 .bf16)
    (r : Fin 512) (e : Fin 1024) : k0_pay2 y x g w (ix3 0 r e)
      = mixed (fun d => x (ix3 0 r d)) (fun d => g (ix3 0 0 d)) (fun d => y (ix3 0 r d)) (fun d e => w (ix2 d e)) e := by
  pointwise [k0_pay2, k0_pay1, mixed]

section Stored

variable (c : Dev nD) (i : grid0.Coords)
variable (arg2 : Memref sig .tc .vmem S1x512x1024 .bf16) (harg2 : arg2.IsWhole)
variable (arg3 : Memref sig .tc .vmem S1x512x1024 .f32) (harg3 : arg3.IsWhole)
variable (arg4 : Memref sig .tc .vmem S1x1x1024 .f32) (harg4 : arg4.IsWhole)
variable (arg5 : Memref sig .tc .vmem S1024x1024 .bf16) (harg5 : arg5.IsWhole)
variable (arg6 : Memref sig .tc .vmem S1x2x1024 .f32) (harg6 : arg6.IsWhole)
variable (arg7 : Memref sig .tc .vmem S1x1024 .f32) (harg7 : arg7.IsWhole)
variable (arg8 : Memref sig .tc .vmem S1024x256 .bf16) (harg8 : arg8.IsWhole)
variable (arg9 : Memref sig .tc .vmem S1x512x1024 .f32) (harg9 : arg9.IsWhole)
variable (arg10 : Memref sig .tc .vmem S512x128 .f32) (harg10 : arg10.IsWhole)
variable (arg11 : Memref sig .tc .vmem S8x128 .f32) (harg11 : arg11.IsWhole)
variable (x0 : Vec Ideal S1x512x1024 .bf16) (x1 : Vec Ideal S1x512x1024 .f32) (x2 : Vec Ideal S1x1x1024 .f32) (x3 : Vec Ideal S1024x1024 .bf16) (x4 : Vec Ideal S1x2x1024 .f32) (x5 : Vec Ideal S1x1024 .f32) (x6 : Vec Ideal S1024x256 .bf16)

/-- At the first point the stored block is the one computed from the blocks read. -/
theorem storedA (hc0 : cond0_0 i) : out0_A_7 (F := Ideal) c i arg2 harg2 arg3 harg3 arg4 harg4 arg5 harg5 arg6 harg6 arg7 harg7 arg8 harg8 arg9 harg9 arg10 harg10 arg11 harg11 hc0 x0 x1 x2 x3 x4 x5 x6
    = k0_pay2 x0 x1 x2 x3 := by
  funext j
  refine (show out0_A_7 (F := Ideal) c i arg2 harg2 arg3 harg3 arg4 harg4 arg5 harg5 arg6 harg6 arg7 harg7 arg8 harg8 arg9 harg9 arg10 harg10 arg11 harg11 hc0 x0 x1 x2 x3 x4 x5 x6 j
    = VO0_7.read (Elt Ideal) (VO0_7.writes (Elt Ideal) VO0_7.junk [⟨Rect.unit (s := S1x512x1024) ![0, 0, 0] S1x512x1024.size (by decide), k0_pay2 (arg2.view.readAt (Elt Ideal) (Rect.unit (s := S1x512x1024) ![0, 0, 0] S1x512x1024.size (by decide)).toLoadRect (harg2.unread x0)) (arg3.view.readAt (Elt Ideal) (Rect.unit (s := S1x512x1024) ![0, 0, 0] S1x512x1024.size (by decide)).toLoadRect (harg3.unread x1)) (arg4.view.readAt (Elt Ideal) (Rect.unit (s := S1x1x1024) ![0, 0, 0] S1x1x1024.size (by decide)).toLoadRect (harg4.unread x2)) (arg5.view.readAt (Elt Ideal) (Rect.unit (s := S1024x1024) ![0, 0] S1024x1024.size (by decide)).toLoadRect (harg5.unread x3))⟩]) j from rfl).trans ?_
  rw [whole harg2, whole harg3, whole harg4, whole harg5]
  exact View.read_writes_cons_unit_of_mem _ _ _ _ _ j j rfl (fun ax => match ax with
    | ⟨0, _⟩ => (Nat.zero_add _).symm
    | ⟨1, _⟩ => (Nat.zero_add _).symm
    | ⟨2, _⟩ => (Nat.zero_add _).symm)

/-- At every later point too. -/
theorem storedB (hc0 : ¬cond0_0 i) (xo : Vec Ideal S8x128 .f32) : out0_B_7 (F := Ideal) c i arg2 harg2 arg3 harg3 arg4 harg4 arg5 harg5 arg6 harg6 arg7 harg7 arg8 harg8 arg9 harg9 arg10 harg10 arg11 harg11 hc0 x0 x1 x2 x3 x4 x5 x6 xo
    = k0_pay2 x0 x1 x2 x3 := by
  funext j
  refine (show out0_B_7 (F := Ideal) c i arg2 harg2 arg3 harg3 arg4 harg4 arg5 harg5 arg6 harg6 arg7 harg7 arg8 harg8 arg9 harg9 arg10 harg10 arg11 harg11 hc0 x0 x1 x2 x3 x4 x5 x6 xo j
    = VO0_7.read (Elt Ideal) (VO0_7.writes (Elt Ideal) VO0_7.junk [⟨Rect.unit (s := S1x512x1024) ![0, 0, 0] S1x512x1024.size (by decide), k0_pay2 (arg2.view.readAt (Elt Ideal) (Rect.unit (s := S1x512x1024) ![0, 0, 0] S1x512x1024.size (by decide)).toLoadRect (harg2.unread x0)) (arg3.view.readAt (Elt Ideal) (Rect.unit (s := S1x512x1024) ![0, 0, 0] S1x512x1024.size (by decide)).toLoadRect (harg3.unread x1)) (arg4.view.readAt (Elt Ideal) (Rect.unit (s := S1x1x1024) ![0, 0, 0] S1x1x1024.size (by decide)).toLoadRect (harg4.unread x2)) (arg5.view.readAt (Elt Ideal) (Rect.unit (s := S1024x1024) ![0, 0] S1024x1024.size (by decide)).toLoadRect (harg5.unread x3))⟩]) j from rfl).trans ?_
  rw [whole harg2, whole harg3, whole harg4, whole harg5]
  exact View.read_writes_cons_unit_of_mem _ _ _ _ _ j j rfl (fun ax => match ax with
    | ⟨0, _⟩ => (Nat.zero_add _).symm
    | ⟨1, _⟩ => (Nat.zero_add _).symm
    | ⟨2, _⟩ => (Nat.zero_add _).symm)

end Stored

theorem index_y : ∀ t : Fin cfg0.N, win0_0.index t = ![(grid0.coords t 0).val, (grid0.coords t 1).val, 0] := (by decide +kernel : ∀ t : Fin grid0.N, _)
theorem index_x : ∀ t : Fin cfg0.N, win0_1.index t = ![(grid0.coords t 0).val, (grid0.coords t 1).val, 0] := (by decide +kernel : ∀ t : Fin grid0.N, _)
theorem index_g : ∀ t : Fin cfg0.N, win0_2.index t = ![(grid0.coords t 0).val, 0, 0] := (by decide +kernel : ∀ t : Fin grid0.N, _)
theorem index_w : ∀ t : Fin cfg0.N, win0_3.index t = ![0, 0] := (by decide +kernel : ∀ t : Fin grid0.N, _)
theorem index_o : ∀ t : Fin cfg0.N, win0_7.index t = ![(grid0.coords t 0).val, (grid0.coords t 1).val, 0] := (by decide +kernel : ∀ t : Fin grid0.N, _)

variable (m : (ℓ : Loc nD τ sig) → Buf (Elt Ideal) ℓ) (c : Dev nD)

theorem block_y (t : Fin cfg0.N) (r : Fin 512) (d : Fin 1024) (b : Fin 4) (n : Fin 4096) (hb : b.val = (grid0.coords t 0).val)
    (hn : n.val = 512 * (grid0.coords t 1).val + r.val) :
    (iblk m c 0 t : Vec Ideal S1x512x1024 .bf16) (ix3 0 r d) = (m ((c : Thread nD τ).loc main_arg0) : Vec Ideal S4x4096x1024 .bf16) (ix3 b n d) := by
  blk_ext [iblk, V, index_y t]

theorem block_x (t : Fin cfg0.N) (r : Fin 512) (d : Fin 1024) (b : Fin 4) (n : Fin 4096) (hb : b.val = (grid0.coords t 0).val)
    (hn : n.val = 512 * (grid0.coords t 1).val + r.val) :
    (iblk m c 1 t : Vec Ideal S1x512x1024 .f32) (ix3 0 r d) = (m ((c : Thread nD τ).loc main_arg1) : Vec Ideal S4x4096x1024 .f32) (ix3 b n d) := by
  blk_ext [iblk, V, index_x t]

theorem block_g (t : Fin cfg0.N) (d : Fin 1024) (b : Fin 4) (hb : b.val = (grid0.coords t 0).val) :
    (iblk m c 2 t : Vec Ideal S1x1x1024 .f32) (ix3 0 0 d) = (V m c main_v3 : Vec Ideal S4x1x1024 .f32) (ix3 b 0 d) := by
  blk_ext [iblk, index_g t]

theorem block_w (t : Fin cfg0.N) (d e : Fin 1024) :
    (iblk m c 3 t : Vec Ideal S1024x1024 .bf16) (ix2 d e) = (V m c main_v5 : Vec Ideal S1024x1024 .bf16) (ix2 d e) := by
  blk_ext [iblk, index_w t]

theorem lift_g (b : Fin 4) (d : Fin 1024) : (V m c main_v3 : Vec Ideal S4x1x1024 .f32) (ix3 b 0 d)
    = (m ((c : Thread nD τ).loc main_arg2) : Vec Ideal S4x1024 .f32) (ix2 b d) := by
  entry_read
  pointwise

theorem matrix_w (d e : Fin 1024) : (V m c main_v5 : Vec Ideal S1024x1024 .bf16) (ix2 d e)
    = (m ((c : Thread nD τ).loc main_arg3) : Vec Ideal S1x1024x1024 .f32) (ix3 0 d e) := by
  entry_read
  pointwise

/-- The rows after the call, from the arguments. -/
def rows (j : S4x4096x1024.Idx) : EReal :=
  mixed (fun d => (m ((c : Thread nD τ).loc main_arg1) : Vec Ideal S4x4096x1024 .f32) (ix3 (j 0) (j 1) d))
    (fun d => (m ((c : Thread nD τ).loc main_arg2) : Vec Ideal S4x1024 .f32) (ix2 (j 0) d))
    (fun d => (m ((c : Thread nD τ).loc main_arg0) : Vec Ideal S4x4096x1024 .bf16) (ix3 (j 0) (j 1) d))
    (fun d e => (m ((c : Thread nD τ).loc main_arg3) : Vec Ideal S1x1024x1024 .f32) (ix3 0 d e)) (j 2)

theorem stored (t : Fin cfg0.N) : (outsAt0 m c t.val t.isLt).1
    = k0_pay2 (iblk m c 0 t) (iblk m c 1 t) (iblk m c 2 t) (iblk m c 3 t) := by
  by_cases h0 : t.val % 32 = 0
  · simp only [outsAt0_A m c t h0]
    exact (storedA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) ((hcond0_0 t).mpr h0))
  · simp only [outsAt0_B m c t h0]
    exact (storedB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (fun h => h0 ((hcond0_0 t).mp h)) _)

theorem point (t : Fin cfg0.N) (r : Fin 512) (e : Fin 1024) (b : Fin 4) (n : Fin 4096) (hb : b.val = (grid0.coords t 0).val)
    (hn : n.val = 512 * (grid0.coords t 1).val + r.val) :
    ((outsAt0 m c t.val t.isLt).1 : Vec Ideal S1x512x1024 .f32) (ix3 0 r e) = rows m c (ix3 b n e) := by
  rw [stored]
  refine (pay_row _ _ _ _ r e).trans ?_
  exact mixed_congr e (fun d => block_x m c t r d b n hb hn) (fun d => (block_g m c t d b hb).trans (lift_g m c b d))
    (fun d => block_y m c t r d b n hb hn) (fun d e => (block_w m c t d e).trans (matrix_w m c d e))

/-- The first result array after the run. -/
theorem rows_value : (dats m 0 c).arrAt 7 cfg0.N = rows m c := by
  refine (dats m 0 c).arrAt_eq_of_covers 7 _ (by decide +kernel) fun t hf y => ?_
  blk_simp [index_o t]
  rw [after0_7]
  have h0 : (y 0).val < 1 := (y 0).isLt
  have h1 : (y 1).val < 512 := (y 1).isLt
  have h2 : (y 2).val < 1024 := (y 2).isLt
  have hb : (grid0.coords t 0).val < 4 := (grid0.coords t 0).isLt
  have hn : (grid0.coords t 1).val < 8 := (grid0.coords t 1).isLt
  have key := point m c t ⟨(y 1).val, h1⟩ ⟨(y 2).val, h2⟩ ⟨(grid0.coords t 0).val, hb⟩ ⟨512 * (grid0.coords t 1).val + (y 1).val, by omega⟩ rfl rfl
  generalize (outsAt0 m c t.val t.isLt).1 = o at key ⊢
  refine Eq.trans (congrArg o (funext fun a => Fin.ext ?_)) (key.trans (congrArg (rows m c) (funext fun a => Fin.ext ?_)))
  · match a with
    | ⟨0, _⟩ => show (y 0).val = 0; omega
    | ⟨1, _⟩ => rfl
    | ⟨2, _⟩ => rfl
  · match a with
    | ⟨0, _⟩ => show (grid0.coords t 0).val = _; simp [index_o t]
    | ⟨1, _⟩ => show 512 * (grid0.coords t 1).val + (y 1).val = _; simp [index_o t, Nat.mul_comm]
    | ⟨2, _⟩ => show (y 2).val = _; simp [index_o t]

end Kernel

section Reference

open Cert.AttnOutReferenceIdeal Cert.AttnOutReferenceIdeal.Gen

/-- An entry of the reference's result. -/
theorem ref_row (y : FVec Ideal S4x4096x1024 .bf16) (x : FVec Ideal S4x4096x1024 .f32) (g : FVec Ideal S4x1024 .f32)
    (w : FVec Ideal S1x1024x1024 .f32) (b : Fin 4) (n : Fin 4096) (e : Fin 1024) :
    addf x (mulf (broadcastInDim S4x4096x1024 ![0, 1, 2] bcast_S4x1x1024_S4x4096x1024_0_1_2 (broadcastInDim S4x1x1024 ![0, 2] bcast_S4x1024_S4x1x1024_0_2 g))
      (Host.dotGeneral dot_S4x4096x1024_S1024x1024_S4x4096x1024_2_0_01_1_n_n none (extf .f32 y bitsLt_bf16_f32)
        (shapeCast S1024x1024 w shapeCasts_S1x1024x1024_S1024x1024))) (ix3 b n e)
      = mixed (fun d => x (ix3 b n d)) (fun d => g (ix2 b d)) (fun d => y (ix3 b n d)) (fun d e => w (ix3 0 d e)) e := by
  pointwise [mixed]

end Reference

theorem algebraic : Cert.algebraic_AttnOutIdeal_AttnOutReferenceIdeal := by
  intro m ρ m' ρ' hpre hagree
  refine ⟨_, (θ_run Cert.AttnOutIdeal.defs _ _).mono (fun _ h c => ⟨(h c).1, (h c).2.2.2⟩) (Cert.AttnOutIdeal.Value.run_blocks m ρ), ?_⟩
  refine (θ_run Cert.AttnOutReferenceIdeal.defs _ _).mono (fun _ h c => ⟨(h c).1.trans ?_, (h c).2⟩)
    (Cert.AttnOutReferenceIdeal.Value.run (F := Ideal) m' ρ')
  obtain ⟨a0, a1, a2, a3, a4, a5, a6, a7, a8⟩ := hagree c
  rw [rows_value, a0, a1, a2, a3]
  funext j
  have hj : j = ix3 (j 0) (j 1) (j 2) := funext fun a => match a with
    | ⟨0, _⟩ => rfl
    | ⟨1, _⟩ => rfl
    | ⟨2, _⟩ => rfl
  exact (congrArg _ hj).trans (ref_row (m ((c.tc : Thread _ _).loc Cert.AttnOutIdeal.main_arg0)) (m ((c.tc : Thread _ _).loc Cert.AttnOutIdeal.main_arg1)) (m ((c.tc : Thread _ _).loc Cert.AttnOutIdeal.main_arg2)) (m ((c.tc : Thread _ _).loc Cert.AttnOutIdeal.main_arg3)) (j 0) (j 1) (j 2))

end Cert.Proof.AttnOut

end
-- ==== Proof.ExpertsRun.lean ====
/- The body of the experts call at one grid point, run from each state a point can find the weights' copies in. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.VecWindow

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The three tables, the weights left in HBM, the staged weights and their bfloat16 copies. -/
abbrev tbE : Memref sig .tc .smem S160 .i32 := Memref.whole main_v11
abbrev tbN : Memref sig .tc .smem S1 .i32 := Memref.whole main_v13
abbrev tbX : Memref sig .tc .smem S160 .i32 := Memref.whole main_v32
abbrev hG : Memref sig .tc .hbm S2x32x1024x512 .f32 := Memref.whole main_arg2
abbrev hU : Memref sig .tc .hbm S2x32x1024x512 .f32 := Memref.whole main_arg3
abbrev hD : Memref sig .tc .hbm S2x32x512x1024 .f32 := Memref.whole main_arg4
abbrev sG : Memref sig .tc .vmem S1024x512 .f32 := Memref.whole cc0_scratch0
abbrev sU : Memref sig .tc .vmem S1024x512 .f32 := Memref.whole cc0_scratch1
abbrev sD : Memref sig .tc .vmem S512x1024 .f32 := Memref.whole cc0_scratch2
abbrev bG : Memref sig .tc .vmem S1024x512 .bf16 := Memref.whole cc0_scratch3
abbrev bU : Memref sig .tc .vmem S1024x512 .bf16 := Memref.whole cc0_scratch4
abbrev bD : Memref sig .tc .vmem S512x1024 .bf16 := Memref.whole cc0_scratch5

abbrev BufOf (c : Dev nD) {sp : Space} {S : Shape} {e : EltTy} (M : Memref sig .tc sp S e) : Type := Buf (Elt F) (M.view.loc (c : Thread nD τ))
/-- A buffer held whole, at a share. -/
abbrev at1 (c : Dev nD) {sp : Space} {S : Shape} {e : EltTy} (M : Memref sig .tc sp S e) (f : BufOf (F := F) c M) : sProp 𝕄 :=
  M.view.loc (c : Thread nD τ) ↦{fullShare} f
abbrev atH (c : Dev nD) {sp : Space} {S : Shape} {e : EltTy} (M : Memref sig .tc sp S e) (f : BufOf (F := F) c M) : sProp 𝕄 :=
  M.view.loc (c : Thread nD τ) ↦{fullShare.right} f

/-- The words the body reads: this block's expert, the previous block's, the count of used blocks, the next expert. -/
abbrev rdE (c : Dev nD) (i : grid0.Coords) (f : BufOf (F := F) c tbE) : Elt F EltTy.i32 :=
  View.readAt (Elt F) tbE.view (Rect.unit (s := S160) (k0_off1 i) S1.size (k0_off1_inb i)).toLoadRect f
    (Shape.Idx.first (numel1_S1.symm ▸ Nat.one_pos : 0 < (Rect.unit (s := S160) (k0_off1 i) S1.size (k0_off1_inb i)).shape.numel))
abbrev rdP (c : Dev nD) (i : grid0.Coords) (f : BufOf (F := F) c tbE) : Elt F EltTy.i32 :=
  View.readAt (Elt F) tbE.view (Rect.unit (s := S160) (k0_off2 i) S1.size (k0_off2_inb i)).toLoadRect f
    (Shape.Idx.first (numel1_S1.symm ▸ Nat.one_pos : 0 < (Rect.unit (s := S160) (k0_off2 i) S1.size (k0_off2_inb i)).shape.numel))
abbrev rdN (c : Dev nD) (f : BufOf (F := F) c tbN) : Elt F EltTy.i32 :=
  View.readAt (Elt F) tbN.view (Rect.unit (s := S1) ![0] S1.size inb_S1_S1_0).toLoadRect f
    (Shape.Idx.first (numel1_S1.symm ▸ Nat.one_pos : 0 < (Rect.unit (s := S1) ![0] S1.size inb_S1_S1_0).shape.numel))
abbrev rdX (c : Dev nD) (i : grid0.Coords) (f : BufOf (F := F) c tbX) : Elt F EltTy.i32 :=
  View.readAt (Elt F) tbX.view (Rect.unit (s := S160) (k0_off7 i) S1.size (k0_off7_inb i)).toLoadRect f
    (Shape.Idx.first (numel1_S1.symm ▸ Nat.one_pos : 0 < (Rect.unit (s := S160) (k0_off7 i) S1.size (k0_off7_inb i)).shape.numel))

/-- An expert's window lies inside a weights buffer. -/
theorem winInb (w : BitVec 32) (hw : w.toNat < 32) : ∀ a, (k0_off9 w) a + S1x1x1024x512.size a ≤ S2x32x1024x512.size a := by
  intro a
  match a with
  | 0 => show 0 + 1 ≤ 2; omega
  | 1 => show w.toNat + 1 ≤ 32; omega
  | 2 => show 0 + 1024 ≤ 1024; omega
  | 3 => show 0 + 512 ≤ 512; omega
theorem winInbD (w : BitVec 32) (hw : w.toNat < 32) : ∀ a, (k0_off10 w) a + S1x1x512x1024.size a ≤ S2x32x512x1024.size a := by
  intro a
  match a with
  | 0 => show 0 + 1 ≤ 2; omega
  | 1 => show w.toNat + 1 ≤ 32; omega
  | 2 => show 0 + 512 ≤ 512; omega
  | 3 => show 0 + 1024 ≤ 1024; omega
/-- One expert's weights, as a window of a buffer that holds every layer's and every expert's. -/
abbrev winG (M : Memref sig .tc .hbm S2x32x1024x512 .f32) (w : BitVec 32) (hw : w.toNat < 32) : Memref sig .tc .hbm S1024x512 .f32 :=
  (M.slice (Rect.unit (s := S2x32x1024x512) (k0_off9 w) S1x1x1024x512.size (winInb w hw)) (fun _ => rfl)).squeeze S1024x512 squeezes_S1x1x1024x512_S1024x512
abbrev winD (M : Memref sig .tc .hbm S2x32x512x1024 .f32) (w : BitVec 32) (hw : w.toNat < 32) : Memref sig .tc .hbm S512x1024 .f32 :=
  (M.slice (Rect.unit (s := S2x32x512x1024) (k0_off10 w) S1x1x512x1024.size (winInbD w hw)) (fun _ => rfl)).squeeze S512x1024 squeezes_S1x1x512x1024_S512x1024
/-- An expert's weights as values. -/
abbrev exG (c : Dev nD) (M : Memref sig .tc .hbm S2x32x1024x512 .f32) (g : BufOf (F := F) c M) (w : BitVec 32) (hw : w.toNat < 32) : Vec F S1024x512 .f32 :=
  (winG M w hw).view.read (Elt F) g
abbrev exD (c : Dev nD) (M : Memref sig .tc .hbm S2x32x512x1024 .f32) (g : BufOf (F := F) c M) (w : BitVec 32) (hw : w.toNat < 32) : Vec F S512x1024 .f32 :=
  (winD M w hw).view.read (Elt F) g

/-- A copy of expert `w`'s weights on its way into a stage: the transfer, and the rest of the buffer it reads. -/
def pendG (c : Dev nD) (q : Fin 7) (S : Memref sig .tc .vmem S1024x512 .f32) (M : Memref sig .tc .hbm S2x32x1024x512 .f32)
    (g : BufOf (F := F) c M) (w : BitVec 32) (hw : w.toNat < 32) : sProp 𝕄 :=
  iprop(∃ p : BufOf (F := F) c S, Transfers.Flight countersEmb (c : Thread nD τ) (SemLoc.dma q) () 65536
      iprop((S.view.loc (c : Thread nD τ) ↦[S.view.set]{fullShare}
          S.view.writes (Elt F) p [⟨Rect.whole S1024x512, ReadAs.same.apply ((winG M w hw).view.read (Elt F) g)⟩])
        ∗ M.view.loc (c : Thread nD τ) ↦[(winG M w hw).view.set]{fullShare} g)
    ∗ M.view.loc (c : Thread nD τ) ↦[Finset.univ \ (winG M w hw).view.set]{fullShare} g)
def pendD (c : Dev nD) (q : Fin 7) (S : Memref sig .tc .vmem S512x1024 .f32) (M : Memref sig .tc .hbm S2x32x512x1024 .f32)
    (g : BufOf (F := F) c M) (w : BitVec 32) (hw : w.toNat < 32) : sProp 𝕄 :=
  iprop(∃ p : BufOf (F := F) c S, Transfers.Flight countersEmb (c : Thread nD τ) (SemLoc.dma q) () 65536
      iprop((S.view.loc (c : Thread nD τ) ↦[S.view.set]{fullShare}
          S.view.writes (Elt F) p [⟨Rect.whole S512x1024, ReadAs.same.apply ((winD M w hw).view.read (Elt F) g)⟩])
        ∗ M.view.loc (c : Thread nD τ) ↦[(winD M w hw).view.set]{fullShare} g)
    ∗ M.view.loc (c : Thread nD τ) ↦[Finset.univ \ (winD M w hw).view.set]{fullShare} g)
theorem pendG_intro (c : Dev nD) (q : Fin 7) (S : Memref sig .tc .vmem S1024x512 .f32) (M : Memref sig .tc .hbm S2x32x1024x512 .f32)
    (g : BufOf (F := F) c M) (w : BitVec 32) (hw : w.toNat < 32) (p : BufOf (F := F) c S) (L : List (View.Piece (Elt F) S1024x512 .f32)) :
    iprop(Transfers.Flight countersEmb (c : Thread nD τ) (SemLoc.dma q) () 65536
      iprop((S.view.loc (c : Thread nD τ) ↦[S.view.set]{fullShare}
          S.view.writes (Elt F) p (⟨Rect.whole S1024x512, ReadAs.same.apply ((winG M w hw).view.read (Elt F) g)⟩ :: L))
        ∗ M.view.loc (c : Thread nD τ) ↦[(winG M w hw).view.set]{fullShare} g)
    ∗ M.view.loc (c : Thread nD τ) ↦[Finset.univ \ (winG M w hw).view.set]{fullShare} g) ⊢ pendG c q S M g w hw := by
  unfold pendG
  iintro ⟨H, H2⟩
  iexists (S.view.writes (Elt F) p L)
  simp only [View.writes_cons, View.writes_nil]
  isplitl [H]
  · iexact H
  · iexact H2
theorem pendD_intro (c : Dev nD) (q : Fin 7) (S : Memref sig .tc .vmem S512x1024 .f32) (M : Memref sig .tc .hbm S2x32x512x1024 .f32)
    (g : BufOf (F := F) c M) (w : BitVec 32) (hw : w.toNat < 32) (p : BufOf (F := F) c S) (L : List (View.Piece (Elt F) S512x1024 .f32)) :
    iprop(Transfers.Flight countersEmb (c : Thread nD τ) (SemLoc.dma q) () 65536
      iprop((S.view.loc (c : Thread nD τ) ↦[S.view.set]{fullShare}
          S.view.writes (Elt F) p (⟨Rect.whole S512x1024, ReadAs.same.apply ((winD M w hw).view.read (Elt F) g)⟩ :: L))
        ∗ M.view.loc (c : Thread nD τ) ↦[(winD M w hw).view.set]{fullShare} g)
    ∗ M.view.loc (c : Thread nD τ) ↦[Finset.univ \ (winD M w hw).view.set]{fullShare} g) ⊢ pendD c q S M g w hw := by
  unfold pendD
  iintro ⟨H, H2⟩
  iexists (S.view.writes (Elt F) p L)
  simp only [View.writes_cons, View.writes_nil]
  isplitl [H]
  · iexact H
  · iexact H2

/-- A stage holding nothing of note, its semaphore at zero and its source buffer whole. -/
def idle1 (c : Dev nD) (q : Fin 7) {T U : Shape} (S : Memref sig .tc .vmem T .f32) (M : Memref sig .tc .hbm U .f32) (g : BufOf (F := F) c M) : sProp 𝕄 :=
  iprop((∃ d, owns (c : Thread nD τ) S fullShare d) ∗ semVal ((c : Thread nD τ), SemLoc.dma q) 0 ∗ at1 c M g)

section State
variable (c : Dev nD) (gG : BufOf (F := F) c hG) (gU : BufOf (F := F) c hU) (gD : BufOf (F := F) c hD)
/-- No copy under way. -/
def restAt : sProp 𝕄 := iprop(idle1 c 4 sG hG gG ∗ idle1 c 5 sU hU gU ∗ idle1 c 6 sD hD gD)
/-- The three copies of expert `w`'s weights under way. -/
def pendAt (w : BitVec 32) (hw : w.toNat < 32) : sProp 𝕄 :=
  iprop(pendG c 4 sG hG gG w hw ∗ pendG c 5 sU hU gU w hw ∗ pendD c 6 sD hD gD w hw)
/-- What a point leaves under way, from the word that names the next expert. -/
def nextAt (w : BitVec 32) : sProp 𝕄 := if hw : w.toNat < 32 then pendAt c gG gU gD w hw else restAt c gG gU gD
/-- The bfloat16 copies hold expert `w`'s weights. -/
def copiesAt (w : BitVec 32) (hw : w.toNat < 32) : sProp 𝕄 :=
  iprop(owns (c : Thread nD τ) bG fullShare (k0_pay7 (exG c hG gG w hw)) ∗ owns (c : Thread nD τ) bU fullShare (k0_pay8 (exG c hU gU w hw))
    ∗ owns (c : Thread nD τ) bD fullShare (k0_pay9 (exD c hD gD w hw)))
end State
/-- The bfloat16 copies hold anything. -/
def copiesAny (c : Dev nD) : sProp 𝕄 :=
  iprop((∃ d, owns (c : Thread nD τ) bG fullShare d) ∗ (∃ d, owns (c : Thread nD τ) bU fullShare d)
    ∗ (∃ d, owns (c : Thread nD τ) bD fullShare d))

section Block
/-- Every eighth row of a block, from row `k`: one eighth of the columns of its 256 rows of 1024. -/
def rowsFrom (d : Vec F S2048x128 .f32) (k : Fin 8) : Vec F S256x128 .f32 :=
  fun x => d (fun a => match a with
    | 0 => ⟨k.val + 8 * (x 0).val, by have h : (x 0).val < 256 := (x 0).isLt; show _ < 2048; omega⟩
    | 1 => ⟨0 + 1 * (x 1).val, by have h : (x 1).val < 128 := (x 1).isLt; show _ < 128; omega⟩)
/-- A block's product: its rows through the expert. -/
def prodOf (d : Vec F S2048x128 .f32) (vG : Vec F S1024x512 .bf16) (vU : Vec F S1024x512 .bf16) (vD : Vec F S512x1024 .bf16) : FVec F S256x1024 .f32 :=
  k0_pay10 (rowsFrom d 0) (rowsFrom d 1) (rowsFrom d 2) (rowsFrom d 3) (rowsFrom d 4) (rowsFrom d 5) (rowsFrom d 6) (rowsFrom d 7) vG vU vD
/-- The product laid out as the block is: column group `k` of row `q` at row `8 q + k`. -/
def laidOut (v : FVec F S256x1024 .f32) : Vec F S2048x128 .f32 :=
  fun y => v (fun a => match a with
    | 0 => ⟨(y 0).val / 8, by have h : (y 0).val < 2048 := (y 0).isLt; show _ < 256; omega⟩
    | 1 => ⟨(y 0).val % 8 * 128 + (y 1).val, by have h : (y 1).val < 128 := (y 1).isLt; show _ < 1024; omega⟩)
/-- What the point leaves in its output block. -/
def outOf (i : grid0.Coords) (n : BitVec 32) (d : Vec F S2048x128 .f32) (vG : Vec F S1024x512 .bf16) (vU : Vec F S1024x512 .bf16) (vD : Vec F S512x1024 .bf16) :
    Vec F S2048x128 .f32 :=
  if k0_cond4 i n = 1#1 then laidOut (prodOf d vG vU vD) else k0_pay6

theorem readAt_rows (M : Memref sig .tc .vmem S2048x128 .f32) (c : Dev nD) (f : BufOf (F := F) c M) (k : Fin 8) (off : Fin 2 → ℕ) (h)
    (ho : off = ![k.val, 0]) : View.readAt (Elt F) M.view (⟨off, S256x128.size, ![8, 1], h⟩ : LoadRect S2048x128) f = rowsFrom (M.view.read (Elt F) f) k := by
  subst ho
  funext x
  refine congrArg (M.view.read (Elt F) f) (funext fun a => Fin.ext ?_)
  match a with
  | 0 => rfl
  | 1 => rfl

/-- The eight stores, newest first, of a product `v`. -/
abbrev stores8 (v : FVec F S256x1024 .f32) (v0 v1 v2 : FVec F S256x128 .f32) : List (View.Piece (Elt F) S2048x128 .f32) :=
  [⟨⟨(⟨![7, 0], S256x128.size, ![8, 1], inb_S2048x128_S256x128_7_0_s_8_1⟩ : LoadRect S2048x128), spos_8_1⟩, k0_pay5 v⟩,
    ⟨⟨(⟨![6, 0], S256x128.size, ![8, 1], inb_S2048x128_S256x128_6_0_s_8_1⟩ : LoadRect S2048x128), spos_8_1⟩, k0_pay4 v⟩,
    ⟨⟨(⟨![5, 0], S256x128.size, ![8, 1], inb_S2048x128_S256x128_5_0_s_8_1⟩ : LoadRect S2048x128), spos_8_1⟩, k0_pay3 v⟩,
    ⟨⟨(⟨![4, 0], S256x128.size, ![8, 1], inb_S2048x128_S256x128_4_0_s_8_1⟩ : LoadRect S2048x128), spos_8_1⟩, k0_pay2 v⟩,
    ⟨⟨(⟨![3, 0], S256x128.size, ![8, 1], inb_S2048x128_S256x128_3_0_s_8_1⟩ : LoadRect S2048x128), spos_8_1⟩, k0_pay1 v⟩,
    ⟨⟨(⟨![2, 0], S256x128.size, ![8, 1], inb_S2048x128_S256x128_2_0_s_8_1⟩ : LoadRect S2048x128), spos_8_1⟩, v2⟩,
    ⟨⟨(⟨![1, 0], S256x128.size, ![8, 1], inb_S2048x128_S256x128_1_0_s_8_1⟩ : LoadRect S2048x128), spos_8_1⟩, v1⟩,
    ⟨⟨(⟨![0, 0], S256x128.size, ![8, 1], inb_S2048x128_S256x128_0_0_s_8_1⟩ : LoadRect S2048x128), spos_8_1⟩, v0⟩]

theorem mem_rows (k : ℕ) (y : S2048x128.Idx) (h : (y 0).val % 8 = k) (inb) (sp) :
    y ∈ (⟨(⟨![k, 0], S256x128.size, ![8, 1], inb⟩ : LoadRect S2048x128), sp⟩ : Rect S2048x128).set := by
  have hy : (y 0).val < 2048 := (y 0).isLt
  have hy1 : (y 1).val < 128 := (y 1).isLt
  refine LoadRect.mem_set _ |>.mpr fun a => ?_
  match a with
  | 0 => exact ⟨(y 0).val / 8, (by show _ < 256; omega), (by show (y 0).val = k + 8 * ((y 0).val / 8); omega)⟩
  | 1 => exact ⟨(y 1).val, hy1, (by show (y 1).val = 0 + 1 * (y 1).val; omega)⟩

theorem owns_stores8 (M : Memref sig .tc .vmem S2048x128 .f32) (c : Dev nD) (f : BufOf (F := F) c M) (v : FVec F S256x1024 .f32) (v0 v1 v2 : FVec F S256x128 .f32)
    (h0 : v0 = extractStridedSlice S256x128 ![0, 0] v slices_S256x1024_o0_0_S256x128)
    (h1 : v1 = extractStridedSlice S256x128 ![0, 128] v slices_S256x1024_o0_128_S256x128)
    (h2 : v2 = extractStridedSlice S256x128 ![0, 256] v slices_S256x1024_o0_256_S256x128) :
    M.view.read (Elt F) (M.view.writes (Elt F) f (stores8 v v0 v1 v2)) = laidOut v := by
  subst h0 h1 h2
  funext y
  refine View.read_writes_apply_of_pieces _ _ (laidOut v) _ ?_ y ?_
  · intro p hp x
    simp only [stores8, List.mem_cons, List.not_mem_nil, or_false] at hp
    rcases hp with rfl | rfl | rfl | rfl | rfl | rfl | rfl | rfl
    · have hx0 : (x 0).val < 256 := (x 0).isLt
      have hx1 : (x 1).val < 128 := (x 1).isLt
      refine congrArg v (funext fun a => Fin.ext ?_)
      match a with
      | 0 => show 0 + (x 0).val = (7 + 8 * (x 0).val) / 8; omega
      | 1 => show 896 + (x 1).val = (7 + 8 * (x 0).val) % 8 * 128 + (0 + 1 * (x 1).val); omega
    · have hx0 : (x 0).val < 256 := (x 0).isLt
      have hx1 : (x 1).val < 128 := (x 1).isLt
      refine congrArg v (funext fun a => Fin.ext ?_)
      match a with
      | 0 => show 0 + (x 0).val = (6 + 8 * (x 0).val) / 8; omega
      | 1 => show 768 + (x 1).val = (6 + 8 * (x 0).val) % 8 * 128 + (0 + 1 * (x 1).val); omega
    · have hx0 : (x 0).val < 256 := (x 0).isLt
      have hx1 : (x 1).val < 128 := (x 1).isLt
      refine congrArg v (funext fun a => Fin.ext ?_)
      match a with
      | 0 => show 0 + (x 0).val = (5 + 8 * (x 0).val) / 8; omega
      | 1 => show 640 + (x 1).val = (5 + 8 * (x 0).val) % 8 * 128 + (0 + 1 * (x 1).val); omega
    · have hx0 : (x 0).val < 256 := (x 0).isLt
      have hx1 : (x 1).val < 128 := (x 1).isLt
      refine congrArg v (funext fun a => Fin.ext ?_)
      match a with
      | 0 => show 0 + (x 0).val = (4 + 8 * (x 0).val) / 8; omega
      | 1 => show 512 + (x 1).val = (4 + 8 * (x 0).val) % 8 * 128 + (0 + 1 * (x 1).val); omega
    · have hx0 : (x 0).val < 256 := (x 0).isLt
      have hx1 : (x 1).val < 128 := (x 1).isLt
      refine congrArg v (funext fun a => Fin.ext ?_)
      match a with
      | 0 => show 0 + (x 0).val = (3 + 8 * (x 0).val) / 8; omega
      | 1 => show 384 + (x 1).val = (3 + 8 * (x 0).val) % 8 * 128 + (0 + 1 * (x 1).val); omega
    · have hx0 : (x 0).val < 256 := (x 0).isLt
      have hx1 : (x 1).val < 128 := (x 1).isLt
      refine congrArg v (funext fun a => Fin.ext ?_)
      match a with
      | 0 => show 0 + (x 0).val = (2 + 8 * (x 0).val) / 8; omega
      | 1 => show 256 + (x 1).val = (2 + 8 * (x 0).val) % 8 * 128 + (0 + 1 * (x 1).val); omega
    · have hx0 : (x 0).val < 256 := (x 0).isLt
      have hx1 : (x 1).val < 128 := (x 1).isLt
      refine congrArg v (funext fun a => Fin.ext ?_)
      match a with
      | 0 => show 0 + (x 0).val = (1 + 8 * (x 0).val) / 8; omega
      | 1 => show 128 + (x 1).val = (1 + 8 * (x 0).val) % 8 * 128 + (0 + 1 * (x 1).val); omega
    · have hx0 : (x 0).val < 256 := (x 0).isLt
      have hx1 : (x 1).val < 128 := (x 1).isLt
      refine congrArg v (funext fun a => Fin.ext ?_)
      match a with
      | 0 => show 0 + (x 0).val = (0 + 8 * (x 0).val) / 8; omega
      | 1 => show 0 + (x 1).val = (0 + 8 * (x 0).val) % 8 * 128 + (0 + 1 * (x 1).val); omega
  · have hk : (y 0).val % 8 < 8 := Nat.mod_lt _ (by omega)
    have hc : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
    rcases hc with h | h | h | h | h | h | h | h
    · exact ⟨_, List.mem_cons_self, mem_rows 7 y h _ _⟩
    · exact ⟨_, List.mem_cons_of_mem _ (List.mem_cons_self), mem_rows 6 y h _ _⟩
    · exact ⟨_, List.mem_cons_of_mem _ (List.mem_cons_of_mem _ (List.mem_cons_self)), mem_rows 5 y h _ _⟩
    · exact ⟨_, List.mem_cons_of_mem _ (List.mem_cons_of_mem _ (List.mem_cons_of_mem _ (List.mem_cons_self))), mem_rows 4 y h _ _⟩
    · exact ⟨_, List.mem_cons_of_mem _ (List.mem_cons_of_mem _ (List.mem_cons_of_mem _ (List.mem_cons_of_mem _ (List.mem_cons_self)))), mem_rows 3 y h _ _⟩
    · exact ⟨_, List.mem_cons_of_mem _ (List.mem_cons_of_mem _ (List.mem_cons_of_mem _ (List.mem_cons_of_mem _ (List.mem_cons_of_mem _ (List.mem_cons_self))))), mem_rows 2 y h _ _⟩
    · exact ⟨_, List.mem_cons_of_mem _ (List.mem_cons_of_mem _ (List.mem_cons_of_mem _ (List.mem_cons_of_mem _ (List.mem_cons_of_mem _ (List.mem_cons_of_mem _ (List.mem_cons_self)))))), mem_rows 1 y h _ _⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_rows 0 y h _ _⟩
end Block

/-- A buffer read as `d` and held whole is owned at `d`. -/
theorem own_of (c : Dev nD) {sp : Space} {S : Shape} {e : EltTy} (M : Memref sig .tc sp S e) (f : BufOf (F := F) c M) (d : S.Idx → Elt F e)
    (h : M.view.read (Elt F) f = d) : (M.view.loc (c : Thread nD τ) ↦[M.view.set]{fullShare} f : sProp 𝕄) ⊢ owns (c : Thread nD τ) M fullShare d := by
  unfold owns
  iintro H
  iexists f
  isplitr [H]
  · ipureintro; exact h
  · iexact H

/-- What a point leaves: its input block as it was, its output block, the copies, the next expert's weights under way, the tables. -/
def postAt (c : Dev nD) (i : grid0.Coords) (arg4 arg8 : Memref sig .tc .vmem S2048x128 .f32)
    (fE : BufOf (F := F) c tbE) (fN : BufOf (F := F) c tbN) (fX : BufOf (F := F) c tbX)
    (gG : BufOf (F := F) c hG) (gU : BufOf (F := F) c hU) (gD : BufOf (F := F) c hD)
    (w : BitVec 32) (hw : w.toNat < 32) (d4 : Vec F S2048x128 .f32) (Nx : sProp 𝕄) : sProp 𝕄 :=
  iprop(owns (c : Thread nD τ) arg4 fullShare d4
          ∗ owns (c : Thread nD τ) arg8 fullShare (outOf i (rdN c fN) d4 (k0_pay7 (exG c hG gG w hw)) (k0_pay8 (exG c hU gU w hw)) (k0_pay9 (exD c hD gD w hw)))
          ∗ copiesAt c gG gU gD w hw ∗ Nx
          ∗ atH c tbE fE ∗ atH c tbN fN ∗ atH c tbX fX ∗ (∃ W, owes (c : Thread nD τ) 0 W))

/-- A buffer written whole by a transfer and loaded whole gives what the transfer carried. -/
theorem landed_cov {T : Shape} {e : EltTy} (M : Memref sig .tc .vmem T e) {off : Fin T.rank → ℕ} (inb : ∀ a, off a + T.size a ≤ T.size a) (x : T.Idx → Elt F e) :
    M.view.readCov [⟨Rect.whole T, x⟩] (Rect.unit off T.size inb).toLoadRect = x := by
  show M.view.readAt (Elt F) (Rect.unit off T.size inb).toLoadRect (M.view.writes (Elt F) M.view.junk [⟨Rect.whole T, x⟩]) = x
  rw [View.readAt_full, View.read_writes_whole]
section Copies
variable {T : Shape} (S : Memref sig .tc .vmem T .f32) (B : Memref sig .tc .vmem T .bf16) (pay : Vec F T .f32 → Vec F T .bf16)
  {off : Fin T.rank → ℕ} (inb inb' inb'' : ∀ a, off a + T.size a ≤ T.size a) (x : Vec F T .f32)
/-- The stage's contents rounded into the copy, and the copy loaded. -/
theorem copy_cov :
    B.view.readCov [⟨Rect.unit off T.size inb', pay (S.view.readCov [⟨Rect.whole T, ReadAs.same.apply x⟩] (Rect.unit off T.size inb).toLoadRect)⟩]
      (Rect.unit off T.size inb'').toLoadRect = pay x := by
  rw [View.readCov_full, landed_cov]
theorem copy_read (p : B.view.ty.Contents (Elt F)) :
    B.view.read (Elt F) (B.view.writes (Elt F) p
      [⟨Rect.unit off T.size inb', pay (S.view.readCov [⟨Rect.whole T, ReadAs.same.apply x⟩] (Rect.unit off T.size inb).toLoadRect)⟩]) = pay x := by
  rw [View.read_writes_full, landed_cov]
end Copies

theorem prod_eq (M : Memref sig .tc .vmem S2048x128 .f32) (c : Dev nD) (f : BufOf (F := F) c M) (d : Vec F S2048x128 .f32) (hr : M.view.read (Elt F) f = d)
    (vG vG' : Vec F S1024x512 .bf16) (vU vU' : Vec F S1024x512 .bf16) (vD vD' : Vec F S512x1024 .bf16) (eG : vG' = vG) (eU : vU' = vU) (eD : vD' = vD) :
    k0_pay10
      (View.readAt (Elt F) M.view ⟨![0, 0], S256x128.size, ![8, 1], inb_S2048x128_S256x128_0_0_s_8_1⟩ f)
      (View.readAt (Elt F) M.view ⟨![1, 0], S256x128.size, ![8, 1], inb_S2048x128_S256x128_1_0_s_8_1⟩ f)
      (View.readAt (Elt F) M.view ⟨![2, 0], S256x128.size, ![8, 1], inb_S2048x128_S256x128_2_0_s_8_1⟩ f)
      (View.readAt (Elt F) M.view ⟨![3, 0], S256x128.size, ![8, 1], inb_S2048x128_S256x128_3_0_s_8_1⟩ f)
      (View.readAt (Elt F) M.view ⟨![4, 0], S256x128.size, ![8, 1], inb_S2048x128_S256x128_4_0_s_8_1⟩ f)
      (View.readAt (Elt F) M.view ⟨![5, 0], S256x128.size, ![8, 1], inb_S2048x128_S256x128_5_0_s_8_1⟩ f)
      (View.readAt (Elt F) M.view ⟨![6, 0], S256x128.size, ![8, 1], inb_S2048x128_S256x128_6_0_s_8_1⟩ f)
      (View.readAt (Elt F) M.view ⟨![7, 0], S256x128.size, ![8, 1], inb_S2048x128_S256x128_7_0_s_8_1⟩ f)
      vG' vU' vD' = prodOf d vG vU vD := by
  subst hr eG eU eD
  unfold prodOf
  rw [readAt_rows M c f 0 ![0, 0] _ rfl, readAt_rows M c f 1 ![1, 0] _ rfl, readAt_rows M c f 2 ![2, 0] _ rfl, readAt_rows M c f 3 ![3, 0] _ rfl,
    readAt_rows M c f 4 ![4, 0] _ rfl, readAt_rows M c f 5 ![5, 0] _ rfl, readAt_rows M c f 6 ![6, 0] _ rfl, readAt_rows M c f 7 ![7, 0] _ rfl]

theorem idle_intro (c : Dev nD) (q : Fin 7) {T U : Shape} (S : Memref sig .tc .vmem T .f32) (M : Memref sig .tc .hbm U .f32) (g : BufOf (F := F) c M) (p : BufOf (F := F) c S) :
    iprop((S.view.loc (c : Thread nD τ) ↦[S.view.set]{fullShare} p) ∗ semVal ((c : Thread nD τ), SemLoc.dma q) 0 ∗ at1 c M g) ⊢ (idle1 c q S M g : sProp 𝕄) := by
  unfold idle1
  iintro ⟨H, H1, H2⟩
  isplitl [H]
  · iexists (S.view.read (Elt F) p)
    iapply (own_of c S p _ rfl)
    iexact H
  isplitl [H1]
  · iexact H1
  · iexact H2

set_option maxHeartbeats 2000000 in
/-- The first point: the first expert's weights are fetched, waited for and copied. -/
theorem run_start_next_used (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : k0_cond1 i = 1#1) (h2 : k0_cond2 i (rdE c i fE) (rdP c i fE) = 1#1)
    (hx : (rdX c i fX).toNat < 32) (h3 : k0_cond3 (rdX c i fX) = 1#1)
    (hw3 : k0_chk3 i (rdE c i fE) (rdP c i fE) (rdX c i fX) (rdX c i fX))
    (h4 : k0_cond4 i (rdN c fN) = 1#1) (h5 : ¬ k0_cond5 i (rdN c fN) = 1#1)
    (hw1 : k0_chk1 i (rdE c i fE)) (hw2 : k0_chk2 i (rdE c i fE) (rdP c i fE))
    (d4 : Vec F S2048x128 .f32) (Nx : sProp 𝕄) (hN : pendAt c gG gU gD (rdX c i fX) hx ⊢ Nx) (W : Waits sig Unit) (K : PUnit → sProp 𝕄) :
    iprop(owns (c : Thread nD τ) arg4 fullShare d4 ∗ (∃ d, owns (c : Thread nD τ) arg8 fullShare d)
      ∗ copiesAny (F := F) c ∗ restAt c gG gU gD
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny restAt idle1 owns
  iintro ⟨⟨%f4, %r4, H4⟩, ⟨%d8, %f8, -, H8⟩, ⟨⟨%q3, %p3, -, HbG⟩, ⟨%q4, %p4, -, HbU⟩, ⟨%q5, %p5, -, HbD⟩⟩, ⟨⟨⟨%q0, %p0, -, Hp0⟩, Hs0, Hh0⟩, ⟨⟨%q1, %p1, -, Hp1⟩, Hs1, Hh1⟩, ⟨⟨%q2, %p2, -, Hp2⟩, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      refine (owns_stores8 arg8 c f8 _ _ _ _ rfl rfl rfl).trans ?_
      rw [outOf, if_pos h4]
      exact congrArg laidOut (prod_eq arg4 c f4 d4 r4 _ _ _ _ _ _ (copy_cov sG bG k0_pay7 _ _ _ _) (copy_cov sU bU k0_pay8 _ _ _ _) (copy_cov sD bD k0_pay9 _ _ _ _))
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hh0 Hs1 Hh1 Hs2 Hh2]
  · iapply hN
    unfold pendAt
    isplitl [Hs0 Hh0]
    · iapply (pendG_intro c 4 sG hG gG (rdX c i fX) hx p0 _)
      isplitl [Hs0]
      · iexact Hs0
      · iexact Hh0
    isplitl [Hs1 Hh1]
    · iapply (pendG_intro c 5 sU hU gU (rdX c i fX) hx p1 _)
      isplitl [Hs1]
      · iexact Hs1
      · iexact Hh1
    · iapply (pendD_intro c 6 sD hD gD (rdX c i fX) hx p2 _)
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- The first point: the first expert's weights are fetched, waited for and copied. -/
theorem run_start_next_free (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : k0_cond1 i = 1#1) (h2 : k0_cond2 i (rdE c i fE) (rdP c i fE) = 1#1)
    (hx : (rdX c i fX).toNat < 32) (h3 : k0_cond3 (rdX c i fX) = 1#1)
    (hw3 : k0_chk3 i (rdE c i fE) (rdP c i fE) (rdX c i fX) (rdX c i fX))
    (h4 : ¬ k0_cond4 i (rdN c fN) = 1#1) (h5 : k0_cond5 i (rdN c fN) = 1#1)
    (hw1 : k0_chk1 i (rdE c i fE)) (hw2 : k0_chk2 i (rdE c i fE) (rdP c i fE))
    (d4 : Vec F S2048x128 .f32) (Nx : sProp 𝕄) (hN : pendAt c gG gU gD (rdX c i fX) hx ⊢ Nx) (W : Waits sig Unit) (K : PUnit → sProp 𝕄) :
    iprop(owns (c : Thread nD τ) arg4 fullShare d4 ∗ (∃ d, owns (c : Thread nD τ) arg8 fullShare d)
      ∗ copiesAny (F := F) c ∗ restAt c gG gU gD
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny restAt idle1 owns
  iintro ⟨⟨%f4, %r4, H4⟩, ⟨%d8, %f8, -, H8⟩, ⟨⟨%q3, %p3, -, HbG⟩, ⟨%q4, %p4, -, HbU⟩, ⟨%q5, %p5, -, HbD⟩⟩, ⟨⟨⟨%q0, %p0, -, Hp0⟩, Hs0, Hh0⟩, ⟨⟨%q1, %p1, -, Hp1⟩, Hs1, Hh1⟩, ⟨⟨%q2, %p2, -, Hp2⟩, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      rw [outOf, if_neg h4]
      exact View.read_writes_full _ _ _ _ _
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hh0 Hs1 Hh1 Hs2 Hh2]
  · iapply hN
    unfold pendAt
    isplitl [Hs0 Hh0]
    · iapply (pendG_intro c 4 sG hG gG (rdX c i fX) hx p0 _)
      isplitl [Hs0]
      · iexact Hs0
      · iexact Hh0
    isplitl [Hs1 Hh1]
    · iapply (pendG_intro c 5 sU hU gU (rdX c i fX) hx p1 _)
      isplitl [Hs1]
      · iexact Hs1
      · iexact Hh1
    · iapply (pendD_intro c 6 sD hD gD (rdX c i fX) hx p2 _)
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- The first point: the first expert's weights are fetched, waited for and copied. -/
theorem run_start_last_used (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : k0_cond1 i = 1#1) (h2 : k0_cond2 i (rdE c i fE) (rdP c i fE) = 1#1)
    (h3 : ¬ k0_cond3 (rdX c i fX) = 1#1)
    (h4 : k0_cond4 i (rdN c fN) = 1#1) (h5 : ¬ k0_cond5 i (rdN c fN) = 1#1)
    (hw1 : k0_chk1 i (rdE c i fE)) (hw2 : k0_chk2 i (rdE c i fE) (rdP c i fE))
    (d4 : Vec F S2048x128 .f32) (Nx : sProp 𝕄) (hN : restAt c gG gU gD ⊢ Nx) (W : Waits sig Unit) (K : PUnit → sProp 𝕄) :
    iprop(owns (c : Thread nD τ) arg4 fullShare d4 ∗ (∃ d, owns (c : Thread nD τ) arg8 fullShare d)
      ∗ copiesAny (F := F) c ∗ restAt c gG gU gD
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny restAt idle1 owns
  iintro ⟨⟨%f4, %r4, H4⟩, ⟨%d8, %f8, -, H8⟩, ⟨⟨%q3, %p3, -, HbG⟩, ⟨%q4, %p4, -, HbU⟩, ⟨%q5, %p5, -, HbD⟩⟩, ⟨⟨⟨%q0, %p0, -, Hp0⟩, Hs0, Hh0⟩, ⟨⟨%q1, %p1, -, Hp1⟩, Hs1, Hh1⟩, ⟨⟨%q2, %p2, -, Hp2⟩, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      refine (owns_stores8 arg8 c f8 _ _ _ _ rfl rfl rfl).trans ?_
      rw [outOf, if_pos h4]
      exact congrArg laidOut (prod_eq arg4 c f4 d4 r4 _ _ _ _ _ _ (copy_cov sG bG k0_pay7 _ _ _ _) (copy_cov sU bU k0_pay8 _ _ _ _) (copy_cov sD bD k0_pay9 _ _ _ _))
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hs1 Hs2 Hp0 Hp1 Hp2 Hh0 Hh1 Hh2]
  · iapply hN
    unfold restAt
    isplitl [Hs0 Hp0 Hh0]
    · iapply (idle_intro c 4 sG hG gG _)
      isplitl [Hp0]
      · iexact Hp0
      isplitl [Hs0]
      · iexact Hs0
      · iexact Hh0
    isplitl [Hs1 Hp1 Hh1]
    · iapply (idle_intro c 5 sU hU gU _)
      isplitl [Hp1]
      · iexact Hp1
      isplitl [Hs1]
      · iexact Hs1
      · iexact Hh1
    · iapply (idle_intro c 6 sD hD gD _)
      isplitl [Hp2]
      · iexact Hp2
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- The first point: the first expert's weights are fetched, waited for and copied. -/
theorem run_start_last_free (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : k0_cond1 i = 1#1) (h2 : k0_cond2 i (rdE c i fE) (rdP c i fE) = 1#1)
    (h3 : ¬ k0_cond3 (rdX c i fX) = 1#1)
    (h4 : ¬ k0_cond4 i (rdN c fN) = 1#1) (h5 : k0_cond5 i (rdN c fN) = 1#1)
    (hw1 : k0_chk1 i (rdE c i fE)) (hw2 : k0_chk2 i (rdE c i fE) (rdP c i fE))
    (d4 : Vec F S2048x128 .f32) (Nx : sProp 𝕄) (hN : restAt c gG gU gD ⊢ Nx) (W : Waits sig Unit) (K : PUnit → sProp 𝕄) :
    iprop(owns (c : Thread nD τ) arg4 fullShare d4 ∗ (∃ d, owns (c : Thread nD τ) arg8 fullShare d)
      ∗ copiesAny (F := F) c ∗ restAt c gG gU gD
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny restAt idle1 owns
  iintro ⟨⟨%f4, %r4, H4⟩, ⟨%d8, %f8, -, H8⟩, ⟨⟨%q3, %p3, -, HbG⟩, ⟨%q4, %p4, -, HbU⟩, ⟨%q5, %p5, -, HbD⟩⟩, ⟨⟨⟨%q0, %p0, -, Hp0⟩, Hs0, Hh0⟩, ⟨⟨%q1, %p1, -, Hp1⟩, Hs1, Hh1⟩, ⟨⟨%q2, %p2, -, Hp2⟩, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      rw [outOf, if_neg h4]
      exact View.read_writes_full _ _ _ _ _
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hs1 Hs2 Hp0 Hp1 Hp2 Hh0 Hh1 Hh2]
  · iapply hN
    unfold restAt
    isplitl [Hs0 Hp0 Hh0]
    · iapply (idle_intro c 4 sG hG gG _)
      isplitl [Hp0]
      · iexact Hp0
      isplitl [Hs0]
      · iexact Hs0
      · iexact Hh0
    isplitl [Hs1 Hp1 Hh1]
    · iapply (idle_intro c 5 sU hU gU _)
      isplitl [Hp1]
      · iexact Hp1
      isplitl [Hs1]
      · iexact Hs1
      · iexact Hh1
    · iapply (idle_intro c 6 sD hD gD _)
      isplitl [Hp2]
      · iexact Hp2
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- A point whose expert is not the one before it: the weights under way are waited for and copied. -/
theorem run_change_next_used (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : ¬ k0_cond1 i = 1#1) (h2 : k0_cond2 i (rdE c i fE) (rdP c i fE) = 1#1)
    (hx : (rdX c i fX).toNat < 32) (h3 : k0_cond3 (rdX c i fX) = 1#1)
    (hw3 : k0_chk3 i (rdE c i fE) (rdP c i fE) (rdX c i fX) (rdX c i fX))
    (h4 : k0_cond4 i (rdN c fN) = 1#1) (h5 : ¬ k0_cond5 i (rdN c fN) = 1#1)
    (hw1 : k0_chk1 i (rdE c i fE)) (hw2 : k0_chk2 i (rdE c i fE) (rdP c i fE))
    (d4 : Vec F S2048x128 .f32) (Nx : sProp 𝕄) (hN : pendAt c gG gU gD (rdX c i fX) hx ⊢ Nx) (W : Waits sig Unit) (K : PUnit → sProp 𝕄) :
    iprop(owns (c : Thread nD τ) arg4 fullShare d4 ∗ (∃ d, owns (c : Thread nD τ) arg8 fullShare d)
      ∗ copiesAny (F := F) c ∗ pendAt c gG gU gD (rdE c i fE) hw
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny pendAt pendG pendD owns
  iintro ⟨⟨%f4, %r4, H4⟩, ⟨%d8, %f8, -, H8⟩, ⟨⟨%q3, %p3, -, HbG⟩, ⟨%q4, %p4, -, HbU⟩, ⟨%q5, %p5, -, HbD⟩⟩, ⟨⟨%p0, Hs0, Hh0⟩, ⟨%p1, Hs1, Hh1⟩, ⟨%p2, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      refine (owns_stores8 arg8 c f8 _ _ _ _ rfl rfl rfl).trans ?_
      rw [outOf, if_pos h4]
      exact congrArg laidOut (prod_eq arg4 c f4 d4 r4 _ _ _ _ _ _ (copy_cov sG bG k0_pay7 _ _ _ _) (copy_cov sU bU k0_pay8 _ _ _ _) (copy_cov sD bD k0_pay9 _ _ _ _))
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hh0 Hs1 Hh1 Hs2 Hh2]
  · iapply hN
    unfold pendAt
    isplitl [Hs0 Hh0]
    · iapply (pendG_intro c 4 sG hG gG (rdX c i fX) hx p0 _)
      isplitl [Hs0]
      · iexact Hs0
      · iexact Hh0
    isplitl [Hs1 Hh1]
    · iapply (pendG_intro c 5 sU hU gU (rdX c i fX) hx p1 _)
      isplitl [Hs1]
      · iexact Hs1
      · iexact Hh1
    · iapply (pendD_intro c 6 sD hD gD (rdX c i fX) hx p2 _)
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- A point whose expert is not the one before it: the weights under way are waited for and copied. -/
theorem run_change_next_free (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : ¬ k0_cond1 i = 1#1) (h2 : k0_cond2 i (rdE c i fE) (rdP c i fE) = 1#1)
    (hx : (rdX c i fX).toNat < 32) (h3 : k0_cond3 (rdX c i fX) = 1#1)
    (hw3 : k0_chk3 i (rdE c i fE) (rdP c i fE) (rdX c i fX) (rdX c i fX))
    (h4 : ¬ k0_cond4 i (rdN c fN) = 1#1) (h5 : k0_cond5 i (rdN c fN) = 1#1)
    (hw1 : k0_chk1 i (rdE c i fE)) (hw2 : k0_chk2 i (rdE c i fE) (rdP c i fE))
    (d4 : Vec F S2048x128 .f32) (Nx : sProp 𝕄) (hN : pendAt c gG gU gD (rdX c i fX) hx ⊢ Nx) (W : Waits sig Unit) (K : PUnit → sProp 𝕄) :
    iprop(owns (c : Thread nD τ) arg4 fullShare d4 ∗ (∃ d, owns (c : Thread nD τ) arg8 fullShare d)
      ∗ copiesAny (F := F) c ∗ pendAt c gG gU gD (rdE c i fE) hw
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny pendAt pendG pendD owns
  iintro ⟨⟨%f4, %r4, H4⟩, ⟨%d8, %f8, -, H8⟩, ⟨⟨%q3, %p3, -, HbG⟩, ⟨%q4, %p4, -, HbU⟩, ⟨%q5, %p5, -, HbD⟩⟩, ⟨⟨%p0, Hs0, Hh0⟩, ⟨%p1, Hs1, Hh1⟩, ⟨%p2, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      rw [outOf, if_neg h4]
      exact View.read_writes_full _ _ _ _ _
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hh0 Hs1 Hh1 Hs2 Hh2]
  · iapply hN
    unfold pendAt
    isplitl [Hs0 Hh0]
    · iapply (pendG_intro c 4 sG hG gG (rdX c i fX) hx p0 _)
      isplitl [Hs0]
      · iexact Hs0
      · iexact Hh0
    isplitl [Hs1 Hh1]
    · iapply (pendG_intro c 5 sU hU gU (rdX c i fX) hx p1 _)
      isplitl [Hs1]
      · iexact Hs1
      · iexact Hh1
    · iapply (pendD_intro c 6 sD hD gD (rdX c i fX) hx p2 _)
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- A point whose expert is not the one before it: the weights under way are waited for and copied. -/
theorem run_change_last_used (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : ¬ k0_cond1 i = 1#1) (h2 : k0_cond2 i (rdE c i fE) (rdP c i fE) = 1#1)
    (h3 : ¬ k0_cond3 (rdX c i fX) = 1#1)
    (h4 : k0_cond4 i (rdN c fN) = 1#1) (h5 : ¬ k0_cond5 i (rdN c fN) = 1#1)
    (hw1 : k0_chk1 i (rdE c i fE)) (hw2 : k0_chk2 i (rdE c i fE) (rdP c i fE))
    (d4 : Vec F S2048x128 .f32) (Nx : sProp 𝕄) (hN : restAt c gG gU gD ⊢ Nx) (W : Waits sig Unit) (K : PUnit → sProp 𝕄) :
    iprop(owns (c : Thread nD τ) arg4 fullShare d4 ∗ (∃ d, owns (c : Thread nD τ) arg8 fullShare d)
      ∗ copiesAny (F := F) c ∗ pendAt c gG gU gD (rdE c i fE) hw
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny pendAt pendG pendD owns
  iintro ⟨⟨%f4, %r4, H4⟩, ⟨%d8, %f8, -, H8⟩, ⟨⟨%q3, %p3, -, HbG⟩, ⟨%q4, %p4, -, HbU⟩, ⟨%q5, %p5, -, HbD⟩⟩, ⟨⟨%p0, Hs0, Hh0⟩, ⟨%p1, Hs1, Hh1⟩, ⟨%p2, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      refine (owns_stores8 arg8 c f8 _ _ _ _ rfl rfl rfl).trans ?_
      rw [outOf, if_pos h4]
      exact congrArg laidOut (prod_eq arg4 c f4 d4 r4 _ _ _ _ _ _ (copy_cov sG bG k0_pay7 _ _ _ _) (copy_cov sU bU k0_pay8 _ _ _ _) (copy_cov sD bD k0_pay9 _ _ _ _))
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hs1 Hs2 Hs0_dst Hs1_dst Hs2_dst Hh0 Hh1 Hh2]
  · iapply hN
    unfold restAt
    isplitl [Hs0 Hs0_dst Hh0]
    · iapply (idle_intro c 4 sG hG gG _)
      isplitl [Hs0_dst]
      · iexact Hs0_dst
      isplitl [Hs0]
      · iexact Hs0
      · iexact Hh0
    isplitl [Hs1 Hs1_dst Hh1]
    · iapply (idle_intro c 5 sU hU gU _)
      isplitl [Hs1_dst]
      · iexact Hs1_dst
      isplitl [Hs1]
      · iexact Hs1
      · iexact Hh1
    · iapply (idle_intro c 6 sD hD gD _)
      isplitl [Hs2_dst]
      · iexact Hs2_dst
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- A point whose expert is not the one before it: the weights under way are waited for and copied. -/
theorem run_change_last_free (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : ¬ k0_cond1 i = 1#1) (h2 : k0_cond2 i (rdE c i fE) (rdP c i fE) = 1#1)
    (h3 : ¬ k0_cond3 (rdX c i fX) = 1#1)
    (h4 : ¬ k0_cond4 i (rdN c fN) = 1#1) (h5 : k0_cond5 i (rdN c fN) = 1#1)
    (hw1 : k0_chk1 i (rdE c i fE)) (hw2 : k0_chk2 i (rdE c i fE) (rdP c i fE))
    (d4 : Vec F S2048x128 .f32) (Nx : sProp 𝕄) (hN : restAt c gG gU gD ⊢ Nx) (W : Waits sig Unit) (K : PUnit → sProp 𝕄) :
    iprop(owns (c : Thread nD τ) arg4 fullShare d4 ∗ (∃ d, owns (c : Thread nD τ) arg8 fullShare d)
      ∗ copiesAny (F := F) c ∗ pendAt c gG gU gD (rdE c i fE) hw
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAny pendAt pendG pendD owns
  iintro ⟨⟨%f4, %r4, H4⟩, ⟨%d8, %f8, -, H8⟩, ⟨⟨%q3, %p3, -, HbG⟩, ⟨%q4, %p4, -, HbU⟩, ⟨%q5, %p5, -, HbD⟩⟩, ⟨⟨%p0, Hs0, Hh0⟩, ⟨%p1, Hs1, Hh1⟩, ⟨%p2, Hs2, Hh2⟩⟩, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      rw [outOf, if_neg h4]
      exact View.read_writes_full _ _ _ _ _
  isplitl [HbG HbU HbD]
  · isplitl [HbG]
    · iexists _
      isplitr [HbG]
      swap
      · iexact HbG
      · ipureintro; exact copy_read sG bG k0_pay7 _ _ _ _
    isplitl [HbU]
    · iexists _
      isplitr [HbU]
      swap
      · iexact HbU
      · ipureintro; exact copy_read sU bU k0_pay8 _ _ _ _
    · iexists _
      isplitr [HbD]
      swap
      · iexact HbD
      · ipureintro; exact copy_read sD bD k0_pay9 _ _ _ _
  isplitl [Hs0 Hs1 Hs2 Hs0_dst Hs1_dst Hs2_dst Hh0 Hh1 Hh2]
  · iapply hN
    unfold restAt
    isplitl [Hs0 Hs0_dst Hh0]
    · iapply (idle_intro c 4 sG hG gG _)
      isplitl [Hs0_dst]
      · iexact Hs0_dst
      isplitl [Hs0]
      · iexact Hs0
      · iexact Hh0
    isplitl [Hs1 Hs1_dst Hh1]
    · iapply (idle_intro c 5 sU hU gU _)
      isplitl [Hs1_dst]
      · iexact Hs1_dst
      isplitl [Hs1]
      · iexact Hs1
      · iexact Hh1
    · iapply (idle_intro c 6 sD hD gD _)
      isplitl [Hs2_dst]
      · iexact Hs2_dst
      isplitl [Hs2]
      · iexact Hs2
      · iexact Hh2
  isplitl [HtE]
  · iexact HtE
  isplitl [HtN]
  · iexact HtN
  isplitl [HtX]
  · iexact HtX
  iexists _
  iexact HW

set_option maxHeartbeats 2000000 in
/-- A point whose expert is the one before it: the copies serve again. -/
theorem run_same_used (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : ¬ k0_cond1 i = 1#1) (h2 : ¬ k0_cond2 i (rdE c i fE) (rdP c i fE) = 1#1)
    (h4 : k0_cond4 i (rdN c fN) = 1#1) (h5 : ¬ k0_cond5 i (rdN c fN) = 1#1)
    (hw1 : k0_chk1 i (rdE c i fE)) (hw2 : k0_chk2 i (rdE c i fE) (rdP c i fE))
    (d4 : Vec F S2048x128 .f32) (Nx : sProp 𝕄) (W : Waits sig Unit) (K : PUnit → sProp 𝕄) :
    iprop(owns (c : Thread nD τ) arg4 fullShare d4 ∗ (∃ d, owns (c : Thread nD τ) arg8 fullShare d)
      ∗ copiesAt c gG gU gD (rdE c i fE) hw ∗ Nx
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAt owns
  iintro ⟨⟨%f4, %r4, H4⟩, ⟨%d8, %f8, -, H8⟩, ⟨⟨%p3, %r3, HbG⟩, ⟨%p4, %r4', HbU⟩, ⟨%p5, %r5, HbD⟩⟩, HN, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      refine (owns_stores8 arg8 c f8 _ _ _ _ rfl rfl rfl).trans ?_
      rw [outOf, if_pos h4]
      exact congrArg laidOut (prod_eq arg4 c f4 d4 r4 _ _ _ _ _ _ (View.readAt_full _ _ _ |>.trans r3) (View.readAt_full _ _ _ |>.trans r4') (View.readAt_full _ _ _ |>.trans r5))
  isplitl [HbG HbU HbD]
  · isplitl [HbG]
    · iexists _
      isplitr [HbG]
      swap
      · iexact HbG
      · ipureintro; exact r3
    isplitl [HbU]
    · iexists _
      isplitr [HbU]
      swap
      · iexact HbU
      · ipureintro; exact r4'
    · iexists _
      isplitr [HbD]
      swap
      · iexact HbD
      · ipureintro; exact r5
  isplitl [HN]
  · iexact HN
  isplitl [HtE]
  · iexact HtE
  isplitl [HtN]
  · iexact HtN
  isplitl [HtX]
  · iexact HtX
  iexists _
  iexact HW

set_option maxHeartbeats 2000000 in
/-- A point whose expert is the one before it: the copies serve again. -/
theorem run_same_free (c : Dev nD) (i : grid0.Coords) (arg4 : Memref sig .tc .vmem S2048x128 .f32) (harg4 : arg4.IsWhole)
    (arg8 : Memref sig .tc .vmem S2048x128 .f32) (harg8 : arg8.IsWhole)
    (fE : BufOf (F := F) c tbE) (fN : BufOf (F := F) c tbN) (fX : BufOf (F := F) c tbX)
    (gG : BufOf (F := F) c hG) (gU : BufOf (F := F) c hU) (gD : BufOf (F := F) c hD)
    (hw : (rdE c i fE).toNat < 32)
    (h1 : ¬ k0_cond1 i = 1#1) (h2 : ¬ k0_cond2 i (rdE c i fE) (rdP c i fE) = 1#1)
    (h4 : ¬ k0_cond4 i (rdN c fN) = 1#1) (h5 : k0_cond5 i (rdN c fN) = 1#1)
    (hw1 : k0_chk1 i (rdE c i fE)) (hw2 : k0_chk2 i (rdE c i fE) (rdP c i fE))
    (d4 : Vec F S2048x128 .f32) (Nx : sProp 𝕄) (W : Waits sig Unit) (K : PUnit → sProp 𝕄) :
    iprop(owns (c : Thread nD τ) arg4 fullShare d4 ∗ (∃ d, owns (c : Thread nD τ) arg8 fullShare d)
      ∗ copiesAt c gG gU gD (rdE c i fE) hw ∗ Nx
      ∗ atH c tbE fE ∗ atH c tbN fN ∗ atH c tbX fX
      ∗ owes (c : Thread nD τ) 0 W
      ∗ (postAt c i arg4 arg8 fE fN fX gG gU gD (rdE c i fE) hw d4 Nx -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  simp only [cc0_moe_experts_eq_skeleton]; unfold cc0_moe_experts_skel
  unfold copiesAt owns
  iintro ⟨⟨%f4, %r4, H4⟩, ⟨%d8, %f8, -, H8⟩, ⟨⟨%p3, %r3, HbG⟩, ⟨%p4, %r4', HbU⟩, ⟨%p5, %r5, HbD⟩⟩, HN, HtE, HtN, HtX, HW, Hk⟩
  sl_exec
  sl_step
  iapply Hk
  unfold postAt copiesAt owns
  isplitl [H4]
  · iexists f4
    isplitr [H4]
    · ipureintro; exact r4
    · iexact H4
  isplitl [H8]
  · iexists _
    isplitr [H8]
    swap
    · iexact H8
    · ipureintro
      rw [outOf, if_neg h4]
      exact View.read_writes_full _ _ _ _ _
  isplitl [HbG HbU HbD]
  · isplitl [HbG]
    · iexists _
      isplitr [HbG]
      swap
      · iexact HbG
      · ipureintro; exact r3
    isplitl [HbU]
    · iexists _
      isplitr [HbU]
      swap
      · iexact HbU
      · ipureintro; exact r4'
    · iexists _
      isplitr [HbD]
      swap
      · iexact HbD
      · ipureintro; exact r5
  isplitl [HN]
  · iexact HN
  isplitl [HtE]
  · iexact HtE
  isplitl [HtN]
  · iexact HtN
  isplitl [HtX]
  · iexact HtX
  iexists _
  iexact HW

end Cert.ExpertsIdeal.Hand
-- ==== Proof.ExpertsPoint.lean ====
/- The body of the experts call at any grid point, from what the tables are known to hold. -/
module

public import Idealize.ShloMosaic.Lib.ValueIdxCore
public import Idealize.ShloMosaic.Lib.WordCmp
public import proofs.«01_k».proof.Proof.ExpertsRun

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A table's word at a position. -/
def word (f : Vec F S160 .i32) (n : ℕ) : BitVec 32 := if h : n < 160 then f (ValueIdx.ix1 (⟨n, h⟩ : Fin 160)) else 0#32

/-- What the body needs of its two tables: every block has an expert; blocks of one expert name the same next expert; where the
    expert changes, the one named before is the one that comes; at the end none is named; and a named one is an expert. -/
structure TablesOk (fE fX : Vec F S160 .i32) : Prop where
  lt : ∀ n, n < 160 → (word fE n).toNat < 32
  same : ∀ n, n + 1 < 160 → word fE (n + 1) = word fE n → word fX (n + 1) = word fX n
  change : ∀ n, n + 1 < 160 → word fE (n + 1) ≠ word fE n → word fX n = word fE (n + 1)
  last : ¬ (word fX 159).toNat < 32
  named : ∀ n, n < 160 → (word fX n).toNat < 2 ^ 31 → (word fX n).toNat < 32

theorem ite_one (b : Bool) : (Scalar.cmpi .ne (Scalar.extui (BitVec.ofBool b)) 0#32 = 1#1) ↔ b = true := by
  cases b <;> decide

theorem cond1_iff (i : grid0.Coords) : k0_cond1 i = 1#1 ↔ (i 0).val = 0 := by
  have h : ∀ i : grid0.Coords, k0_cond1 i = 1#1 ↔ (i 0).val = 0 := by decide +kernel
  exact h i
theorem first_iff (i : grid0.Coords) : ((BitVec.ofNat 32 (i 0).val : BitVec 32) == 0#32) = true ↔ (i 0).val = 0 := by
  have h : ∀ i : grid0.Coords, ((BitVec.ofNat 32 (i 0).val : BitVec 32) == 0#32) = true ↔ (i 0).val = 0 := by decide +kernel
  exact h i
theorem cond2_iff (i : grid0.Coords) (v w : BitVec 32) : k0_cond2 i v w = 1#1 ↔ ((i 0).val = 0 ∨ v ≠ w) := by
  have e : k0_cond2 i v w = Scalar.cmpi .ne (Scalar.extui (BitVec.ofBool (((BitVec.ofNat 32 (i 0).val : BitVec 32) == 0#32) || (v != w)))) 0#32 := by
    show Scalar.cmpi .ne (Scalar.extui (BitVec.ofBool _ ||| BitVec.ofBool _)) 0#32 = _
    rw [BitVec.ofBool_or_ofBool]
  rw [e, ite_one, Bool.or_eq_true, first_iff, bne_iff_ne]
theorem cond3_iff (v : BitVec 32) : k0_cond3 v = 1#1 ↔ v.toNat < 2 ^ 31 := by
  have e : k0_cond3 v = Scalar.cmpi .ne (Scalar.extui (IntOp.cmpi .sge v 0#32)) 0#32 := rfl
  rw [e, WordCmp.cmpi_sge_zero, ite_one, decide_eq_true_iff]
theorem cond45 (i : grid0.Coords) (n : BitVec 32) : k0_cond5 i n = 1#1 ↔ ¬ k0_cond4 i n = 1#1 := by
  have e4 : k0_cond4 i n = Scalar.cmpi .ne (Scalar.extui (IntOp.cmpi .slt (BitVec.ofNat 32 (i 0).val) n)) 0#32 := rfl
  have e5 : k0_cond5 i n = Scalar.cmpi .ne (Scalar.extui (IntOp.cmpi .sge (BitVec.ofNat 32 (i 0).val) n)) 0#32 := rfl
  rw [e4, e5, WordCmp.cmpi_sge_eq, WordCmp.cmpi_slt_eq, ite_one, ite_one, decide_eq_true_iff, decide_eq_true_iff, not_lt]

theorem off2_eq : ∀ i : grid0.Coords, k0_off2 i = ![(i 0).val - 1] := by decide +kernel

theorem read_word (f : Vec F S160 .i32) (off : Fin 1 → ℕ) (h) (n : ℕ) (hn : n < 160) (ho : off = ![n]) (M : Memref sig .tc .smem S160 .i32)
    (c : Dev nD) (g : BufOf (F := F) c M) (hg : M.view.read (Elt F) g = f) :
    View.readAt (Elt F) M.view (Rect.unit (s := S160) off S1.size h).toLoadRect g
      (Shape.Idx.first (numel1_S1.symm ▸ Nat.one_pos : 0 < (Rect.unit (s := S160) off S1.size h).shape.numel)) = word f n := by
  subst ho hg
  unfold word
  rw [dif_pos hn]
  refine congrArg (M.view.read (Elt F) g) (funext fun a => Fin.ext ?_)
  match a with
  | 0 => rfl

section Words
variable (c : Dev nD) (i : grid0.Coords) (fE : BufOf (F := F) c tbE) (fX : BufOf (F := F) c tbX)
theorem rdE_eq : rdE c i fE = word fE (i 0).val := read_word fE _ _ _ (i 0).isLt (k0_off1_eq i) tbE c fE rfl
theorem rdP_eq : rdP c i fE = word fE ((i 0).val - 1) := read_word fE _ _ _ (Nat.lt_of_le_of_lt (Nat.sub_le _ _) (i 0).isLt) (off2_eq i) tbE c fE rfl
theorem rdX_eq : rdX c i fX = word fX (i 0).val := read_word fX _ _ _ (i 0).isLt (k0_off7_eq i) tbX c fX rfl
end Words

theorem chk1 (i : grid0.Coords) (w : BitVec 32) (hw : w.toNat < 32) : k0_chk1 i w := ⟨fun _ => winInb w hw, fun _ => winInbD w hw⟩
theorem chk2 (i : grid0.Coords) (w v : BitVec 32) (hw : w.toNat < 32) : k0_chk2 i w v := ⟨fun _ => winInb w hw, fun _ => winInbD w hw⟩
theorem chk3 (i : grid0.Coords) (a b v w : BitVec 32) (hw : w.toNat < 32) : k0_chk3 i a b v w := ⟨fun _ _ => winInb w hw, fun _ _ => winInbD w hw⟩

section State
variable (c : Dev nD) (fE : BufOf (F := F) c tbE) (fN : BufOf (F := F) c tbN) (fX : BufOf (F := F) c tbX)
  (gG : BufOf (F := F) c hG) (gU : BufOf (F := F) c hU) (gD : BufOf (F := F) c hD)

/-- The copies hold the weights of the expert a word names, if it names one. -/
def copiesW (w : BitVec 32) : sProp 𝕄 := if h : w.toNat < 32 then copiesAt c gG gU gD w h else copiesAny c
theorem copiesW_of (w : BitVec 32) (h : w.toNat < 32) : copiesW c gG gU gD w = copiesAt c gG gU gD w h := dif_pos h
theorem nextAt_of (w : BitVec 32) (h : w.toNat < 32) : nextAt c gG gU gD w = pendAt c gG gU gD w h := dif_pos h
theorem nextAt_not (w : BitVec 32) (h : ¬ w.toNat < 32) : nextAt c gG gU gD w = restAt c gG gU gD := dif_neg h

theorem copiesAt_any (w : BitVec 32) (h : w.toNat < 32) : copiesAt c gG gU gD w h ⊢ copiesAny c := by
  unfold copiesAt copiesAny
  iintro ⟨H1, H2, H3⟩
  isplitl [H1]; · iexists _; iexact H1
  isplitl [H2]; · iexists _; iexact H2
  iexists _; iexact H3
theorem copiesW_any (w : BitVec 32) : copiesW c gG gU gD w ⊢ copiesAny c := by
  by_cases h : w.toNat < 32
  · rw [copiesW_of c gG gU gD w h]; exact copiesAt_any c gG gU gD w h
  · rw [copiesW, dif_neg h]

/-- Before point `n`: the copies hold the last block's expert's weights and the expert named next is under way. -/
def stateAt : ℕ → sProp 𝕄
  | 0 => iprop(copiesAny c ∗ restAt c gG gU gD)
  | n + 1 => iprop(copiesW c gG gU gD (word fE n) ∗ nextAt c gG gU gD (word fX n))

theorem stateAt_succ (n : ℕ) : stateAt c fE fX gG gU gD (n + 1) = iprop(copiesW c gG gU gD (word fE n) ∗ nextAt c gG gU gD (word fX n)) := rfl

/-- What a point leaves in its output block, from the word of its expert. -/
def outW (i : grid0.Coords) (d : Vec F S2048x128 .f32) (w : BitVec 32) : Vec F S2048x128 .f32 :=
  if h : w.toNat < 32 then outOf i (rdN c fN) d (k0_pay7 (exG c hG gG w h)) (k0_pay8 (exG c hU gU w h)) (k0_pay9 (exD c hD gD w h)) else k0_pay6

/-- What a point leaves. -/
def postW (i : grid0.Coords) (arg4 arg8 : Memref sig .tc .vmem S2048x128 .f32) (d4 : Vec F S2048x128 .f32) : sProp 𝕄 :=
  iprop(owns (c : Thread nD τ) arg4 fullShare d4 ∗ owns (c : Thread nD τ) arg8 fullShare (outW c fN gG gU gD i d4 (word fE (i 0).val))
    ∗ stateAt c fE fX gG gU gD ((i 0).val + 1) ∗ atH c tbE fE ∗ atH c tbN fN ∗ atH c tbX fX ∗ (∃ W, owes (c : Thread nD τ) 0 W))

theorem postAt_post (i : grid0.Coords) (arg4 arg8 : Memref sig .tc .vmem S2048x128 .f32) (d4 : Vec F S2048x128 .f32)
    (w x : BitVec 32) (hw : w.toNat < 32) (ew : w = word fE (i 0).val) (ex : x = word fX (i 0).val) :
    postAt c i arg4 arg8 fE fN fX gG gU gD w hw d4 (nextAt c gG gU gD x) ⊢ postW c fE fN fX gG gU gD i arg4 arg8 d4 := by
  subst ew ex
  unfold postAt postW outW
  rw [stateAt_succ, dif_pos hw, copiesW_of c gG gU gD _ hw]
  iintro ⟨H1, H2, H3, H4, H5⟩
  isplitl [H1]; · iexact H1
  isplitl [H2]; · iexact H2
  isplitl [H3 H4]
  · isplitl [H3]; · iexact H3
    iexact H4
  iexact H5

theorem lift {P1 P2 S A B T1 T2 T3 O Q Q' KK : sProp 𝕄} (hs : S ⊢ iprop(A ∗ B)) (hq : Q ⊢ Q') :
    iprop(P1 ∗ P2 ∗ S ∗ T1 ∗ T2 ∗ T3 ∗ O ∗ (Q' -∗ KK)) ⊢ iprop(P1 ∗ P2 ∗ A ∗ B ∗ T1 ∗ T2 ∗ T3 ∗ O ∗ (Q -∗ KK)) := by
  refine (sep_mono .rfl (sep_mono .rfl (sep_mono hs .rfl))).trans ?_
  iintro ⟨H1, H2, ⟨HA, HB⟩, H3, H4, H5, H6, Hk⟩
  isplitl [H1]; · iexact H1
  isplitl [H2]; · iexact H2
  isplitl [HA]; · iexact HA
  isplitl [HB]; · iexact HB
  isplitl [H3]; · iexact H3
  isplitl [H4]; · iexact H4
  isplitl [H5]; · iexact H5
  isplitl [H6]; · iexact H6
  iintro HQ
  iapply Hk
  iapply hq
  iexact HQ

/-- The body at a point: from the state before it to the state after it. -/
theorem point (T : TablesOk (F := F) fE fX) (i : grid0.Coords) (arg4 : Memref sig .tc .vmem S2048x128 .f32) (harg4 : arg4.IsWhole)
    (arg8 : Memref sig .tc .vmem S2048x128 .f32) (harg8 : arg8.IsWhole) (d4 : Vec F S2048x128 .f32) (W : Waits sig Unit) (K : PUnit → sProp 𝕄) :
    iprop(owns (c : Thread nD τ) arg4 fullShare d4 ∗ (∃ d, owns (c : Thread nD τ) arg8 fullShare d)
      ∗ stateAt c fE fX gG gU gD (i 0).val ∗ atH c tbE fE ∗ atH c tbN fN ∗ atH c tbX fX ∗ owes (c : Thread nD τ) 0 W
      ∗ (postW c fE fN fX gG gU gD i arg4 arg8 d4 -∗ K ⟨⟩))
      ⊢ wp frame (wpE (defs₀ (F := F)) Variants.none c none) Set.univ
          (cc0_moe_experts i tbE (Memref.isWhole_whole _) tbN (Memref.isWhole_whole _) tbX (Memref.isWhole_whole _) arg4 harg4
            hG (Memref.isWhole_whole _) hU (Memref.isWhole_whole _) hD (Memref.isWhole_whole _) arg8 harg8
            sG (Memref.isWhole_whole _) sU (Memref.isWhole_whole _) sD (Memref.isWhole_whole _) bG (Memref.isWhole_whole _)
            bU (Memref.isWhole_whole _) bD (Memref.isWhole_whole _) cc0_scratch6) K := by
  have hi : (i 0).val < 160 := (i 0).isLt
  have eE := rdE_eq c i fE
  have eP := rdP_eq c i fE
  have eX := rdX_eq c i fX
  have hw : (rdE c i fE).toNat < 32 := by rw [eE]; exact T.lt _ hi
  have hw1 := chk1 i (rdE c i fE) hw
  have hw2 := chk2 i (rdE c i fE) (rdP c i fE) hw
  have hq := postAt_post c fE fN fX gG gU gD i arg4 arg8 d4 (rdE c i fE) (rdX c i fX) hw eE eX
  have h45 := cond45 i (rdN c fN)
  have hx3 : (rdX c i fX).toNat < 32 → k0_cond3 (rdX c i fX) = 1#1 := fun h => (cond3_iff _).2 (by omega)
  have hl3 : ¬ (rdX c i fX).toNat < 32 → ¬ k0_cond3 (rdX c i fX) = 1#1 := fun h h' => h (by
    rw [eX]; exact T.named _ hi (by rw [← eX]; exact (cond3_iff _).1 h'))
  have hN1 : ∀ hx : (rdX c i fX).toNat < 32, pendAt c gG gU gD (rdX c i fX) hx ⊢ nextAt c gG gU gD (rdX c i fX) := fun hx => by rw [nextAt_of _ _ _ _ _ hx]
  have hN0 : ¬ (rdX c i fX).toNat < 32 → restAt c gG gU gD ⊢ nextAt c gG gU gD (rdX c i fX) := fun hx => by rw [nextAt_not _ _ _ _ _ hx]
  rcases Nat.eq_zero_or_pos (i 0).val with h0 | h0
  · have h1 := (cond1_iff i).2 h0
    have h2 := (cond2_iff i (rdE c i fE) (rdP c i fE)).2 (.inl h0)
    have hs : stateAt c fE fX gG gU gD (i 0).val ⊢ iprop(copiesAny c ∗ restAt c gG gU gD) := by rw [h0]; exact .rfl
    by_cases hx : (rdX c i fX).toNat < 32 <;> by_cases h4 : k0_cond4 i (rdN c fN) = 1#1
    · exact (lift hs hq).trans (run_start_next_used c i arg4 harg4 arg8 harg8 fE fN fX gG gU gD hw h1 h2 hx (hx3 hx) (chk3 i _ _ _ _ hx) h4 (fun h => h45.1 h h4) hw1 hw2 d4 _ (hN1 hx) W K)
    · exact (lift hs hq).trans (run_start_next_free c i arg4 harg4 arg8 harg8 fE fN fX gG gU gD hw h1 h2 hx (hx3 hx) (chk3 i _ _ _ _ hx) h4 (h45.2 h4) hw1 hw2 d4 _ (hN1 hx) W K)
    · exact (lift hs hq).trans (run_start_last_used c i arg4 harg4 arg8 harg8 fE fN fX gG gU gD hw h1 h2 (hl3 hx) h4 (fun h => h45.1 h h4) hw1 hw2 d4 _ (hN0 hx) W K)
    · exact (lift hs hq).trans (run_start_last_free c i arg4 harg4 arg8 harg8 fE fN fX gG gU gD hw h1 h2 (hl3 hx) h4 (h45.2 h4) hw1 hw2 d4 _ (hN0 hx) W K)
  · obtain ⟨k, hk⟩ : ∃ k, (i 0).val = k + 1 := ⟨(i 0).val - 1, by omega⟩
    have h1 : ¬ k0_cond1 i = 1#1 := fun h => by have := (cond1_iff i).1 h; omega
    have eP' : rdP c i fE = word fE k := by rw [eP, hk]; rfl
    have eE' : rdE c i fE = word fE (k + 1) := by rw [eE, hk]
    have eX' : rdX c i fX = word fX (k + 1) := by rw [eX, hk]
    by_cases hc : word fE (k + 1) = word fE k
    · have h2 : ¬ k0_cond2 i (rdE c i fE) (rdP c i fE) = 1#1 := fun h => by
        rcases (cond2_iff i _ _).1 h with h | h
        · omega
        · exact h (by rw [eE', eP', hc])
      have hs : stateAt c fE fX gG gU gD (i 0).val ⊢ iprop(copiesAt c gG gU gD (rdE c i fE) hw ∗ nextAt c gG gU gD (rdX c i fX)) := by
        rw [hk, ← copiesW_of c gG gU gD (rdE c i fE) hw, eE', eX', hc, T.same k (by omega) hc]; exact .rfl
      by_cases h4 : k0_cond4 i (rdN c fN) = 1#1
      · exact (lift hs hq).trans (run_same_used c i arg4 harg4 arg8 harg8 fE fN fX gG gU gD hw h1 h2 h4 (fun h => h45.1 h h4) hw1 hw2 d4 _ W K)
      · exact (lift hs hq).trans (run_same_free c i arg4 harg4 arg8 harg8 fE fN fX gG gU gD hw h1 h2 h4 (h45.2 h4) hw1 hw2 d4 _ W K)
    · have h2 := (cond2_iff i (rdE c i fE) (rdP c i fE)).2 (.inr (by rw [eE', eP']; exact hc))
      have hs : stateAt c fE fX gG gU gD (i 0).val ⊢ iprop(copiesAny c ∗ pendAt c gG gU gD (rdE c i fE) hw) := by
        rw [hk, ← nextAt_of c gG gU gD (rdE c i fE) hw, eE', ← T.change k (by omega) hc]
        exact sep_mono (copiesW_any c gG gU gD _) .rfl
      by_cases hx : (rdX c i fX).toNat < 32 <;> by_cases h4 : k0_cond4 i (rdN c fN) = 1#1
      · exact (lift hs hq).trans (run_change_next_used c i arg4 harg4 arg8 harg8 fE fN fX gG gU gD hw h1 h2 hx (hx3 hx) (chk3 i _ _ _ _ hx) h4 (fun h => h45.1 h h4) hw1 hw2 d4 _ (hN1 hx) W K)
      · exact (lift hs hq).trans (run_change_next_free c i arg4 harg4 arg8 harg8 fE fN fX gG gU gD hw h1 h2 hx (hx3 hx) (chk3 i _ _ _ _ hx) h4 (h45.2 h4) hw1 hw2 d4 _ (hN1 hx) W K)
      · exact (lift hs hq).trans (run_change_last_used c i arg4 harg4 arg8 harg8 fE fN fX gG gU gD hw h1 h2 (hl3 hx) h4 (fun h => h45.1 h h4) hw1 hw2 d4 _ (hN0 hx) W K)
      · exact (lift hs hq).trans (run_change_last_free c i arg4 harg4 arg8 harg8 fE fN fX gG gU gD hw h1 h2 (hl3 hx) h4 (h45.2 h4) hw1 hw2 d4 _ (hN0 hx) W K)
end State

end Cert.ExpertsIdeal.Hand
-- ==== Proof.ExpertsTables.lean ====
/- The experts call's tables as functions of the counts they are made from, and what they hold whatever the counts. -/
module

public import Idealize.ShloMosaic.Lib.Routing.OpsSet
public import Idealize.ShloMosaic.Lib.Routing.Ops
public import Idealize.ShloMosaic.Lib.Routing.Words
public import Idealize.ShloMosaic.Lib.WordCmp
public import Idealize.ShloMosaic.Lib.WordArith
public import proofs.«01_k».proof.Proof.ExpertsPoint

@[expose] public section

noncomputable section

namespace Cert.ExpertsIdeal.Hand

open Cert.ExpertsIdeal Cert.ExpertsIdeal.Gen
open Idealize.ShloMosaic
open Idealize.ShloMosaic.ValueIdx (ix1 ix2)
open Idealize.ShloMosaic.Routing (reduce_count bc0 bcCol bcRows bcCols iota1_ap gather_take1 lt_count_iff)

/-- The expert of each block: how many experts' rows end at or before the block's first row, kept an expert. -/
def blockExpert (pe : IVec S32 32) : IVec S160 32 :=
  minsi (Host.reduce IntOp.addi (extui 32 (cmpi .sle (broadcastInDim S160x32 ![0, 1] bcast_S1x32_S160x32_0_1 (broadcastInDim S1x32 ![1] bcast_S32_S1x32_1 pe))
      (broadcastInDim S160x32 ![0, 1] bcast_S160x1_S160x32_0_1 (broadcastInDim S160x1 ![0] bcast_S160_S160x1_0
        (muli (iotaInDim S160 32 0) (broadcastInDim S160 ![] bcast_S_S160 (constantI S_ 32 256#32)))))) natLt_1_32) (constantI S_ 32 0#32) reducesTo_S160x32_S160_d1 h_S_)
    (broadcastInDim S160 ![] bcast_S_S160 (constantI S_ 32 31#32))
/-- Where the blocks of a block's expert end. -/
def segEnd (be : IVec S160 32) : IVec S160 32 :=
  Host.reduce IntOp.addi (extui 32 (cmpi .sle (broadcastInDim S160x160 ![0, 1] bcast_S1x160_S160x160_0_1 (broadcastInDim S1x160 ![1] bcast_S160_S1x160_1 be))
      (broadcastInDim S160x160 ![0, 1] bcast_S160x1_S160x160_0_1 (broadcastInDim S160x1 ![0] bcast_S160_S160x1_0 be))) natLt_1_32) (constantI S_ 32 0#32) reducesTo_S160x160_S160_d1 h_S_
def segLast (be : IVec S160 32) : IVec S160 32 := minsi (segEnd be) (broadcastInDim S160 ![] bcast_S_S160 (constantI S_ 32 159#32))
/-- The expert that comes after each block's expert, or -1. -/
def nextExpert (be : IVec S160 32) : IVec S160 32 :=
  select (cmpi .slt (segEnd be) (broadcastInDim S160 ![] bcast_S_S160 (constantI S_ 32 160#32)))
    (Host.gather gather_S160_S160x1_S160_n_0_n_n_0_1_1 be (broadcastInDim S160x1 ![0] bcast_S160_S160x1_0
      (select (cmpi .slt (segLast be) (broadcastInDim S160 ![] bcast_S_S160 (constantI S_ 32 0#32)))
        (addi (segLast be) (broadcastInDim S160 ![] bcast_S_S160 (constantI S_ 32 160#32))) (segLast be))))
    (broadcastInDim S160 ![] bcast_S_S160 (id (constantI S_ 32 4294967295#32)))

open Classical in
/-- The number behind `blockExpert`. -/
def exOf (pe : IVec S32 32) (t : ℕ) : ℕ :=
  min (Nat.count (fun e => ∃ h : e < 32, (pe (ix1 (⟨e, h⟩ : Fin 32))).toInt ≤ ((t * 256 : ℕ) : ℤ)) 32) 31

theorem exOf_lt (pe : IVec S32 32) (t : ℕ) : exOf pe t < 32 := Nat.lt_of_le_of_lt (Nat.min_le_right _ _) (by decide)
theorem exOf_mono (pe : IVec S32 32) {a b : ℕ} (h : a ≤ b) : exOf pe a ≤ exOf pe b := by
  classical
  unfold exOf
  refine min_le_min (Nat.count_mono_left fun e _ he => ?_) le_rfl
  obtain ⟨h1, h2⟩ := he
  exact ⟨h1, h2.trans (by exact_mod_cast Nat.mul_le_mul_right _ h)⟩

theorem sel_true {α : Type} (a b : α) : Scalar.select (BitVec.ofBool true) a b = a := rfl
theorem sel_false {α : Type} (a b : α) : Scalar.select (BitVec.ofBool false) a b = b := rfl
theorem minsi_ofNat (a b : ℕ) (ha : a < 2 ^ 31) (hb : b < 2 ^ 31) : IntOp.minsi (BitVec.ofNat 32 a) (BitVec.ofNat 32 b) = BitVec.ofNat 32 (min a b) := by
  have e : ∀ n, n < 2 ^ 31 → (BitVec.ofNat 32 n).toNat = n := fun n hn => by rw [BitVec.toNat_ofNat]; exact Nat.mod_eq_of_lt (by omega)
  apply BitVec.eq_of_toNat_eq
  rw [WordArith.toNat_minsi_of_lt _ _ (by rw [e _ ha]; exact ha) (by rw [e _ hb]; exact hb), e _ ha, e _ hb, e _ (by omega)]

theorem blockExpert_ap (pe : IVec S32 32) (t : Fin 160) : blockExpert pe (ix1 t) = BitVec.ofNat 32 (exOf pe t.val) := by
  classical
  have ht := t.isLt
  unfold blockExpert exOf
  rw [minsi_apply, bc0]
  rw [reduce_count (n := 160) (m := 32) (by decide) _ natLt_1_32 reducesTo_S160x32_S160_d1 h_S_ t
    (fun e => ∃ h : e < 32, (pe (ix1 (⟨e, h⟩ : Fin 32))).toInt ≤ ((t.val * 256 : ℕ) : ℤ)) ?_]
  · exact minsi_ofNat _ _ (Nat.lt_of_le_of_lt (Nat.count_le _) (by decide)) (by decide)
  · intro q
    have e : cmpi .sle (broadcastInDim S160x32 ![0, 1] bcast_S1x32_S160x32_0_1 (broadcastInDim S1x32 ![1] bcast_S32_S1x32_1 pe))
      (broadcastInDim S160x32 ![0, 1] bcast_S160x1_S160x32_0_1 (broadcastInDim S160x1 ![0] bcast_S160_S160x1_0
        (muli (iotaInDim S160 32 0) (broadcastInDim S160 ![] bcast_S_S160 (constantI S_ 32 256#32))))) (ix2 t q)
        = IntOp.cmpi .sle (pe (ix1 q)) (BitVec.ofNat 32 (t.val * 256)) := by
      show IntOp.cmpi .sle _ _ = _
      rw [bcCols, bcRows]
      show IntOp.cmpi .sle _ (BitVec.ofNat 32 t.val * _) = _
      rw [bc0]
      show IntOp.cmpi .sle _ (BitVec.ofNat 32 t.val * BitVec.ofNat 32 256) = _
      rw [← BitVec.ofNat_mul]
    rw [e, WordCmp.cmpi_sle_eq, WordCmp.toInt_ofNat_of_lt (by show _ < 2 ^ 31; omega), WordCmp.ofBool_decide_eq_one_iff]
    exact ⟨fun h => ⟨q.isLt, h⟩, fun ⟨_, h⟩ => h⟩

/-- How many blocks' experts are at most block `t`'s. -/
def endOf (pe : IVec S32 32) (t : ℕ) : ℕ := Nat.count (fun j => exOf pe j ≤ exOf pe t) 160

theorem segEnd_ap (pe : IVec S32 32) (t : Fin 160) : segEnd (blockExpert pe) (ix1 t) = BitVec.ofNat 32 (endOf pe t.val) := by
  unfold segEnd endOf
  refine reduce_count (n := 160) (m := 160) (by decide) _ natLt_1_32 reducesTo_S160x160_S160_d1 h_S_ t _ fun q => ?_
  show IntOp.cmpi .sle _ _ = 1#1 ↔ _
  rw [bcCols, bcRows, blockExpert_ap, blockExpert_ap]
  exact WordCmp.cmpi_sle_ofNat_eq_one_iff (by have := exOf_lt pe q.val; show _ < 2 ^ 31; omega) (by have := exOf_lt pe t.val; show _ < 2 ^ 31; omega)

theorem endOf_le (pe : IVec S32 32) (t : ℕ) : endOf pe t ≤ 160 := Nat.count_le _
theorem lt_endOf (pe : IVec S32 32) (t r : ℕ) (hr : r < 160) : r < endOf pe t ↔ exOf pe r ≤ exOf pe t :=
  (lt_count_iff (N := 160) (Q := fun j => exOf pe j ≤ exOf pe t) (fun a b hab _ hb => (exOf_mono pe hab).trans hb) hr).symm

theorem nextExpert_ap (pe : IVec S32 32) (t : Fin 160) : nextExpert (blockExpert pe) (ix1 t)
    = if endOf pe t.val < 160 then BitVec.ofNat 32 (exOf pe (endOf pe t.val)) else 4294967295#32 := by
  have hE := endOf_le pe t.val
  unfold nextExpert
  show Scalar.select (IntOp.cmpi .slt _ _) _ _ = _
  rw [segEnd_ap, bc0, bc0]
  show Scalar.select (IntOp.cmpi .slt _ (BitVec.ofNat 32 160)) _ _ = _
  rw [WordCmp.cmpi_slt_ofNat (by show _ < 2 ^ 31; omega) (by decide)]
  by_cases h : endOf pe t.val < 160
  · rw [if_pos h, decide_eq_true h, sel_true]
    have hs : segLast (blockExpert pe) (ix1 t) = BitVec.ofNat 32 (endOf pe t.val) := by
      unfold segLast
      rw [minsi_apply, segEnd_ap, bc0]
      show IntOp.minsi _ (BitVec.ofNat 32 159) = _
      rw [minsi_ofNat _ _ (by omega) (by decide), Nat.min_eq_left (by omega)]
    rw [gather_take1 (N := 160) (n := 160) _ rfl rfl rfl rfl _ _ t ⟨endOf pe t.val, h⟩ ?_ (by decide)]
    · exact blockExpert_ap pe ⟨_, h⟩
    · rw [bcCol]
      show Scalar.select (IntOp.cmpi .slt _ _) _ _ = _
      rw [hs, bc0]
      show Scalar.select (IntOp.cmpi .slt _ (BitVec.ofNat 32 0)) _ _ = _
      rw [WordCmp.cmpi_slt_ofNat (by show _ < 2 ^ 31; omega) (by decide), decide_eq_false (Nat.not_lt_zero _), sel_false]
  · rw [if_neg h, decide_eq_false h, sel_false]
    rfl

theorem word_at (f : IVec S160 32) (n : ℕ) (h : n < 160) {F : FTy → Type} : word (F := F) f n = f (ix1 (⟨n, h⟩ : Fin 160)) := by
  unfold word; exact dif_pos h

theorem toNat_small (n : ℕ) (h : n < 32) : (BitVec.ofNat 32 n).toNat = n := by
  rw [BitVec.toNat_ofNat]; exact Nat.mod_eq_of_lt (by omega)

/-- The tables are as the body needs them, whatever the counts. -/
theorem tablesOk (F : FTy → Type) (pe : IVec S32 32) : TablesOk (F := F) (blockExpert pe) (nextExpert (blockExpert pe)) where
  lt n hn := by rw [word_at _ n hn, blockExpert_ap, toNat_small _ (exOf_lt _ _)]; exact exOf_lt _ _
  same n hn h := by
    rw [word_at _ _ hn, word_at _ n (by omega), blockExpert_ap, blockExpert_ap] at h
    have e : exOf pe (n + 1) = exOf pe n := by
      have := congrArg BitVec.toNat h
      rwa [toNat_small _ (exOf_lt _ _), toNat_small _ (exOf_lt _ _)] at this
    rw [word_at _ _ hn, word_at _ n (by omega), nextExpert_ap, nextExpert_ap]
    have e2 : endOf pe (n + 1) = endOf pe n := by unfold endOf; simp only [e]
    show (if endOf pe (n + 1) < 160 then _ else _) = if endOf pe n < 160 then _ else _
    rw [e2]
  change n hn h := by
    rw [word_at _ _ hn, word_at _ n (by omega), blockExpert_ap, blockExpert_ap] at h
    rw [word_at _ n (by omega), word_at _ _ hn, nextExpert_ap, blockExpert_ap]
    have hlt : exOf pe n < exOf pe (n + 1) := lt_of_le_of_ne (exOf_mono pe (Nat.le_succ n)) fun e => h (by show BitVec.ofNat 32 (exOf pe (n + 1)) = BitVec.ofNat 32 (exOf pe n); rw [e])
    have h1 : n < endOf pe n := (lt_endOf pe n n (by omega)).2 le_rfl
    have h2 : ¬ n + 1 < endOf pe n := fun h => absurd ((lt_endOf pe n _ hn).1 h) (by omega)
    have e : endOf pe n = n + 1 := by omega
    show (if endOf pe n < 160 then _ else _) = _
    rw [e, if_pos hn]
  last := by
    rw [word_at _ 159 (by decide), nextExpert_ap]
    have h1 : 159 < endOf pe 159 := (lt_endOf pe 159 159 (by decide)).2 le_rfl
    show ¬ BitVec.toNat (if endOf pe 159 < 160 then _ else _) < 32
    rw [if_neg (by omega)]
    decide
  named n hn := by
    rw [word_at _ n hn, nextExpert_ap]
    split
    · intro _; rw [toNat_small _ (exOf_lt _ _)]; exact exOf_lt _ _
    · intro h; exact absurd h (by decide)

end Cert.ExpertsIdeal.Hand
-- ==== Proof.ExpertsFrame.lean ====
/- The experts call runs to its end from any launch: its tables, the invariant of its copies, the body at every point, the run. -/
module

public import Idealize.ShloMosaic.Lib.Pipeline.FrameBody
public import Idealize.ShloMosaic.Lib.Claim
public import proofs.«01_k».proof.Proof.ExpertsTables

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the call finds -/

abbrev hostAll : List (List (HloOp τ sig (Elt F))) := [hostOps0, hostOps0_1, hostOps0_2, hostOps0_3]

/-- The buffers once the tables are made. -/
@[irreducible] def V (c : Dev nD) (b : Ref sig .tc) : Buf (Elt F) ((c : Thread nD τ).loc b) :=
  StableHlo.after (hostAll (F := F)).flatten (fun b => m (c, b)) b

theorem V_eq : V m = fun (c : Dev nD) (b : Ref sig .tc) => StableHlo.after (hostAll (F := F)).flatten (fun b => m (c, b)) b := by
  funext c b; unfold V; rfl

theorem hostAll_fresh : (hostAll (F := F)).Forall fun ops => ops.Forall fun op => op.fresh = ∅ := by
  simp only [List.Forall]; repeat' constructor

theorem hmain (𝒱₀ : Variants) : Pipeline.HMainP (Ix := Unit) (Name := ℕ) (U := Pipeline.UD sig nD τ) (Lvl := ℕ) (pcfgs (F := F)) 0 defs₀ 𝒱₀ m (main (F := F)) (V m) :=
  by rw [V_eq]; exact Pipeline.hmainP_prefixes pcfgs 0 defs₀ 𝒱₀ m main hostAll ⟨hostOps0_sub, hostOps0_1_sub, hostOps0_2_sub, hostOps0_3_sub⟩ hostAll_fresh (fun c => main_chain c)

theorem V_blockExpert (c : Dev nD) : V m c main_v11 = blockExpert (m (c, main_arg0)) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem V_nextExpert (c : Dev nD) : V m c main_v32 = nextExpert (blockExpert (m (c, main_arg0))) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

theorem V_arg0 (c : Dev nD) : V m c main_arg0 = m ((c : Thread nD τ).loc main_arg0) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem V_arg1 (c : Dev nD) : V m c main_arg1 = m ((c : Thread nD τ).loc main_arg1) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem V_arg2 (c : Dev nD) : V m c main_arg2 = m ((c : Thread nD τ).loc main_arg2) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem V_arg3 (c : Dev nD) : V m c main_arg3 = m ((c : Thread nD τ).loc main_arg3) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl
theorem V_arg4 (c : Dev nD) : V m c main_arg4 = m ((c : Thread nD τ).loc main_arg4) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

/-- The three tables as the call reads them. -/
def tbl : pre0.Contents (Elt F) := fun j => V m (0 : Dev nD) (pre0.ref j)
theorem V_pre (c : Dev nD) (j : Fin 3) : V m c (pre0.ref j) = tbl m j := by
  obtain rfl : c = 0 := Subsingleton.elim _ _
  rfl
/-- They are admissible. -/
@[irreducible] def adm : (pcfg0 (F := F)).Adm := ⟨tbl m, trivial⟩
theorem adm_val : (adm m).1 = tbl m := by unfold adm; rfl
abbrev cfgM : Pipeline.Cfg sig Λ₀ := cfg0 (adm m)

/-- Window `w`'s block at point `t`, read off its array as the call finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What point `t` leaves in its output block. -/
def outAt (c : Dev nD) (t : Fin (cfgM m).N) : Vec F S2048x128 .f32 :=
  outW c (V m c main_v13) (V m c main_arg2) (V m c main_arg3) (V m c main_arg4) (grid0.coords t) (iblk m c 0 t) (word (F := F) (V m c main_v11) ((grid0.coords t) 0).val)

/-- The tables, as they stay. -/
def tables (c : Dev nD) : sProp 𝕄 := iprop(atH c tbE (V m c main_v11) ∗ atH c tbN (V m c main_v13) ∗ atH c tbX (V m c main_v32))

/-- Between points: the state of the copies, the tables, the register. -/
def PhiS (c : Dev nD) (n : ℕ) (_ : n ≤ (cfgM m).N) : sProp 𝕄 :=
  iprop(stateAt c (V m c main_v11) (V m c main_v32) (V m c main_arg2) (V m c main_arg3) (V m c main_arg4) n ∗ tables m c ∗ (∃ r, prngReg c r))

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outAt m c t
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]
theorem after_0 (c : Dev nD) (t : Fin (cfgM m).N) : (dats m 0 c).after 0 t = iblk m c 0 t := by dsimp only [dats]; rfl
theorem after_1 (c : Dev nD) (t : Fin (cfgM m).N) : (dats m 0 c).after 1 t = outAt m c t := by dsimp only [dats]; rfl

theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)

theorem coords_val : ∀ t : Fin grid0.N, ((grid0.coords t) 0).val = t.val := by decide +kernel

/-! ## The body at a point -/

abbrev ms_0 (t : Fin (cfgM m).N) : Memref sig .tc .vmem S2048x128 .f32 := spec0_0.stage ((cfgM m).slots t 0)
abbrev ms_1 (t : Fin (cfgM m).N) : Memref sig .tc .vmem S2048x128 .f32 := spec0_1.stage ((cfgM m).slots t 1)

def bodyAt (t : Fin (cfgM m).N) := cc0_moe_experts (F := F) (grid0.coords t) tbE (Memref.isWhole_whole _) tbN (Memref.isWhole_whole _) tbX (Memref.isWhole_whole _)
  (ms_0 m t) (hstage0_0 (((cfgM m).slots t 0).cast nbuf0_0))
  hG (Memref.isWhole_whole _) hU (Memref.isWhole_whole _) hD (Memref.isWhole_whole _) (ms_1 m t) (hstage0_1 (((cfgM m).slots t 1).cast nbuf0_1))
  sG (Memref.isWhole_whole _) sU (Memref.isWhole_whole _) sD (Memref.isWhole_whole _) bG (Memref.isWhole_whole _)
  bU (Memref.isWhole_whole _) bD (Memref.isWhole_whole _) cc0_scratch6

def bodyPre (c : Dev nD) (t : Fin (cfgM m).N) : sProp 𝕄 :=
  iprop((dats m 0 c).Φ t.castSucc ∗ (dats m 0 c).owesAt () t.castSucc
    ∗ (∃ d, owns (c : Thread nD τ) (ms_0 m t) fullShare ((dats m 0 c).before 0 t d))
    ∗ (∃ d, owns (c : Thread nD τ) (ms_1 m t) fullShare ((dats m 0 c).before 1 t d)))
def bodyPost (c : Dev nD) (t : Fin (cfgM m).N) : sProp 𝕄 :=
  iprop((dats m 0 c).Φ t.succ ∗ (dats m 0 c).owesAt () t.succ
    ∗ owns (c : Thread nD τ) (ms_0 m t) fullShare ((dats m 0 c).after 0 t)
    ∗ owns (c : Thread nD τ) (ms_1 m t) fullShare ((dats m 0 c).after 1 t))

theorem Phi_castSucc (c : Dev nD) (t : Fin (cfgM m).N) : (dats m 0 c).Φ t.castSucc = PhiS m c t.val (Nat.le_of_lt t.isLt) := by
  dsimp only [dats]; exact Pipeline.Dat.Φ_castSucc (PhiS m c) t
theorem Phi_succ (c : Dev nD) (t : Fin (cfgM m).N) : (dats m 0 c).Φ t.succ = PhiS m c (t.val + 1) t.isLt := by
  dsimp only [dats]; rfl

theorem V_ok (c : Dev nD) : TablesOk (F := F) (V m c main_v11) (V m c main_v32) := by
  rw [V_nextExpert, V_blockExpert]; exact tablesOk F _

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0]
  rw [Phi_castSucc, Phi_succ, after_0, after_1]
  unfold PhiS tables
  unfold Dat.owesAt Pipeline.owesWithin
  rw [show (dats m 0 c).owed t.castSucc = 0 from rfl, show (dats m 0 c).owed t.succ = 0 from rfl]
  iintro ⟨⟨HS, ⟨HE, HN, HX⟩, Hg⟩, ⟨%W, -, HW⟩, ⟨%d0, H0⟩, ⟨%d1, H1⟩⟩
  iapply (point c (V m c main_v11) (V m c main_v13) (V m c main_v32) (V m c main_arg2) (V m c main_arg3) (V m c main_arg4) (V_ok m c)
    (grid0.coords t) (ms_0 m t) (hstage0_0 (((cfgM m).slots t 0).cast nbuf0_0)) (ms_1 m t) (hstage0_1 (((cfgM m).slots t 1).cast nbuf0_1)) (iblk m c 0 t) W _)
  rw [coords_val t]
  isplitl [H0]; · iexact H0
  isplitl [H1]; · iexists _; iexact H1
  isplitl [HS]; · iexact HS
  isplitl [HE]; · iexact HE
  isplitl [HN]; · iexact HN
  isplitl [HX]; · iexact HX
  isplitl [HW]; · iexact HW
  unfold postW
  rw [coords_val t]
  iintro ⟨H0, H1, HS, HE, HN, HX, ⟨%W', HW'⟩⟩
  isplitl [HS HE HN HX Hg]
  · isplitl [HS]; · iexact HS
    isplitl [HE HN HX]
    · isplitl [HE]; · iexact HE
      isplitl [HN]; · iexact HN
      iexact HX
    iexact Hg
  isplitl [HW']
  · iexists W'; isplitr; · ipureintro; exact fun _ _ => Or.inl trivial
    iexact HW'
  isplitl [H0]; · iexact H0
  unfold outAt
  rw [coords_val t]
  iexact H1

theorem defs₀_row (t : Fin (cfgM m).N) :
    defs₀ (F := F) .tc (cfgM m).body ((cfgM m).bodyArgs t ((cfgM m).slots t)) = bodyAt m t := by
  unfold defs₀ bodyAt; rw [Defs.onTc_tc]

/-- Every point stores its output block: one of the two conditions holds. -/
theorem idle_any (i : grid0.Coords) (n : BitVec 32) : (!(k0_cond4 i n == 1#1) && !(k0_cond5 i n == 1#1)) = false := by
  by_cases h : k0_cond4 i n = 1#1
  · rw [h]; rfl
  · rw [(cond45 i n).2 h, Bool.and_eq_false_iff]; exact .inr rfl
theorem idle_at (a : (pcfg0 (F := F)).Adm) (i : grid0.Coords) : (cfg0 a).idle 1 i = false := idle_any i _
theorem idle_false (i : grid0.Coords) : (cfgM m).idle 1 i = false := idle_at (adm m) i

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  refine sep_mono .rfl (sep_mono .rfl (sep_mono .rfl ?_))
  dsimp only
  generalize hb : idle0 (adm m).1 1 ((pcfg0.gridAt (adm m).1).coords t) = b
  have hf : b = false := hb.symm.trans (idle_false m ((cfgM m).grid.coords t))
  subst hf
  iintro H
  iexact H

/-! ## The launch -/

abbrev osem0 : Fin 3 → SemLoc sig := fun j => (![SemLoc.dma 4, SemLoc.dma 5, SemLoc.dma 6] : Fin 3 → SemLoc sig) j
theorem ownSemFacts0 : Pipeline.OwnSemFacts spec0 osem0 := by decide
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0
          ∗ semVal ((c : Thread nD τ), SemLoc.dma 6) 0) := by
  rw [Pipeline.ownSems0_eq_of_list c osem0 [0, 1, 2] (by decide) (by decide)]; rfl

/-- The three weight arrays, which the body copies from itself. -/
def H0 : Finset (Ref sig .tc) := {main_arg2, main_arg3, main_arg4}
theorem H0_sub : H0 ⊆ Pipeline.restRefsP sig pre0 spec0 := by decide
theorem weights_eq (c : Dev nD) :
    (bigSep H0 (fun b => ((c : Thread nD τ).loc b) ↦{fullShare} V m c b) : sProp 𝕄)
      = iprop(at1 c hG (V m c main_arg2) ∗ at1 c hU (V m c main_arg3) ∗ at1 c hD (V m c main_arg4)) := by
  rw [BI.bigSep_eq_bigSepL_of_eq [main_arg2, main_arg3, main_arg4] (by decide) (by decide)]
  simp only [at1, Memref.view_whole, View.set_whole]
  rfl
theorem tables_eq (c : Dev nD) :
    (Pipeline.ΦT pre0 (tbl m) c : sProp 𝕄) = tables m c := by
  obtain rfl : c = 0 := Subsingleton.elim _ _
  unfold Pipeline.ΦT Pipeline.prefHeld tables
  rw [show (Finset.univ : Finset (Fin 3)) = insert 0 (insert 1 {2}) from by decide, bigSep_insert (by decide), bigSep_insert (by decide), bigSep_singleton]
  rfl

theorem start_state (c : Dev nD) :
    iprop(Pipeline.ΦD osem0 spec0 H0 (V m) c ∗ (Pipeline.ΦT pre0 (tbl m) c : sProp 𝕄)) ⊢ PhiS m c 0 (Nat.zero_le _) := by
  rw [Pipeline.ΦD_eq, scopedRest0_eq, ownSems0_eq, weights_eq, tables_eq]
  unfold PhiS stateAt copiesAny restAt idle1
  simp only [owns_whole]
  iintro ⟨⟨⟨S0, S1, S2, S3, S4, S5⟩, Hg, ⟨q4, q5, q6⟩, ⟨hg, hu, hd⟩⟩, HT⟩
  isplitl [S0 S1 S2 S3 S4 S5 q4 q5 q6 hg hu hd]
  · isplitl [S3 S4 S5]
    · isplitl [S3]; · iexact S3
      isplitl [S4]; · iexact S4
      iexact S5
    isplitl [S0 q4 hg]
    · isplitl [S0]; · iexact S0
      isplitl [q4]; · iexact q4
      iexact hg
    isplitl [S1 q5 hu]
    · isplitl [S1]; · iexact S1
      isplitl [q5]; · iexact q5
      iexact hu
    isplitl [S2]; · iexact S2
    isplitl [q6]; · iexact q6
    iexact hd
  isplitl [HT]; · iexact HT
  iexact Hg

theorem end_state (c : Dev nD) (n : ℕ) (h : n ≤ (cfgM m).N) (hn : n = 160) : PhiS m c n h ⊢ Pipeline.ΦD osem0 spec0 H0 (V m) c := by
  subst hn
  rw [Pipeline.ΦD_eq, scopedRest0_eq, ownSems0_eq, weights_eq]
  unfold PhiS
  rw [show (160 : ℕ) = 159 + 1 from rfl, stateAt_succ, nextAt_not _ _ _ _ _ (V_ok m c).last]
  refine (sep_mono (sep_mono (copiesW_any _ _ _ _ _) .rfl) .rfl).trans ?_
  unfold copiesAny restAt idle1
  simp only [owns_whole]
  iintro ⟨⟨⟨S3, S4, S5⟩, ⟨⟨S0, q4, hg⟩, ⟨S1, q5, hu⟩, ⟨S2, q6, hd⟩⟩⟩, HT, Hg⟩
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [Hg]; · iexact Hg
  isplitl [q4 q5 q6]
  · isplitl [q4]; · iexact q4
    isplitl [q5]; · iexact q5
    iexact q6
  isplitl [hg]; · iexact hg
  isplitl [hu]; · iexact hu
  iexact hd

abbrev admAll : (p : Fin 1) → (pcfgs (F := F) p).Adm := fun _ => adm m

set_option backward.isDefEq.respectTransparency.types false in
theorem run_main : θ_run defs (onTc (τ := τ) (main (F := F))) (s₀ m ρ) (fun r => Pipeline.FramePost (Pipeline.pin (pcfgs (F := F)) (admAll m)) (dats m) 0 (V m) r ∧ r.2.sem = fun _ => 0) :=
  Pipeline.θ_run_frameP_dma (Q' := _) (pcfgs (F := F)) (admAll m) (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hpf := fun c k => (V_pre m c k).trans (congrFun (adm_val m).symm k))
    (hin := fun c => by rw [show (admAll m 0).1 = tbl m from adm_val m]; exact start_state m c)
    (hout := fun c => end_state m c (cfgM m).N le_rfl N_0)

theorem rest_0 : main_arg0 ∈ Pipeline.restRefs sig spec0 := Pipeline.mem_restRefs_of main_arg0 (by decide) (by decide)
theorem rest_2 : main_arg2 ∈ Pipeline.restRefs sig spec0 := Pipeline.mem_restRefs_of main_arg2 (by decide) (by decide)
theorem rest_3 : main_arg3 ∈ Pipeline.restRefs sig spec0 := Pipeline.mem_restRefs_of main_arg3 (by decide) (by decide)
theorem rest_4 : main_arg4 ∈ Pipeline.restRefs sig spec0 := Pipeline.mem_restRefs_of main_arg4 (by decide) (by decide)

/-- The experts call runs to its end, its arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).2 main_arg0 rest_0).trans (V_arg0 m c),
     ((h.1 c).1 0).trans (((dats m 0 c).arrAt_in 0 rfl _).trans ((A_eq m c 0).trans (V_arg1 m c))),
     ((h.1 c).2 main_arg2 rest_2).trans (V_arg2 m c),
     ((h.1 c).2 main_arg3 rest_3).trans (V_arg3 m c),
     ((h.1 c).2 main_arg4 rest_4).trans (V_arg4 m c)⟩, h.2⟩) (run_main m ρ)

end Cert.ExpertsIdeal.Hand
-- ==== Proof.ExpertsFrames.lean ====
/-
  The claims of the experts call that need no value: its two programs and its reference run, leave their arguments
  unchanged and every counter at zero, and nothing in its kernel is renamed.
-/
module

public import proofs.«01_k».proof.Defs
public import proofs.«01_k».proof.Proof.Gen.Experts
public import proofs.«01_k».proof.Proof.ExpertsFrame
public import proofs.«01_k».proof.Proof.ExpertsBitsFrame
public import proofs.«01_k».proof.Proof.Gen.ExpertsReferenceIdeal.Run
public import Idealize.ShloMosaic.Lib.Quiescent

@[expose] public section

noncomputable section

open Idealize.ShloMosaic Idealize.ShloMosaic.TcCoe Idealize.SL.Sem

namespace Cert.Proof.Experts

theorem frame_p : Cert.quiescent_Experts := fun m ρ _ => Cert.Experts.Hand.frame (F := Bits) m ρ

theorem frame_pi : Cert.quiescent_ExpertsIdeal := fun m ρ _ => Cert.ExpertsIdeal.Hand.frame (F := Ideal) m ρ

/-- The reference's run: its result comes first, then the arguments; it declares no counter. -/
theorem frame_ri : Cert.quiescent_ExpertsReferenceIdeal := fun m ρ _ =>
  (θ_run Cert.ExpertsReferenceIdeal.defs _ _).mono (fun r h => ⟨fun c => (h c).2,
      Idealize.ShloMosaic.sem_eq_zero_of_no_sems (by decide) r.2⟩)
    (Cert.ExpertsReferenceIdeal.Value.run (F := Ideal) m ρ)

theorem preserves : Cert.preserves_Experts_ExpertsIdeal := trivial

end Cert.Proof.Experts

end
-- ==== Proof.ExpertsReference.lean ====
/- A row through an expert's gated layer, and the reference of the experts call read at a row. -/
module

public import Idealize.ShloMosaic.Lib.Pipeline.ValueKit
public import Idealize.ShloMosaic.Lib.Pointwise
public import Idealize.ShloMosaic.Lib.StableHlo.Predicate
public import proofs.«01_k».proof.Proof.ExpertsTables
public import proofs.«01_k».proof.Proof.Gen.ExpertsReferenceIdeal.Run

@[expose] public section

set_option maxRecDepth 16384

noncomputable section

open Idealize.ShloMosaic Idealize.ShloMosaic.TcCoe Idealize.SL.Sem

namespace Cert.Proof.Experts

/-! ## The layer -/

/-- The hidden entry: a logistic gate times its argument, times the other product. -/
def hid (x : Fin 1024 → EReal) (g u : Fin 1024 → Fin 512 → EReal) (f : Fin 512) : EReal :=
  ((∑ d, x d * g d f) * Ideal.logistic (∑ d, x d * g d f)) * ∑ d, x d * u d f
/-- A row through the layer. -/
def layer (x : Fin 1024 → EReal) (g u : Fin 1024 → Fin 512 → EReal) (w : Fin 512 → Fin 1024 → EReal) (e : Fin 1024) : EReal :=
  ∑ f, hid x g u f * w f e

theorem layer_congr {x x' : Fin 1024 → EReal} {g g' u u' : Fin 1024 → Fin 512 → EReal} {w w' : Fin 512 → Fin 1024 → EReal} (e : Fin 1024)
    (hx : ∀ d, x d = x' d) (hg : ∀ d f, g d f = g' d f) (hu : ∀ d f, u d f = u' d f) (hw : ∀ f e, w f e = w' f e) :
    layer x g u w e = layer x' g' u' w' e := by
  rw [funext hx, funext fun d => funext (hg d), funext fun d => funext (hu d), funext fun f => funext (hw f)]

open Cert.ExpertsIdeal.Hand (blockExpert exOf exOf_lt blockExpert_ap)
open Cert.ExpertsReferenceIdeal Cert.ExpertsReferenceIdeal.Gen

/-- The expert of block `t`. -/
def exF (pe : IVec S32 32) (t : Fin 160) : Fin 32 := ⟨exOf pe t.val, exOf_lt pe t.val⟩

/-- How many blocks are used: the last cumulative count over 256, rounded down. -/
def countOf (v : BitVec 32) : BitVec 32 :=
  select (s := S_) (andi (cmpi .ne (signi fun _ => v) (signi fun _ => 256#32)) (cmpi .ne (Host.remsi (fun _ => v) (fun _ => 256#32)) (fun _ => 0#32)))
    (subi (Host.divsi (fun _ => v) (fun _ => 256#32)) (fun _ => 1#32)) (Host.divsi (fun _ => v) (fun _ => 256#32)) fun a => a.elim0

/-- A row of the sorted rows, which are kept eight rows of 128 to one of 1024. -/
def rowOf (xs : FVec Ideal S327680x128 .f32) (t : Fin 160) (r : Fin 256) (d : Fin 1024) : EReal :=
  xs (ix2 (⟨2048 * t.val + 8 * r.val + d.val / 128, by omega⟩ : Fin 327680) (⟨d.val % 128, by omega⟩ : Fin 128))

/-- What the call leaves of row `r` of block `t`. -/
def entry (pe : IVec S32 32) (xs : FVec Ideal S327680x128 .f32) (wg wu : FVec Ideal S2x32x1024x512 .f32) (wd : FVec Ideal S2x32x512x1024 .f32)
    (t : Fin 160) (r : Fin 256) (e : Fin 1024) : EReal :=
  Scalar.select (IntOp.cmpi .slt (BitVec.ofNat 32 t.val) (countOf (pe (ix1 (31 : Fin 32)))))
    (layer (rowOf xs t r) (fun d f => wg (ix4 (0 : Fin 2) (exF pe t) d f)) (fun d f => wu (ix4 (0 : Fin 2) (exF pe t) d f))
      (fun f e => wd (ix4 (0 : Fin 2) (exF pe t) f e)) e) 0

/-! ## The reference -/

/-- The rows as the reference shapes them. -/
theorem rows_at (xs : FVec Ideal S327680x128 .f32) (t : Fin 160) (r : Fin 256) (d : Fin 1024) :
    shapeCast S160x256x1024 xs shapeCasts_S327680x128_S160x256x1024 (ix3 t r d) = rowOf xs t r d := by
  refine shapeCast_apply _ _ _ _ ?_
  rw [Shape.rowMajor_val_two, Shape.rowMajor_val_three]
  show (2048 * t.val + 8 * r.val + d.val / 128) * 128 + d.val % 128 = (t.val * 256 + r.val) * 1024 + d.val
  omega

/-- The index of each block's expert, as the reference looks it up. -/
def startR (be : IVec S160 32) : IVec S160x1 32 :=
  broadcastInDim S160x1 ![0] bcast_S160_S160x1_0 (select (cmpi .slt be (broadcastInDim S160 ![] bcast_S_S160 (constantI S_ 32 0#32)))
    (addi be (broadcastInDim S160 ![] bcast_S_S160 (constantI S_ 32 32#32))) be)

theorem startR_at (pe : IVec S32 32) (t : Fin 160) : startR (blockExpert pe) (ix2 t (0 : Fin 1)) = BitVec.ofNat 32 (exF pe t).val := by
  have h : blockExpert pe (ix1 t) = BitVec.ofNat 32 (exOf pe t.val) := blockExpert_ap pe t
  have hl := exOf_lt pe t.val
  pointwise [startR]
  rw [h]
  have hn : IntOp.cmpi .slt (BitVec.ofNat 32 (exOf pe t.val)) 0#32 = BitVec.ofBool false := by
    rw [WordCmp.cmpi_slt_eq, WordCmp.toInt_ofNat_of_lt (by omega)]
    exact congrArg BitVec.ofBool (decide_eq_false (by show ¬ ((exOf pe t.val : ℕ) : ℤ) < 0; omega))
  rw [hn]
  rfl

section Gather
variable {α : Type}

/-- The gate's or the other matrix of each block's expert. -/
theorem gather_g (x : S32x1024x512.Idx → α) (idx : IVec S160x1 32) (t : Fin 160) (d : Fin 1024) (f : Fin 512) (b : Fin 32)
    (hb : idx (ix2 t (0 : Fin 1)) = BitVec.ofNat 32 b.val) :
    Host.gather gather_S32x1024x512_S160x1_S160x1024x512_12_0_n_n_0_1_11024512 x idx (ix3 t d f) = x (ix3 b d f) := by
  unfold Host.gather
  refine congrArg x (funext fun a => Fin.ext ?_)
  have hbl := b.isLt
  match a with
  | ⟨0, _⟩ =>
    show min (idx _).toInt.toNat (32 - 1) + 0 + 0 = b.val
    have e : (idx (gather_S32x1024x512_S160x1_S160x1024x512_12_0_n_n_0_1_11024512.siIdx (ix3 t d f) ⟨0, by decide⟩)) = idx (ix2 t (0 : Fin 1)) :=
      congrArg idx (funext fun a => match a with
        | ⟨0, _⟩ => rfl
        | ⟨1, _⟩ => rfl)
    refine (congrArg (fun w : BitVec 32 => min w.toInt.toNat (32 - 1) + 0 + 0) (e.trans hb)).trans ?_
    rw [StableHlo.Predicate.toInt_ofNat_small _ (by omega)]
    show min ((b.val : Int)).toNat (32 - 1) + 0 + 0 = b.val
    omega
  | ⟨1, _⟩ => exact Nat.zero_add _
  | ⟨2, _⟩ => exact Nat.zero_add _

/-- The last matrix of each block's expert. -/
theorem gather_d (x : S32x512x1024.Idx → α) (idx : IVec S160x1 32) (t : Fin 160) (f : Fin 512) (e : Fin 1024) (b : Fin 32)
    (hb : idx (ix2 t (0 : Fin 1)) = BitVec.ofNat 32 b.val) :
    Host.gather gather_S32x512x1024_S160x1_S160x512x1024_12_0_n_n_0_1_15121024 x idx (ix3 t f e) = x (ix3 b f e) := by
  unfold Host.gather
  refine congrArg x (funext fun a => Fin.ext ?_)
  have hbl := b.isLt
  match a with
  | ⟨0, _⟩ =>
    show min (idx _).toInt.toNat (32 - 1) + 0 + 0 = b.val
    have e : (idx (gather_S32x512x1024_S160x1_S160x512x1024_12_0_n_n_0_1_15121024.siIdx (ix3 t f e) ⟨0, by decide⟩)) = idx (ix2 t (0 : Fin 1)) :=
      congrArg idx (funext fun a => match a with
        | ⟨0, _⟩ => rfl
        | ⟨1, _⟩ => rfl)
    refine (congrArg (fun w : BitVec 32 => min w.toInt.toNat (32 - 1) + 0 + 0) (e.trans hb)).trans ?_
    rw [StableHlo.Predicate.toInt_ofNat_small _ (by omega)]
    show min ((b.val : Int)).toNat (32 - 1) + 0 + 0 = b.val
    omega
  | ⟨1, _⟩ => exact Nat.zero_add _
  | ⟨2, _⟩ => exact Nat.zero_add _

end Gather

/-- Layer 0's matrices. -/
theorem first_g (w : FVec Ideal S2x32x1024x512 .f32) (b : Fin 32) (d : Fin 1024) (f : Fin 512) :
    shapeCast S32x1024x512 (extractStridedSlice S1x32x1024x512 ![0, 0, 0, 0] w slices_S2x32x1024x512_S1x32x1024x512_0_0_0_0) shapeCasts_S1x32x1024x512_S32x1024x512 (ix3 b d f)
      = w (ix4 (0 : Fin 2) b d f) := by
  pointwise
theorem first_d (w : FVec Ideal S2x32x512x1024 .f32) (b : Fin 32) (f : Fin 512) (e : Fin 1024) :
    shapeCast S32x512x1024 (extractStridedSlice S1x32x512x1024 ![0, 0, 0, 0] w slices_S2x32x512x1024_S1x32x512x1024_0_0_0_0) shapeCasts_S1x32x512x1024_S32x512x1024 (ix3 b f e)
      = w (ix4 (0 : Fin 2) b f e) := by
  pointwise

/-- Each block's matrices. -/
def matG (w : FVec Ideal S2x32x1024x512 .f32) (be : IVec S160 32) : FVec Ideal S160x1024x512 .f32 :=
  Host.gather gather_S32x1024x512_S160x1_S160x1024x512_12_0_n_n_0_1_11024512
    (shapeCast S32x1024x512 (extractStridedSlice S1x32x1024x512 ![0, 0, 0, 0] w slices_S2x32x1024x512_S1x32x1024x512_0_0_0_0) shapeCasts_S1x32x1024x512_S32x1024x512) (startR be)
def matD (w : FVec Ideal S2x32x512x1024 .f32) (be : IVec S160 32) : FVec Ideal S160x512x1024 .f32 :=
  Host.gather gather_S32x512x1024_S160x1_S160x512x1024_12_0_n_n_0_1_15121024
    (shapeCast S32x512x1024 (extractStridedSlice S1x32x512x1024 ![0, 0, 0, 0] w slices_S2x32x512x1024_S1x32x512x1024_0_0_0_0) shapeCasts_S1x32x512x1024_S32x512x1024) (startR be)
theorem matG_at (w : FVec Ideal S2x32x1024x512 .f32) (pe : IVec S32 32) (t : Fin 160) (d : Fin 1024) (f : Fin 512) :
    matG w (blockExpert pe) (ix3 t d f) = w (ix4 (0 : Fin 2) (exF pe t) d f) :=
  (gather_g _ _ t d f (exF pe t) (startR_at pe t)).trans (first_g w _ d f)
theorem matD_at (w : FVec Ideal S2x32x512x1024 .f32) (pe : IVec S32 32) (t : Fin 160) (f : Fin 512) (e : Fin 1024) :
    matD w (blockExpert pe) (ix3 t f e) = w (ix4 (0 : Fin 2) (exF pe t) f e) :=
  (gather_d _ _ t f e (exF pe t) (startR_at pe t)).trans (first_d w _ f e)

/-- The products of the rows with each block's matrix, the gated hidden rows, and the rows they leave. -/
def prodR (x : FVec Ideal S160x256x1024 .f32) (g : FVec Ideal S160x1024x512 .f32) : FVec Ideal S160x256x512 .f32 :=
  Host.dotGeneral dot_S160x256x1024_S160x1024x512_S160x256x512_2_1_1_2_0_0 none x g
def hidR (a u : FVec Ideal S160x256x512 .f32) : FVec Ideal S160x256x512 .f32 :=
  mulf (mulf a (Host.divf (broadcastInDim S160x256x512 ![] bcast_S_S160x256x512 (constant S_ .f32 0x3F800000#32))
    (addf (broadcastInDim S160x256x512 ![] bcast_S_S160x256x512 (constant S_ .f32 0x3F800000#32)) (Host.exp (Host.negf a))))) u
def downR (h : FVec Ideal S160x256x512 .f32) (w : FVec Ideal S160x512x1024 .f32) : FVec Ideal S160x256x1024 .f32 :=
  Host.dotGeneral dot_S160x256x512_S160x512x1024_S160x256x1024_2_1_1_2_0_0 none h w

theorem prodR_at (x : FVec Ideal S160x256x1024 .f32) (g : FVec Ideal S160x1024x512 .f32) (t : Fin 160) (r : Fin 256) (f : Fin 512) :
    prodR x g (ix3 t r f) = ∑ d, x (ix3 t r d) * g (ix3 t d f) := by
  pointwise [prodR]
theorem hidR_at (a u : FVec Ideal S160x256x512 .f32) (t : Fin 160) (r : Fin 256) (f : Fin 512) :
    hidR a u (ix3 t r f) = (a (ix3 t r f) * Ideal.logistic (a (ix3 t r f))) * u (ix3 t r f) := by
  pointwise [hidR]
  rfl
theorem downR_at (h : FVec Ideal S160x256x512 .f32) (w : FVec Ideal S160x512x1024 .f32) (t : Fin 160) (r : Fin 256) (e : Fin 1024) :
    downR h w (ix3 t r e) = ∑ f, h (ix3 t r f) * w (ix3 t f e) := by
  pointwise [downR]

/-- The blocks used, as a row of bits laid over the rows. -/
def countR (pe : IVec S32 32) : IVec S_ 32 :=
  select (andi (cmpi .ne (signi (shapeCast S_ (extractStridedSlice S1 ![31] pe slices_S32_S1_31) shapeCasts_S1_S_)) (signi (id (constantI S_ 32 256#32))))
      (cmpi .ne (Host.remsi (shapeCast S_ (extractStridedSlice S1 ![31] pe slices_S32_S1_31) shapeCasts_S1_S_) (id (constantI S_ 32 256#32))) (constantI S_ 32 0#32)))
    (subi (Host.divsi (shapeCast S_ (extractStridedSlice S1 ![31] pe slices_S32_S1_31) shapeCasts_S1_S_) (id (constantI S_ 32 256#32))) (constantI S_ 32 1#32))
    (Host.divsi (shapeCast S_ (extractStridedSlice S1 ![31] pe slices_S32_S1_31) shapeCasts_S1_S_) (id (constantI S_ 32 256#32)))
theorem last_at (pe : IVec S32 32) (j : S_.Idx) : shapeCast S_ (extractStridedSlice S1 ![31] pe slices_S32_S1_31) shapeCasts_S1_S_ j = pe (ix1 (31 : Fin 32)) := by
  unfold shapeCast extractStridedSlice
  refine congrArg pe (funext fun a => Fin.ext ?_)
  match a with
  | ⟨0, _⟩ =>
    have h : ∀ k : Fin 1, 31 + k.val = 31 := fun k => by omega
    exact h _
theorem countR_at (pe : IVec S32 32) (j : S_.Idx) : countR pe j = countOf (pe (ix1 (31 : Fin 32))) := by
  have h : shapeCast S_ (extractStridedSlice S1 ![31] pe slices_S32_S1_31) shapeCasts_S1_S_ = fun _ => pe (ix1 (31 : Fin 32)) := funext (last_at pe)
  unfold countR
  rw [h]
  rfl

def usedR (pe : IVec S32 32) : IVec S160x256x1024 1 :=
  broadcastInDim S160x256x1024 ![0, 1, 2] bcast_S160x1x1_S160x256x1024_0_1_2 (broadcastInDim S160x1x1 ![0] bcast_S160_S160x1x1_0
    (cmpi .slt (iotaInDim S160 32 0) (broadcastInDim S160 ![] bcast_S_S160 (countR pe))))
theorem usedR_at (pe : IVec S32 32) (t : Fin 160) (r : Fin 256) (e : Fin 1024) :
    usedR pe (ix3 t r e) = IntOp.cmpi .slt (BitVec.ofNat 32 t.val) (countOf (pe (ix1 (31 : Fin 32)))) := by
  pointwise [usedR]
  rw [countR_at]

/-- The reference's rows before the last reshape. -/
def wholeR (pe : IVec S32 32) (xs : FVec Ideal S327680x128 .f32) (wg wu : FVec Ideal S2x32x1024x512 .f32) (wd : FVec Ideal S2x32x512x1024 .f32) :
    FVec Ideal S160x256x1024 .f32 :=
  select (usedR pe)
    (downR (hidR (prodR (shapeCast S160x256x1024 xs shapeCasts_S327680x128_S160x256x1024) (matG wg (blockExpert pe)))
      (prodR (shapeCast S160x256x1024 xs shapeCasts_S327680x128_S160x256x1024) (matG wu (blockExpert pe)))) (matD wd (blockExpert pe)))
    (broadcastInDim S160x256x1024 ![] bcast_S_S160x256x1024 (id (constant S_ .f32 0x00000000#32)))

theorem wholeR_at (pe : IVec S32 32) (xs : FVec Ideal S327680x128 .f32) (wg wu : FVec Ideal S2x32x1024x512 .f32) (wd : FVec Ideal S2x32x512x1024 .f32)
    (t : Fin 160) (r : Fin 256) (e : Fin 1024) : wholeR pe xs wg wu wd (ix3 t r e) = entry pe xs wg wu wd t r e := by
  show Scalar.select (usedR pe (ix3 t r e)) (downR _ _ (ix3 t r e)) _ = _
  unfold entry
  rw [usedR_at, downR_at]
  refine congr (congrArg (Scalar.select _) ?_) ?_
  · unfold layer
    refine Finset.sum_congr rfl fun f _ => ?_
    rw [hidR_at, prodR_at, prodR_at, matD_at]
    unfold hid
    simp only [rows_at, matG_at]
  · exact Ideal.ofBits_zero .f32

/-- The reference's result. -/
theorem res_eq (m : (ℓ : Loc nD τ sig) → Buf (Elt Ideal) ℓ) (c : Dev nD) :
    Value.res_main_v53 (F := Ideal) m c = shapeCast S327680x128 (wholeR (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) shapeCasts_S160x256x1024_S327680x128 := rfl

/-- A row of the result, eight rows of 128 to one of 1024. -/
theorem result_at (v : FVec Ideal S160x256x1024 .f32) (t : Fin 160) (r : Fin 256) (k : Fin 8) (l : Fin 128) :
    shapeCast S327680x128 v shapeCasts_S160x256x1024_S327680x128 (ix2 (⟨2048 * t.val + 8 * r.val + k.val, by omega⟩ : Fin 327680) l)
      = v (ix3 t r (⟨k.val * 128 + l.val, by omega⟩ : Fin 1024)) := by
  refine shapeCast_apply _ _ _ _ ?_
  rw [Shape.rowMajor_val_two, Shape.rowMajor_val_three]
  show (t.val * 256 + r.val) * 1024 + (k.val * 128 + l.val) = (2048 * t.val + 8 * r.val + k.val) * 128 + l.val
  omega

end Cert.Proof.Experts

end
-- ==== Proof.ExpertsProduct.lean ====
/- The block the experts kernel computes at a point, read at a row: the row through the layer. -/
module

public import Idealize.ShloMosaic.Lib.ValueLayout
public import proofs.«01_k».proof.Proof.ExpertsReference
public import proofs.«01_k».proof.Proof.ExpertsFrame

@[expose] public section

set_option maxRecDepth 16384

noncomputable section

open Idealize.ShloMosaic Idealize.ShloMosaic.TcCoe Idealize.SL.Sem

namespace Cert.Proof.Experts

open Cert.ExpertsIdeal Cert.ExpertsIdeal.Gen Cert.ExpertsIdeal.Hand

/-- The block's rows of 1024, put together from its rows of 128. -/
def catOf (d : Vec Ideal S2048x128 .f32) : FVec Ideal S256x1024 .f32 :=
  concatenate S256x1024 1 [⟨S256x128, rowsFrom d 0⟩, ⟨S256x128, rowsFrom d 1⟩, ⟨S256x128, rowsFrom d 2⟩, ⟨S256x128, rowsFrom d 3⟩, ⟨S256x128, rowsFrom d 4⟩, ⟨S256x128, rowsFrom d 5⟩, ⟨S256x128, rowsFrom d 6⟩, ⟨S256x128, rowsFrom d 7⟩] concatenates_S256x128_S256x128_S256x128_S256x128_S256x128_S256x128_S256x128_S256x128_S256x1024_d1

theorem catOf_at (d : Vec Ideal S2048x128 .f32) (r : Fin 256) (j : Fin 1024) :
    catOf d (ix2 r j) = d (ix2 (⟨8 * r.val + j.val / 128, by omega⟩ : Fin 2048) (⟨j.val % 128, by omega⟩ : Fin 128)) := by
  unfold catOf
  refine (concatenate_ofFn_apply (t := S256x1024) (1 : Fin 2) (fun n : Fin 8 => rowsFrom d n) _ rfl 128 rfl (ix2 r j)
    (⟨j.val / 128, by omega⟩ : Fin 8) rfl (ix2 r (⟨j.val % 128, by omega⟩ : Fin 128)) rfl ?_).trans ?_
  · intro b hb
    match b with
    | ⟨0, _⟩ => rfl
    | ⟨1, _⟩ => exact absurd rfl hb
  · unfold rowsFrom
    refine congrArg d (funext fun a => Fin.ext ?_)
    match a with
    | ⟨0, _⟩ => exact Nat.add_comm _ _
    | ⟨1, _⟩ => exact (Nat.zero_add _).trans (Nat.one_mul _)

/-- The products after the rows are put together. -/
def prodC (x : FVec Ideal S256x1024 .f32) (vG vU : FVec Ideal S1024x512 .bf16) (vD : FVec Ideal S512x1024 .bf16) : FVec Ideal S256x1024 .f32 :=
  have v31 : FVec Ideal S256x1024 .bf16 := truncf .bf16 x bitsLt_bf16_f32
  have v33 : FVec Ideal S256x512 .f32 := matmul dot_S256x1024_S1024x512_S256x512_1_0_0_1_n_n none v31 vG (constant S256x512 .f32 0x00000000#32)
  have v35 : FVec Ideal S256x512 .f32 := matmul dot_S256x1024_S1024x512_S256x512_1_0_0_1_n_n none v31 vU (constant S256x512 .f32 0x00000000#32)
  matmul dot_S256x512_S512x1024_S256x1024_1_0_0_1_n_n none (truncf .bf16 (mulf (mulf v33 (logistic v33)) v35) bitsLt_bf16_f32) vD (constant S256x1024 .f32 0x00000000#32)

theorem prodC_at (x : FVec Ideal S256x1024 .f32) (vG vU : FVec Ideal S1024x512 .bf16) (vD : FVec Ideal S512x1024 .bf16) (r : Fin 256) (e : Fin 1024) :
    prodC x vG vU vD (ix2 r e) = layer (fun d => x (ix2 r d)) (fun d f => vG (ix2 d f)) (fun d f => vU (ix2 d f)) (fun f e => vD (ix2 f e)) e := by
  pointwise [prodC, layer, hid]

theorem prodOf_eq (d : Vec Ideal S2048x128 .f32) (vG vU : FVec Ideal S1024x512 .bf16) (vD : FVec Ideal S512x1024 .bf16) :
    prodOf d vG vU vD = prodC (catOf d) vG vU vD := rfl

theorem pay7_at (v : Vec Ideal S1024x512 .f32) (d : Fin 1024) (f : Fin 512) : k0_pay7 v (ix2 d f) = v (ix2 d f) := by
  pointwise [k0_pay7]
theorem pay8_at (v : Vec Ideal S1024x512 .f32) (d : Fin 1024) (f : Fin 512) : k0_pay8 v (ix2 d f) = v (ix2 d f) := by
  pointwise [k0_pay8]
theorem pay9_at (v : Vec Ideal S512x1024 .f32) (f : Fin 512) (e : Fin 1024) : k0_pay9 v (ix2 f e) = v (ix2 f e) := by
  pointwise [k0_pay9]

/-- A row of the block, one of its eight rows of 128. -/
theorem out_row (i : grid0.Coords) (n : BitVec 32) (d : Vec Ideal S2048x128 .f32) (g u : Vec Ideal S1024x512 .f32) (w : Vec Ideal S512x1024 .f32)
    (r : Fin 256) (k : Fin 8) (l : Fin 128) :
    outOf i n d (k0_pay7 g) (k0_pay8 u) (k0_pay9 w) (ix2 (⟨8 * r.val + k.val, by omega⟩ : Fin 2048) l)
      = Scalar.select (IntOp.cmpi .slt (BitVec.ofNat 32 (i 0).val) n)
          (layer (fun j => d (ix2 (⟨8 * r.val + j.val / 128, by omega⟩ : Fin 2048) (⟨j.val % 128, by omega⟩ : Fin 128)))
            (fun d f => g (ix2 d f)) (fun d f => u (ix2 d f)) (fun f e => w (ix2 f e)) (⟨k.val * 128 + l.val, by omega⟩ : Fin 1024)) 0 := by
  have e4 : k0_cond4 i n = Scalar.cmpi .ne (Scalar.extui (IntOp.cmpi .slt (BitVec.ofNat 32 (i 0).val) n)) 0#32 := rfl
  unfold outOf
  rw [e4, WordCmp.cmpi_slt_eq]
  generalize decide ((BitVec.ofNat 32 (i 0).val).toInt < n.toInt) = b
  cases b
  · rw [if_neg (by rw [ite_one]; decide), sel_false]
    exact Ideal.ofBits_zero .f32
  · rw [if_pos (by rw [ite_one]), sel_true]
    have hr : laidOut (prodOf d (k0_pay7 g) (k0_pay8 u) (k0_pay9 w)) (ix2 (⟨8 * r.val + k.val, by omega⟩ : Fin 2048) l)
        = prodOf d (k0_pay7 g) (k0_pay8 u) (k0_pay9 w) (ix2 r (⟨k.val * 128 + l.val, by omega⟩ : Fin 1024)) := by
      unfold laidOut
      refine congrArg _ (funext fun a => Fin.ext ?_)
      match a with
      | ⟨0, _⟩ => show (8 * r.val + k.val) / 8 = r.val; omega
      | ⟨1, _⟩ => show (8 * r.val + k.val) % 8 * 128 + l.val = k.val * 128 + l.val; omega
    rw [hr, prodOf_eq, prodC_at]
    exact layer_congr _ (fun j => catOf_at d r j) (fun d f => pay7_at g d f) (fun d f => pay8_at u d f) (fun f e => pay9_at w f e)

/-- An expert's matrices, as the body copies them from the arrays of every layer and expert. -/
theorem exG_at (c : Dev nD) (M : Memref sig .tc .hbm S2x32x1024x512 .f32) (g : BufOf (F := Ideal) c M) (w : BitVec 32) (hw : w.toNat < 32) (d : Fin 1024) (f : Fin 512) :
    exG c M g w hw (ix2 d f) = M.view.read (Elt Ideal) g (ix4 (0 : Fin 2) (⟨w.toNat, hw⟩ : Fin 32) d f) := by
  refine congrArg (M.view.read (Elt Ideal) g) ?_
  show (Rect.unit (s := S2x32x1024x512) (k0_off9 w) S1x1x1024x512.size (winInb w hw)).emb (Shape.reshapeEquiv _ (ix2 d f)) = _
  rw [show (ix2 d f : S1024x512.Idx) = ValueIdx.ix2 d f from rfl, ValueIdx.reshapeEquiv_ix2_11ab]
  refine funext fun a => Fin.ext ?_
  match a with
  | ⟨0, _⟩ => rfl
  | ⟨1, _⟩ => rfl
  | ⟨2, _⟩ => exact (Nat.zero_add _).trans (Nat.one_mul _)
  | ⟨3, _⟩ => exact (Nat.zero_add _).trans (Nat.one_mul _)
theorem exD_at (c : Dev nD) (M : Memref sig .tc .hbm S2x32x512x1024 .f32) (g : BufOf (F := Ideal) c M) (w : BitVec 32) (hw : w.toNat < 32) (f : Fin 512) (e : Fin 1024) :
    exD c M g w hw (ix2 f e) = M.view.read (Elt Ideal) g (ix4 (0 : Fin 2) (⟨w.toNat, hw⟩ : Fin 32) f e) := by
  refine congrArg (M.view.read (Elt Ideal) g) ?_
  show (Rect.unit (s := S2x32x512x1024) (k0_off10 w) S1x1x512x1024.size (winInbD w hw)).emb (Shape.reshapeEquiv _ (ix2 f e)) = _
  rw [show (ix2 f e : S512x1024.Idx) = ValueIdx.ix2 f e from rfl, ValueIdx.reshapeEquiv_ix2_11ab]
  refine funext fun a => Fin.ext ?_
  match a with
  | ⟨0, _⟩ => rfl
  | ⟨1, _⟩ => rfl
  | ⟨2, _⟩ => exact (Nat.zero_add _).trans (Nat.one_mul _)
  | ⟨3, _⟩ => exact (Nat.zero_add _).trans (Nat.one_mul _)

end Cert.Proof.Experts

end
-- ==== Proof.ExpertsValue.lean ====
/- The experts call's result: every row of every block through its expert's layer, as the reference has it. -/
module

public import proofs.«01_k».proof.Defs
public import proofs.«01_k».proof.Proof.ExpertsProduct

@[expose] public section

set_option maxRecDepth 16384

noncomputable section

open Idealize.ShloMosaic Idealize.ShloMosaic.TcCoe Idealize.ShloMosaic.Tactic Idealize.SL.Sem

namespace Cert.Proof.Experts

section Kernel

open Cert.ExpertsIdeal Cert.ExpertsIdeal.Gen Cert.ExpertsIdeal.Hand

variable (m : (ℓ : Loc nD τ sig) → Buf (Elt Ideal) ℓ) (ρ : Dev nD → PrngReg) (c : Dev nD)

/-- The arguments as arrays. -/
abbrev endsA : IVec S32 32 := m ((c : Thread nD τ).loc main_arg0)
abbrev rowsA : FVec Ideal S327680x128 .f32 := m ((c : Thread nD τ).loc main_arg1)
abbrev gateA : FVec Ideal S2x32x1024x512 .f32 := m ((c : Thread nD τ).loc main_arg2)
abbrev upA : FVec Ideal S2x32x1024x512 .f32 := m ((c : Thread nD τ).loc main_arg3)
abbrev downA : FVec Ideal S2x32x512x1024 .f32 := m ((c : Thread nD τ).loc main_arg4)

theorem last_of (pe : IVec S32 32) : extractStridedSlice S1 ![31] pe slices_S32_S1_31 = fun _ => pe (ix1 (31 : Fin 32)) := by
  funext j
  unfold extractStridedSlice
  refine congrArg pe (funext fun a => Fin.ext ?_)
  match a with
  | ⟨0, _⟩ =>
    have h : ∀ k : Fin 1, 31 + k.val = 31 := fun k => by omega
    exact h _

/-- The count as the host makes it. -/
def countK (v : IVec S1 32) : IVec S1 32 :=
  select (andi (cmpi .ne (signi v) (broadcastInDim S1 ![] bcast_S_S1 (signi (id (constantI S_ 32 256#32)))))
      (cmpi .ne (Host.remsi v (broadcastInDim S1 ![] bcast_S_S1 (id (constantI S_ 32 256#32)))) (broadcastInDim S1 ![] bcast_S_S1 (constantI S_ 32 0#32))))
    (subi (Host.divsi v (broadcastInDim S1 ![] bcast_S_S1 (id (constantI S_ 32 256#32)))) (broadcastInDim S1 ![] bcast_S_S1 (constantI S_ 32 1#32)))
    (Host.divsi v (broadcastInDim S1 ![] bcast_S_S1 (id (constantI S_ 32 256#32))))

theorem countK_at (w : BitVec 32) (j : S1.Idx) : countK (fun _ => w) j = countOf w := rfl

theorem V_count : V m c main_v13 = countK (extractStridedSlice S1 ![31] (endsA m c) slices_S32_S1_31) := by
  unfold V
  simp only [hostAll, hostOps0, hostOps0_1, hostOps0_2, hostOps0_3, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> rfl

theorem rdN_eq : rdN c (V m c main_v13) = countOf (endsA m c (ix1 (31 : Fin 32))) := by
  have h : V m c main_v13 = countK (fun _ => endsA m c (ix1 (31 : Fin 32))) := (V_count m c).trans (congrArg countK (last_of _))
  rw [h]
  exact countK_at _ _

theorem map_0 : ∀ t : Fin grid0.N, cc0_transform_0 (grid0.coords t) = ![t.val, 0] := by decide +kernel
theorem map_1 : ∀ t : Fin grid0.N, cc0_transform_4 (grid0.coords t) = ![t.val, 0] := by decide +kernel

theorem iblk_at (t : Fin (cfgM m).N) (ht : t.val < 160) (n : Fin 2048) (l : Fin 128) :
    iblk m c 0 t (ix2 n l) = rowsA m c (ix2 (⟨2048 * t.val + n.val, by omega⟩ : Fin 327680) l) := by
  refine (congrFun (V_arg1 m c) _).trans (congrArg (rowsA m c) (funext fun a => Fin.ext ?_))
  have h0 := congrFun (map_0 t) 0
  have h1 := congrFun (map_0 t) 1
  match a with
  | ⟨0, _⟩ =>
    show cc0_transform_0 (grid0.coords t) 0 * 2048 + 1 * n.val = 2048 * t.val + n.val
    rw [h0]; show t.val * 2048 + 1 * n.val = _; omega
  | ⟨1, _⟩ =>
    show cc0_transform_0 (grid0.coords t) 1 * 128 + 1 * l.val = l.val
    rw [h1]; show 0 * 128 + 1 * l.val = _; omega

theorem word_eq (t : Fin (cfgM m).N) (ht : t.val < 160) : word (F := Ideal) (V m c main_v11) ((grid0.coords t) 0).val = BitVec.ofNat 32 (exOf (endsA m c) t.val) := by
  rw [coords_val t, V_blockExpert, word_at _ _ ht]
  exact blockExpert_ap _ ⟨t.val, ht⟩

/-- A row of the block a point leaves. -/
theorem out_at (t : Fin (cfgM m).N) (ht : t.val < 160) (r : Fin 256) (k : Fin 8) (l : Fin 128) :
    outAt m c t (ix2 (⟨8 * r.val + k.val, by omega⟩ : Fin 2048) l)
      = entry (endsA m c) (rowsA m c) (gateA m c) (upA m c) (downA m c) ⟨t.val, ht⟩ r (⟨k.val * 128 + l.val, by omega⟩ : Fin 1024) := by
  unfold outAt
  rw [word_eq m c t ht]
  have hl := exOf_lt (endsA m c) t.val
  have hn := toNat_small _ hl
  have hw : (BitVec.ofNat 32 (exOf (endsA m c) t.val)).toNat < 32 := by rw [hn]; exact hl
  have hE : (⟨(BitVec.ofNat 32 (exOf (endsA m c) t.val)).toNat, hw⟩ : Fin 32) = exF (endsA m c) ⟨t.val, ht⟩ := Fin.ext hn
  unfold outW
  rw [dif_pos hw]
  refine (out_row _ _ _ _ _ _ r k l).trans ?_
  rw [rdN_eq, coords_val t]
  unfold entry
  refine congrArg (fun x => Scalar.select _ x 0) (layer_congr _ (fun j => ?_) (fun d f => ?_) (fun d f => ?_) (fun f e => ?_))
  · rw [iblk_at m c t ht]
    unfold rowOf
    refine congrArg (rowsA m c) (funext fun a => Fin.ext ?_)
    match a with
    | ⟨0, _⟩ => exact (Nat.add_assoc _ _ _).symm
    | ⟨1, _⟩ => rfl
  · rw [exG_at, hE]; exact congrFun (V_arg2 m c) _
  · rw [exG_at, hE]; exact congrFun (V_arg3 m c) _
  · rw [exD_at, hE]; exact congrFun (V_arg4 m c) _

/-- The result as the reference has it. -/
def rowsW : FVec Ideal S327680x128 .f32 :=
  shapeCast Cert.ExpertsReferenceIdeal.S327680x128 (wholeR (endsA m c) (rowsA m c) (gateA m c) (upA m c) (downA m c)) Cert.ExpertsReferenceIdeal.Gen.shapeCasts_S160x256x1024_S327680x128

theorem flush_map : ∀ t : Fin grid0.N, (true && (decide (t.val + 1 = grid0.N)
    || decide (∃ h : t.val + 1 < grid0.N, cc0_transform_4 (grid0.coords ⟨t.val + 1, h⟩) ≠ cc0_transform_4 (grid0.coords t)))) = true := by decide +kernel
theorem flush_1 (a : (pcfg0 (F := Ideal)).Adm) (t : Fin (cfg0 a).N) : ((cfg0 a).win 1).flush t = true := flush_map t

theorem covers_1 (a : (pcfg0 (F := Ideal)).Adm) : ((cfg0 a).win 1).Covers := by
  refine ⟨fun x => ?_, fun β => ?_⟩
  · match x with
    | ⟨0, _⟩ => exact (by decide : 0 < 2048)
    | ⟨1, _⟩ => exact (by decide : 0 < 128)
  · have hb0 : (β (⟨0, Nat.two_pos⟩ : Fin 2)).val < 160 := lt_of_lt_of_eq (β (⟨0, Nat.two_pos⟩ : Fin 2)).isLt (by show (327680 + 2048 - 1) / 2048 = 160; decide)
    have hb1 : (β (⟨1, Nat.one_lt_two⟩ : Fin 2)).val < 1 := lt_of_lt_of_eq (β (⟨1, Nat.one_lt_two⟩ : Fin 2)).isLt (by show (128 + 128 - 1) / 128 = 1; decide)
    refine ⟨(⟨(β (⟨0, Nat.two_pos⟩ : Fin 2)).val, hb0⟩ : Fin grid0.N), flush_1 a _, fun x => ⟨?_, Or.inl ?_⟩⟩
    · refine (congrFun (map_1 ⟨(β (⟨0, Nat.two_pos⟩ : Fin 2)).val, hb0⟩) x).trans ?_
      match x with
      | ⟨0, _⟩ => rfl
      | ⟨1, _⟩ => exact (Nat.lt_one_iff.1 hb1).symm
    · match x with
      | ⟨0, _⟩ => rfl
      | ⟨1, _⟩ => rfl

/-- The block a point leaves is the result's. -/
theorem tile (t : Fin (cfgM m).N) (ht : t.val < 160) (y : S2048x128.Idx) (z : S327680x128.Idx) (hz0 : (z 0).val = t.val * 2048 + (y 0).val) (hz1 : (z 1).val = (y 1).val) :
    outAt m c t y = rowsW m c z := by
  have h0 : (y 0).val < 2048 := (y 0).isLt
  have h1 : (y 1).val < 128 := (y 1).isLt
  have key := (out_at m c t ht ⟨(y 0).val / 8, by omega⟩ ⟨(y 0).val % 8, by omega⟩ ⟨(y 1).val, h1⟩).trans
    ((result_at _ ⟨t.val, ht⟩ ⟨(y 0).val / 8, by omega⟩ ⟨(y 0).val % 8, by omega⟩ ⟨(y 1).val, h1⟩).trans (wholeR_at _ _ _ _ _ _ _ _)).symm
  refine Eq.trans (congrArg (outAt m c t) (funext fun a => Fin.ext ?_)) (key.trans (congrArg (rowsW m c) (funext fun a => Fin.ext ?_)))
  · match a with
    | ⟨0, _⟩ => show (y 0).val = 8 * ((y 0).val / 8) + (y 0).val % 8; omega
    | ⟨1, _⟩ => rfl
  · match a with
    | ⟨0, _⟩ => show 2048 * t.val + 8 * ((y 0).val / 8) + (y 0).val % 8 = (z 0).val; omega
    | ⟨1, _⟩ => exact hz1.symm

/-- The result array after the run. -/
theorem rows_value : (dats m 0 c).arrAt 1 (cfgM m).N = rowsW m c := by
  refine (dats m 0 c).arrAt_eq_of_covers 1 _ (covers_1 (adm m)) fun t hf y => ?_
  have e : (dats m 0 c).after 1 t = outAt m c t := after_1 m c t
  show (dats m 0 c).after 1 t y = _
  rw [e]
  refine tile m c t t.isLt y _ ?_ ?_
  · show cc0_transform_4 (grid0.coords t) 0 * 2048 + 1 * ((show S2048x128.Idx from y) 0).val = _
    rw [congrFun (map_1 t) 0, Nat.one_mul]
    rfl
  · show cc0_transform_4 (grid0.coords t) 1 * 128 + 1 * ((show S2048x128.Idx from y) 1).val = _
    rw [congrFun (map_1 t) 1, Nat.one_mul]
    exact Nat.zero_add _

/-- The run with its result, the arguments as they were. -/
theorem run_rows : θ_run defs (onTc (τ := τ) (main (F := Ideal))) ⟨m, fun _ => 0, ρ⟩ (fun r => ∀ c : Dev nD,
      r.2.mem ((c.tc : Thread nD τ).loc main_v33) = rowsW m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).1 1).trans (rows_value m c),
     ((h.1 c).2 main_arg0 rest_0).trans (V_arg0 m c),
     ((h.1 c).1 0).trans (((dats m 0 c).arrAt_in 0 rfl _).trans ((A_eq m c 0).trans (V_arg1 m c))),
     ((h.1 c).2 main_arg2 rest_2).trans (V_arg2 m c),
     ((h.1 c).2 main_arg3 rest_3).trans (V_arg3 m c),
     ((h.1 c).2 main_arg4 rest_4).trans (V_arg4 m c)⟩) (run_main m ρ)

end Kernel

theorem algebraic : Cert.algebraic_ExpertsIdeal_ExpertsReferenceIdeal := by
  intro m ρ m' ρ' hpre hagree
  refine ⟨_, run_rows m ρ, ?_⟩
  refine (θ_run Cert.ExpertsReferenceIdeal.defs _ _).mono (fun _ h c => ⟨(h c).1.trans ?_, (h c).2⟩)
    (Cert.ExpertsReferenceIdeal.Value.run (F := Ideal) m' ρ')
  obtain ⟨a0, a1, a2, a3, a4⟩ := hagree c
  rw [res_eq, a0, a1, a2, a3, a4]
  rfl

end Cert.Proof.Experts

end
-- ==== Proof.lean ====
/- The claims about the six calls' programs, put together: the parts that need no value are in Proof/Frames.lean,
   Proof/CallFrames.lean, Proof/OutFrames.lean and Proof/ExpertsFrames.lean, the equalities of the results in Proof/Algebraic.lean,
   Proof/QkvValue.lean, Proof/MixReference.lean, Proof/RwkvOutValue.lean, Proof/AttnOutValue.lean and Proof/ExpertsValue.lean. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvReferenceIdeal
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.RwkvOut
public import proofs.«01_k».proof.Proof.Gen.RwkvOut.Skeleton
public import proofs.«01_k».proof.Proof.Gen.RwkvOut.Launch
public import proofs.«01_k».proof.Proof.Gen.RwkvOut.Points
public import proofs.«01_k».proof.Proof.Gen.RwkvOut.Frame
public import proofs.«01_k».proof.Proof.Gen.RwkvOutIdeal
public import proofs.«01_k».proof.Proof.Gen.RwkvOutIdeal.Skeleton
public import proofs.«01_k».proof.Proof.Gen.RwkvOutIdeal.Launch
public import proofs.«01_k».proof.Proof.Gen.RwkvOutIdeal.Points
public import proofs.«01_k».proof.Proof.Gen.RwkvOutIdeal.Frame
public import proofs.«01_k».proof.Proof.Gen.RwkvOutReferenceIdeal
public import proofs.«01_k».proof.Proof.Gen.AttnOut
public import proofs.«01_k».proof.Proof.Gen.AttnOut.Skeleton
public import proofs.«01_k».proof.Proof.Gen.AttnOut.Launch
public import proofs.«01_k».proof.Proof.Gen.AttnOut.Points
public import proofs.«01_k».proof.Proof.Gen.AttnOut.Frame
public import proofs.«01_k».proof.Proof.Gen.AttnOutIdeal
public import proofs.«01_k».proof.Proof.Gen.AttnOutIdeal.Skeleton
public import proofs.«01_k».proof.Proof.Gen.AttnOutIdeal.Launch
public import proofs.«01_k».proof.Proof.Gen.AttnOutIdeal.Points
public import proofs.«01_k».proof.Proof.Gen.AttnOutIdeal.Frame
public import proofs.«01_k».proof.Proof.Gen.AttnOutReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.QkvIdeal.Value
public import proofs.«01_k».proof.Proof.Gen.QkvReferenceIdeal.Run
public import proofs.«01_k».proof.Proof.Gen.MixIdeal.Value
public import proofs.«01_k».proof.Proof.Gen.MixReferenceIdeal.Run
public import proofs.«01_k».proof.Proof.Gen.RwkvOutIdeal.Value
public import proofs.«01_k».proof.Proof.Gen.RwkvOutReferenceIdeal.Run
public import proofs.«01_k».proof.Proof.Gen.AttnOutIdeal.Value
public import proofs.«01_k».proof.Proof.Gen.AttnOutReferenceIdeal.Run
public import proofs.«01_k».proof.Proof.Frames
public import proofs.«01_k».proof.Proof.Algebraic
public import proofs.«01_k».proof.Proof.CallFrames
public import proofs.«01_k».proof.Proof.QkvValue
public import proofs.«01_k».proof.Proof.MixReference
public import proofs.«01_k».proof.Proof.OutFrames
public import proofs.«01_k».proof.Proof.RwkvOutValue
public import proofs.«01_k».proof.Proof.AttnOutValue
public import proofs.«01_k».proof.Proof.ExpertsFrames
public import proofs.«01_k».proof.Proof.ExpertsValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Qkv.Gen.facts, Cert.QkvIdeal.Gen.facts, Cert.QkvReferenceIdeal.Gen.facts, Cert.Mix.Gen.facts, Cert.MixIdeal.Gen.facts, Cert.MixReferenceIdeal.Gen.facts, Cert.RwkvOut.Gen.facts, Cert.RwkvOutIdeal.Gen.facts, Cert.RwkvOutReferenceIdeal.Gen.facts, Cert.AttnOut.Gen.facts, Cert.AttnOutIdeal.Gen.facts, Cert.AttnOutReferenceIdeal.Gen.facts, Cert.Experts.Gen.facts, Cert.ExpertsIdeal.Gen.facts, Cert.ExpertsReferenceIdeal.Gen.facts, Cert.Pre_finite.Gen.facts,
  Attention.frame_p, Attention.frame_pi, Attention.frame_pi_pre, Attention.frame_ri, Attention.frame_ri_pre,
  Projection.frame_p, Projection.frame_pi, Projection.frame_ri, Mix.frame_p, Mix.frame_pi, Mix.frame_ri,
  RwkvOut.frame_p, RwkvOut.frame_pi, RwkvOut.frame_ri, AttnOut.frame_p, AttnOut.frame_pi, AttnOut.frame_ri, Experts.frame_p, Experts.frame_pi, Experts.frame_ri,
  Attention.preserves, Attention.algebraic, Projection.preserves, Projection.algebraic, Mix.preserves, Mix.algebraic,
  RwkvOut.preserves, RwkvOut.algebraic, AttnOut.preserves, AttnOut.algebraic,
  Experts.preserves, Experts.algebraic⟩

end Cert.Proof

end
